-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))).2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v15_0)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v19)) (v4 : (c : Dev Cert.KernelIdeal.nD) → Buf (Elt Ideal) ((c.tc : Thread Cert.KernelIdeal.nD Cert.KernelIdeal.τ).loc Cert.KernelIdeal.main_v14)) (v5 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v15_0) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_v12) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_v44) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v31_0)) (v1 : (c : Dev Cert.Kernel2Ideal.nD) → Buf (Elt Ideal) ((c.tc : Thread Cert.Kernel2Ideal.nD Cert.Kernel2Ideal.τ).loc Cert.Kernel2Ideal.main_v31_1)) (v2 : (c : Dev Cert.Kernel2Ideal.nD) → Buf (Elt Ideal) ((c.tc : Thread Cert.Kernel2Ideal.nD Cert.Kernel2Ideal.τ).loc Cert.Kernel2Ideal.main_v31_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31_0) = v0 c
          ∧ r.2.mem ((c.tc : Thread Cert.Kernel2Ideal.nD Cert.Kernel2Ideal.τ).loc Cert.Kernel2Ideal.main_v31_1) = v1 c
          ∧ r.2.mem ((c.tc : Thread Cert.Kernel2Ideal.nD Cert.Kernel2Ideal.τ).loc Cert.Kernel2Ideal.main_v31_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v56) = v1 c
          ∧ r.2.mem ((c.tc : Thread Cert.Reference2Ideal.nD Cert.Reference2Ideal.τ).loc Cert.Reference2Ideal.main_v57) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9)) (v1 : (c : Dev Cert.Kernel3Ideal.nD) → Buf (Elt Ideal) ((c.tc : Thread Cert.Kernel3Ideal.nD Cert.Kernel3Ideal.τ).loc Cert.Kernel3Ideal.main_v10_0)) (v2 : (c : Dev Cert.Kernel3Ideal.nD) → Buf (Elt Ideal) ((c.tc : Thread Cert.Kernel3Ideal.nD Cert.Kernel3Ideal.τ).loc Cert.Kernel3Ideal.main_v17)) (v3 : (c : Dev Cert.Kernel3Ideal.nD) → Buf (Elt Ideal) ((c.tc : Thread Cert.Kernel3Ideal.nD Cert.Kernel3Ideal.τ).loc Cert.Kernel3Ideal.main_v18)) (v4 : (c : Dev Cert.Kernel3Ideal.nD) → Buf (Elt Ideal) ((c.tc : Thread Cert.Kernel3Ideal.nD Cert.Kernel3Ideal.τ).loc Cert.Kernel3Ideal.main_v19)) (v5 : (c : Dev Cert.Kernel3Ideal.nD) → Buf (Elt Ideal) ((c.tc : Thread Cert.Kernel3Ideal.nD Cert.Kernel3Ideal.τ).loc Cert.Kernel3Ideal.main_v20)) (v6 : (c : Dev Cert.Kernel3Ideal.nD) → Buf (Elt Ideal) ((c.tc : Thread Cert.Kernel3Ideal.nD Cert.Kernel3Ideal.τ).loc Cert.Kernel3Ideal.main_v21)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_v10_0) = v1 c
          ∧ r.2.mem ((c.tc : Thread Cert.Kernel3Ideal.nD Cert.Kernel3Ideal.τ).loc Cert.Kernel3Ideal.main_v17) = v2 c
          ∧ r.2.mem ((c.tc : Thread Cert.Kernel3Ideal.nD Cert.Kernel3Ideal.τ).loc Cert.Kernel3Ideal.main_v18) = v3 c
          ∧ r.2.mem ((c.tc : Thread Cert.Kernel3Ideal.nD Cert.Kernel3Ideal.τ).loc Cert.Kernel3Ideal.main_v19) = v4 c
          ∧ r.2.mem ((c.tc : Thread Cert.Kernel3Ideal.nD Cert.Kernel3Ideal.τ).loc Cert.Kernel3Ideal.main_v20) = v5 c
          ∧ r.2.mem ((c.tc : Thread Cert.Kernel3Ideal.nD Cert.Kernel3Ideal.τ).loc Cert.Kernel3Ideal.main_v21) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v186) = v0 c
          ∧ r.2.mem ((c.tc : Thread Cert.Reference3Ideal.nD Cert.Reference3Ideal.τ).loc Cert.Reference3Ideal.main_v187) = v1 c
          ∧ r.2.mem ((c.tc : Thread Cert.Reference3Ideal.nD Cert.Reference3Ideal.τ).loc Cert.Reference3Ideal.main_v188) = v2 c
          ∧ r.2.mem ((c.tc : Thread Cert.Reference3Ideal.nD Cert.Reference3Ideal.τ).loc Cert.Reference3Ideal.main_v119) = v3 c
          ∧ r.2.mem ((c.tc : Thread Cert.Reference3Ideal.nD Cert.Reference3Ideal.τ).loc Cert.Reference3Ideal.main_v117) = v4 c
          ∧ r.2.mem ((c.tc : Thread Cert.Reference3Ideal.nD Cert.Reference3Ideal.τ).loc Cert.Reference3Ideal.main_v99) = v5 c
          ∧ r.2.mem ((c.tc : Thread Cert.Reference3Ideal.nD Cert.Reference3Ideal.τ).loc Cert.Reference3Ideal.main_v77) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v23_0)) (v1 : (c : Dev Cert.Kernel4Ideal.nD) → Buf (Elt Ideal) ((c.tc : Thread Cert.Kernel4Ideal.nD Cert.Kernel4Ideal.τ).loc Cert.Kernel4Ideal.main_v27)) (v2 : (c : Dev Cert.Kernel4Ideal.nD) → Buf (Elt Ideal) ((c.tc : Thread Cert.Kernel4Ideal.nD Cert.Kernel4Ideal.τ).loc Cert.Kernel4Ideal.main_v29)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23_0) = v0 c
          ∧ r.2.mem ((c.tc : Thread Cert.Kernel4Ideal.nD Cert.Kernel4Ideal.τ).loc Cert.Kernel4Ideal.main_v27) = v1 c
          ∧ r.2.mem ((c.tc : Thread Cert.Kernel4Ideal.nD Cert.Kernel4Ideal.τ).loc Cert.Kernel4Ideal.main_v29) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v90) = v0 c
          ∧ r.2.mem ((c.tc : Thread Cert.Reference4Ideal.nD Cert.Reference4Ideal.τ).loc Cert.Reference4Ideal.main_v72) = v1 c
          ∧ r.2.mem ((c.tc : Thread Cert.Reference4Ideal.nD Cert.Reference4Ideal.τ).loc Cert.Reference4Ideal.main_v49) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v25_0)) (v1 : (c : Dev Cert.Kernel5Ideal.nD) → Buf (Elt Ideal) ((c.tc : Thread Cert.Kernel5Ideal.nD Cert.Kernel5Ideal.τ).loc Cert.Kernel5Ideal.main_v25_1)) (v2 : (c : Dev Cert.Kernel5Ideal.nD) → Buf (Elt Ideal) ((c.tc : Thread Cert.Kernel5Ideal.nD Cert.Kernel5Ideal.τ).loc Cert.Kernel5Ideal.main_v25_2)) (v3 : (c : Dev Cert.Kernel5Ideal.nD) → Buf (Elt Ideal) ((c.tc : Thread Cert.Kernel5Ideal.nD Cert.Kernel5Ideal.τ).loc Cert.Kernel5Ideal.main_v25_3)) (v4 : (c : Dev Cert.Kernel5Ideal.nD) → Buf (Elt Ideal) ((c.tc : Thread Cert.Kernel5Ideal.nD Cert.Kernel5Ideal.τ).loc Cert.Kernel5Ideal.main_v27_0)) (v5 : (c : Dev Cert.Kernel5Ideal.nD) → Buf (Elt Ideal) ((c.tc : Thread Cert.Kernel5Ideal.nD Cert.Kernel5Ideal.τ).loc Cert.Kernel5Ideal.main_v26)) (v6 : (c : Dev Cert.Kernel5Ideal.nD) → Buf (Elt Ideal) ((c.tc : Thread Cert.Kernel5Ideal.nD Cert.Kernel5Ideal.τ).loc Cert.Kernel5Ideal.main_v30)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25_0) = v0 c
          ∧ r.2.mem ((c.tc : Thread Cert.Kernel5Ideal.nD Cert.Kernel5Ideal.τ).loc Cert.Kernel5Ideal.main_v25_1) = v1 c
          ∧ r.2.mem ((c.tc : Thread Cert.Kernel5Ideal.nD Cert.Kernel5Ideal.τ).loc Cert.Kernel5Ideal.main_v25_2) = v2 c
          ∧ r.2.mem ((c.tc : Thread Cert.Kernel5Ideal.nD Cert.Kernel5Ideal.τ).loc Cert.Kernel5Ideal.main_v25_3) = v3 c
          ∧ r.2.mem ((c.tc : Thread Cert.Kernel5Ideal.nD Cert.Kernel5Ideal.τ).loc Cert.Kernel5Ideal.main_v27_0) = v4 c
          ∧ r.2.mem ((c.tc : Thread Cert.Kernel5Ideal.nD Cert.Kernel5Ideal.τ).loc Cert.Kernel5Ideal.main_v26) = v5 c
          ∧ r.2.mem ((c.tc : Thread Cert.Kernel5Ideal.nD Cert.Kernel5Ideal.τ).loc Cert.Kernel5Ideal.main_v30) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v77) = v0 c
          ∧ r.2.mem ((c.tc : Thread Cert.Reference5Ideal.nD Cert.Reference5Ideal.τ).loc Cert.Reference5Ideal.main_v79) = v1 c
          ∧ r.2.mem ((c.tc : Thread Cert.Reference5Ideal.nD Cert.Reference5Ideal.τ).loc Cert.Reference5Ideal.main_v81) = v2 c
          ∧ r.2.mem ((c.tc : Thread Cert.Reference5Ideal.nD Cert.Reference5Ideal.τ).loc Cert.Reference5Ideal.main_v83) = v3 c
          ∧ r.2.mem ((c.tc : Thread Cert.Reference5Ideal.nD Cert.Reference5Ideal.τ).loc Cert.Reference5Ideal.main_v84) = v4 c
          ∧ r.2.mem ((c.tc : Thread Cert.Reference5Ideal.nD Cert.Reference5Ideal.τ).loc Cert.Reference5Ideal.main_v18) = v5 c
          ∧ r.2.mem ((c.tc : Thread Cert.Reference5Ideal.nD Cert.Reference5Ideal.τ).loc Cert.Reference5Ideal.main_v25) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v48) = v0 c
          ∧ r.2.mem ((c.tc : Thread Cert.Reference6Ideal.nD Cert.Reference6Ideal.τ).loc Cert.Reference6Ideal.main_v49) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v10_0)) (v1 : (c : Dev Cert.Kernel9Ideal.nD) → Buf (Elt Ideal) ((c.tc : Thread Cert.Kernel9Ideal.nD Cert.Kernel9Ideal.τ).loc Cert.Kernel9Ideal.main_v10_1)) (v2 : (c : Dev Cert.Kernel9Ideal.nD) → Buf (Elt Ideal) ((c.tc : Thread Cert.Kernel9Ideal.nD Cert.Kernel9Ideal.τ).loc Cert.Kernel9Ideal.main_v10_2)) (v3 : (c : Dev Cert.Kernel9Ideal.nD) → Buf (Elt Ideal) ((c.tc : Thread Cert.Kernel9Ideal.nD Cert.Kernel9Ideal.τ).loc Cert.Kernel9Ideal.main_v10_3)) (v4 : (c : Dev Cert.Kernel9Ideal.nD) → Buf (Elt Ideal) ((c.tc : Thread Cert.Kernel9Ideal.nD Cert.Kernel9Ideal.τ).loc Cert.Kernel9Ideal.main_v10_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10_0) = v0 c
          ∧ r.2.mem ((c.tc : Thread Cert.Kernel9Ideal.nD Cert.Kernel9Ideal.τ).loc Cert.Kernel9Ideal.main_v10_1) = v1 c
          ∧ r.2.mem ((c.tc : Thread Cert.Kernel9Ideal.nD Cert.Kernel9Ideal.τ).loc Cert.Kernel9Ideal.main_v10_2) = v2 c
          ∧ r.2.mem ((c.tc : Thread Cert.Kernel9Ideal.nD Cert.Kernel9Ideal.τ).loc Cert.Kernel9Ideal.main_v10_3) = v3 c
          ∧ r.2.mem ((c.tc : Thread Cert.Kernel9Ideal.nD Cert.Kernel9Ideal.τ).loc Cert.Kernel9Ideal.main_v10_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v143) = v0 c
          ∧ r.2.mem ((c.tc : Thread Cert.Reference9Ideal.nD Cert.Reference9Ideal.τ).loc Cert.Reference9Ideal.main_v77) = v1 c
          ∧ r.2.mem ((c.tc : Thread Cert.Reference9Ideal.nD Cert.Reference9Ideal.τ).loc Cert.Reference9Ideal.main_v144) = v2 c
          ∧ r.2.mem ((c.tc : Thread Cert.Reference9Ideal.nD Cert.Reference9Ideal.τ).loc Cert.Reference9Ideal.main_v138) = v3 c
          ∧ r.2.mem ((c.tc : Thread Cert.Reference9Ideal.nD Cert.Reference9Ideal.τ).loc Cert.Reference9Ideal.main_v142) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hKernel9 : Cert.Kernel9.Facts) (hKernel9Ideal : Cert.Kernel9Ideal.Facts) (hReference9Ideal : Cert.Reference9Ideal.Facts) (hPre_finite : Cert.Pre_finite.Facts) (hPre_finite4 : Cert.Pre_finite4.Facts) (hPre_finite6 : Cert.Pre_finite6.Facts) (hPre_finite9 : Cert.Pre_finite9.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ preserves_Kernel9_Kernel9Ideal
    ∧ algebraic_Kernel9Ideal_Reference9Ideal_pre_finite9 (hKernel9Ideal := hKernel9Ideal) (hReference9Ideal := hReference9Ideal) (hPre_finite9 := hPre_finite9)
-- ==== Pre_finite.lean ====
abbrev S2x2048x512 : Shape := ⟨3, ![2, 2048, 512]⟩
abbrev S_ : Shape := ⟨0, ![]⟩

class Facts : Prop where
  bcast_S_S2x2048x512 : S_.BroadcastsInDim S2x2048x512 (![] : Fin 0 → Fin S2x2048x512.rank)

variable [Facts]

def fn {F : FTy → Type} [FloatOps F] (main_arg0 : FVec F S2x2048x512 .f32) (main_arg1 : FVec F S2x2048x512 .f32) (main_arg2 : FVec F S2x2048x512 .f32) (main_arg3 : FVec F S2x2048x512 .f32) : IVec S2x2048x512 1 × IVec S2x2048x512 1 × IVec S2x2048x512 1 × IVec S2x2048x512 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_v3 : FVec F S2x2048x512 .f32 := Host.absf main_arg1
  let main_cst_0 : FVec F S_ .f32 := constant S_ .f32 0x7F800000#32
  let main_v4 : FVec F S2x2048x512 .f32 := broadcastInDim S2x2048x512 ![] bcast_S_S2x2048x512 main_cst_0
  let main_v5 : IVec S2x2048x512 1 := cmpf .olt main_v3 main_v4
  let main_v6 : FVec F S2x2048x512 .f32 := Host.absf main_arg2
  let main_cst_1 : FVec F S_ .f32 := constant S_ .f32 0x7F800000#32
  let main_v7 : FVec F S2x2048x512 .f32 := broadcastInDim S2x2048x512 ![] bcast_S_S2x2048x512 main_cst_1
  let main_v8 : IVec S2x2048x512 1 := cmpf .olt main_v6 main_v7
  let main_v9 : FVec F S2x2048x512 .f32 := Host.absf main_arg3
  let main_cst_2 : FVec F S_ .f32 := constant S_ .f32 0x7F800000#32
  let main_v10 : FVec F S2x2048x512 .f32 := broadcastInDim S2x2048x512 ![] bcast_S_S2x2048x512 main_cst_2
  let main_v11 : IVec S2x2048x512 1 := cmpf .olt main_v9 main_v10
  (main_v2, main_v5, main_v8, main_v11)
-- ==== Pre_finite4.lean ====
abbrev S2x2048x2048 : Shape := ⟨3, ![2, 2048, 2048]⟩
abbrev S64 : Shape := ⟨1, ![64]⟩
abbrev S2x2048x512 : Shape := ⟨3, ![2, 2048, 512]⟩
abbrev S_ : Shape := ⟨0, ![]⟩

class Facts : Prop where
  bcast_S_S64 : S_.BroadcastsInDim S64 (![] : Fin 0 → Fin S64.rank)
  bcast_S_S2x2048x512 : S_.BroadcastsInDim S2x2048x512 (![] : Fin 0 → Fin S2x2048x512.rank)

variable [Facts]

def fn {F : FTy → Type} [FloatOps F] (main_arg0 : FVec F S2x2048x2048 .f32) (main_arg1 : FVec F S64 .f32) (main_arg2 : FVec F S64 .f32) (main_arg3 : FVec F S2x2048x512 .f32) (main_arg4 : FVec F S2x2048x512 .f32) (main_arg5 : FVec F S2x2048x512 .f32) (main_arg6 : FVec F S2x2048x512 .f32) : IVec S64 1 × IVec S64 1 × IVec S2x2048x512 1 × IVec S2x2048x512 1 :=
  let main_v0 : FVec F S64 .f32 := Host.absf main_arg1
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg2
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S2x2048x512 .f32 := Host.absf main_arg3
  let main_cst_1 : FVec F S_ .f32 := constant S_ .f32 0x7F800000#32
  let main_v7 : FVec F S2x2048x512 .f32 := broadcastInDim S2x2048x512 ![] bcast_S_S2x2048x512 main_cst_1
  let main_v8 : IVec S2x2048x512 1 := cmpf .olt main_v6 main_v7
  let main_v9 : FVec F S2x2048x512 .f32 := Host.absf main_arg4
  let main_cst_2 : FVec F S_ .f32 := constant S_ .f32 0x7F800000#32
  let main_v10 : FVec F S2x2048x512 .f32 := broadcastInDim S2x2048x512 ![] bcast_S_S2x2048x512 main_cst_2
  let main_v11 : IVec S2x2048x512 1 := cmpf .olt main_v9 main_v10
  (main_v2, main_v5, main_v8, main_v11)
-- ==== Pre_finite6.lean ====
abbrev S2x2048x512 : Shape := ⟨3, ![2, 2048, 512]⟩
abbrev S_ : Shape := ⟨0, ![]⟩

class Facts : Prop where
  bcast_S_S2x2048x512 : S_.BroadcastsInDim S2x2048x512 (![] : Fin 0 → Fin S2x2048x512.rank)

variable [Facts]

def fn {F : FTy → Type} [FloatOps F] (main_arg0 : FVec F S2x2048x512 .f32) (main_arg1 : FVec F S2x2048x512 .f32) (main_arg2 : FVec F S2x2048x512 .f32) : IVec S2x2048x512 1 × IVec S2x2048x512 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_v3 : FVec F S2x2048x512 .f32 := Host.absf main_arg1
  let main_cst_0 : FVec F S_ .f32 := constant S_ .f32 0x7F800000#32
  let main_v4 : FVec F S2x2048x512 .f32 := broadcastInDim S2x2048x512 ![] bcast_S_S2x2048x512 main_cst_0
  let main_v5 : IVec S2x2048x512 1 := cmpf .olt main_v3 main_v4
  (main_v2, main_v5)
-- ==== Pre_finite9.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S_ : Shape := ⟨0, ![]⟩

class Facts : Prop where
  bcast_S_S32x64 : S_.BroadcastsInDim S32x64 (![] : Fin 0 → Fin S32x64.rank)
  bcast_S_S32 : S_.BroadcastsInDim S32 (![] : Fin 0 → Fin S32.rank)
  bcast_S_S32x16x64 : S_.BroadcastsInDim S32x16x64 (![] : Fin 0 → Fin S32x16x64.rank)

variable [Facts]

def fn {F : FTy → Type} [FloatOps F] (main_arg0 : FVec F S32x64 .f32) (main_arg1 : FVec F S32x64 .f32) (main_arg2 : FVec F S32 .f32) (main_arg3 : FVec F S32x64x16 .f32) (main_arg4 : FVec F S32x64x16 .f32) (main_arg5 : FVec F S32x16x64 .f32) (main_arg6 : FVec F S32x16x64 .f32) (main_arg7 : FVec F S32x16 .f32) : IVec S32x64 1 × IVec S32x64 1 × IVec S32 1 × IVec S32x16x64 1 × IVec S32x16x64 1 :=
  let main_v0 : FVec F S32x64 .f32 := Host.absf main_arg0
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_v3 : FVec F S32x64 .f32 := Host.absf main_arg1
  let main_cst_0 : FVec F S_ .f32 := constant S_ .f32 0x7F800000#32
  let main_v4 : FVec F S32x64 .f32 := broadcastInDim S32x64 ![] bcast_S_S32x64 main_cst_0
  let main_v5 : IVec S32x64 1 := cmpf .olt main_v3 main_v4
  let main_v6 : FVec F S32 .f32 := Host.absf main_arg2
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S32x16x64 .f32 := Host.absf main_arg5
  let main_cst_2 : FVec F S_ .f32 := constant S_ .f32 0x7F800000#32
  let main_v10 : FVec F S32x16x64 .f32 := broadcastInDim S32x16x64 ![] bcast_S_S32x16x64 main_cst_2
  let main_v11 : IVec S32x16x64 1 := cmpf .olt main_v9 main_v10
  let main_v12 : FVec F S32x16x64 .f32 := Host.absf main_arg6
  let main_cst_3 : FVec F S_ .f32 := constant S_ .f32 0x7F800000#32
  let main_v13 : FVec F S32x16x64 .f32 := broadcastInDim S32x16x64 ![] bcast_S_S32x16x64 main_cst_3
  let main_v14 : IVec S32x16x64 1 := cmpf .olt main_v12 main_v13
  (main_v2, main_v5, main_v8, main_v11, main_v14)
-- ==== Kernel.lean ====
abbrev S2x2048x1024 : Shape := ⟨3, ![2, 2048, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1 : Shape := ⟨2, ![1024, 1]⟩
abbrev S4096x4096 : Shape := ⟨2, ![4096, 4096]⟩
abbrev S64x128 : Shape := ⟨2, ![64, 128]⟩
abbrev S512x4096 : Shape := ⟨2, ![512, 4096]⟩
abbrev S512x1024 : Shape := ⟨2, ![512, 1024]⟩
abbrev S8x128 : Shape := ⟨2, ![8, 128]⟩
abbrev S1x512x1024 : Shape := ⟨3, ![1, 512, 1024]⟩
abbrev S1 : Shape := ⟨1, ![1]⟩
abbrev S1x1x1 : Shape := ⟨3, ![1, 1, 1]⟩
abbrev S1x1 : Shape := ⟨2, ![1, 1]⟩
abbrev S_ : Shape := ⟨0, ![]⟩
abbrev S4096x512 : Shape := ⟨2, ![4096, 512]⟩
abbrev S1024x512 : Shape := ⟨2, ![1024, 512]⟩
abbrev S64x1024 : Shape := ⟨2, ![64, 1024]⟩
abbrev S8x1024 : Shape := ⟨2, ![8, 1024]⟩
abbrev S512 : Shape := ⟨1, ![512]⟩
abbrev S512x1 : Shape := ⟨2, ![512, 1]⟩

abbrev nBuf : Space → Nat
  | .hbm => 33
  | .vmem => 64
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S2x2048x1024, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1024x1024, .bf16⟩
  | .hbm, ⟨13, _⟩ => ⟨S1024x4096, .bf16⟩
  | .hbm, ⟨14, _⟩ => ⟨S4096x1024, .bf16⟩
  | .hbm, ⟨15, _⟩ => ⟨S4096x1024, .f32⟩
  | .hbm, ⟨16, _⟩ => ⟨S4096x1024, .bf16⟩
  | .hbm, ⟨17, _⟩ => ⟨S4096x4096, .bf16⟩
  | .hbm, ⟨18, _⟩ => ⟨S4096x1024, .f32⟩
  | .hbm, ⟨19, _⟩ => ⟨S4096x1024, .bf16⟩
  | .hbm, ⟨20, _⟩ => ⟨S64x128, .f32⟩
  | .hbm, ⟨21, _⟩ => ⟨S_, .f32⟩
  | .hbm, ⟨22, _⟩ => ⟨S_, .f32⟩
  | .hbm, ⟨23, _⟩ => ⟨S4096x1024, .f32⟩
  | .hbm, ⟨24, _⟩ => ⟨S4096x4096, .bf16⟩
  | .hbm, ⟨25, _⟩ => ⟨S1024x4096, .f32⟩
  | .hbm, ⟨26, _⟩ => ⟨S4096x1024, .f32⟩
  | .hbm, ⟨27, _⟩ => ⟨S64x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S1024x1024, .f32⟩
  | .hbm, ⟨32, _⟩ => ⟨S1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x4096, .bf16⟩
  | .local _ .vmem, ⟨17, _⟩ => ⟨S512x4096, .bf16⟩
  | .local _ .vmem, ⟨18, _⟩ => ⟨S4096x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | .local _ .vmem, ⟨27, _⟩ => ⟨S8x128, .f32⟩
  | .local _ .vmem, ⟨28, _⟩ => ⟨S8x128, .f32⟩
  | .local _ .vmem, ⟨29, _⟩ => ⟨S4096x512, .bf16⟩
  | .local _ .vmem, ⟨30, _⟩ => ⟨S4096x512, .bf16⟩
  | .local _ .vmem, ⟨31, _⟩ => ⟨S4096x1024, .bf16⟩
  | .local _ .vmem, ⟨32, _⟩ => ⟨S512x1024, .f32⟩
  | .local _ .vmem, ⟨33, _⟩ => ⟨S512x1024, .f32⟩
  | .local _ .vmem, ⟨34, _⟩ => ⟨S1024x1024, .bf16⟩
  | .local _ .vmem, ⟨35, _⟩ => ⟨S1024x1024, .bf16⟩
  | .local _ .vmem, ⟨36, _⟩ => ⟨S1024x1024, .bf16⟩
  | .local _ .vmem, ⟨37, _⟩ => ⟨S1024x1024, .bf16⟩
  | .local _ .vmem, ⟨38, _⟩ => ⟨S1024x1024, .bf16⟩
  | .local _ .vmem, ⟨39, _⟩ => ⟨S1024x1024, .bf16⟩
  | .local _ .vmem, ⟨40, _⟩ => ⟨S1024x1024, .bf16⟩
  | .local _ .vmem, ⟨41, _⟩ => ⟨S1024x1024, .bf16⟩
  | .local _ .vmem, ⟨42, _⟩ => ⟨S4096x1024, .bf16⟩
  | .local _ .vmem, ⟨43, _⟩ => ⟨S4096x512, .bf16⟩
  | .local _ .vmem, ⟨44, _⟩ => ⟨S4096x512, .bf16⟩
  | .local _ .vmem, ⟨45, _⟩ => ⟨S1024x512, .f32⟩
  | .local _ .vmem, ⟨46, _⟩ => ⟨S1024x512, .f32⟩
  | .local _ .vmem, ⟨47, _⟩ => ⟨S512x4096, .bf16⟩
  | .local _ .vmem, ⟨48, _⟩ => ⟨S512x4096, .bf16⟩
  | .local _ .vmem, ⟨49, _⟩ => ⟨S1024x4096, .bf16⟩
  | .local _ .vmem, ⟨50, _⟩ => ⟨S512x1024, .f32⟩
  | .local _ .vmem, ⟨51, _⟩ => ⟨S512x1024, .f32⟩
  | .local _ .vmem, ⟨52, _⟩ => ⟨S512x1024, .f32⟩
  | .local _ .vmem, ⟨53, _⟩ => ⟨S512x1024, .f32⟩
  | .local _ .vmem, ⟨54, _⟩ => ⟨S1x1024, .f32⟩
  | .local _ .vmem, ⟨55, _⟩ => ⟨S512x1024, .f32⟩
  | .local _ .vmem, ⟨56, _⟩ => ⟨S512x1024, .f32⟩
  | .local _ .vmem, ⟨57, _⟩ => ⟨S8x1024, .f32⟩
  | .local _ .vmem, ⟨58, _⟩ => ⟨S8x1024, .f32⟩
  | .local _ .vmem, ⟨59, _⟩ => ⟨S4096x1024, .bf16⟩
  | .local _ .vmem, ⟨60, _⟩ => ⟨S4096x512, .f32⟩
  | .local _ .vmem, ⟨61, _⟩ => ⟨S4096x512, .f32⟩
  | .local _ .vmem, ⟨62, _⟩ => ⟨S1024x512, .f32⟩
  | .local _ .vmem, ⟨63, _⟩ => ⟨S1024x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc5_stg0_0 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc6_stg0_0 : Ref sig .tc := ⟨.vmem, 47, rfl⟩
abbrev cc6_stg0_1 : Ref sig .tc := ⟨.vmem, 48, rfl⟩
abbrev cc6_stg1_0 : Ref sig .tc := ⟨.vmem, 49, rfl⟩
abbrev cc6_stg2_0 : Ref sig .tc := ⟨.vmem, 50, rfl⟩
abbrev cc6_stg2_1 : Ref sig .tc := ⟨.vmem, 51, rfl⟩
abbrev cc6_stg3_0 : Ref sig .tc := ⟨.vmem, 52, rfl⟩
abbrev cc6_stg3_1 : Ref sig .tc := ⟨.vmem, 53, rfl⟩
abbrev cc6_stg4_0 : Ref sig .tc := ⟨.vmem, 54, rfl⟩
abbrev cc6_stg5_0 : Ref sig .tc := ⟨.vmem, 55, rfl⟩
abbrev cc6_stg5_1 : Ref sig .tc := ⟨.vmem, 56, rfl⟩
abbrev cc6_stg6_0 : Ref sig .tc := ⟨.vmem, 57, rfl⟩
abbrev cc6_stg6_1 : Ref sig .tc := ⟨.vmem, 58, rfl⟩
abbrev cc7_stg0_0 : Ref sig .tc := ⟨.vmem, 59, rfl⟩
abbrev cc7_stg1_0 : Ref sig .tc := ⟨.vmem, 60, rfl⟩
abbrev cc7_stg1_1 : Ref sig .tc := ⟨.vmem, 61, rfl⟩
abbrev cc7_stg2_0 : Ref sig .tc := ⟨.vmem, 62, rfl⟩
abbrev cc7_stg2_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem5_1 : DmaSem sig := 26
abbrev cc2_sem6_0 : DmaSem sig := 27
abbrev cc2_sem6_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41
abbrev cc5_sem0_0 : DmaSem sig := 42
abbrev cc5_sem1_0 : DmaSem sig := 43
abbrev cc5_sem1_1 : DmaSem sig := 44
abbrev cc5_sem2_0 : DmaSem sig := 45
abbrev cc5_sem2_1 : DmaSem sig := 46
abbrev cc6_sem0_0 : DmaSem sig := 47
abbrev cc6_sem0_1 : DmaSem sig := 48
abbrev cc6_sem1_0 : DmaSem sig := 49
abbrev cc6_sem2_0 : DmaSem sig := 50
abbrev cc6_sem2_1 : DmaSem sig := 51
abbrev cc6_sem3_0 : DmaSem sig := 52
abbrev cc6_sem3_1 : DmaSem sig := 53
abbrev cc6_sem4_0 : DmaSem sig := 54
abbrev cc6_sem5_0 : DmaSem sig := 55
abbrev cc6_sem5_1 : DmaSem sig := 56
abbrev cc6_sem6_0 : DmaSem sig := 57
abbrev cc6_sem6_1 : DmaSem sig := 58
abbrev cc7_sem0_0 : DmaSem sig := 59
abbrev cc7_sem1_0 : DmaSem sig := 60
abbrev cc7_sem1_1 : DmaSem sig := 61
abbrev cc7_sem2_0 : DmaSem sig := 62
abbrev cc7_sem2_1 : DmaSem sig := 63

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 2 → Memref sig .tc .vmem S8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![1, 8, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S4096x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![8, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_4 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc6_transform_5 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_6 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S512x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S1024x4096 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev stage6_3 : Fin 2 → Memref sig .tc .vmem S512x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev stage6_4 : Fin 1 → Memref sig .tc .vmem S1x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, true, false]

abbrev stage6_5 : Fin 2 → Memref sig .tc .vmem S512x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true, false]

abbrev stage6_6 : Fin 2 → Memref sig .tc .vmem S8x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true, false]

abbrev grid7 : Pipeline.Grid := ⟨3, ![1, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 1 → Memref sig .tc .vmem S4096x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false, true]

abbrev stage7_1 : Fin 2 → Memref sig .tc .vmem S4096x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x4096 : Shape := ⟨3, ![2, 2048, 4096]⟩

abbrev nBuf : Space → Nat
  | .hbm => 106
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1024, .f32⟩
  | .hbm, ⟨25, _⟩ => ⟨S2x2048x1024, .f32⟩
  | .hbm, ⟨26, _⟩ => ⟨S1x1x1024, .f32⟩
  | .hbm, ⟨27, _⟩ => ⟨S2x2048x1024, .f32⟩
  | .hbm, ⟨28, _⟩ => ⟨S2x2048x1024, .f32⟩
  | .hbm, ⟨29, _⟩ => ⟨S2x2048x4096, .f32⟩
  | .hbm, ⟨30, _⟩ => ⟨S_, .f32⟩
  | .hbm, ⟨31, _⟩ => ⟨S2x2048x4096, .f32⟩
  | .hbm, ⟨32, _⟩ => ⟨S2x2048x4096, .f32⟩
  | .hbm, ⟨33, _⟩ => ⟨S_, .f32⟩
  | .hbm, ⟨34, _⟩ => ⟨S2x2048x4096, .f32⟩
  | .hbm, ⟨35, _⟩ => ⟨S2x2048x4096, .i1⟩
  | .hbm, ⟨36, _⟩ => ⟨S_, .f32⟩
  | .hbm, ⟨37, _⟩ => ⟨S2x2048x4096, .f32⟩
  | .hbm, ⟨38, _⟩ => ⟨S2x2048x4096, .f32⟩
  | .hbm, ⟨39, _⟩ => ⟨S_, .f32⟩
  | .hbm, ⟨40, _⟩ => ⟨S2x2048x4096, .f32⟩
  | .hbm, ⟨41, _⟩ => ⟨S2x2048x4096, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S_, .f32⟩
  | .hbm, ⟨47, _⟩ => ⟨S2x2048x1024, .f32⟩
  | .hbm, ⟨48, _⟩ => ⟨S2x2048x1024, .f32⟩
  | .hbm, ⟨49, _⟩ => ⟨S_, .f32⟩
  | .hbm, ⟨50, _⟩ => ⟨S2x2048, .f32⟩
  | .hbm, ⟨51, _⟩ => ⟨S_, .f32⟩
  | .hbm, ⟨52, _⟩ => ⟨S2x2048, .f32⟩
  | .hbm, ⟨53, _⟩ => ⟨S2x2048, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S2x2048, .f32⟩
  | .hbm, ⟨62, _⟩ => ⟨S_, .f32⟩
  | .hbm, ⟨63, _⟩ => ⟨S2x2048, .f32⟩
  | .hbm, ⟨64, _⟩ => ⟨S2x2048, .f32⟩
  | .hbm, ⟨65, _⟩ => ⟨S2x2048x1024, .f32⟩
  | .hbm, ⟨66, _⟩ => ⟨S2x2048x1024, .f32⟩
  | .hbm, ⟨67, _⟩ => ⟨S1024x4096, .f32⟩
  | .hbm, ⟨68, _⟩ => ⟨S4096x1024, .f32⟩
  | .hbm, ⟨69, _⟩ => ⟨S2x2048x4096, .f32⟩
  | .hbm, ⟨70, _⟩ => ⟨S2x2048x4096, .f32⟩
  | .hbm, ⟨71, _⟩ => ⟨S_, .f32⟩
  | .hbm, ⟨72, _⟩ => ⟨S2x2048x4096, .f32⟩
  | .hbm, ⟨73, _⟩ => ⟨S2x2048x4096, .f32⟩
  | .hbm, ⟨74, _⟩ => ⟨S4096x1024, .f32⟩
  | .hbm, ⟨75, _⟩ => ⟨S1024x4096, .f32⟩
  | .hbm, ⟨76, _⟩ => ⟨S2x2048x1024, .f32⟩
  | .hbm, ⟨77, _⟩ => ⟨S2x2048x1024, .f32⟩
  | .hbm, ⟨78, _⟩ => ⟨S_, .f32⟩
  | .hbm, ⟨79, _⟩ => ⟨S1024, .f32⟩
  | .hbm, ⟨80, _⟩ => ⟨S1x1x1024, .f32⟩
  | .hbm, ⟨81, _⟩ => ⟨S2x2048x1024, .f32⟩
  | .hbm, ⟨82, _⟩ => ⟨S2x2048x1024, .f32⟩
  | .hbm, ⟨83, _⟩ => ⟨S_, .f32⟩
  | .hbm, ⟨84, _⟩ => ⟨S1024, .f32⟩
  | .hbm, ⟨85, _⟩ => ⟨S2x2048x1024, .f32⟩
  | .hbm, ⟨86, _⟩ => ⟨S_, .f32⟩
  | .hbm, ⟨87, _⟩ => ⟨S2x2048, .f32⟩
  | .hbm, ⟨88, _⟩ => ⟨S2x2048x1, .f32⟩
  | .hbm, ⟨89, _⟩ => ⟨S2x2048x1024, .f32⟩
  | .hbm, ⟨90, _⟩ => ⟨S2x2048x1024, .f32⟩
  | .hbm, ⟨91, _⟩ => ⟨S2x2048x1024, .f32⟩
  | .hbm, ⟨92, _⟩ => ⟨S2x2048x1, .f32⟩
  | .hbm, ⟨93, _⟩ => ⟨S_, .f32⟩
  | .hbm, ⟨94, _⟩ => ⟨S2x2048x1, .f32⟩
  | .hbm, ⟨95, _⟩ => ⟨S2x2048x1, .f32⟩
  | .hbm, ⟨96, _⟩ => ⟨S_, .f32⟩
  | .hbm, ⟨97, _⟩ => ⟨S2x2048, .f32⟩
  | .hbm, ⟨98, _⟩ => ⟨S2x2048x1024, .f32⟩
  | .hbm, ⟨99, _⟩ => ⟨S2x2048x1024, .f32⟩
  | .hbm, ⟨100, _⟩ => ⟨S2x2048x1024, .f32⟩
  | .hbm, ⟨101, _⟩ => ⟨S2x2048x1024, .f32⟩
  | .hbm, ⟨102, _⟩ => ⟨S2x2048x1024, .f32⟩
  | .hbm, ⟨103, _⟩ => ⟨S1024x1024, .f32⟩
  | .hbm, ⟨104, _⟩ => ⟨S1024x1024, .f32⟩
  | .hbm, ⟨105, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_cst_11 : Ref sig .tc := ⟨.hbm, 58, rfl⟩
abbrev main_cst_12 : Ref sig .tc := ⟨.hbm, 59, rfl⟩
abbrev main_v37 : Ref sig .tc := ⟨.hbm, 60, rfl⟩
abbrev main_v38 : Ref sig .tc := ⟨.hbm, 61, rfl⟩
abbrev main_cst_13 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_14 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_15 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_16 : Ref sig .tc := ⟨.hbm, 83, rfl⟩
abbrev main_v57 : Ref sig .tc := ⟨.hbm, 84, rfl⟩
abbrev main_v58 : Ref sig .tc := ⟨.hbm, 85, rfl⟩
abbrev main_cst_17 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_18 : Ref sig .tc := ⟨.hbm, 93, rfl⟩
abbrev main_v65 : Ref sig .tc := ⟨.hbm, 94, rfl⟩
abbrev main_v66 : Ref sig .tc := ⟨.hbm, 95, rfl⟩
abbrev main_cst_19 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]
-- ==== Kernel2.lean ====
abbrev S2x2048x512 : Shape := ⟨3, ![2, 2048, 512]⟩
abbrev S_ : Shape := ⟨0, ![]⟩
abbrev S4096x512 : Shape := ⟨2, ![4096, 512]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x2048x8 : Shape := ⟨3, ![2, 2048, 8]⟩
abbrev S2x2048x8x1 : Shape := ⟨4, ![2, 2048, 8, 1]⟩
abbrev S8x128 : Shape := ⟨2, ![8, 128]⟩
abbrev S2048x128 : Shape := ⟨2, ![2048, 128]⟩
abbrev S2048x256 : Shape := ⟨2, ![2048, 256]⟩
abbrev S256x256 : Shape := ⟨2, ![256, 256]⟩
abbrev S2048x64 : Shape := ⟨2, ![2048, 64]⟩
abbrev S256x64 : Shape := ⟨2, ![256, 64]⟩
abbrev S1792x256 : Shape := ⟨2, ![1792, 256]⟩
abbrev S1792x64 : Shape := ⟨2, ![1792, 64]⟩
abbrev S1792x1 : Shape := ⟨2, ![1792, 1]⟩
abbrev S256x1 : Shape := ⟨2, ![256, 1]⟩
abbrev S1536x256 : Shape := ⟨2, ![1536, 256]⟩
abbrev S1536x64 : Shape := ⟨2, ![1536, 64]⟩
abbrev S1536x1 : Shape := ⟨2, ![1536, 1]⟩
abbrev S512x1 : Shape := ⟨2, ![512, 1]⟩
abbrev S512x64 : Shape := ⟨2, ![512, 64]⟩
abbrev S1280x256 : Shape := ⟨2, ![1280, 256]⟩
abbrev S1280x64 : Shape := ⟨2, ![1280, 64]⟩
abbrev S1280x1 : Shape := ⟨2, ![1280, 1]⟩
abbrev S768x1 : Shape := ⟨2, ![768, 1]⟩
abbrev S768x64 : Shape := ⟨2, ![768, 64]⟩
abbrev S1024x256 : Shape := ⟨2, ![1024, 256]⟩
abbrev S1024x64 : Shape := ⟨2, ![1024, 64]⟩
abbrev S1024x1 : Shape := ⟨2, ![1024, 1]⟩
abbrev S768x256 : Shape := ⟨2, ![768, 256]⟩
abbrev S512x256 : Shape := ⟨2, ![512, 256]⟩

abbrev nBuf : Space → Nat
  | .hbm => 59
  | .vmem => 16
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S_, .f32⟩
  | .hbm, ⟨5, _⟩ => ⟨S2x2048x512, .f32⟩
  | .hbm, ⟨6, _⟩ => ⟨S2x2048x512, .f32⟩
  | .hbm, ⟨7, _⟩ => ⟨S4096x512, .f32⟩
  | .hbm, ⟨8, _⟩ => ⟨S4096x512, .bf16⟩
  | .hbm, ⟨9, _⟩ => ⟨S4096x512, .f32⟩
  | .hbm, ⟨10, _⟩ => ⟨S4096x512, .bf16⟩
  | .hbm, ⟨11, _⟩ => ⟨S4096x512, .f32⟩
  | .hbm, ⟨12, _⟩ => ⟨S4096x512, .bf16⟩
  | .hbm, ⟨13, _⟩ => ⟨S4096x512, .f32⟩
  | .hbm, ⟨14, _⟩ => ⟨S2x2048x8x64, .f32⟩
  | .hbm, ⟨15, _⟩ => ⟨S2x8x2048x64, .f32⟩
  | .hbm, ⟨16, _⟩ => ⟨S2x2048x8x64, .f32⟩
  | .hbm, ⟨17, _⟩ => ⟨S2x8x2048x64, .f32⟩
  | .hbm, ⟨18, _⟩ => ⟨S2x8x2048x2048, .f32⟩
  | .hbm, ⟨19, _⟩ => ⟨S_, .f32⟩
  | .hbm, ⟨20, _⟩ => ⟨S2x8x2048x2048, .f32⟩
  | .hbm, ⟨21, _⟩ => ⟨S2x8x2048x2048, .f32⟩
  | .hbm, ⟨22, _⟩ => ⟨S2048, .i32⟩
  | .hbm, ⟨23, _⟩ => ⟨S1x2048, .i32⟩
  | .hbm, ⟨24, _⟩ => ⟨S2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S2x8x2048x2048, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .f32⟩
  | .hbm, ⟨34, _⟩ => ⟨S2x8x2048x2048, .i1⟩
  | .hbm, ⟨35, _⟩ => ⟨S2x8x2048x2048, .f32⟩
  | .hbm, ⟨36, _⟩ => ⟨S2x8x2048x2048, .f32⟩
  | .hbm, ⟨37, _⟩ => ⟨S2x8x2048x2048, .f32⟩
  | .hbm, ⟨38, _⟩ => ⟨S2x8x2048x2048, .f32⟩
  | .hbm, ⟨39, _⟩ => ⟨S2x8x2048x2048, .f32⟩
  | .hbm, ⟨40, _⟩ => ⟨S2x8x2048x2048, .f32⟩
  | .hbm, ⟨41, _⟩ => ⟨S2x8x2048x2048, .f32⟩
  | .hbm, ⟨42, _⟩ => ⟨S2x8x2048x2048, .f32⟩
  | .hbm, ⟨43, _⟩ => ⟨S_, .f32⟩
  | .hbm, ⟨44, _⟩ => ⟨S_, .f32⟩
  | .hbm, ⟨45, _⟩ => ⟨S2x8x2048x2048, .i1⟩
  | .hbm, ⟨46, _⟩ => ⟨S2x8x2048x2048, .f32⟩
  | .hbm, ⟨47, _⟩ => ⟨S2x8x2048x2048, .f32⟩
  | .hbm, ⟨48, _⟩ => ⟨S_, .f32⟩
  | .hbm, ⟨49, _⟩ => ⟨S2x8x2048, .f32⟩
  | .hbm, ⟨50, _⟩ => ⟨S2x2048x8, .f32⟩
  | .hbm, ⟨51, _⟩ => ⟨S2x2048x8x1, .f32⟩
  | .hbm, ⟨52, _⟩ => ⟨S2x2048x8x64, .f32⟩
  | .hbm, ⟨53, _⟩ => ⟨S4096x512, .f32⟩
  | .hbm, ⟨54, _⟩ => ⟨S_, .f32⟩
  | .hbm, ⟨55, _⟩ => ⟨S8x128, .f32⟩
  | .hbm, ⟨56, _⟩ => ⟨S4096x512, .f32⟩
  | .hbm, ⟨57, _⟩ => ⟨S4096x512, .f32⟩
  | .hbm, ⟨58, _⟩ => ⟨S4096x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_v23 : Ref sig .tc := ⟨.hbm, 42, rfl⟩
abbrev main_cst_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31_0 : Ref sig .tc := ⟨.hbm, 56, rfl⟩
abbrev main_v31_1 : Ref sig .tc := ⟨.hbm, 57, rfl⟩
abbrev main_v31_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def k0_mult1 : BitVec 32 :=
  let c0_i32 : BitVec 32 := 0#32
  c0_i32
def k0_mult2 : BitVec 32 :=
  let c0_i32 : BitVec 32 := 0#32
  let v16 : BitVec 32 := c0_i32
  let c0_i32_14 : BitVec 32 := 0#32
  let v42 : BitVec 32 := Scalar.addi v16 c0_i32_14
  v42
def k0_off1 (c0_i32_14 : BitVec 32) : Fin 2 → Nat :=
  let c0_i32 : BitVec 32 := 0#32
  let v16 : BitVec 32 := c0_i32
  let v42 : BitVec 32 := Scalar.addi v16 c0_i32_14
  let v43 : BitVec 32 := v42
  let v45 : Index := Scalar.indexCast v43
  let c0_15 : Index := 0#32
  ![v45.toNat, 0]
def k0_off2 (c0_i32_14 : BitVec 32) : Fin 2 → Nat :=
  let c0_i32 : BitVec 32 := 0#32
  let v16 : BitVec 32 := c0_i32
  let v42 : BitVec 32 := Scalar.addi v16 c0_i32_14
  let v43 : BitVec 32 := v42
  let v107 : Index := Scalar.indexCast v43
  let c64_34 : Index := 64#32
  ![v107.toNat, 64]
def k0_mult3 : BitVec 32 :=
  let c0_i32 : BitVec 32 := 0#32
  let v16 : BitVec 32 := c0_i32
  let c256_i32 : BitVec 32 := 256#32
  let v169 : BitVec 32 := Scalar.addi v16 c256_i32
  v169
def k0_mult4 : BitVec 32 :=
  let c0_i32 : BitVec 32 := 0#32
  let v16 : BitVec 32 := c0_i32
  let c512_i32 : BitVec 32 := 512#32
  let v323 : BitVec 32 := Scalar.addi v16 c512_i32
  v323
def k0_mult5 : BitVec 32 :=
  let c0_i32 : BitVec 32 := 0#32
  let v16 : BitVec 32 := c0_i32
  let c768_i32 : BitVec 32 := 768#32
  let v477 : BitVec 32 := Scalar.addi v16 c768_i32
  v477
def k0_mult6 : BitVec 32 :=
  let c0_i32 : BitVec 32 := 0#32
  let v16 : BitVec 32 := c0_i32
  let c1024_i32 : BitVec 32 := 1024#32
  let v631 : BitVec 32 := Scalar.addi v16 c1024_i32
  v631
def k0_mult7 : BitVec 32 :=
  let c0_i32 : BitVec 32 := 0#32
  let v16 : BitVec 32 := c0_i32
  let c1280_i32 : BitVec 32 := 1280#32
  let v785 : BitVec 32 := Scalar.addi v16 c1280_i32
  v785
def k0_mult8 : BitVec 32 :=
  let c0_i32 : BitVec 32 := 0#32
  let v16 : BitVec 32 := c0_i32
  let c1536_i32 : BitVec 32 := 1536#32
  let v939 : BitVec 32 := Scalar.addi v16 c1536_i32
  v939
def k0_mult9 : BitVec 32 :=
  let c0_i32 : BitVec 32 := 0#32
  let v16 : BitVec 32 := c0_i32
  let c1792_i32 : BitVec 32 := 1792#32
  let v1089 : BitVec 32 := Scalar.addi v16 c1792_i32
  v1089
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S2x2048x512 : Shape := ⟨3, ![2, 2048, 512]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x64x2048 : Shape := ⟨4, ![2, 8, 64, 2048]⟩
abbrev S4096x512 : Shape := ⟨2, ![4096, 512]⟩

abbrev nBuf : Space → Nat
  | .hbm => 179
  | .vmem => 0
  | .smem => 0
  | _ => 0

abbrev hbmTy0_0 (i : Nat) : BufTy := match i % 128 with
  | 0 => ⟨S2x2048x512, .f32⟩
  | 1 => ⟨S2x2048x512, .f32⟩
  | 2 => ⟨S2x2048x512, .f32⟩
  | 3 => ⟨S2x2048x512, .f32⟩
  | 4 => ⟨S2x2048x8x64, .f32⟩
  | 5 => ⟨S2x8x2048x64, .f32⟩
  | 6 => ⟨S2x2048x8x64, .f32⟩
  | 7 => ⟨S2x8x2048x64, .f32⟩
  | 8 => ⟨S2x2048x8x64, .f32⟩
  | 9 => ⟨S2x8x2048x64, .f32⟩
  | 10 => ⟨S2x8x2048x2048, .f32⟩
  | 11 => ⟨S_, .f32⟩
  | 12 => ⟨S2x8x2048x2048, .f32⟩
  | 13 => ⟨S2x8x2048x2048, .f32⟩
  | 14 => ⟨S2048, .i32⟩
  | 15 => ⟨S1x2048, .i32⟩
  | 16 => ⟨S2048, .i32⟩
  | 17 => ⟨S2048x1, .i32⟩
  | 18 => ⟨S2048x2048, .i32⟩
  | 19 => ⟨S2048x2048, .i32⟩
  | 20 => ⟨S2048x2048, .i1⟩
  | 21 => ⟨S_, .f32⟩
  | 22 => ⟨S2x8x2048x2048, .f32⟩
  | 23 => ⟨S2x8x2048x2048, .f32⟩
  | 24 => ⟨S2x8x2048x2048, .f32⟩
  | 25 => ⟨S2x8x2048x2048, .f32⟩
  | 26 => ⟨S2x8x2048x2048, .i1⟩
  | 27 => ⟨S2x8x2048x2048, .f32⟩
  | 28 => ⟨S2x8x2048x2048, .f32⟩
  | 29 => ⟨S2x8x2048x2048, .f32⟩
  | 30 => ⟨S2x8x2048x2048, .f32⟩
  | 31 => ⟨S2x8x2048x2048, .f32⟩
  | 32 => ⟨S2x8x2048x2048, .f32⟩
  | 33 => ⟨S2x8x2048x2048, .f32⟩
  | 34 => ⟨S2x8x2048x2048, .f32⟩
  | 35 => ⟨S_, .f32⟩
  | 36 => ⟨S2x8x2048x2048, .f32⟩
  | 37 => ⟨S2x8x2048x2048, .i1⟩
  | 38 => ⟨S_, .f32⟩
  | 39 => ⟨S2x8x2048x2048, .f32⟩
  | 40 => ⟨S2x8x2048x2048, .f32⟩
  | 41 => ⟨S_, .f32⟩
  | 42 => ⟨S2x8x2048x2048, .f32⟩
  | 43 => ⟨S2x8x2048x2048, .i1⟩
  | 44 => ⟨S_, .f32⟩
  | 45 => ⟨S2x8x2048x2048, .f32⟩
  | 46 => ⟨S2x8x2048x2048, .f32⟩
  | 47 => ⟨S2x8x2048x2048, .f32⟩
  | 48 => ⟨S2x8x2048x2048, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S2x8x2048x2048, .f32⟩
  | 57 => ⟨S2x8x2048x2048, .i1⟩
  | 58 => ⟨S_, .f32⟩
  | 59 => ⟨S2x8x2048x2048, .f32⟩
  | 60 => ⟨S2x8x2048x2048, .f32⟩
  | 61 => ⟨S2x8x2048x2048, .f32⟩
  | 62 => ⟨S2x8x2048x2048, .f32⟩
  | 63 => ⟨S2x8x2048x2048, .f32⟩
  | 64 => ⟨S_, .f32⟩
  | 65 => ⟨S2x8x2048x2048, .f32⟩
  | 66 => ⟨S2x8x2048x2048, .f32⟩
  | 67 => ⟨S2x8x2048x2048, .f32⟩
  | 68 => ⟨S_, .f32⟩
  | 69 => ⟨S_, .f32⟩
  | 70 => ⟨S2x8x2048x2048, .i1⟩
  | 71 => ⟨S2x8x2048x2048, .f32⟩
  | 72 => ⟨S2x8x2048x2048, .f32⟩
  | 73 => ⟨S_, .f32⟩
  | 74 => ⟨S2x8x2048x2048, .f32⟩
  | 75 => ⟨S_, .f32⟩
  | 76 => ⟨S_, .f32⟩
  | 77 => ⟨S2x8x2048x2048, .f32⟩
  | 78 => ⟨S2x8x2048x2048, .f32⟩
  | 79 => ⟨S2x8x2048x2048, .f32⟩
  | 80 => ⟨S_, .f32⟩
  | 81 => ⟨S2x8x2048x2048, .f32⟩
  | 82 => ⟨S2x8x2048x2048, .f32⟩
  | 83 => ⟨S2x8x2048x2048, .f32⟩
  | 84 => ⟨S2x8x2048x2048, .f32⟩
  | 85 => ⟨S2x8x2048x2048, .i1⟩
  | 86 => ⟨S2x8x2048x2048, .f32⟩
  | 87 => ⟨S2x8x2048x2048, .f32⟩
  | 88 => ⟨S2x8x2048x2048, .f32⟩
  | 89 => ⟨S2x8x2048x2048, .f32⟩
  | 90 => ⟨S2x8x2048x2048, .f32⟩
  | 91 => ⟨S2x8x2048x2048, .f32⟩
  | 92 => ⟨S2x8x2048x2048, .f32⟩
  | 93 => ⟨S2x8x2048x2048, .f32⟩
  | 94 => ⟨S_, .f32⟩
  | 95 => ⟨S2x8x2048x2048, .f32⟩
  | 96 => ⟨S2x8x2048x2048, .i1⟩
  | 97 => ⟨S_, .f32⟩
  | 98 => ⟨S2x8x2048x2048, .f32⟩
  | 99 => ⟨S2x8x2048x2048, .f32⟩
  | 100 => ⟨S_, .f32⟩
  | 101 => ⟨S2x8x2048x2048, .f32⟩
  | 102 => ⟨S2x8x2048x2048, .i1⟩
  | 103 => ⟨S_, .f32⟩
  | 104 => ⟨S2x8x2048x2048, .f32⟩
  | 105 => ⟨S2x8x2048x2048, .f32⟩
  | 106 => ⟨S2x8x2048x2048, .f32⟩
  | 107 => ⟨S2x8x2048x2048, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S2x8x2048x2048, .f32⟩
  | 116 => ⟨S2x8x2048x2048, .i1⟩
  | 117 => ⟨S_, .f32⟩
  | 118 => ⟨S2x8x2048x2048, .f32⟩
  | 119 => ⟨S2x8x2048x2048, .f32⟩
  | 120 => ⟨S2x8x2048x2048, .f32⟩
  | 121 => ⟨S2x8x2048x2048, .f32⟩
  | 122 => ⟨S2x8x2048x2048, .f32⟩
  | 123 => ⟨S_, .f32⟩
  | 124 => ⟨S2x8x2048x2048, .f32⟩
  | 125 => ⟨S2x8x2048x2048, .f32⟩
  | 126 => ⟨S2x8x2048x2048, .f32⟩
  | 127 => ⟨S2x8x2048x2048, .f32⟩
  | _ => ⟨S2x2048x512, .f32⟩

abbrev hbmTy0_1 (i : Nat) : BufTy := match i % 128 with
  | 0 => ⟨S2x8x2048x2048, .f32⟩
  | 1 => ⟨S_, .f32⟩
  | 2 => ⟨S_, .f32⟩
  | 3 => ⟨S2x8x2048x2048, .i1⟩
  | 4 => ⟨S2x8x2048x2048, .f32⟩
  | 5 => ⟨S2x8x2048x2048, .f32⟩
  | 6 => ⟨S_, .f32⟩
  | 7 => ⟨S2x8x2048x2048, .f32⟩
  | 8 => ⟨S2x8x2048x64, .f32⟩
  | 9 => ⟨S2x2048x8x64, .f32⟩
  | 10 => ⟨S2x2048x512, .f32⟩
  | 11 => ⟨S2x2048x8x64, .f32⟩
  | 12 => ⟨S2x8x2048x64, .f32⟩
  | 13 => ⟨S2x8x64x2048, .f32⟩
  | 14 => ⟨S2x8x2048x64, .f32⟩
  | 15 => ⟨S2x8x2048x2048, .f32⟩
  | 16 => ⟨S_, .f32⟩
  | 17 => ⟨S2x8x2048x2048, .f32⟩
  | 18 => ⟨S2x8x2048x2048, .f32⟩
  | 19 => ⟨S2x8x2048x2048, .f32⟩
  | 20 => ⟨S2x8x2048x2048, .f32⟩
  | 21 => ⟨S2x8x2048x2048, .f32⟩
  | 22 => ⟨S2x8x2048x2048, .f32⟩
  | 23 => ⟨S2x8x2048x2048, .f32⟩
  | 24 => ⟨S_, .f32⟩
  | 25 => ⟨S_, .f32⟩
  | 26 => ⟨S2x8x2048x2048, .f32⟩
  | 27 => ⟨S2x8x2048x2048, .f32⟩
  | 28 => ⟨S_, .f32⟩
  | 29 => ⟨S2x8x2048x2048, .f32⟩
  | 30 => ⟨S2x8x2048x2048, .f32⟩
  | 31 => ⟨S2x8x2048x2048, .f32⟩
  | 32 => ⟨S2x8x2048x2048, .f32⟩
  | 33 => ⟨S2x8x2048x2048, .f32⟩
  | 34 => ⟨S_, .f32⟩
  | 35 => ⟨S2x8x2048x2048, .f32⟩
  | 36 => ⟨S2x8x2048x2048, .f32⟩
  | 37 => ⟨S2x8x2048x64, .f32⟩
  | 38 => ⟨S2x8x2048x64, .f32⟩
  | 39 => ⟨S2x2048x8x64, .f32⟩
  | 40 => ⟨S2x2048x512, .f32⟩
  | 41 => ⟨S2x2048x8x64, .f32⟩
  | 42 => ⟨S2x2048x512, .f32⟩
  | 43 => ⟨S2x2048x8x64, .f32⟩
  | 44 => ⟨S2x2048x512, .f32⟩
  | 45 => ⟨S_, .f32⟩
  | 46 => ⟨S2x2048x512, .f32⟩
  | 47 => ⟨S2x2048x512, .f32⟩
  | 48 => ⟨S4096x512, .f32⟩
  | 49 => ⟨S4096x512, .f32⟩
  | 50 => ⟨S4096x512, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v16_0 : Ref sig .tc := ⟨.hbm, 34, rfl⟩
abbrev main_call0_cst_0 : Ref sig .tc := ⟨.hbm, 35, rfl⟩
abbrev main_call0_v13 : Ref sig .tc := ⟨.hbm, 36, rfl⟩
abbrev main_call0_v14 : Ref sig .tc := ⟨.hbm, 37, rfl⟩
abbrev main_call0_cst_1 : Ref sig .tc := ⟨.hbm, 38, rfl⟩
abbrev main_call0_v15 : Ref sig .tc := ⟨.hbm, 39, rfl⟩
abbrev main_call0_v16 : Ref sig .tc := ⟨.hbm, 40, rfl⟩
abbrev main_call0_cst_2 : Ref sig .tc := ⟨.hbm, 41, rfl⟩
abbrev main_call0_v17 : Ref sig .tc := ⟨.hbm, 42, rfl⟩
abbrev main_call0_v18 : Ref sig .tc := ⟨.hbm, 43, rfl⟩
abbrev main_call0_cst_3 : Ref sig .tc := ⟨.hbm, 44, rfl⟩
abbrev main_call0_v19 : Ref sig .tc := ⟨.hbm, 45, rfl⟩
abbrev main_call0_v20 : Ref sig .tc := ⟨.hbm, 46, rfl⟩
abbrev main_call0_v21 : Ref sig .tc := ⟨.hbm, 47, rfl⟩
abbrev main_v16_1 : Ref sig .tc := ⟨.hbm, 48, rfl⟩
abbrev main_call0_cst_4 : Ref sig .tc := ⟨.hbm, 49, rfl⟩
abbrev main_call0_cst_5 : Ref sig .tc := ⟨.hbm, 50, rfl⟩
abbrev main_call0_v23 : Ref sig .tc := ⟨.hbm, 51, rfl⟩
abbrev main_call0_cst_6 : Ref sig .tc := ⟨.hbm, 52, rfl⟩
abbrev main_call0_cst_7 : Ref sig .tc := ⟨.hbm, 53, rfl⟩
abbrev main_call0_v24 : Ref sig .tc := ⟨.hbm, 54, rfl⟩
abbrev main_call0_cst_8 : Ref sig .tc := ⟨.hbm, 55, rfl⟩
abbrev main_call0_v25 : Ref sig .tc := ⟨.hbm, 56, rfl⟩
abbrev main_call0_v26 : Ref sig .tc := ⟨.hbm, 57, rfl⟩
abbrev main_call0_cst_9 : Ref sig .tc := ⟨.hbm, 58, rfl⟩
abbrev main_call0_v27 : Ref sig .tc := ⟨.hbm, 59, rfl⟩
abbrev main_call0_v28 : Ref sig .tc := ⟨.hbm, 60, rfl⟩
abbrev main_call0_v29 : Ref sig .tc := ⟨.hbm, 61, rfl⟩
abbrev main_call0_v30 : Ref sig .tc := ⟨.hbm, 62, rfl⟩
abbrev main_call0_v31 : Ref sig .tc := ⟨.hbm, 63, rfl⟩
abbrev main_call0_cst_10 : Ref sig .tc := ⟨.hbm, 64, rfl⟩
abbrev main_call0_v32 : Ref sig .tc := ⟨.hbm, 65, rfl⟩
abbrev main_v16_2 : Ref sig .tc := ⟨.hbm, 66, rfl⟩
abbrev main_v17 : Ref sig .tc := ⟨.hbm, 67, rfl⟩
abbrev main_cst_0 : Ref sig .tc := ⟨.hbm, 68, rfl⟩
abbrev main_call1_v0 : Ref sig .tc := ⟨.hbm, 69, rfl⟩
abbrev main_v18_1 : Ref sig .tc := ⟨.hbm, 70, rfl⟩
abbrev main_call1_v2 : Ref sig .tc := ⟨.hbm, 71, rfl⟩
abbrev main_v18_0 : Ref sig .tc := ⟨.hbm, 72, rfl⟩
abbrev main_call1_cst : Ref sig .tc := ⟨.hbm, 73, rfl⟩
abbrev main_v18_2 : Ref sig .tc := ⟨.hbm, 74, rfl⟩
abbrev main_call2_cst : Ref sig .tc := ⟨.hbm, 75, rfl⟩
abbrev main_call2_v0 : Ref sig .tc := ⟨.hbm, 76, rfl⟩
abbrev main_v19 : Ref sig .tc := ⟨.hbm, 77, rfl⟩
abbrev main_v20 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1_0 : Ref sig .tc := ⟨.hbm, 93, rfl⟩
abbrev main_call3_call0_cst_0 : Ref sig .tc := ⟨.hbm, 94, rfl⟩
abbrev main_call3_call0_v13 : Ref sig .tc := ⟨.hbm, 95, rfl⟩
abbrev main_call3_call0_v14 : Ref sig .tc := ⟨.hbm, 96, rfl⟩
abbrev main_call3_call0_cst_1 : Ref sig .tc := ⟨.hbm, 97, rfl⟩
abbrev main_call3_call0_v15 : Ref sig .tc := ⟨.hbm, 98, rfl⟩
abbrev main_call3_call0_v16 : Ref sig .tc := ⟨.hbm, 99, rfl⟩
abbrev main_call3_call0_cst_2 : Ref sig .tc := ⟨.hbm, 100, rfl⟩
abbrev main_call3_call0_v17 : Ref sig .tc := ⟨.hbm, 101, rfl⟩
abbrev main_call3_call0_v18 : Ref sig .tc := ⟨.hbm, 102, rfl⟩
abbrev main_call3_call0_cst_3 : Ref sig .tc := ⟨.hbm, 103, rfl⟩
abbrev main_call3_call0_v19 : Ref sig .tc := ⟨.hbm, 104, rfl⟩
abbrev main_call3_call0_v20 : Ref sig .tc := ⟨.hbm, 105, rfl⟩
abbrev main_call3_call0_v21 : Ref sig .tc := ⟨.hbm, 106, rfl⟩
abbrev main_v21_1 : Ref sig .tc := ⟨.hbm, 107, rfl⟩
abbrev main_call3_call0_cst_4 : Ref sig .tc := ⟨.hbm, 108, rfl⟩
abbrev main_call3_call0_cst_5 : Ref sig .tc := ⟨.hbm, 109, rfl⟩
abbrev main_call3_call0_v23 : Ref sig .tc := ⟨.hbm, 110, rfl⟩
abbrev main_call3_call0_cst_6 : Ref sig .tc := ⟨.hbm, 111, rfl⟩
abbrev main_call3_call0_cst_7 : Ref sig .tc := ⟨.hbm, 112, rfl⟩
abbrev main_call3_call0_v24 : Ref sig .tc := ⟨.hbm, 113, rfl⟩
abbrev main_call3_call0_cst_8 : Ref sig .tc := ⟨.hbm, 114, rfl⟩
abbrev main_call3_call0_v25 : Ref sig .tc := ⟨.hbm, 115, rfl⟩
abbrev main_call3_call0_v26 : Ref sig .tc := ⟨.hbm, 116, rfl⟩
abbrev main_call3_call0_cst_9 : Ref sig .tc := ⟨.hbm, 117, rfl⟩
abbrev main_call3_call0_v27 : Ref sig .tc := ⟨.hbm, 118, rfl⟩
abbrev main_call3_call0_v28 : Ref sig .tc := ⟨.hbm, 119, rfl⟩
abbrev main_call3_call0_v29 : Ref sig .tc := ⟨.hbm, 120, rfl⟩
abbrev main_call3_call0_v30 : Ref sig .tc := ⟨.hbm, 121, rfl⟩
abbrev main_call3_call0_v31 : Ref sig .tc := ⟨.hbm, 122, rfl⟩
abbrev main_call3_call0_cst_10 : Ref sig .tc := ⟨.hbm, 123, rfl⟩
abbrev main_call3_call0_v32 : Ref sig .tc := ⟨.hbm, 124, rfl⟩
abbrev main_v21_2 : Ref sig .tc := ⟨.hbm, 125, rfl⟩
abbrev main_v21_0 : Ref sig .tc := ⟨.hbm, 126, rfl⟩
abbrev main_v22 : Ref sig .tc := ⟨.hbm, 127, rfl⟩
abbrev main_v23 : Ref sig .tc := ⟨.hbm, 128, rfl⟩
abbrev main_cst_1 : Ref sig .tc := ⟨.hbm, 129, rfl⟩
abbrev main_call4_v0 : Ref sig .tc := ⟨.hbm, 130, rfl⟩
abbrev main_v24_1 : Ref sig .tc := ⟨.hbm, 131, rfl⟩
abbrev main_call4_v2 : Ref sig .tc := ⟨.hbm, 132, rfl⟩
abbrev main_v24_0 : Ref sig .tc := ⟨.hbm, 133, rfl⟩
abbrev main_call4_cst : Ref sig .tc := ⟨.hbm, 134, rfl⟩
abbrev main_v24_2 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_call5_cst : Ref sig .tc := ⟨.hbm, 144, rfl⟩
abbrev main_call5_v0 : Ref sig .tc := ⟨.hbm, 145, rfl⟩
abbrev main_v33 : Ref sig .tc := ⟨.hbm, 146, rfl⟩
abbrev main_v34 : Ref sig .tc := ⟨.hbm, 147, rfl⟩
abbrev main_call6_v0 : Ref sig .tc := ⟨.hbm, 148, rfl⟩
abbrev main_call6_v1 : Ref sig .tc := ⟨.hbm, 149, rfl⟩
abbrev main_v35 : Ref sig .tc := ⟨.hbm, 150, rfl⟩
abbrev main_v36 : Ref sig .tc := ⟨.hbm, 151, rfl⟩
abbrev main_call7_cst : Ref sig .tc := ⟨.hbm, 152, rfl⟩
abbrev main_call7_v0 : Ref sig .tc := ⟨.hbm, 153, rfl⟩
abbrev main_v37 : Ref sig .tc := ⟨.hbm, 154, rfl⟩
abbrev main_v38 : Ref sig .tc := ⟨.hbm, 155, rfl⟩
abbrev main_call8_cst : Ref sig .tc := ⟨.hbm, 156, rfl⟩
abbrev main_call8_v0 : Ref sig .tc := ⟨.hbm, 157, rfl⟩
abbrev main_v39 : Ref sig .tc := ⟨.hbm, 158, rfl⟩
abbrev main_v40 : Ref sig .tc := ⟨.hbm, 159, rfl⟩
abbrev main_v41 : Ref sig .tc := ⟨.hbm, 160, rfl⟩
abbrev main_v42 : Ref sig .tc := ⟨.hbm, 161, rfl⟩
abbrev main_cst_2 : Ref sig .tc := ⟨.hbm, 162, rfl⟩
abbrev main_v43 : Ref sig .tc := ⟨.hbm, 163, rfl⟩
abbrev main_v44 : Ref sig .tc := ⟨.hbm, 164, rfl⟩
abbrev main_v45 : Ref sig .tc := ⟨.hbm, 165, rfl⟩
abbrev main_v46 : Ref sig .tc := ⟨.hbm, 166, rfl⟩
abbrev main_v47 : Ref sig .tc := ⟨.hbm, 167, rfl⟩
abbrev main_v48 : Ref sig .tc := ⟨.hbm, 168, rfl⟩
abbrev main_v49 : Ref sig .tc := ⟨.hbm, 169, rfl⟩
abbrev main_v50 : Ref sig .tc := ⟨.hbm, 170, rfl⟩
abbrev main_v51 : Ref sig .tc := ⟨.hbm, 171, rfl⟩
abbrev main_v52 : Ref sig .tc := ⟨.hbm, 172, rfl⟩
abbrev main_cst_3 : Ref sig .tc := ⟨.hbm, 173, rfl⟩
abbrev main_v53 : Ref sig .tc := ⟨.hbm, 174, rfl⟩
abbrev main_v54 : Ref sig .tc := ⟨.hbm, 175, rfl⟩
abbrev main_v55 : Ref sig .tc := ⟨.hbm, 176, rfl⟩
abbrev main_v56 : Ref sig .tc := ⟨.hbm, 177, rfl⟩
abbrev main_v57 : Ref sig .tc := ⟨.hbm, 178, rfl⟩

abbrev nD : Nat := 1
abbrev τ : Topo := Topo.v7x

variable {F : FTy → Type} [FloatOps F]
-- ==== Kernel3.lean ====
abbrev S2x2048x512 : Shape := ⟨3, ![2, 2048, 512]⟩
abbrev S512x512 : Shape := ⟨2, ![512, 512]⟩
abbrev S512 : Shape := ⟨1, ![512]⟩
abbrev S1024x1024 : Shape := ⟨2, ![1024, 1024]⟩
abbrev S2x2048x1024 : Shape := ⟨3, ![2, 2048, 1024]⟩
abbrev S4096x512 : Shape := ⟨2, ![4096, 512]⟩
abbrev S4096x1024 : Shape := ⟨2, ![4096, 1024]⟩
abbrev S1x512 : Shape := ⟨2, ![1, 512]⟩
abbrev S1024x512 : Shape := ⟨2, ![1024, 512]⟩
abbrev S512x1024 : Shape := ⟨2, ![512, 1024]⟩
abbrev S512x1 : Shape := ⟨2, ![512, 1]⟩
abbrev S64x512 : Shape := ⟨2, ![64, 512]⟩
abbrev S8x512 : Shape := ⟨2, ![8, 512]⟩
abbrev S_ : Shape := ⟨0, ![]⟩

abbrev nBuf : Space → Nat
  | .hbm => 38
  | .vmem => 51
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S2x2048x1024, .f32⟩
  | .hbm, ⟨8, _⟩ => ⟨S4096x512, .f32⟩
  | .hbm, ⟨9, _⟩ => ⟨S4096x512, .f32⟩
  | .hbm, ⟨10, _⟩ => ⟨S4096x1024, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S512x512, .bf16⟩
  | .hbm, ⟨15, _⟩ => ⟨S1024x1024, .bf16⟩
  | .hbm, ⟨16, _⟩ => ⟨S4096x512, .f32⟩
  | .hbm, ⟨17, _⟩ => ⟨S4096x1024, .bf16⟩
  | .hbm, ⟨18, _⟩ => ⟨S4096x512, .f32⟩
  | .hbm, ⟨19, _⟩ => ⟨S4096x512, .bf16⟩
  | .hbm, ⟨20, _⟩ => ⟨S4096x512, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S_, .f32⟩
  | .hbm, ⟨25, _⟩ => ⟨S512, .f32⟩
  | .hbm, ⟨26, _⟩ => ⟨S1x512, .f32⟩
  | .hbm, ⟨27, _⟩ => ⟨S_, .f32⟩
  | .hbm, ⟨28, _⟩ => ⟨S512, .f32⟩
  | .hbm, ⟨29, _⟩ => ⟨S1x512, .f32⟩
  | .hbm, ⟨30, _⟩ => ⟨S_, .f32⟩
  | .hbm, ⟨31, _⟩ => ⟨S512, .f32⟩
  | .hbm, ⟨32, _⟩ => ⟨S1x512, .f32⟩
  | .hbm, ⟨33, _⟩ => ⟨S4096x512, .f32⟩
  | .hbm, ⟨34, _⟩ => ⟨S512x512, .f32⟩
  | .hbm, ⟨35, _⟩ => ⟨S512, .f32⟩
  | .hbm, ⟨36, _⟩ => ⟨S512, .f32⟩
  | .hbm, ⟨37, _⟩ => ⟨S512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S1024x1024, .bf16⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S1x512, .f32⟩
  | .local _ .vmem, ⟨26, _⟩ => ⟨S1x512, .f32⟩
  | .local _ .vmem, ⟨27, _⟩ => ⟨S512x512, .f32⟩
  | .local _ .vmem, ⟨28, _⟩ => ⟨S512x512, .f32⟩
  | .local _ .vmem, ⟨29, _⟩ => ⟨S512x512, .bf16⟩
  | .local _ .vmem, ⟨30, _⟩ => ⟨S512x512, .bf16⟩
  | .local _ .vmem, ⟨31, _⟩ => ⟨S512x512, .f32⟩
  | .local _ .vmem, ⟨32, _⟩ => ⟨S512x512, .f32⟩
  | .local _ .vmem, ⟨33, _⟩ => ⟨S8x512, .f32⟩
  | .local _ .vmem, ⟨34, _⟩ => ⟨S8x512, .f32⟩
  | .local _ .vmem, ⟨35, _⟩ => ⟨S8x512, .f32⟩
  | .local _ .vmem, ⟨36, _⟩ => ⟨S8x512, .f32⟩
  | .local _ .vmem, ⟨37, _⟩ => ⟨S8x512, .f32⟩
  | .local _ .vmem, ⟨38, _⟩ => ⟨S8x512, .f32⟩
  | .local _ .vmem, ⟨39, _⟩ => ⟨S1024x512, .bf16⟩
  | .local _ .vmem, ⟨40, _⟩ => ⟨S1024x512, .bf16⟩
  | .local _ .vmem, ⟨41, _⟩ => ⟨S512x512, .bf16⟩
  | .local _ .vmem, ⟨42, _⟩ => ⟨S1024x512, .f32⟩
  | .local _ .vmem, ⟨43, _⟩ => ⟨S1024x512, .f32⟩
  | .local _ .vmem, ⟨44, _⟩ => ⟨S1024x512, .f32⟩
  | .local _ .vmem, ⟨45, _⟩ => ⟨S1024x512, .f32⟩
  | .local _ .vmem, ⟨46, _⟩ => ⟨S1024x512, .f32⟩
  | .local _ .vmem, ⟨47, _⟩ => ⟨S1024x512, .f32⟩
  | .local _ .vmem, ⟨48, _⟩ => ⟨S4096x512, .f32⟩
  | .local _ .vmem, ⟨49, _⟩ => ⟨S4096x512, .bf16⟩
  | .local _ .vmem, ⟨50, _⟩ => ⟨S512x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc2_stg8_0 : Ref sig .tc := ⟨.vmem, 29, rfl⟩
abbrev cc2_stg8_1 : Ref sig .tc := ⟨.vmem, 30, rfl⟩
abbrev cc2_stg9_0 : Ref sig .tc := ⟨.vmem, 31, rfl⟩
abbrev cc2_stg9_1 : Ref sig .tc := ⟨.vmem, 32, rfl⟩
abbrev cc2_stg10_0 : Ref sig .tc := ⟨.vmem, 33, rfl⟩
abbrev cc2_stg10_1 : Ref sig .tc := ⟨.vmem, 34, rfl⟩
abbrev cc2_stg11_0 : Ref sig .tc := ⟨.vmem, 35, rfl⟩
abbrev cc2_stg11_1 : Ref sig .tc := ⟨.vmem, 36, rfl⟩
abbrev cc2_stg12_0 : Ref sig .tc := ⟨.vmem, 37, rfl⟩
abbrev cc2_stg12_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg3_1 : Ref sig .tc := ⟨.vmem, 45, rfl⟩
abbrev cc3_stg4_0 : Ref sig .tc := ⟨.vmem, 46, rfl⟩
abbrev cc3_stg4_1 : Ref sig .tc := ⟨.vmem, 47, rfl⟩
abbrev cc4_stg0_0 : Ref sig .tc := ⟨.vmem, 48, rfl⟩
abbrev cc4_stg1_0 : Ref sig .tc := ⟨.vmem, 49, rfl⟩
abbrev cc4_stg2_0 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem6_0 : DmaSem sig := 26
abbrev cc2_sem7_0 : DmaSem sig := 27
abbrev cc2_sem7_1 : DmaSem sig := 28
abbrev cc2_sem8_0 : DmaSem sig := 29
abbrev cc2_sem8_1 : DmaSem sig := 30
abbrev cc2_sem9_0 : DmaSem sig := 31
abbrev cc2_sem9_1 : DmaSem sig := 32
abbrev cc2_sem10_0 : DmaSem sig := 33
abbrev cc2_sem10_1 : DmaSem sig := 34
abbrev cc2_sem11_0 : DmaSem sig := 35
abbrev cc2_sem11_1 : DmaSem sig := 36
abbrev cc2_sem12_0 : DmaSem sig := 37
abbrev cc2_sem12_1 : DmaSem sig := 38
abbrev cc3_sem0_0 : DmaSem sig := 39
abbrev cc3_sem0_1 : DmaSem sig := 40
abbrev cc3_sem1_0 : DmaSem sig := 41
abbrev cc3_sem2_0 : DmaSem sig := 42
abbrev cc3_sem2_1 : DmaSem sig := 43
abbrev cc3_sem3_0 : DmaSem sig := 44
abbrev cc3_sem3_1 : DmaSem sig := 45
abbrev cc3_sem4_0 : DmaSem sig := 46
abbrev cc3_sem4_1 : DmaSem sig := 47
abbrev cc4_sem0_0 : DmaSem sig := 48
abbrev cc4_sem1_0 : DmaSem sig := 49
abbrev cc4_sem2_0 : DmaSem sig := 50

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false, false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false, false]

abbrev stage2_7 : Fin 2 → Memref sig .tc .vmem S512x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false, false]

abbrev stage2_8 : Fin 2 → Memref sig .tc .vmem S512x512 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false, false]

abbrev stage2_9 : Fin 2 → Memref sig .tc .vmem S512x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false, false]

abbrev stage2_10 : Fin 2 → Memref sig .tc .vmem S8x512 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false, false]

abbrev stage2_11 : Fin 2 → Memref sig .tc .vmem S8x512 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, false, false]

abbrev stage2_12 : Fin 2 → Memref sig .tc .vmem S8x512 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, false, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S512x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev grid4 : Pipeline.Grid := ⟨3, ![1, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S4096x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 1 → Memref sig .tc .vmem S4096x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S512x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]
-- ==== Reference3Ideal.lean ====
abbrev S2x2048x512 : Shape := ⟨3, ![2, 2048, 512]⟩
abbrev S512x512 : Shape := ⟨2, ![512, 512]⟩
abbrev S512 : Shape := ⟨1, ![512]⟩
abbrev S1024x1024 : Shape := ⟨2, ![1024, 1024]⟩
abbrev S2x2048x1024 : Shape := ⟨3, ![2, 2048, 1024]⟩
abbrev S_ : Shape := ⟨0, ![]⟩
abbrev S1x1x512 : Shape := ⟨3, ![1, 1, 512]⟩
abbrev S2x2048 : Shape := ⟨2, ![2, 2048]⟩
abbrev S2x2048x1 : Shape := ⟨3, ![2, 2048, 1]⟩
abbrev S4096x1024 : Shape := ⟨2, ![4096, 1024]⟩
abbrev S4096x512 : Shape := ⟨2, ![4096, 512]⟩

abbrev nBuf : Space → Nat
  | .hbm => 242
  | .vmem => 0
  | .smem => 0
  | _ => 0

abbrev hbmTy0_0 (i : Nat) : BufTy := match i % 128 with
  | 0 => ⟨S2x2048x512, .f32⟩
  | 1 => ⟨S2x2048x512, .f32⟩
  | 2 => ⟨S512x512, .f32⟩
  | 3 => ⟨S512, .f32⟩
  | 4 => ⟨S512, .f32⟩
  | 5 => ⟨S512, .f32⟩
  | 6 => ⟨S1024x1024, .f32⟩
  | 7 => ⟨S2x2048x1024, .f32⟩
  | 8 => ⟨S2x2048x512, .f32⟩
  | 9 => ⟨S2x2048x512, .f32⟩
  | 10 => ⟨S2x2048x512, .f32⟩
  | 11 => ⟨S_, .f32⟩
  | 12 => ⟨S2x2048x512, .f32⟩
  | 13 => ⟨S2x2048x512, .f32⟩
  | 14 => ⟨S_, .f32⟩
  | 15 => ⟨S2x2048x512, .f32⟩
  | 16 => ⟨S2x2048x512, .f32⟩
  | 17 => ⟨S2x2048x512, .f32⟩
  | 18 => ⟨S_, .f32⟩
  | 19 => ⟨S2x2048x512, .f32⟩
  | 20 => ⟨S2x2048x512, .f32⟩
  | 21 => ⟨S2x2048x512, .f32⟩
  | 22 => ⟨S_, .f32⟩
  | 23 => ⟨S2x2048x512, .f32⟩
  | 24 => ⟨S2x2048x512, .f32⟩
  | 25 => ⟨S_, .f32⟩
  | 26 => ⟨S2x2048x512, .f32⟩
  | 27 => ⟨S2x2048x512, .f32⟩
  | 28 => ⟨S2x2048x512, .f32⟩
  | 29 => ⟨S_, .f32⟩
  | 30 => ⟨S2x2048x512, .f32⟩
  | 31 => ⟨S2x2048x512, .f32⟩
  | 32 => ⟨S_, .f32⟩
  | 33 => ⟨S2x2048x512, .f32⟩
  | 34 => ⟨S2x2048x512, .f32⟩
  | 35 => ⟨S2x2048x512, .f32⟩
  | 36 => ⟨S2x2048x512, .f32⟩
  | 37 => ⟨S1x1x512, .f32⟩
  | 38 => ⟨S2x2048x512, .f32⟩
  | 39 => ⟨S2x2048x512, .f32⟩
  | 40 => ⟨S2x2048x512, .f32⟩
  | 41 => ⟨S2x2048x512, .f32⟩
  | 42 => ⟨S_, .f32⟩
  | 43 => ⟨S2x2048x512, .f32⟩
  | 44 => ⟨S2x2048x512, .f32⟩
  | 45 => ⟨S_, .f32⟩
  | 46 => ⟨S2x2048x512, .f32⟩
  | 47 => ⟨S2x2048x512, .f32⟩
  | 48 => ⟨S_, .f32⟩
  | 49 => ⟨S2x2048x512, .f32⟩
  | 50 => ⟨S2x2048x512, .f32⟩
  | 51 => ⟨S2x2048x512, .f32⟩
  | 52 => ⟨S2x2048x512, .f32⟩
  | 53 => ⟨S_, .f32⟩
  | 54 => ⟨S2x2048, .f32⟩
  | 55 => ⟨S2x2048x1, .f32⟩
  | 56 => ⟨S_, .f32⟩
  | 57 => ⟨S2x2048x1, .f32⟩
  | 58 => ⟨S2x2048x1, .f32⟩
  | 59 => ⟨S_, .f32⟩
  | 60 => ⟨S2x2048x1, .f32⟩
  | 61 => ⟨S2x2048x1, .f32⟩
  | 62 => ⟨S2x2048x1, .f32⟩
  | 63 => ⟨S2x2048x1, .f32⟩
  | 64 => ⟨S_, .f32⟩
  | 65 => ⟨S2x2048x1, .f32⟩
  | 66 => ⟨S2x2048x1, .f32⟩
  | 67 => ⟨S2x2048x512, .f32⟩
  | 68 => ⟨S2x2048x512, .f32⟩
  | 69 => ⟨S1x1x512, .f32⟩
  | 70 => ⟨S2x2048x512, .f32⟩
  | 71 => ⟨S2x2048x512, .f32⟩
  | 72 => ⟨S2x2048x512, .f32⟩
  | 73 => ⟨S2x2048x512, .f32⟩
  | 74 => ⟨S_, .f32⟩
  | 75 => ⟨S2x2048, .f32⟩
  | 76 => ⟨S2x2048x1, .f32⟩
  | 77 => ⟨S_, .f32⟩
  | 78 => ⟨S2x2048x1, .f32⟩
  | 79 => ⟨S2x2048x1, .f32⟩
  | 80 => ⟨S_, .f32⟩
  | 81 => ⟨S2x2048x1, .f32⟩
  | 82 => ⟨S2x2048x1, .f32⟩
  | 83 => ⟨S2x2048x1, .f32⟩
  | 84 => ⟨S2x2048x1, .f32⟩
  | 85 => ⟨S_, .f32⟩
  | 86 => ⟨S2x2048x1, .f32⟩
  | 87 => ⟨S2x2048x1, .f32⟩
  | 88 => ⟨S2x2048x512, .f32⟩
  | 89 => ⟨S2x2048x512, .f32⟩
  | 90 => ⟨S1x1x512, .f32⟩
  | 91 => ⟨S2x2048x512, .f32⟩
  | 92 => ⟨S2x2048x512, .f32⟩
  | 93 => ⟨S2x2048x1024, .f32⟩
  | 94 => ⟨S2x2048x1024, .f32⟩
  | 95 => ⟨S2x2048x1024, .f32⟩
  | 96 => ⟨S2x2048x512, .f32⟩
  | 97 => ⟨S2x2048x512, .f32⟩
  | 98 => ⟨S2x2048x512, .f32⟩
  | 99 => ⟨S_, .f32⟩
  | 100 => ⟨S512, .f32⟩
  | 101 => ⟨S1x1x512, .f32⟩
  | 102 => ⟨S2x2048x512, .f32⟩
  | 103 => ⟨S2x2048x512, .f32⟩
  | 104 => ⟨S_, .f32⟩
  | 105 => ⟨S512, .f32⟩
  | 106 => ⟨S2x2048x512, .f32⟩
  | 107 => ⟨S_, .f32⟩
  | 108 => ⟨S2x2048, .f32⟩
  | 109 => ⟨S2x2048x1, .f32⟩
  | 110 => ⟨S2x2048x512, .f32⟩
  | 111 => ⟨S2x2048x512, .f32⟩
  | 112 => ⟨S2x2048x1, .f32⟩
  | 113 => ⟨S_, .f32⟩
  | 114 => ⟨S2x2048x1, .f32⟩
  | 115 => ⟨S2x2048x1, .f32⟩
  | 116 => ⟨S_, .f32⟩
  | 117 => ⟨S2x2048, .f32⟩
  | 118 => ⟨S2x2048x512, .f32⟩
  | 119 => ⟨S2x2048x512, .f32⟩
  | 120 => ⟨S2x2048x512, .f32⟩
  | 121 => ⟨S2x2048x512, .f32⟩
  | 122 => ⟨S2x2048x512, .f32⟩
  | 123 => ⟨S2x2048x512, .f32⟩
  | 124 => ⟨S2x2048x512, .f32⟩
  | 125 => ⟨S2x2048x512, .f32⟩
  | 126 => ⟨S_, .f32⟩
  | 127 => ⟨S512, .f32⟩
  | _ => ⟨S2x2048x512, .f32⟩

abbrev hbmTy0_1 (i : Nat) : BufTy := match i % 128 with
  | 0 => ⟨S1x1x512, .f32⟩
  | 1 => ⟨S2x2048x512, .f32⟩
  | 2 => ⟨S2x2048x512, .f32⟩
  | 3 => ⟨S_, .f32⟩
  | 4 => ⟨S512, .f32⟩
  | 5 => ⟨S2x2048x512, .f32⟩
  | 6 => ⟨S_, .f32⟩
  | 7 => ⟨S2x2048, .f32⟩
  | 8 => ⟨S2x2048x1, .f32⟩
  | 9 => ⟨S2x2048x512, .f32⟩
  | 10 => ⟨S2x2048x512, .f32⟩
  | 11 => ⟨S2x2048x1, .f32⟩
  | 12 => ⟨S_, .f32⟩
  | 13 => ⟨S2x2048x1, .f32⟩
  | 14 => ⟨S2x2048x1, .f32⟩
  | 15 => ⟨S_, .f32⟩
  | 16 => ⟨S2x2048, .f32⟩
  | 17 => ⟨S2x2048x512, .f32⟩
  | 18 => ⟨S2x2048x512, .f32⟩
  | 19 => ⟨S2x2048x512, .f32⟩
  | 20 => ⟨S2x2048x512, .f32⟩
  | 21 => ⟨S2x2048x512, .f32⟩
  | 22 => ⟨S2x2048x512, .f32⟩
  | 23 => ⟨S_, .f32⟩
  | 24 => ⟨S512, .f32⟩
  | 25 => ⟨S1x1x512, .f32⟩
  | 26 => ⟨S_, .f32⟩
  | 27 => ⟨S512, .f32⟩
  | 28 => ⟨S512x512, .f32⟩
  | 29 => ⟨S512x512, .f32⟩
  | 30 => ⟨S2x2048x512, .f32⟩
  | 31 => ⟨S2x2048x512, .f32⟩
  | 32 => ⟨S2x2048x512, .f32⟩
  | 33 => ⟨S2x2048x512, .f32⟩
  | 34 => ⟨S_, .f32⟩
  | 35 => ⟨S2x2048x512, .f32⟩
  | 36 => ⟨S2x2048x512, .f32⟩
  | 37 => ⟨S2x2048x512, .f32⟩
  | 38 => ⟨S_, .f32⟩
  | 39 => ⟨S2x2048x512, .f32⟩
  | 40 => ⟨S2x2048x512, .f32⟩
  | 41 => ⟨S2x2048x512, .f32⟩
  | 42 => ⟨S_, .f32⟩
  | 43 => ⟨S2x2048x512, .f32⟩
  | 44 => ⟨S2x2048x512, .f32⟩
  | 45 => ⟨S2x2048x512, .f32⟩
  | 46 => ⟨S2x2048x512, .f32⟩
  | 47 => ⟨S2x2048x512, .f32⟩
  | 48 => ⟨S2x2048x512, .f32⟩
  | 49 => ⟨S_, .f32⟩
  | 50 => ⟨S2x2048x512, .f32⟩
  | 51 => ⟨S2x2048x512, .f32⟩
  | 52 => ⟨S2x2048x512, .f32⟩
  | 53 => ⟨S_, .f32⟩
  | 54 => ⟨S2x2048x512, .f32⟩
  | 55 => ⟨S2x2048x512, .f32⟩
  | 56 => ⟨S2x2048x512, .f32⟩
  | 57 => ⟨S_, .f32⟩
  | 58 => ⟨S2x2048x512, .f32⟩
  | 59 => ⟨S2x2048x512, .f32⟩
  | 60 => ⟨S_, .f32⟩
  | 61 => ⟨S2x2048x512, .f32⟩
  | 62 => ⟨S2x2048x512, .f32⟩
  | 63 => ⟨S2x2048x512, .f32⟩
  | 64 => ⟨S2x2048x512, .f32⟩
  | 65 => ⟨S1x1x512, .f32⟩
  | 66 => ⟨S2x2048x512, .f32⟩
  | 67 => ⟨S2x2048x512, .f32⟩
  | 68 => ⟨S2x2048x512, .f32⟩
  | 69 => ⟨S2x2048x512, .f32⟩
  | 70 => ⟨S_, .f32⟩
  | 71 => ⟨S2x2048x512, .f32⟩
  | 72 => ⟨S2x2048x512, .f32⟩
  | 73 => ⟨S_, .f32⟩
  | 74 => ⟨S2x2048x512, .f32⟩
  | 75 => ⟨S2x2048x512, .f32⟩
  | 76 => ⟨S2x2048x512, .f32⟩
  | 77 => ⟨S_, .f32⟩
  | 78 => ⟨S2x2048, .f32⟩
  | 79 => ⟨S2x2048x1, .f32⟩
  | 80 => ⟨S_, .f32⟩
  | 81 => ⟨S2x2048x1, .f32⟩
  | 82 => ⟨S2x2048x1, .f32⟩
  | 83 => ⟨S_, .f32⟩
  | 84 => ⟨S2x2048x1, .f32⟩
  | 85 => ⟨S2x2048x1, .f32⟩
  | 86 => ⟨S2x2048x1, .f32⟩
  | 87 => ⟨S2x2048x512, .f32⟩
  | 88 => ⟨S2x2048x512, .f32⟩
  | 89 => ⟨S1x1x512, .f32⟩
  | 90 => ⟨S2x2048x512, .f32⟩
  | 91 => ⟨S2x2048x512, .f32⟩
  | 92 => ⟨S2x2048x512, .f32⟩
  | 93 => ⟨S2x2048x512, .f32⟩
  | 94 => ⟨S_, .f32⟩
  | 95 => ⟨S2x2048, .f32⟩
  | 96 => ⟨S2x2048x1, .f32⟩
  | 97 => ⟨S_, .f32⟩
  | 98 => ⟨S2x2048x1, .f32⟩
  | 99 => ⟨S2x2048x1, .f32⟩
  | 100 => ⟨S_, .f32⟩
  | 101 => ⟨S2x2048x1, .f32⟩
  | 102 => ⟨S2x2048x1, .f32⟩
  | 103 => ⟨S2x2048x1, .f32⟩
  | 104 => ⟨S2x2048x512, .f32⟩
  | 105 => ⟨S2x2048x512, .f32⟩
  | 106 => ⟨S1x1x512, .f32⟩
  | 107 => ⟨S2x2048x512, .f32⟩
  | 108 => ⟨S2x2048x512, .f32⟩
  | 109 => ⟨S2x2048x1024, .f32⟩
  | 110 => ⟨S4096x1024, .f32⟩
  | 111 => ⟨S4096x1024, .bf16⟩
  | 112 => ⟨S4096x512, .f32⟩
  | 113 => ⟨S4096x512, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_16 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_17 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_18 : Ref sig .tc := ⟨.hbm, 104, rfl⟩
abbrev main_v77 : Ref sig .tc := ⟨.hbm, 105, rfl⟩
abbrev main_v78 : Ref sig .tc := ⟨.hbm, 106, rfl⟩
abbrev main_cst_19 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_20 : Ref sig .tc := ⟨.hbm, 113, rfl⟩
abbrev main_v84 : Ref sig .tc := ⟨.hbm, 114, rfl⟩
abbrev main_v85 : Ref sig .tc := ⟨.hbm, 115, rfl⟩
abbrev main_cst_21 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_22 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_23 : Ref sig .tc := ⟨.hbm, 131, rfl⟩
abbrev main_v99 : Ref sig .tc := ⟨.hbm, 132, rfl⟩
abbrev main_v100 : Ref sig .tc := ⟨.hbm, 133, rfl⟩
abbrev main_cst_24 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_25 : Ref sig .tc := ⟨.hbm, 140, rfl⟩
abbrev main_v106 : Ref sig .tc := ⟨.hbm, 141, rfl⟩
abbrev main_v107 : Ref sig .tc := ⟨.hbm, 142, rfl⟩
abbrev main_cst_26 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_27 : Ref sig .tc := ⟨.hbm, 151, rfl⟩
abbrev main_v115 : Ref sig .tc := ⟨.hbm, 152, rfl⟩
abbrev main_v116 : Ref sig .tc := ⟨.hbm, 153, rfl⟩
abbrev main_cst_28 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_29 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_30 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_31 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_cst_32 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_cst_33 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_34 : Ref sig .tc := ⟨.hbm, 185, rfl⟩
abbrev main_v142 : Ref sig .tc := ⟨.hbm, 186, rfl⟩
abbrev main_v143 : Ref sig .tc := ⟨.hbm, 187, rfl⟩
abbrev main_cst_35 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_cst_36 : Ref sig .tc := ⟨.hbm, 198, rfl⟩
abbrev main_v153 : Ref sig .tc := ⟨.hbm, 199, rfl⟩
abbrev main_v154 : Ref sig .tc := ⟨.hbm, 200, rfl⟩
abbrev main_cst_37 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_cst_38 : Ref sig .tc := ⟨.hbm, 205, rfl⟩
abbrev main_v158 : Ref sig .tc := ⟨.hbm, 206, rfl⟩
abbrev main_v159 : Ref sig .tc := ⟨.hbm, 207, rfl⟩
abbrev main_cst_39 : Ref sig .tc := ⟨.hbm, 208, rfl⟩
abbrev main_v160 : Ref sig .tc := ⟨.hbm, 209, rfl⟩
abbrev main_v161 : Ref sig .tc := ⟨.hbm, 210, rfl⟩
abbrev main_cst_40 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_cst_41 : Ref sig .tc := ⟨.hbm, 222, rfl⟩
abbrev main_v172 : Ref sig .tc := ⟨.hbm, 223, rfl⟩
abbrev main_v173 : Ref sig .tc := ⟨.hbm, 224, rfl⟩
abbrev main_cst_42 : Ref sig .tc := ⟨.hbm, 225, rfl⟩
abbrev main_v174 : Ref sig .tc := ⟨.hbm, 226, rfl⟩
abbrev main_v175 : Ref sig .tc := ⟨.hbm, 227, rfl⟩
abbrev main_cst_43 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩

abbrev nD : Nat := 1
abbrev τ : Topo := Topo.v7x

variable {F : FTy → Type} [FloatOps F]
-- ==== Kernel4.lean ====
abbrev S2x2048x2048 : Shape := ⟨3, ![2, 2048, 2048]⟩
abbrev S64 : Shape := ⟨1, ![64]⟩
abbrev S2x2048x512 : Shape := ⟨3, ![2, 2048, 512]⟩
abbrev S4096x2048 : Shape := ⟨2, ![4096, 2048]⟩
abbrev S4096x512 : Shape := ⟨2, ![4096, 512]⟩
abbrev S1x64 : Shape := ⟨2, ![1, 64]⟩
abbrev S8x64 : Shape := ⟨2, ![8, 64]⟩
abbrev S512 : Shape := ⟨1, ![512]⟩
abbrev S_ : Shape := ⟨0, ![]⟩
abbrev S1x512 : Shape := ⟨2, ![1, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S512x512 : Shape := ⟨2, ![512, 512]⟩
abbrev S512x2048 : Shape := ⟨2, ![512, 2048]⟩
abbrev S512x128 : Shape := ⟨2, ![512, 128]⟩

abbrev nBuf : Space → Nat
  | .hbm => 60
  | .vmem => 19
  | .smem => 0
  | _ => 0

abbrev bufTy : (tb : Table) → Fin (tcTables nBuf tb) → BufTy
  | .hbm, ⟨0, _⟩ => ⟨S2x2048x2048, .f32⟩
  | .hbm, ⟨1, _⟩ => ⟨S64, .f32⟩
  | .hbm, ⟨2, _⟩ => ⟨S64, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S4096x2048, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S1x64, .f32⟩
  | .hbm, ⟨13, _⟩ => ⟨S8x64, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S1x512, .f32⟩
  | .hbm, ⟨19, _⟩ => ⟨S1x64, .f32⟩
  | .hbm, ⟨20, _⟩ => ⟨S8x64, .f32⟩
  | .hbm, ⟨21, _⟩ => ⟨S512, .f32⟩
  | .hbm, ⟨22, _⟩ => ⟨S1x512, .f32⟩
  | .hbm, ⟨23, _⟩ => ⟨S128, .i32⟩
  | .hbm, ⟨24, _⟩ => ⟨S_, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S_, .i32⟩
  | .hbm, ⟨30, _⟩ => ⟨S128, .i32⟩
  | .hbm, ⟨31, _⟩ => ⟨S128, .i1⟩
  | .hbm, ⟨32, _⟩ => ⟨S128, .i32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S128, .i1⟩
  | .hbm, ⟨38, _⟩ => ⟨S_, .i32⟩
  | .hbm, ⟨39, _⟩ => ⟨S128, .i32⟩
  | .hbm, ⟨40, _⟩ => ⟨S128, .i32⟩
  | .hbm, ⟨41, _⟩ => ⟨S128, .i32⟩
  | .hbm, ⟨42, _⟩ => ⟨S128x1, .i32⟩
  | .hbm, ⟨43, _⟩ => ⟨S1x128, .i32⟩
  | .hbm, ⟨44, _⟩ => ⟨S128x128, .i32⟩
  | .hbm, ⟨45, _⟩ => ⟨S128x128, .i32⟩
  | .hbm, ⟨46, _⟩ => ⟨S128x128, .i1⟩
  | .hbm, ⟨47, _⟩ => ⟨S128x128, .f32⟩
  | .hbm, ⟨48, _⟩ => ⟨S4096x2048, .bf16⟩
  | .hbm, ⟨49, _⟩ => ⟨S1x512, .f32⟩
  | .hbm, ⟨50, _⟩ => ⟨S1x512, .f32⟩
  | .hbm, ⟨51, _⟩ => ⟨S8x64, .f32⟩
  | .hbm, ⟨52, _⟩ => ⟨S_, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S8x64, .f32⟩
  | .hbm, ⟨58, _⟩ => ⟨S_, .f32⟩
  | .hbm, ⟨59, _⟩ => ⟨S64, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S128x128, .f32⟩
  | .local _ .vmem, ⟨15, _⟩ => ⟨S512x2048, .bf16⟩
  | .local _ .vmem, ⟨16, _⟩ => ⟨S512x2048, .bf16⟩
  | .local _ .vmem, ⟨17, _⟩ => ⟨S1x512, .f32⟩
  | .local _ .vmem, ⟨18, _⟩ => ⟨S1x512, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23_0 : Ref sig .tc := ⟨.hbm, 48, rfl⟩
abbrev main_v23_1 : Ref sig .tc := ⟨.hbm, 49, rfl⟩
abbrev main_v23_2 : Ref sig .tc := ⟨.hbm, 50, rfl⟩
abbrev main_v24 : Ref sig .tc := ⟨.hbm, 51, rfl⟩
abbrev main_cst_0 : Ref sig .tc := ⟨.hbm, 52, rfl⟩
abbrev main_v25 : Ref sig .tc := ⟨.hbm, 53, rfl⟩
abbrev main_cst_1 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_2 : Ref sig .tc := ⟨.hbm, 58, rfl⟩
abbrev main_v29 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v105 : BitVec 1 := Scalar.cmpi .eq arg0 c0_i32
  let v106 : BitVec 32 := Scalar.extui v105
  let c0_i32_44 : BitVec 32 := 0#32
  let v107 : BitVec 1 := Scalar.cmpi .ne v106 c0_i32_44
  v107

def k0_cond2 (i : grid0.Coords) : BitVec 1 :=
  let arg0 : BitVec 32 := BitVec.ofNat 32 (i 0).val
  let c0_i32_45 : BitVec 32 := 0#32
  let v108 : BitVec 1 := Scalar.cmpi .sgt arg0 c0_i32_45
  let v109 : BitVec 32 := Scalar.extui v108
  let c0_i32_46 : BitVec 32 := 0#32
  let v110 : BitVec 1 := Scalar.cmpi .ne v109 c0_i32_46
  v110

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S2x2048x2048 : Shape := ⟨3, ![2, 2048, 2048]⟩
abbrev S64 : Shape := ⟨1, ![64]⟩
abbrev S2x2048x512 : Shape := ⟨3, ![2, 2048, 512]⟩
abbrev S2x2048x8x64 : Shape := ⟨4, ![2, 2048, 8, 64]⟩
abbrev S_ : Shape := ⟨0, ![]⟩
abbrev S2x2048x8 : Shape := ⟨3, ![2, 2048, 8]⟩
abbrev S2x2048x8x1 : Shape := ⟨4, ![2, 2048, 8, 1]⟩
abbrev S1x1x1x64 : Shape := ⟨4, ![1, 1, 1, 64]⟩
abbrev S4096x2048 : Shape := ⟨2, ![4096, 2048]⟩

abbrev nBuf : Space → Nat
  | .hbm => 118
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S64, .f32⟩
  | .hbm, ⟨2, _⟩ => ⟨S64, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x512, .f32⟩
  | .hbm, ⟨9, _⟩ => ⟨S2x2048x512, .f32⟩
  | .hbm, ⟨10, _⟩ => ⟨S2x2048x512, .f32⟩
  | .hbm, ⟨11, _⟩ => ⟨S2x2048x8x64, .f32⟩
  | .hbm, ⟨12, _⟩ => ⟨S2x2048x8x64, .f32⟩
  | .hbm, ⟨13, _⟩ => ⟨S_, .f32⟩
  | .hbm, ⟨14, _⟩ => ⟨S2x2048x8, .f32⟩
  | .hbm, ⟨15, _⟩ => ⟨S2x2048x8x1, .f32⟩
  | .hbm, ⟨16, _⟩ => ⟨S_, .f32⟩
  | .hbm, ⟨17, _⟩ => ⟨S2x2048x8x1, .f32⟩
  | .hbm, ⟨18, _⟩ => ⟨S2x2048x8x1, .f32⟩
  | .hbm, ⟨19, _⟩ => ⟨S_, .f32⟩
  | .hbm, ⟨20, _⟩ => ⟨S2x2048x8x1, .f32⟩
  | .hbm, ⟨21, _⟩ => ⟨S2x2048x8x1, .f32⟩
  | .hbm, ⟨22, _⟩ => ⟨S2x2048x8x1, .f32⟩
  | .hbm, ⟨23, _⟩ => ⟨S2x2048x8x1, .f32⟩
  | .hbm, ⟨24, _⟩ => ⟨S_, .f32⟩
  | .hbm, ⟨25, _⟩ => ⟨S2x2048x8x1, .f32⟩
  | .hbm, ⟨26, _⟩ => ⟨S2x2048x8x1, .f32⟩
  | .hbm, ⟨27, _⟩ => ⟨S2x2048x8x64, .f32⟩
  | .hbm, ⟨28, _⟩ => ⟨S2x2048x8x64, .f32⟩
  | .hbm, ⟨29, _⟩ => ⟨S1x1x1x64, .f32⟩
  | .hbm, ⟨30, _⟩ => ⟨S2x2048x8x64, .f32⟩
  | .hbm, ⟨31, _⟩ => ⟨S2x2048x8x64, .f32⟩
  | .hbm, ⟨32, _⟩ => ⟨S_, .f32⟩
  | .hbm, ⟨33, _⟩ => ⟨S2x2048x8x64, .f32⟩
  | .hbm, ⟨34, _⟩ => ⟨S2x2048x8x64, .f32⟩
  | .hbm, ⟨35, _⟩ => ⟨S2x2048x8x64, .f32⟩
  | .hbm, ⟨36, _⟩ => ⟨S2x2048x8x64, .f32⟩
  | .hbm, ⟨37, _⟩ => ⟨S_, .f32⟩
  | .hbm, ⟨38, _⟩ => ⟨S2x2048x8, .f32⟩
  | .hbm, ⟨39, _⟩ => ⟨S2x2048x8x1, .f32⟩
  | .hbm, ⟨40, _⟩ => ⟨S_, .f32⟩
  | .hbm, ⟨41, _⟩ => ⟨S2x2048x8x1, .f32⟩
  | .hbm, ⟨42, _⟩ => ⟨S2x2048x8x1, .f32⟩
  | .hbm, ⟨43, _⟩ => ⟨S_, .f32⟩
  | .hbm, ⟨44, _⟩ => ⟨S2x2048x8x1, .f32⟩
  | .hbm, ⟨45, _⟩ => ⟨S2x2048x8x1, .f32⟩
  | .hbm, ⟨46, _⟩ => ⟨S2x2048x8x1, .f32⟩
  | .hbm, ⟨47, _⟩ => ⟨S2x2048x8x1, .f32⟩
  | .hbm, ⟨48, _⟩ => ⟨S_, .f32⟩
  | .hbm, ⟨49, _⟩ => ⟨S2x2048x8x1, .f32⟩
  | .hbm, ⟨50, _⟩ => ⟨S2x2048x8x1, .f32⟩
  | .hbm, ⟨51, _⟩ => ⟨S2x2048x8x64, .f32⟩
  | .hbm, ⟨52, _⟩ => ⟨S2x2048x8x64, .f32⟩
  | .hbm, ⟨53, _⟩ => ⟨S1x1x1x64, .f32⟩
  | .hbm, ⟨54, _⟩ => ⟨S2x2048x8x64, .f32⟩
  | .hbm, ⟨55, _⟩ => ⟨S2x2048x8x64, .f32⟩
  | .hbm, ⟨56, _⟩ => ⟨S2x2048x512, .f32⟩
  | .hbm, ⟨57, _⟩ => ⟨S2x2048x512, .f32⟩
  | .hbm, ⟨58, _⟩ => ⟨S2x2048x8x64, .f32⟩
  | .hbm, ⟨59, _⟩ => ⟨S2x2048x8x64, .f32⟩
  | .hbm, ⟨60, _⟩ => ⟨S2x2048x8x64, .f32⟩
  | .hbm, ⟨61, _⟩ => ⟨S_, .f32⟩
  | .hbm, ⟨62, _⟩ => ⟨S64, .f32⟩
  | .hbm, ⟨63, _⟩ => ⟨S1x1x1x64, .f32⟩
  | .hbm, ⟨64, _⟩ => ⟨S2x2048x8x64, .f32⟩
  | .hbm, ⟨65, _⟩ => ⟨S2x2048x8x64, .f32⟩
  | .hbm, ⟨66, _⟩ => ⟨S_, .f32⟩
  | .hbm, ⟨67, _⟩ => ⟨S64, .f32⟩
  | .hbm, ⟨68, _⟩ => ⟨S2x2048x8x64, .f32⟩
  | .hbm, ⟨69, _⟩ => ⟨S_, .f32⟩
  | .hbm, ⟨70, _⟩ => ⟨S2x2048x8, .f32⟩
  | .hbm, ⟨71, _⟩ => ⟨S2x2048x8x1, .f32⟩
  | .hbm, ⟨72, _⟩ => ⟨S2x2048x8x64, .f32⟩
  | .hbm, ⟨73, _⟩ => ⟨S2x2048x8x64, .f32⟩
  | .hbm, ⟨74, _⟩ => ⟨S2x2048x8x1, .f32⟩
  | .hbm, ⟨75, _⟩ => ⟨S_, .f32⟩
  | .hbm, ⟨76, _⟩ => ⟨S2x2048x8x1, .f32⟩
  | .hbm, ⟨77, _⟩ => ⟨S2x2048x8x1, .f32⟩
  | .hbm, ⟨78, _⟩ => ⟨S_, .f32⟩
  | .hbm, ⟨79, _⟩ => ⟨S2x2048x8, .f32⟩
  | .hbm, ⟨80, _⟩ => ⟨S2x2048x8x64, .f32⟩
  | .hbm, ⟨81, _⟩ => ⟨S2x2048x8x64, .f32⟩
  | .hbm, ⟨82, _⟩ => ⟨S2x2048x8x64, .f32⟩
  | .hbm, ⟨83, _⟩ => ⟨S2x2048x8x64, .f32⟩
  | .hbm, ⟨84, _⟩ => ⟨S2x2048x8x64, .f32⟩
  | .hbm, ⟨85, _⟩ => ⟨S2x2048x512, .f32⟩
  | .hbm, ⟨86, _⟩ => ⟨S_, .f32⟩
  | .hbm, ⟨87, _⟩ => ⟨S2x2048x8x64, .f32⟩
  | .hbm, ⟨88, _⟩ => ⟨S2x2048x8x64, .f32⟩
  | .hbm, ⟨89, _⟩ => ⟨S2x2048x8x64, .f32⟩
  | .hbm, ⟨90, _⟩ => ⟨S_, .f32⟩
  | .hbm, ⟨91, _⟩ => ⟨S64, .f32⟩
  | .hbm, ⟨92, _⟩ => ⟨S1x1x1x64, .f32⟩
  | .hbm, ⟨93, _⟩ => ⟨S2x2048x8x64, .f32⟩
  | .hbm, ⟨94, _⟩ => ⟨S2x2048x8x64, .f32⟩
  | .hbm, ⟨95, _⟩ => ⟨S_, .f32⟩
  | .hbm, ⟨96, _⟩ => ⟨S64, .f32⟩
  | .hbm, ⟨97, _⟩ => ⟨S2x2048x8x64, .f32⟩
  | .hbm, ⟨98, _⟩ => ⟨S_, .f32⟩
  | .hbm, ⟨99, _⟩ => ⟨S2x2048x8, .f32⟩
  | .hbm, ⟨100, _⟩ => ⟨S2x2048x8x1, .f32⟩
  | .hbm, ⟨101, _⟩ => ⟨S2x2048x8x64, .f32⟩
  | .hbm, ⟨102, _⟩ => ⟨S2x2048x8x64, .f32⟩
  | .hbm, ⟨103, _⟩ => ⟨S2x2048x8x1, .f32⟩
  | .hbm, ⟨104, _⟩ => ⟨S_, .f32⟩
  | .hbm, ⟨105, _⟩ => ⟨S2x2048x8x1, .f32⟩
  | .hbm, ⟨106, _⟩ => ⟨S2x2048x8x1, .f32⟩
  | .hbm, ⟨107, _⟩ => ⟨S_, .f32⟩
  | .hbm, ⟨108, _⟩ => ⟨S2x2048x8, .f32⟩
  | .hbm, ⟨109, _⟩ => ⟨S2x2048x8x64, .f32⟩
  | .hbm, ⟨110, _⟩ => ⟨S2x2048x8x64, .f32⟩
  | .hbm, ⟨111, _⟩ => ⟨S2x2048x8x64, .f32⟩
  | .hbm, ⟨112, _⟩ => ⟨S2x2048x8x64, .f32⟩
  | .hbm, ⟨113, _⟩ => ⟨S2x2048x8x64, .f32⟩
  | .hbm, ⟨114, _⟩ => ⟨S2x2048x512, .f32⟩
  | .hbm, ⟨115, _⟩ => ⟨S2x2048x2048, .f32⟩
  | .hbm, ⟨116, _⟩ => ⟨S4096x2048, .f32⟩
  | .hbm, ⟨117, _⟩ => ⟨S4096x2048, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_14 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_15 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_17 : Ref sig .tc := ⟨.hbm, 104, rfl⟩
abbrev main_v79 : Ref sig .tc := ⟨.hbm, 105, rfl⟩
abbrev main_v80 : Ref sig .tc := ⟨.hbm, 106, rfl⟩
abbrev main_cst_18 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩

abbrev nD : Nat := 1
abbrev τ : Topo := Topo.v7x

variable {F : FTy → Type} [FloatOps F]
-- ==== Kernel5.lean ====
abbrev S2x2048x1024 : Shape := ⟨3, ![2, 2048, 1024]⟩
abbrev S1024 : Shape := ⟨1, ![1024]⟩
abbrev S1024x2048 : Shape := ⟨2, ![1024, 2048]⟩
abbrev S64 : Shape := ⟨1, ![64]⟩
abbrev S2x2048x2048 : Shape := ⟨3, ![2, 2048, 2048]⟩
abbrev S4096x1024 : Shape := ⟨2, ![4096, 1024]⟩
abbrev S4096x2048 : Shape := ⟨2, ![4096, 2048]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S_ : Shape := ⟨0, ![]⟩
abbrev S1x512 : Shape := ⟨2, ![1, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S512x1024 : Shape := ⟨2, ![512, 1024]⟩
abbrev S512x1 : Shape := ⟨2, ![512, 1]⟩
abbrev S4096x512 : Shape := ⟨2, ![4096, 512]⟩
abbrev S512x2048 : Shape := ⟨2, ![512, 2048]⟩
abbrev S512x512 : Shape := ⟨2, ![512, 512]⟩
abbrev S512x128 : Shape := ⟨2, ![512, 128]⟩
abbrev S1024x512 : Shape := ⟨2, ![1024, 512]⟩
abbrev S64x1024 : Shape := ⟨2, ![64, 1024]⟩
abbrev S8x1024 : Shape := ⟨2, ![8, 1024]⟩

abbrev nBuf : Space → Nat
  | .hbm => 61
  | .vmem => 36
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2048, .f32⟩
  | .hbm, ⟨3, _⟩ => ⟨S64, .f32⟩
  | .hbm, ⟨4, _⟩ => ⟨S64, .f32⟩
  | .hbm, ⟨5, _⟩ => ⟨S2x2048x2048, .f32⟩
  | .hbm, ⟨6, _⟩ => ⟨S2x2048x1024, .f32⟩
  | .hbm, ⟨7, _⟩ => ⟨S4096x1024, .f32⟩
  | .hbm, ⟨8, _⟩ => ⟨S4096x2048, .f32⟩
  | .hbm, ⟨9, _⟩ => ⟨S4096x1024, .f32⟩
  | .hbm, ⟨10, _⟩ => ⟨S4096x2048, .bf16⟩
  | .hbm, ⟨11, _⟩ => ⟨S1024x2048, .bf16⟩
  | .hbm, ⟨12, _⟩ => ⟨S1x1024, .f32⟩
  | .hbm, ⟨13, _⟩ => ⟨S1x64, .f32⟩
  | .hbm, ⟨14, _⟩ => ⟨S8x64, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S1x512, .f32⟩
  | .hbm, ⟨20, _⟩ => ⟨S1x64, .f32⟩
  | .hbm, ⟨21, _⟩ => ⟨S8x64, .f32⟩
  | .hbm, ⟨22, _⟩ => ⟨S512, .f32⟩
  | .hbm, ⟨23, _⟩ => ⟨S1x512, .f32⟩
  | .hbm, ⟨24, _⟩ => ⟨S128, .i32⟩
  | .hbm, ⟨25, _⟩ => ⟨S_, .i32⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S128, .i32⟩
  | .hbm, ⟨34, _⟩ => ⟨S128, .i32⟩
  | .hbm, ⟨35, _⟩ => ⟨S_, .i32⟩
  | .hbm, ⟨36, _⟩ => ⟨S128, .i32⟩
  | .hbm, ⟨37, _⟩ => ⟨S128, .i1⟩
  | .hbm, ⟨38, _⟩ => ⟨S128, .i1⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S128, .i32⟩
  | .hbm, ⟨43, _⟩ => ⟨S128x1, .i32⟩
  | .hbm, ⟨44, _⟩ => ⟨S1x128, .i32⟩
  | .hbm, ⟨45, _⟩ => ⟨S128x128, .i32⟩
  | .hbm, ⟨46, _⟩ => ⟨S128x128, .i32⟩
  | .hbm, ⟨47, _⟩ => ⟨S128x128, .i1⟩
  | .hbm, ⟨48, _⟩ => ⟨S128x128, .f32⟩
  | .hbm, ⟨49, _⟩ => ⟨S4096x1024, .bf16⟩
  | .hbm, ⟨50, _⟩ => ⟨S4096x2048, .f32⟩
  | .hbm, ⟨51, _⟩ => ⟨S4096x512, .bf16⟩
  | .hbm, ⟨52, _⟩ => ⟨S4096x512, .bf16⟩
  | .hbm, ⟨53, _⟩ => ⟨S4096x512, .bf16⟩
  | .hbm, ⟨54, _⟩ => ⟨S1024x2048, .f32⟩
  | .hbm, ⟨55, _⟩ => ⟨S4096x1024, .f32⟩
  | .hbm, ⟨56, _⟩ => ⟨S64x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x2048, .bf16⟩
  | .local _ .vmem, ⟨8, _⟩ => ⟨S1x512, .f32⟩
  | .local _ .vmem, ⟨9, _⟩ => ⟨S1x512, .f32⟩
  | .local _ .vmem, ⟨10, _⟩ => ⟨S128x128, .f32⟩
  | .local _ .vmem, ⟨11, _⟩ => ⟨S512x2048, .f32⟩
  | .local _ .vmem, ⟨12, _⟩ => ⟨S512x2048, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S4096x1024, .bf16⟩
  | .local _ .vmem, ⟨20, _⟩ => ⟨S4096x512, .bf16⟩
  | .local _ .vmem, ⟨21, _⟩ => ⟨S4096x512, .bf16⟩
  | .local _ .vmem, ⟨22, _⟩ => ⟨S1024x512, .f32⟩
  | .local _ .vmem, ⟨23, _⟩ => ⟨S1024x512, .f32⟩
  | .local _ .vmem, ⟨24, _⟩ => ⟨S512x2048, .bf16⟩
  | .local _ .vmem, ⟨25, _⟩ => ⟨S512x2048, .bf16⟩
  | .local _ .vmem, ⟨26, _⟩ => ⟨S1024x2048, .bf16⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | .local _ .vmem, ⟨34, _⟩ => ⟨S8x1024, .f32⟩
  | .local _ .vmem, ⟨35, _⟩ => ⟨S8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25_0 : Ref sig .tc := ⟨.hbm, 50, rfl⟩
abbrev main_v25_1 : Ref sig .tc := ⟨.hbm, 51, rfl⟩
abbrev main_v25_2 : Ref sig .tc := ⟨.hbm, 52, rfl⟩
abbrev main_v25_3 : Ref sig .tc := ⟨.hbm, 53, rfl⟩
abbrev main_v26 : Ref sig .tc := ⟨.hbm, 54, rfl⟩
abbrev main_v27_0 : Ref sig .tc := ⟨.hbm, 55, rfl⟩
abbrev main_v27_1 : Ref sig .tc := ⟨.hbm, 56, rfl⟩
abbrev main_cst_0 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16
abbrev cc1_sem8_0 : DmaSem sig := 17
abbrev cc1_sem8_1 : DmaSem sig := 18
abbrev cc2_sem0_0 : DmaSem sig := 19
abbrev cc2_sem1_0 : DmaSem sig := 20
abbrev cc2_sem1_1 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31
abbrev cc3_sem5_0 : DmaSem sig := 32
abbrev cc3_sem5_1 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]

abbrev stage1_7 : Fin 2 → Memref sig .tc .vmem S512x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 2 → Memref sig .tc .vmem S512x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false, false]

abbrev grid2 : Pipeline.Grid := ⟨3, ![1, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, true, false]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev stage3_6 : Fin 2 → Memref sig .tc .vmem S8x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, false]
-- ==== Reference5Ideal.lean ====
abbrev S2x2048x1024 : Shape := ⟨3, ![2, 2048, 1024]⟩
abbrev S1024 : Shape := ⟨1, ![1024]⟩
abbrev S1024x2048 : Shape := ⟨2, ![1024, 2048]⟩
abbrev S64 : Shape := ⟨1, ![64]⟩
abbrev S2x2048x2048 : Shape := ⟨3, ![2, 2048, 2048]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2048x1024 : Shape := ⟨2, ![2048, 1024]⟩
abbrev S2x2048x512 : Shape := ⟨3, ![2, 2048, 512]⟩
abbrev S2x2048x8x64 : Shape := ⟨4, ![2, 2048, 8, 64]⟩
abbrev S2x2048x8 : Shape := ⟨3, ![2, 2048, 8]⟩
abbrev S2x2048x8x1 : Shape := ⟨4, ![2, 2048, 8, 1]⟩
abbrev S1x1x1x64 : Shape := ⟨4, ![1, 1, 1, 64]⟩
abbrev S4096x2048 : Shape := ⟨2, ![4096, 2048]⟩
abbrev S4096x512 : Shape := ⟨2, ![4096, 512]⟩
abbrev S4096x1024 : Shape := ⟨2, ![4096, 1024]⟩

abbrev nBuf : Space → Nat
  | .hbm => 108
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2048, .f32⟩
  | .hbm, ⟨3, _⟩ => ⟨S64, .f32⟩
  | .hbm, ⟨4, _⟩ => ⟨S64, .f32⟩
  | .hbm, ⟨5, _⟩ => ⟨S2x2048x2048, .f32⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x2048, .f32⟩
  | .hbm, ⟨28, _⟩ => ⟨S2048x1024, .f32⟩
  | .hbm, ⟨29, _⟩ => ⟨S1024x2048, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S1024, .f32⟩
  | .hbm, ⟨34, _⟩ => ⟨S1x1x1024, .f32⟩
  | .hbm, ⟨35, _⟩ => ⟨S2x2048x1024, .f32⟩
  | .hbm, ⟨36, _⟩ => ⟨S2x2048x1024, .f32⟩
  | .hbm, ⟨37, _⟩ => ⟨S_, .f32⟩
  | .hbm, ⟨38, _⟩ => ⟨S1024, .f32⟩
  | .hbm, ⟨39, _⟩ => ⟨S2x2048x1024, .f32⟩
  | .hbm, ⟨40, _⟩ => ⟨S_, .f32⟩
  | .hbm, ⟨41, _⟩ => ⟨S2x2048, .f32⟩
  | .hbm, ⟨42, _⟩ => ⟨S2x2048x1, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x1, .f32⟩
  | .hbm, ⟨47, _⟩ => ⟨S_, .f32⟩
  | .hbm, ⟨48, _⟩ => ⟨S2x2048x1, .f32⟩
  | .hbm, ⟨49, _⟩ => ⟨S2x2048x1, .f32⟩
  | .hbm, ⟨50, _⟩ => ⟨S_, .f32⟩
  | .hbm, ⟨51, _⟩ => ⟨S2x2048, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S2x2048x512, .f32⟩
  | .hbm, ⟨58, _⟩ => ⟨S2x2048x512, .f32⟩
  | .hbm, ⟨59, _⟩ => ⟨S2x2048x512, .f32⟩
  | .hbm, ⟨60, _⟩ => ⟨S2x2048x512, .f32⟩
  | .hbm, ⟨61, _⟩ => ⟨S2x2048x8x64, .f32⟩
  | .hbm, ⟨62, _⟩ => ⟨S2x2048x8x64, .f32⟩
  | .hbm, ⟨63, _⟩ => ⟨S_, .f32⟩
  | .hbm, ⟨64, _⟩ => ⟨S2x2048x8, .f32⟩
  | .hbm, ⟨65, _⟩ => ⟨S2x2048x8x1, .f32⟩
  | .hbm, ⟨66, _⟩ => ⟨S_, .f32⟩
  | .hbm, ⟨67, _⟩ => ⟨S2x2048x8x1, .f32⟩
  | .hbm, ⟨68, _⟩ => ⟨S2x2048x8x1, .f32⟩
  | .hbm, ⟨69, _⟩ => ⟨S_, .f32⟩
  | .hbm, ⟨70, _⟩ => ⟨S2x2048x8x1, .f32⟩
  | .hbm, ⟨71, _⟩ => ⟨S2x2048x8x1, .f32⟩
  | .hbm, ⟨72, _⟩ => ⟨S2x2048x8x1, .f32⟩
  | .hbm, ⟨73, _⟩ => ⟨S2x2048x8x64, .f32⟩
  | .hbm, ⟨74, _⟩ => ⟨S2x2048x8x64, .f32⟩
  | .hbm, ⟨75, _⟩ => ⟨S1x1x1x64, .f32⟩
  | .hbm, ⟨76, _⟩ => ⟨S2x2048x8x64, .f32⟩
  | .hbm, ⟨77, _⟩ => ⟨S2x2048x8x64, .f32⟩
  | .hbm, ⟨78, _⟩ => ⟨S_, .f32⟩
  | .hbm, ⟨79, _⟩ => ⟨S2x2048x8x64, .f32⟩
  | .hbm, ⟨80, _⟩ => ⟨S2x2048x8x64, .f32⟩
  | .hbm, ⟨81, _⟩ => ⟨S2x2048x8x64, .f32⟩
  | .hbm, ⟨82, _⟩ => ⟨S2x2048x8x64, .f32⟩
  | .hbm, ⟨83, _⟩ => ⟨S_, .f32⟩
  | .hbm, ⟨84, _⟩ => ⟨S2x2048x8, .f32⟩
  | .hbm, ⟨85, _⟩ => ⟨S2x2048x8x1, .f32⟩
  | .hbm, ⟨86, _⟩ => ⟨S_, .f32⟩
  | .hbm, ⟨87, _⟩ => ⟨S2x2048x8x1, .f32⟩
  | .hbm, ⟨88, _⟩ => ⟨S2x2048x8x1, .f32⟩
  | .hbm, ⟨89, _⟩ => ⟨S_, .f32⟩
  | .hbm, ⟨90, _⟩ => ⟨S2x2048x8x1, .f32⟩
  | .hbm, ⟨91, _⟩ => ⟨S2x2048x8x1, .f32⟩
  | .hbm, ⟨92, _⟩ => ⟨S2x2048x8x1, .f32⟩
  | .hbm, ⟨93, _⟩ => ⟨S2x2048x8x64, .f32⟩
  | .hbm, ⟨94, _⟩ => ⟨S2x2048x8x64, .f32⟩
  | .hbm, ⟨95, _⟩ => ⟨S1x1x1x64, .f32⟩
  | .hbm, ⟨96, _⟩ => ⟨S2x2048x8x64, .f32⟩
  | .hbm, ⟨97, _⟩ => ⟨S2x2048x8x64, .f32⟩
  | .hbm, ⟨98, _⟩ => ⟨S2x2048x512, .f32⟩
  | .hbm, ⟨99, _⟩ => ⟨S2x2048x512, .f32⟩
  | .hbm, ⟨100, _⟩ => ⟨S4096x2048, .f32⟩
  | .hbm, ⟨101, _⟩ => ⟨S4096x512, .f32⟩
  | .hbm, ⟨102, _⟩ => ⟨S4096x512, .bf16⟩
  | .hbm, ⟨103, _⟩ => ⟨S4096x512, .f32⟩
  | .hbm, ⟨104, _⟩ => ⟨S4096x512, .bf16⟩
  | .hbm, ⟨105, _⟩ => ⟨S4096x512, .f32⟩
  | .hbm, ⟨106, _⟩ => ⟨S4096x512, .bf16⟩
  | .hbm, ⟨107, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩

abbrev nD : Nat := 1
abbrev τ : Topo := Topo.v7x

variable {F : FTy → Type} [FloatOps F]
-- ==== Kernel6.lean ====
abbrev S2x2048x512 : Shape := ⟨3, ![2, 2048, 512]⟩
abbrev S_ : Shape := ⟨0, ![]⟩
abbrev S4096x512 : Shape := ⟨2, ![4096, 512]⟩
abbrev S2048x128 : Shape := ⟨2, ![2048, 128]⟩
abbrev S2048x256 : Shape := ⟨2, ![2048, 256]⟩
abbrev S256x256 : Shape := ⟨2, ![256, 256]⟩
abbrev S2048x64 : Shape := ⟨2, ![2048, 64]⟩
abbrev S2048x1 : Shape := ⟨2, ![2048, 1]⟩
abbrev S256x64 : Shape := ⟨2, ![256, 64]⟩
abbrev S256x1 : Shape := ⟨2, ![256, 1]⟩
abbrev S1792x64 : Shape := ⟨2, ![1792, 64]⟩
abbrev S1792x1 : Shape := ⟨2, ![1792, 1]⟩
abbrev S512x256 : Shape := ⟨2, ![512, 256]⟩
abbrev S512x64 : Shape := ⟨2, ![512, 64]⟩
abbrev S512x1 : Shape := ⟨2, ![512, 1]⟩
abbrev S1536x64 : Shape := ⟨2, ![1536, 64]⟩
abbrev S1536x1 : Shape := ⟨2, ![1536, 1]⟩
abbrev S768x256 : Shape := ⟨2, ![768, 256]⟩
abbrev S768x64 : Shape := ⟨2, ![768, 64]⟩
abbrev S768x1 : Shape := ⟨2, ![768, 1]⟩
abbrev S1280x64 : Shape := ⟨2, ![1280, 64]⟩
abbrev S1280x1 : Shape := ⟨2, ![1280, 1]⟩
abbrev S1024x256 : Shape := ⟨2, ![1024, 256]⟩
abbrev S1024x64 : Shape := ⟨2, ![1024, 64]⟩
abbrev S1024x1 : Shape := ⟨2, ![1024, 1]⟩
abbrev S1280x256 : Shape := ⟨2, ![1280, 256]⟩
abbrev S1536x256 : Shape := ⟨2, ![1536, 256]⟩
abbrev S1792x256 : Shape := ⟨2, ![1792, 256]⟩

abbrev nBuf : Space → Nat
  | .hbm => 14
  | .vmem => 10
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S_, .f32⟩
  | .hbm, ⟨4, _⟩ => ⟨S2x2048x512, .f32⟩
  | .hbm, ⟨5, _⟩ => ⟨S2x2048x512, .f32⟩
  | .hbm, ⟨6, _⟩ => ⟨S4096x512, .f32⟩
  | .hbm, ⟨7, _⟩ => ⟨S4096x512, .bf16⟩
  | .hbm, ⟨8, _⟩ => ⟨S4096x512, .f32⟩
  | .hbm, ⟨9, _⟩ => ⟨S4096x512, .bf16⟩
  | .hbm, ⟨10, _⟩ => ⟨S4096x512, .f32⟩
  | .hbm, ⟨11, _⟩ => ⟨S4096x512, .bf16⟩
  | .hbm, ⟨12, _⟩ => ⟨S4096x512, .f32⟩
  | .hbm, ⟨13, _⟩ => ⟨S4096x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_mult1 : BitVec 32 :=
  let c0_i32 : BitVec 32 := 0#32
  let c2048_i32 : BitVec 32 := 2048#32
  let v8 : BitVec 32 := Scalar.muli c0_i32 c2048_i32
  v8
def k0_off1 : Fin 2 → Nat :=
  let c0_i32 : BitVec 32 := 0#32
  let c2048_i32 : BitVec 32 := 2048#32
  let v8 : BitVec 32 := Scalar.muli c0_i32 c2048_i32
  let v9 : BitVec 32 := v8
  let v10 : Index := Scalar.indexCast v9
  let c0 : Index := 0#32
  ![v10.toNat, 0]
def k0_off2 : Fin 2 → Nat :=
  let c0_i32 : BitVec 32 := 0#32
  let c2048_i32 : BitVec 32 := 2048#32
  let v8 : BitVec 32 := Scalar.muli c0_i32 c2048_i32
  let v9 : BitVec 32 := v8
  let v13 : Index := Scalar.indexCast v9
  let c64 : Index := 64#32
  ![v13.toNat, 64]
def k0_mult2 : BitVec 32 :=
  let c0_i32 : BitVec 32 := 0#32
  let c2048_i32 : BitVec 32 := 2048#32
  let v8 : BitVec 32 := Scalar.muli c0_i32 c2048_i32
  let v9 : BitVec 32 := v8
  let c1792_i32 : BitVec 32 := 1792#32
  let v18 : BitVec 32 := Scalar.addi v9 c1792_i32
  v18
def k0_off3 (c1792_i32 : BitVec 32) : Fin 2 → Nat :=
  let c0_i32 : BitVec 32 := 0#32
  let c2048_i32 : BitVec 32 := 2048#32
  let v8 : BitVec 32 := Scalar.muli c0_i32 c2048_i32
  let v9 : BitVec 32 := v8
  let v18 : BitVec 32 := Scalar.addi v9 c1792_i32
  let v19 : BitVec 32 := v18
  let v23 : Index := Scalar.indexCast v19
  let c0_1 : Index := 0#32
  ![v23.toNat, 0]
def k0_off4 (c1792_i32 : BitVec 32) : Fin 2 → Nat :=
  let c0_i32 : BitVec 32 := 0#32
  let c2048_i32 : BitVec 32 := 2048#32
  let v8 : BitVec 32 := Scalar.muli c0_i32 c2048_i32
  let v9 : BitVec 32 := v8
  let v18 : BitVec 32 := Scalar.addi v9 c1792_i32
  let v19 : BitVec 32 := v18
  let v63 : Index := Scalar.indexCast v19
  let c64_11 : Index := 64#32
  ![v63.toNat, 64]
def k0_mult3 : BitVec 32 :=
  let c0_i32 : BitVec 32 := 0#32
  let c2048_i32 : BitVec 32 := 2048#32
  let v8 : BitVec 32 := Scalar.muli c0_i32 c2048_i32
  let v9 : BitVec 32 := v8
  let c1536_i32 : BitVec 32 := 1536#32
  let v102 : BitVec 32 := Scalar.addi v9 c1536_i32
  v102
def k0_mult4 : BitVec 32 :=
  let c0_i32 : BitVec 32 := 0#32
  let c2048_i32 : BitVec 32 := 2048#32
  let v8 : BitVec 32 := Scalar.muli c0_i32 c2048_i32
  let v9 : BitVec 32 := v8
  let c1280_i32 : BitVec 32 := 1280#32
  let v186 : BitVec 32 := Scalar.addi v9 c1280_i32
  v186
def k0_mult5 : BitVec 32 :=
  let c0_i32 : BitVec 32 := 0#32
  let c2048_i32 : BitVec 32 := 2048#32
  let v8 : BitVec 32 := Scalar.muli c0_i32 c2048_i32
  let v9 : BitVec 32 := v8
  let c1024_i32 : BitVec 32 := 1024#32
  let v270 : BitVec 32 := Scalar.addi v9 c1024_i32
  v270
def k0_mult6 : BitVec 32 :=
  let c0_i32 : BitVec 32 := 0#32
  let c2048_i32 : BitVec 32 := 2048#32
  let v8 : BitVec 32 := Scalar.muli c0_i32 c2048_i32
  let v9 : BitVec 32 := v8
  let c768_i32 : BitVec 32 := 768#32
  let v354 : BitVec 32 := Scalar.addi v9 c768_i32
  v354
def k0_mult7 : BitVec 32 :=
  let c0_i32 : BitVec 32 := 0#32
  let c2048_i32 : BitVec 32 := 2048#32
  let v8 : BitVec 32 := Scalar.muli c0_i32 c2048_i32
  let v9 : BitVec 32 := v8
  let c512_i32 : BitVec 32 := 512#32
  let v438 : BitVec 32 := Scalar.addi v9 c512_i32
  v438
def k0_mult8 : BitVec 32 :=
  let c0_i32 : BitVec 32 := 0#32
  let c2048_i32 : BitVec 32 := 2048#32
  let v8 : BitVec 32 := Scalar.muli c0_i32 c2048_i32
  let v9 : BitVec 32 := v8
  let c256_i32 : BitVec 32 := 256#32
  let v522 : BitVec 32 := Scalar.addi v9 c256_i32
  v522
def k0_mult9 : BitVec 32 :=
  let c0_i32 : BitVec 32 := 0#32
  let c2048_i32 : BitVec 32 := 2048#32
  let v8 : BitVec 32 := Scalar.muli c0_i32 c2048_i32
  let v9 : BitVec 32 := v8
  let c0_i32_141 : BitVec 32 := 0#32
  let v606 : BitVec 32 := Scalar.addi v9 c0_i32_141
  v606
@[reducible] def k0_t1_loop : Scf.Loop 32 :=
  let c0_i32_162 : BitVec 32 := 0#32
  let c0_i32 : BitVec 32 := 0#32
  let c8_i32 : BitVec 32 := 8#32
  let v673 : BitVec 32 := Scalar.muli c0_i32 c8_i32
  let v674 : BitVec 32 := Scalar.subi v673 c0_i32_162
  let c1_i32 : BitVec 32 := 1#32
  let v676 : BitVec 32 := Scalar.divsi v674 c1_i32
  let v677 : BitVec 32 := Scalar.muli v676 c1_i32
  let v678 : BitVec 32 := Scalar.addi c0_i32_162 v677
  let c1_i32_163 : BitVec 32 := 1#32
  ⟨c0_i32_162, v678, c1_i32_163⟩
def k0_mult10 (k0_t1 : Fin k0_t1_loop.trips) : BitVec 32 :=
  let c0_i32 : BitVec 32 := 0#32
  let c2048_i32 : BitVec 32 := 2048#32
  let v8 : BitVec 32 := Scalar.muli c0_i32 c2048_i32
  let v9 : BitVec 32 := v8
  let c0_i32_162 : BitVec 32 := 0#32
  let c1_i32_163 : BitVec 32 := 1#32
  let arg7 : BitVec 32 := Scf.iv c0_i32_162 c1_i32_163 k0_t1
  let c1_i32_170 : BitVec 32 := 1#32
  let v693 : BitVec 32 := Scalar.addi arg7 c1_i32_170
  let c256_i32_171 : BitVec 32 := 256#32
  let v694 : BitVec 32 := Scalar.muli v693 c256_i32_171
  let v695 : BitVec 32 := Scalar.subi v9 v694
  v695
def k0_off5 (k0_t1 : Fin k0_t1_loop.trips) : Fin 2 → Nat :=
  let c0_i32 : BitVec 32 := 0#32
  let c2048_i32 : BitVec 32 := 2048#32
  let v8 : BitVec 32 := Scalar.muli c0_i32 c2048_i32
  let v9 : BitVec 32 := v8
  let c0_i32_162 : BitVec 32 := 0#32
  let c1_i32_163 : BitVec 32 := 1#32
  let arg7 : BitVec 32 := Scf.iv c0_i32_162 c1_i32_163 k0_t1
  let c1_i32_170 : BitVec 32 := 1#32
  let v693 : BitVec 32 := Scalar.addi arg7 c1_i32_170
  let c256_i32_171 : BitVec 32 := 256#32
  let v694 : BitVec 32 := Scalar.muli v693 c256_i32_171
  let v695 : BitVec 32 := Scalar.subi v9 v694
  let v696 : BitVec 32 := v695
  let v697 : Index := Scalar.indexCast v696
  let c0_172 : Index := 0#32
  ![v697.toNat, 0]
def k0_off6 (k0_t1 : Fin k0_t1_loop.trips) : Fin 2 → Nat :=
  let c0_i32 : BitVec 32 := 0#32
  let c2048_i32 : BitVec 32 := 2048#32
  let v8 : BitVec 32 := Scalar.muli c0_i32 c2048_i32
  let v9 : BitVec 32 := v8
  let c0_i32_162 : BitVec 32 := 0#32
  let c1_i32_163 : BitVec 32 := 1#32
  let arg7 : BitVec 32 := Scf.iv c0_i32_162 c1_i32_163 k0_t1
  let c1_i32_170 : BitVec 32 := 1#32
  let v693 : BitVec 32 := Scalar.addi arg7 c1_i32_170
  let c256_i32_171 : BitVec 32 := 256#32
  let v694 : BitVec 32 := Scalar.muli v693 c256_i32_171
  let v695 : BitVec 32 := Scalar.subi v9 v694
  let v696 : BitVec 32 := v695
  let v725 : Index := Scalar.indexCast v696
  let c64_180 : Index := 64#32
  ![v725.toNat, 64]
@[reducible] def k0_t2_loop : Scf.Loop 32 :=
  let c0_i32_162 : BitVec 32 := 0#32
  let c0_i32 : BitVec 32 := 0#32
  let c8_i32 : BitVec 32 := 8#32
  let v673 : BitVec 32 := Scalar.muli c0_i32 c8_i32
  let v674 : BitVec 32 := Scalar.subi v673 c0_i32_162
  let c1_i32 : BitVec 32 := 1#32
  let v676 : BitVec 32 := Scalar.divsi v674 c1_i32
  let v677 : BitVec 32 := Scalar.muli v676 c1_i32
  let v678 : BitVec 32 := Scalar.addi c0_i32_162 v677
  let v675 : BitVec 32 := Scalar.addi c0_i32_162 v674
  let c1_i32_164 : BitVec 32 := 1#32
  ⟨v678, v675, c1_i32_164⟩
def k0_mult11 (k0_t2 : Fin k0_t2_loop.trips) : BitVec 32 :=
  let c0_i32 : BitVec 32 := 0#32
  let c2048_i32 : BitVec 32 := 2048#32
  let v8 : BitVec 32 := Scalar.muli c0_i32 c2048_i32
  let v9 : BitVec 32 := v8
  let c0_i32_162 : BitVec 32 := 0#32
  let c8_i32 : BitVec 32 := 8#32
  let v673 : BitVec 32 := Scalar.muli c0_i32 c8_i32
  let v674 : BitVec 32 := Scalar.subi v673 c0_i32_162
  let c1_i32 : BitVec 32 := 1#32
  let v676 : BitVec 32 := Scalar.divsi v674 c1_i32
  let v677 : BitVec 32 := Scalar.muli v676 c1_i32
  let v678 : BitVec 32 := Scalar.addi c0_i32_162 v677
  let c1_i32_164 : BitVec 32 := 1#32
  let arg7 : BitVec 32 := Scf.iv v678 c1_i32_164 k0_t2
  let c1_i32_170 : BitVec 32 := 1#32
  let v693 : BitVec 32 := Scalar.addi arg7 c1_i32_170
  let c256_i32_171 : BitVec 32 := 256#32
  let v694 : BitVec 32 := Scalar.muli v693 c256_i32_171
  let v695 : BitVec 32 := Scalar.subi v9 v694
  v695
def k0_off7 (k0_t2 : Fin k0_t2_loop.trips) : Fin 2 → Nat :=
  let c0_i32 : BitVec 32 := 0#32
  let c2048_i32 : BitVec 32 := 2048#32
  let v8 : BitVec 32 := Scalar.muli c0_i32 c2048_i32
  let v9 : BitVec 32 := v8
  let c0_i32_162 : BitVec 32 := 0#32
  let c8_i32 : BitVec 32 := 8#32
  let v673 : BitVec 32 := Scalar.muli c0_i32 c8_i32
  let v674 : BitVec 32 := Scalar.subi v673 c0_i32_162
  let c1_i32 : BitVec 32 := 1#32
  let v676 : BitVec 32 := Scalar.divsi v674 c1_i32
  let v677 : BitVec 32 := Scalar.muli v676 c1_i32
  let v678 : BitVec 32 := Scalar.addi c0_i32_162 v677
  let c1_i32_164 : BitVec 32 := 1#32
  let arg7 : BitVec 32 := Scf.iv v678 c1_i32_164 k0_t2
  let c1_i32_170 : BitVec 32 := 1#32
  let v693 : BitVec 32 := Scalar.addi arg7 c1_i32_170
  let c256_i32_171 : BitVec 32 := 256#32
  let v694 : BitVec 32 := Scalar.muli v693 c256_i32_171
  let v695 : BitVec 32 := Scalar.subi v9 v694
  let v696 : BitVec 32 := v695
  let v697 : Index := Scalar.indexCast v696
  let c0_172 : Index := 0#32
  ![v697.toNat, 0]
def k0_off8 (k0_t2 : Fin k0_t2_loop.trips) : Fin 2 → Nat :=
  let c0_i32 : BitVec 32 := 0#32
  let c2048_i32 : BitVec 32 := 2048#32
  let v8 : BitVec 32 := Scalar.muli c0_i32 c2048_i32
  let v9 : BitVec 32 := v8
  let c0_i32_162 : BitVec 32 := 0#32
  let c8_i32 : BitVec 32 := 8#32
  let v673 : BitVec 32 := Scalar.muli c0_i32 c8_i32
  let v674 : BitVec 32 := Scalar.subi v673 c0_i32_162
  let c1_i32 : BitVec 32 := 1#32
  let v676 : BitVec 32 := Scalar.divsi v674 c1_i32
  let v677 : BitVec 32 := Scalar.muli v676 c1_i32
  let v678 : BitVec 32 := Scalar.addi c0_i32_162 v677
  let c1_i32_164 : BitVec 32 := 1#32
  let arg7 : BitVec 32 := Scf.iv v678 c1_i32_164 k0_t2
  let c1_i32_170 : BitVec 32 := 1#32
  let v693 : BitVec 32 := Scalar.addi arg7 c1_i32_170
  let c256_i32_171 : BitVec 32 := 256#32
  let v694 : BitVec 32 := Scalar.muli v693 c256_i32_171
  let v695 : BitVec 32 := Scalar.subi v9 v694
  let v696 : BitVec 32 := v695
  let v725 : Index := Scalar.indexCast v696
  let c64_180 : Index := 64#32
  ![v725.toNat, 64]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S2x2048x512 : Shape := ⟨3, ![2, 2048, 512]⟩
abbrev S2x2048x8x64 : Shape := ⟨4, ![2, 2048, 8, 64]⟩
abbrev S2x8x2048x64 : Shape := ⟨4, ![2, 8, 2048, 64]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x2048x8 : Shape := ⟨3, ![2, 2048, 8]⟩
abbrev S2x2048x8x1 : Shape := ⟨4, ![2, 2048, 8, 1]⟩
abbrev S4096x512 : Shape := ⟨2, ![4096, 512]⟩

abbrev nBuf : Space → Nat
  | .hbm => 111
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S2x2048x8x64, .f32⟩
  | .hbm, ⟨4, _⟩ => ⟨S2x8x2048x64, .f32⟩
  | .hbm, ⟨5, _⟩ => ⟨S2x2048x8x64, .f32⟩
  | .hbm, ⟨6, _⟩ => ⟨S2x8x2048x64, .f32⟩
  | .hbm, ⟨7, _⟩ => ⟨S2x8x2048x2048, .f32⟩
  | .hbm, ⟨8, _⟩ => ⟨S_, .f32⟩
  | .hbm, ⟨9, _⟩ => ⟨S2x8x2048x2048, .f32⟩
  | .hbm, ⟨10, _⟩ => ⟨S2x8x2048x2048, .f32⟩
  | .hbm, ⟨11, _⟩ => ⟨S2048, .i32⟩
  | .hbm, ⟨12, _⟩ => ⟨S1x2048, .i32⟩
  | .hbm, ⟨13, _⟩ => ⟨S2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .f32⟩
  | .hbm, ⟨19, _⟩ => ⟨S2x8x2048x2048, .f32⟩
  | .hbm, ⟨20, _⟩ => ⟨S2x8x2048x2048, .f32⟩
  | .hbm, ⟨21, _⟩ => ⟨S2x8x2048x2048, .f32⟩
  | .hbm, ⟨22, _⟩ => ⟨S2x8x2048x2048, .f32⟩
  | .hbm, ⟨23, _⟩ => ⟨S2x8x2048x2048, .i1⟩
  | .hbm, ⟨24, _⟩ => ⟨S2x8x2048x2048, .f32⟩
  | .hbm, ⟨25, _⟩ => ⟨S2x8x2048x2048, .f32⟩
  | .hbm, ⟨26, _⟩ => ⟨S2x8x2048x2048, .f32⟩
  | .hbm, ⟨27, _⟩ => ⟨S2x8x2048x2048, .f32⟩
  | .hbm, ⟨28, _⟩ => ⟨S2x8x2048x2048, .f32⟩
  | .hbm, ⟨29, _⟩ => ⟨S2x8x2048x2048, .f32⟩
  | .hbm, ⟨30, _⟩ => ⟨S2x8x2048x2048, .f32⟩
  | .hbm, ⟨31, _⟩ => ⟨S2x8x2048x2048, .f32⟩
  | .hbm, ⟨32, _⟩ => ⟨S_, .f32⟩
  | .hbm, ⟨33, _⟩ => ⟨S_, .f32⟩
  | .hbm, ⟨34, _⟩ => ⟨S2x8x2048x2048, .i1⟩
  | .hbm, ⟨35, _⟩ => ⟨S2x8x2048x2048, .f32⟩
  | .hbm, ⟨36, _⟩ => ⟨S2x8x2048x2048, .f32⟩
  | .hbm, ⟨37, _⟩ => ⟨S_, .f32⟩
  | .hbm, ⟨38, _⟩ => ⟨S2x8x2048, .f32⟩
  | .hbm, ⟨39, _⟩ => ⟨S2x2048x8, .f32⟩
  | .hbm, ⟨40, _⟩ => ⟨S2x2048x8x1, .f32⟩
  | .hbm, ⟨41, _⟩ => ⟨S2x2048x8x64, .f32⟩
  | .hbm, ⟨42, _⟩ => ⟨S2x2048x8x64, .f32⟩
  | .hbm, ⟨43, _⟩ => ⟨S2x8x2048x64, .f32⟩
  | .hbm, ⟨44, _⟩ => ⟨S2x2048x8x64, .f32⟩
  | .hbm, ⟨45, _⟩ => ⟨S2x8x2048x64, .f32⟩
  | .hbm, ⟨46, _⟩ => ⟨S2x2048x8x64, .f32⟩
  | .hbm, ⟨47, _⟩ => ⟨S2x8x2048x64, .f32⟩
  | .hbm, ⟨48, _⟩ => ⟨S2x8x2048x2048, .f32⟩
  | .hbm, ⟨49, _⟩ => ⟨S_, .f32⟩
  | .hbm, ⟨50, _⟩ => ⟨S2x8x2048x2048, .f32⟩
  | .hbm, ⟨51, _⟩ => ⟨S2x8x2048x2048, .f32⟩
  | .hbm, ⟨52, _⟩ => ⟨S2048, .i32⟩
  | .hbm, ⟨53, _⟩ => ⟨S1x2048, .i32⟩
  | .hbm, ⟨54, _⟩ => ⟨S2048, .i32⟩
  | .hbm, ⟨55, _⟩ => ⟨S2048x1, .i32⟩
  | .hbm, ⟨56, _⟩ => ⟨S2048x2048, .i32⟩
  | .hbm, ⟨57, _⟩ => ⟨S2048x2048, .i32⟩
  | .hbm, ⟨58, _⟩ => ⟨S2048x2048, .i1⟩
  | .hbm, ⟨59, _⟩ => ⟨S_, .f32⟩
  | .hbm, ⟨60, _⟩ => ⟨S2x8x2048x2048, .f32⟩
  | .hbm, ⟨61, _⟩ => ⟨S2x8x2048x2048, .f32⟩
  | .hbm, ⟨62, _⟩ => ⟨S2x8x2048x2048, .f32⟩
  | .hbm, ⟨63, _⟩ => ⟨S2x8x2048x2048, .f32⟩
  | .hbm, ⟨64, _⟩ => ⟨S2x8x2048x2048, .i1⟩
  | .hbm, ⟨65, _⟩ => ⟨S2x8x2048x2048, .f32⟩
  | .hbm, ⟨66, _⟩ => ⟨S2x8x2048x2048, .f32⟩
  | .hbm, ⟨67, _⟩ => ⟨S2x8x2048x2048, .f32⟩
  | .hbm, ⟨68, _⟩ => ⟨S2x8x2048x2048, .f32⟩
  | .hbm, ⟨69, _⟩ => ⟨S2x8x2048x2048, .f32⟩
  | .hbm, ⟨70, _⟩ => ⟨S2x8x2048x2048, .f32⟩
  | .hbm, ⟨71, _⟩ => ⟨S2x8x2048x2048, .f32⟩
  | .hbm, ⟨72, _⟩ => ⟨S2x8x2048x2048, .f32⟩
  | .hbm, ⟨73, _⟩ => ⟨S2x8x2048x2048, .f32⟩
  | .hbm, ⟨74, _⟩ => ⟨S_, .f32⟩
  | .hbm, ⟨75, _⟩ => ⟨S_, .f32⟩
  | .hbm, ⟨76, _⟩ => ⟨S2x8x2048x2048, .i1⟩
  | .hbm, ⟨77, _⟩ => ⟨S2x8x2048x2048, .f32⟩
  | .hbm, ⟨78, _⟩ => ⟨S2x8x2048x2048, .f32⟩
  | .hbm, ⟨79, _⟩ => ⟨S_, .f32⟩
  | .hbm, ⟨80, _⟩ => ⟨S_, .f32⟩
  | .hbm, ⟨81, _⟩ => ⟨S2x8x2048x2048, .f32⟩
  | .hbm, ⟨82, _⟩ => ⟨S2x8x2048x2048, .f32⟩
  | .hbm, ⟨83, _⟩ => ⟨S2x8x2048x2048, .f32⟩
  | .hbm, ⟨84, _⟩ => ⟨S_, .f32⟩
  | .hbm, ⟨85, _⟩ => ⟨S2x8x2048x2048, .f32⟩
  | .hbm, ⟨86, _⟩ => ⟨S2x8x2048x2048, .f32⟩
  | .hbm, ⟨87, _⟩ => ⟨S2x8x2048x2048, .f32⟩
  | .hbm, ⟨88, _⟩ => ⟨S2x8x2048x2048, .f32⟩
  | .hbm, ⟨89, _⟩ => ⟨S2x8x2048x2048, .i1⟩
  | .hbm, ⟨90, _⟩ => ⟨S2x8x2048x2048, .f32⟩
  | .hbm, ⟨91, _⟩ => ⟨S2x8x2048x2048, .f32⟩
  | .hbm, ⟨92, _⟩ => ⟨S2x8x2048x2048, .f32⟩
  | .hbm, ⟨93, _⟩ => ⟨S2x8x2048x2048, .f32⟩
  | .hbm, ⟨94, _⟩ => ⟨S2x8x2048x2048, .f32⟩
  | .hbm, ⟨95, _⟩ => ⟨S2x8x2048x2048, .f32⟩
  | .hbm, ⟨96, _⟩ => ⟨S2x8x2048x2048, .f32⟩
  | .hbm, ⟨97, _⟩ => ⟨S2x8x2048x2048, .f32⟩
  | .hbm, ⟨98, _⟩ => ⟨S2x8x2048x2048, .f32⟩
  | .hbm, ⟨99, _⟩ => ⟨S2x8x2048x2048, .f32⟩
  | .hbm, ⟨100, _⟩ => ⟨S2x8x2048x2048, .f32⟩
  | .hbm, ⟨101, _⟩ => ⟨S_, .f32⟩
  | .hbm, ⟨102, _⟩ => ⟨S_, .f32⟩
  | .hbm, ⟨103, _⟩ => ⟨S2x8x2048x2048, .i1⟩
  | .hbm, ⟨104, _⟩ => ⟨S2x8x2048x2048, .f32⟩
  | .hbm, ⟨105, _⟩ => ⟨S2x8x2048x2048, .f32⟩
  | .hbm, ⟨106, _⟩ => ⟨S2x8x2048x64, .f32⟩
  | .hbm, ⟨107, _⟩ => ⟨S2x2048x8x64, .f32⟩
  | .hbm, ⟨108, _⟩ => ⟨S2x2048x512, .f32⟩
  | .hbm, ⟨109, _⟩ => ⟨S4096x512, .f32⟩
  | .hbm, ⟨110, _⟩ => ⟨S4096x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v14 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_v36 : Ref sig .tc := ⟨.hbm, 72, rfl⟩
abbrev main_v37 : Ref sig .tc := ⟨.hbm, 73, rfl⟩
abbrev main_cst_3 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v38 : Ref sig .tc := ⟨.hbm, 78, rfl⟩
abbrev main_call4_cst : Ref sig .tc := ⟨.hbm, 79, rfl⟩
abbrev main_call4_v0 : Ref sig .tc := ⟨.hbm, 80, rfl⟩
abbrev main_v39 : Ref sig .tc := ⟨.hbm, 81, rfl⟩
abbrev main_v40 : Ref sig .tc := ⟨.hbm, 82, rfl⟩
abbrev main_call5_v0 : Ref sig .tc := ⟨.hbm, 83, rfl⟩
abbrev main_call5_call0_cst : Ref sig .tc := ⟨.hbm, 84, rfl⟩
abbrev main_call5_call0_v0 : Ref sig .tc := ⟨.hbm, 85, rfl⟩
abbrev main_call5_call0_v1 : Ref sig .tc := ⟨.hbm, 86, rfl⟩
abbrev main_call5_call0_v2 : Ref sig .tc := ⟨.hbm, 87, rfl⟩
abbrev main_call5_call0_v3 : Ref sig .tc := ⟨.hbm, 88, rfl⟩
abbrev main_call5_call0_v4 : Ref sig .tc := ⟨.hbm, 89, rfl⟩
abbrev main_call5_call0_v5 : Ref sig .tc := ⟨.hbm, 90, rfl⟩
abbrev main_call5_call0_v6 : Ref sig .tc := ⟨.hbm, 91, rfl⟩
abbrev main_call5_call0_v7 : Ref sig .tc := ⟨.hbm, 92, rfl⟩
abbrev main_call5_call0_v8 : Ref sig .tc := ⟨.hbm, 93, rfl⟩
abbrev main_call5_call0_v9 : Ref sig .tc := ⟨.hbm, 94, rfl⟩
abbrev main_call5_call0_v10 : Ref sig .tc := ⟨.hbm, 95, rfl⟩
abbrev main_call5_call0_v11 : Ref sig .tc := ⟨.hbm, 96, rfl⟩
abbrev main_call5_v1 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_cst_4 : Ref sig .tc := ⟨.hbm, 101, rfl⟩
abbrev main_call6_v0 : Ref sig .tc := ⟨.hbm, 102, rfl⟩
abbrev main_call6_v1 : Ref sig .tc := ⟨.hbm, 103, rfl⟩
abbrev main_call6_v2 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩

abbrev nD : Nat := 1
abbrev τ : Topo := Topo.v7x

variable {F : FTy → Type} [FloatOps F]
-- ==== Kernel7.lean ====
abbrev S32x256x256 : Shape := ⟨3, ![32, 256, 256]⟩
abbrev S32x256x128 : Shape := ⟨3, ![32, 256, 128]⟩
abbrev S32x16x256 : Shape := ⟨3, ![32, 16, 256]⟩
abbrev S32x128x256 : Shape := ⟨3, ![32, 128, 256]⟩
abbrev S32x1x128 : Shape := ⟨3, ![32, 1, 128]⟩
abbrev S8x256x256 : Shape := ⟨3, ![8, 256, 256]⟩
abbrev S8x256x128 : Shape := ⟨3, ![8, 256, 128]⟩
abbrev S8x16x256 : Shape := ⟨3, ![8, 16, 256]⟩
abbrev S8x128x256 : Shape := ⟨3, ![8, 128, 256]⟩
abbrev S8x1x128 : Shape := ⟨3, ![8, 1, 128]⟩
abbrev S1x16x256 : Shape := ⟨3, ![1, 16, 256]⟩
abbrev S16x256 : Shape := ⟨2, ![16, 256]⟩
abbrev S256x256 : Shape := ⟨2, ![256, 256]⟩
abbrev S1x256x256 : Shape := ⟨3, ![1, 256, 256]⟩
abbrev S16x240 : Shape := ⟨2, ![16, 240]⟩
abbrev S1x16x240 : Shape := ⟨3, ![1, 16, 240]⟩
abbrev S16x224 : Shape := ⟨2, ![16, 224]⟩
abbrev S1x16x224 : Shape := ⟨3, ![1, 16, 224]⟩
abbrev S16x208 : Shape := ⟨2, ![16, 208]⟩
abbrev S1x16x208 : Shape := ⟨3, ![1, 16, 208]⟩
abbrev S16x192 : Shape := ⟨2, ![16, 192]⟩
abbrev S1x16x192 : Shape := ⟨3, ![1, 16, 192]⟩
abbrev S16x176 : Shape := ⟨2, ![16, 176]⟩
abbrev S1x16x176 : Shape := ⟨3, ![1, 16, 176]⟩
abbrev S16x160 : Shape := ⟨2, ![16, 160]⟩
abbrev S1x16x160 : Shape := ⟨3, ![1, 16, 160]⟩
abbrev S16x144 : Shape := ⟨2, ![16, 144]⟩
abbrev S1x16x144 : Shape := ⟨3, ![1, 16, 144]⟩
abbrev S16x128 : Shape := ⟨2, ![16, 128]⟩
abbrev S1x16x128 : Shape := ⟨3, ![1, 16, 128]⟩
abbrev S16x112 : Shape := ⟨2, ![16, 112]⟩
abbrev S1x16x112 : Shape := ⟨3, ![1, 16, 112]⟩
abbrev S16x96 : Shape := ⟨2, ![16, 96]⟩
abbrev S1x16x96 : Shape := ⟨3, ![1, 16, 96]⟩
abbrev S16x80 : Shape := ⟨2, ![16, 80]⟩
abbrev S1x16x80 : Shape := ⟨3, ![1, 16, 80]⟩
abbrev S16x64 : Shape := ⟨2, ![16, 64]⟩
abbrev S1x16x64 : Shape := ⟨3, ![1, 16, 64]⟩
abbrev S16x48 : Shape := ⟨2, ![16, 48]⟩
abbrev S1x16x48 : Shape := ⟨3, ![1, 16, 48]⟩
abbrev S16x32 : Shape := ⟨2, ![16, 32]⟩
abbrev S1x16x32 : Shape := ⟨3, ![1, 16, 32]⟩
abbrev S16x16 : Shape := ⟨2, ![16, 16]⟩
abbrev S1x16x16 : Shape := ⟨3, ![1, 16, 16]⟩
abbrev S1x128x256 : Shape := ⟨3, ![1, 128, 256]⟩
abbrev S128x256 : Shape := ⟨2, ![128, 256]⟩
abbrev S256x128 : Shape := ⟨2, ![256, 128]⟩
abbrev S1x256x128 : Shape := ⟨3, ![1, 256, 128]⟩
abbrev S1x1x128 : Shape := ⟨3, ![1, 1, 128]⟩
abbrev S1x128 : Shape := ⟨2, ![1, 128]⟩
abbrev S8x128 : Shape := ⟨2, ![8, 128]⟩
abbrev S1x8x128 : Shape := ⟨3, ![1, 8, 128]⟩
abbrev S128 : Shape := ⟨1, ![128]⟩

abbrev nBuf : Space → Nat
  | .hbm => 14
  | .vmem => 31
  | .smem => 0
  | _ => 0

abbrev bufTy : (tb : Table) → Fin (tcTables nBuf tb) → BufTy
  | .hbm, ⟨0, _⟩ => ⟨S32x256x256, .f32⟩
  | .hbm, ⟨1, _⟩ => ⟨S32x256x256, .f32⟩
  | .hbm, ⟨2, _⟩ => ⟨S32x256x128, .f32⟩
  | .hbm, ⟨3, _⟩ => ⟨S32x16x256, .f32⟩
  | .hbm, ⟨4, _⟩ => ⟨S32x256x128, .f32⟩
  | .hbm, ⟨5, _⟩ => ⟨S32x128x256, .f32⟩
  | .hbm, ⟨6, _⟩ => ⟨S32x1x128, .f32⟩
  | .hbm, ⟨7, _⟩ => ⟨S32x1x128, .f32⟩
  | .hbm, ⟨8, _⟩ => ⟨S32x256x256, .f32⟩
  | .hbm, ⟨9, _⟩ => ⟨S32x16x256, .f32⟩
  | .hbm, ⟨10, _⟩ => ⟨S32x256x128, .f32⟩
  | .hbm, ⟨11, _⟩ => ⟨S32x128x256, .f32⟩
  | .hbm, ⟨12, _⟩ => ⟨S32x1x128, .f32⟩
  | .hbm, ⟨13, _⟩ => ⟨S32x1x128, .f32⟩
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | .local _ .vmem, ⟨4, _⟩ => ⟨S8x256x128, .f32⟩
  | .local _ .vmem, ⟨5, _⟩ => ⟨S8x256x128, .f32⟩
  | .local _ .vmem, ⟨6, _⟩ => ⟨S8x16x256, .f32⟩
  | .local _ .vmem, ⟨7, _⟩ => ⟨S8x16x256, .f32⟩
  | .local _ .vmem, ⟨8, _⟩ => ⟨S8x256x128, .f32⟩
  | .local _ .vmem, ⟨9, _⟩ => ⟨S8x256x128, .f32⟩
  | .local _ .vmem, ⟨10, _⟩ => ⟨S8x128x256, .f32⟩
  | .local _ .vmem, ⟨11, _⟩ => ⟨S8x128x256, .f32⟩
  | .local _ .vmem, ⟨12, _⟩ => ⟨S8x1x128, .f32⟩
  | .local _ .vmem, ⟨13, _⟩ => ⟨S8x1x128, .f32⟩
  | .local _ .vmem, ⟨14, _⟩ => ⟨S8x1x128, .f32⟩
  | .local _ .vmem, ⟨15, _⟩ => ⟨S8x1x128, .f32⟩
  | .local _ .vmem, ⟨16, _⟩ => ⟨S8x256x256, .f32⟩
  | .local _ .vmem, ⟨17, _⟩ => ⟨S8x256x256, .f32⟩
  | .local _ .vmem, ⟨18, _⟩ => ⟨S8x16x256, .f32⟩
  | .local _ .vmem, ⟨19, _⟩ => ⟨S8x16x256, .f32⟩
  | .local _ .vmem, ⟨20, _⟩ => ⟨S8x256x128, .f32⟩
  | .local _ .vmem, ⟨21, _⟩ => ⟨S8x256x128, .f32⟩
  | .local _ .vmem, ⟨22, _⟩ => ⟨S8x128x256, .f32⟩
  | .local _ .vmem, ⟨23, _⟩ => ⟨S8x128x256, .f32⟩
  | .local _ .vmem, ⟨24, _⟩ => ⟨S8x1x128, .f32⟩
  | .local _ .vmem, ⟨25, _⟩ => ⟨S8x1x128, .f32⟩
  | .local _ .vmem, ⟨26, _⟩ => ⟨S8x1x128, .f32⟩
  | .local _ .vmem, ⟨27, _⟩ => ⟨S8x1x128, .f32⟩
  | .local _ .vmem, ⟨28, _⟩ => ⟨S8x256x128, .f32⟩
  | .local _ .vmem, ⟨29, _⟩ => ⟨S8x256x128, .f32⟩
  | .local _ .vmem, ⟨30, _⟩ => ⟨S8x256x256, .f32⟩
  | _, _ => ⟨S32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_832 : BitVec 32 := 0#32
  let c16_i32 : BitVec 32 := 16#32
  let v1936 : BitVec 32 := Scalar.addi c0_i32_832 c16_i32
  let c1_i32_833 : BitVec 32 := 1#32
  ⟨c0_i32_832, v1936, c1_i32_833⟩
def k0_mult1 (k0_t1 : Fin k0_t1_loop.trips) : BitVec 32 :=
  let c0_i32_2314 : BitVec 32 := 0#32
  let c15_i32 : BitVec 32 := 15#32
  let c0_i32_832 : BitVec 32 := 0#32
  let c1_i32_833 : BitVec 32 := 1#32
  let arg18 : BitVec 32 := Scf.iv c0_i32_832 c1_i32_833 k0_t1
  let v3282 : BitVec 32 := Scalar.subi c15_i32 arg18
  let c8_i32 : BitVec 32 := 8#32
  let v3283 : BitVec 32 := Scalar.muli v3282 c8_i32
  let v3284 : BitVec 32 := Scalar.addi c0_i32_2314 v3283
  v3284
def k0_off1 (k0_t1 : Fin k0_t1_loop.trips) (c0_i32_2314 : BitVec 32) : Fin 3 → Nat :=
  let c0_2315 : Index := 0#32
  let c15_i32 : BitVec 32 := 15#32
  let c0_i32_832 : BitVec 32 := 0#32
  let c1_i32_833 : BitVec 32 := 1#32
  let arg18 : BitVec 32 := Scf.iv c0_i32_832 c1_i32_833 k0_t1
  let v3282 : BitVec 32 := Scalar.subi c15_i32 arg18
  let c8_i32 : BitVec 32 := 8#32
  let v3283 : BitVec 32 := Scalar.muli v3282 c8_i32
  let v3284 : BitVec 32 := Scalar.addi c0_i32_2314 v3283
  let v3285 : BitVec 32 := v3284
  let v3286 : Index := Scalar.indexCast v3285
  let c0_2316 : Index := 0#32
  ![0, v3286.toNat, 0]
def k0_mult2 (k0_t1 : Fin k0_t1_loop.trips) : BitVec 32 :=
  let c128_i32 : BitVec 32 := 128#32
  let c15_i32_2334 : BitVec 32 := 15#32
  let c0_i32_832 : BitVec 32 := 0#32
  let c1_i32_833 : BitVec 32 := 1#32
  let arg18 : BitVec 32 := Scf.iv c0_i32_832 c1_i32_833 k0_t1
  let v3341 : BitVec 32 := Scalar.subi c15_i32_2334 arg18
  let c8_i32_2335 : BitVec 32 := 8#32
  let v3342 : BitVec 32 := Scalar.muli v3341 c8_i32_2335
  let v3343 : BitVec 32 := Scalar.addi c128_i32 v3342
  v3343
def k0_mult3 (k0_t1 : Fin k0_t1_loop.trips) : BitVec 32 :=
  let c0_i32_2357 : BitVec 32 := 0#32
  let c15_i32_2355 : BitVec 32 := 15#32
  let c0_i32_832 : BitVec 32 := 0#32
  let c1_i32_833 : BitVec 32 := 1#32
  let arg18 : BitVec 32 := Scf.iv c0_i32_832 c1_i32_833 k0_t1
  let v3400 : BitVec 32 := Scalar.subi c15_i32_2355 arg18
  let c8_i32_2356 : BitVec 32 := 8#32
  let v3401 : BitVec 32 := Scalar.muli v3400 c8_i32_2356
  let v3402 : BitVec 32 := Scalar.addi c0_i32_2357 v3401
  v3402
def k0_off2 (k0_t1 : Fin k0_t1_loop.trips) (c0_i32_2357 : BitVec 32) : Fin 3 → Nat :=
  let c1_2358 : Index := 1#32
  let c15_i32_2355 : BitVec 32 := 15#32
  let c0_i32_832 : BitVec 32 := 0#32
  let c1_i32_833 : BitVec 32 := 1#32
  let arg18 : BitVec 32 := Scf.iv c0_i32_832 c1_i32_833 k0_t1
  let v3400 : BitVec 32 := Scalar.subi c15_i32_2355 arg18
  let c8_i32_2356 : BitVec 32 := 8#32
  let v3401 : BitVec 32 := Scalar.muli v3400 c8_i32_2356
  let v3402 : BitVec 32 := Scalar.addi c0_i32_2357 v3401
  let v3403 : BitVec 32 := v3402
  let v3404 : Index := Scalar.indexCast v3403
  let c0_2359 : Index := 0#32
  ![1, v3404.toNat, 0]
def k0_mult4 (k0_t1 : Fin k0_t1_loop.trips) : BitVec 32 :=
  let c128_i32_2379 : BitVec 32 := 128#32
  let c15_i32_2377 : BitVec 32 := 15#32
  let c0_i32_832 : BitVec 32 := 0#32
  let c1_i32_833 : BitVec 32 := 1#32
  let arg18 : BitVec 32 := Scf.iv c0_i32_832 c1_i32_833 k0_t1
  let v3459 : BitVec 32 := Scalar.subi c15_i32_2377 arg18
  let c8_i32_2378 : BitVec 32 := 8#32
  let v3460 : BitVec 32 := Scalar.muli v3459 c8_i32_2378
  let v3461 : BitVec 32 := Scalar.addi c128_i32_2379 v3460
  v3461
def k0_mult5 (k0_t1 : Fin k0_t1_loop.trips) : BitVec 32 :=
  let c0_i32_2401 : BitVec 32 := 0#32
  let c15_i32_2399 : BitVec 32 := 15#32
  let c0_i32_832 : BitVec 32 := 0#32
  let c1_i32_833 : BitVec 32 := 1#32
  let arg18 : BitVec 32 := Scf.iv c0_i32_832 c1_i32_833 k0_t1
  let v3518 : BitVec 32 := Scalar.subi c15_i32_2399 arg18
  let c8_i32_2400 : BitVec 32 := 8#32
  let v3519 : BitVec 32 := Scalar.muli v3518 c8_i32_2400
  let v3520 : BitVec 32 := Scalar.addi c0_i32_2401 v3519
  v3520
def k0_off3 (k0_t1 : Fin k0_t1_loop.trips) (c0_i32_2401 : BitVec 32) : Fin 3 → Nat :=
  let c2_2402 : Index := 2#32
  let c15_i32_2399 : BitVec 32 := 15#32
  let c0_i32_832 : BitVec 32 := 0#32
  let c1_i32_833 : BitVec 32 := 1#32
  let arg18 : BitVec 32 := Scf.iv c0_i32_832 c1_i32_833 k0_t1
  let v3518 : BitVec 32 := Scalar.subi c15_i32_2399 arg18
  let c8_i32_2400 : BitVec 32 := 8#32
  let v3519 : BitVec 32 := Scalar.muli v3518 c8_i32_2400
  let v3520 : BitVec 32 := Scalar.addi c0_i32_2401 v3519
  let v3521 : BitVec 32 := v3520
  let v3522 : Index := Scalar.indexCast v3521
  let c0_2403 : Index := 0#32
  ![2, v3522.toNat, 0]
def k0_mult6 (k0_t1 : Fin k0_t1_loop.trips) : BitVec 32 :=
  let c128_i32_2423 : BitVec 32 := 128#32
  let c15_i32_2421 : BitVec 32 := 15#32
  let c0_i32_832 : BitVec 32 := 0#32
  let c1_i32_833 : BitVec 32 := 1#32
  let arg18 : BitVec 32 := Scf.iv c0_i32_832 c1_i32_833 k0_t1
  let v3577 : BitVec 32 := Scalar.subi c15_i32_2421 arg18
  let c8_i32_2422 : BitVec 32 := 8#32
  let v3578 : BitVec 32 := Scalar.muli v3577 c8_i32_2422
  let v3579 : BitVec 32 := Scalar.addi c128_i32_2423 v3578
  v3579
def k0_mult7 (k0_t1 : Fin k0_t1_loop.trips) : BitVec 32 :=
  let c0_i32_2445 : BitVec 32 := 0#32
  let c15_i32_2443 : BitVec 32 := 15#32
  let c0_i32_832 : BitVec 32 := 0#32
  let c1_i32_833 : BitVec 32 := 1#32
  let arg18 : BitVec 32 := Scf.iv c0_i32_832 c1_i32_833 k0_t1
  let v3636 : BitVec 32 := Scalar.subi c15_i32_2443 arg18
  let c8_i32_2444 : BitVec 32 := 8#32
  let v3637 : BitVec 32 := Scalar.muli v3636 c8_i32_2444
  let v3638 : BitVec 32 := Scalar.addi c0_i32_2445 v3637
  v3638
def k0_off4 (k0_t1 : Fin k0_t1_loop.trips) (c0_i32_2445 : BitVec 32) : Fin 3 → Nat :=
  let c3_2446 : Index := 3#32
  let c15_i32_2443 : BitVec 32 := 15#32
  let c0_i32_832 : BitVec 32 := 0#32
  let c1_i32_833 : BitVec 32 := 1#32
  let arg18 : BitVec 32 := Scf.iv c0_i32_832 c1_i32_833 k0_t1
  let v3636 : BitVec 32 := Scalar.subi c15_i32_2443 arg18
  let c8_i32_2444 : BitVec 32 := 8#32
  let v3637 : BitVec 32 := Scalar.muli v3636 c8_i32_2444
  let v3638 : BitVec 32 := Scalar.addi c0_i32_2445 v3637
  let v3639 : BitVec 32 := v3638
  let v3640 : Index := Scalar.indexCast v3639
  let c0_2447 : Index := 0#32
  ![3, v3640.toNat, 0]
def k0_mult8 (k0_t1 : Fin k0_t1_loop.trips) : BitVec 32 :=
  let c128_i32_2467 : BitVec 32 := 128#32
  let c15_i32_2465 : BitVec 32 := 15#32
  let c0_i32_832 : BitVec 32 := 0#32
  let c1_i32_833 : BitVec 32 := 1#32
  let arg18 : BitVec 32 := Scf.iv c0_i32_832 c1_i32_833 k0_t1
  let v3695 : BitVec 32 := Scalar.subi c15_i32_2465 arg18
  let c8_i32_2466 : BitVec 32 := 8#32
  let v3696 : BitVec 32 := Scalar.muli v3695 c8_i32_2466
  let v3697 : BitVec 32 := Scalar.addi c128_i32_2467 v3696
  v3697
def k0_mult9 (k0_t1 : Fin k0_t1_loop.trips) : BitVec 32 :=
  let c0_i32_2489 : BitVec 32 := 0#32
  let c15_i32_2487 : BitVec 32 := 15#32
  let c0_i32_832 : BitVec 32 := 0#32
  let c1_i32_833 : BitVec 32 := 1#32
  let arg18 : BitVec 32 := Scf.iv c0_i32_832 c1_i32_833 k0_t1
  let v3754 : BitVec 32 := Scalar.subi c15_i32_2487 arg18
  let c8_i32_2488 : BitVec 32 := 8#32
  let v3755 : BitVec 32 := Scalar.muli v3754 c8_i32_2488
  let v3756 : BitVec 32 := Scalar.addi c0_i32_2489 v3755
  v3756
def k0_off5 (k0_t1 : Fin k0_t1_loop.trips) (c0_i32_2489 : BitVec 32) : Fin 3 → Nat :=
  let c4_2490 : Index := 4#32
  let c15_i32_2487 : BitVec 32 := 15#32
  let c0_i32_832 : BitVec 32 := 0#32
  let c1_i32_833 : BitVec 32 := 1#32
  let arg18 : BitVec 32 := Scf.iv c0_i32_832 c1_i32_833 k0_t1
  let v3754 : BitVec 32 := Scalar.subi c15_i32_2487 arg18
  let c8_i32_2488 : BitVec 32 := 8#32
  let v3755 : BitVec 32 := Scalar.muli v3754 c8_i32_2488
  let v3756 : BitVec 32 := Scalar.addi c0_i32_2489 v3755
  let v3757 : BitVec 32 := v3756
  let v3758 : Index := Scalar.indexCast v3757
  let c0_2491 : Index := 0#32
  ![4, v3758.toNat, 0]
def k0_mult10 (k0_t1 : Fin k0_t1_loop.trips) : BitVec 32 :=
  let c128_i32_2511 : BitVec 32 := 128#32
  let c15_i32_2509 : BitVec 32 := 15#32
  let c0_i32_832 : BitVec 32 := 0#32
  let c1_i32_833 : BitVec 32 := 1#32
  let arg18 : BitVec 32 := Scf.iv c0_i32_832 c1_i32_833 k0_t1
  let v3813 : BitVec 32 := Scalar.subi c15_i32_2509 arg18
  let c8_i32_2510 : BitVec 32 := 8#32
  let v3814 : BitVec 32 := Scalar.muli v3813 c8_i32_2510
  let v3815 : BitVec 32 := Scalar.addi c128_i32_2511 v3814
  v3815
def k0_mult11 (k0_t1 : Fin k0_t1_loop.trips) : BitVec 32 :=
  let c0_i32_2533 : BitVec 32 := 0#32
  let c15_i32_2531 : BitVec 32 := 15#32
  let c0_i32_832 : BitVec 32 := 0#32
  let c1_i32_833 : BitVec 32 := 1#32
  let arg18 : BitVec 32 := Scf.iv c0_i32_832 c1_i32_833 k0_t1
  let v3872 : BitVec 32 := Scalar.subi c15_i32_2531 arg18
  let c8_i32_2532 : BitVec 32 := 8#32
  let v3873 : BitVec 32 := Scalar.muli v3872 c8_i32_2532
  let v3874 : BitVec 32 := Scalar.addi c0_i32_2533 v3873
  v3874
def k0_off6 (k0_t1 : Fin k0_t1_loop.trips) (c0_i32_2533 : BitVec 32) : Fin 3 → Nat :=
  let c5_2534 : Index := 5#32
  let c15_i32_2531 : BitVec 32 := 15#32
  let c0_i32_832 : BitVec 32 := 0#32
  let c1_i32_833 : BitVec 32 := 1#32
  let arg18 : BitVec 32 := Scf.iv c0_i32_832 c1_i32_833 k0_t1
  let v3872 : BitVec 32 := Scalar.subi c15_i32_2531 arg18
  let c8_i32_2532 : BitVec 32 := 8#32
  let v3873 : BitVec 32 := Scalar.muli v3872 c8_i32_2532
  let v3874 : BitVec 32 := Scalar.addi c0_i32_2533 v3873
  let v3875 : BitVec 32 := v3874
  let v3876 : Index := Scalar.indexCast v3875
  let c0_2535 : Index := 0#32
  ![5, v3876.toNat, 0]
def k0_mult12 (k0_t1 : Fin k0_t1_loop.trips) : BitVec 32 :=
  let c128_i32_2555 : BitVec 32 := 128#32
  let c15_i32_2553 : BitVec 32 := 15#32
  let c0_i32_832 : BitVec 32 := 0#32
  let c1_i32_833 : BitVec 32 := 1#32
  let arg18 : BitVec 32 := Scf.iv c0_i32_832 c1_i32_833 k0_t1
  let v3931 : BitVec 32 := Scalar.subi c15_i32_2553 arg18
  let c8_i32_2554 : BitVec 32 := 8#32
  let v3932 : BitVec 32 := Scalar.muli v3931 c8_i32_2554
  let v3933 : BitVec 32 := Scalar.addi c128_i32_2555 v3932
  v3933
def k0_mult13 (k0_t1 : Fin k0_t1_loop.trips) : BitVec 32 :=
  let c0_i32_2577 : BitVec 32 := 0#32
  let c15_i32_2575 : BitVec 32 := 15#32
  let c0_i32_832 : BitVec 32 := 0#32
  let c1_i32_833 : BitVec 32 := 1#32
  let arg18 : BitVec 32 := Scf.iv c0_i32_832 c1_i32_833 k0_t1
  let v3990 : BitVec 32 := Scalar.subi c15_i32_2575 arg18
  let c8_i32_2576 : BitVec 32 := 8#32
  let v3991 : BitVec 32 := Scalar.muli v3990 c8_i32_2576
  let v3992 : BitVec 32 := Scalar.addi c0_i32_2577 v3991
  v3992
def k0_off7 (k0_t1 : Fin k0_t1_loop.trips) (c0_i32_2577 : BitVec 32) : Fin 3 → Nat :=
  let c6_2578 : Index := 6#32
  let c15_i32_2575 : BitVec 32 := 15#32
  let c0_i32_832 : BitVec 32 := 0#32
  let c1_i32_833 : BitVec 32 := 1#32
  let arg18 : BitVec 32 := Scf.iv c0_i32_832 c1_i32_833 k0_t1
  let v3990 : BitVec 32 := Scalar.subi c15_i32_2575 arg18
  let c8_i32_2576 : BitVec 32 := 8#32
  let v3991 : BitVec 32 := Scalar.muli v3990 c8_i32_2576
  let v3992 : BitVec 32 := Scalar.addi c0_i32_2577 v3991
  let v3993 : BitVec 32 := v3992
  let v3994 : Index := Scalar.indexCast v3993
  let c0_2579 : Index := 0#32
  ![6, v3994.toNat, 0]
def k0_mult14 (k0_t1 : Fin k0_t1_loop.trips) : BitVec 32 :=
  let c128_i32_2599 : BitVec 32 := 128#32
  let c15_i32_2597 : BitVec 32 := 15#32
  let c0_i32_832 : BitVec 32 := 0#32
  let c1_i32_833 : BitVec 32 := 1#32
  let arg18 : BitVec 32 := Scf.iv c0_i32_832 c1_i32_833 k0_t1
  let v4049 : BitVec 32 := Scalar.subi c15_i32_2597 arg18
  let c8_i32_2598 : BitVec 32 := 8#32
  let v4050 : BitVec 32 := Scalar.muli v4049 c8_i32_2598
  let v4051 : BitVec 32 := Scalar.addi c128_i32_2599 v4050
  v4051
def k0_mult15 (k0_t1 : Fin k0_t1_loop.trips) : BitVec 32 :=
  let c0_i32_2621 : BitVec 32 := 0#32
  let c15_i32_2619 : BitVec 32 := 15#32
  let c0_i32_832 : BitVec 32 := 0#32
  let c1_i32_833 : BitVec 32 := 1#32
  let arg18 : BitVec 32 := Scf.iv c0_i32_832 c1_i32_833 k0_t1
  let v4108 : BitVec 32 := Scalar.subi c15_i32_2619 arg18
  let c8_i32_2620 : BitVec 32 := 8#32
  let v4109 : BitVec 32 := Scalar.muli v4108 c8_i32_2620
  let v4110 : BitVec 32 := Scalar.addi c0_i32_2621 v4109
  v4110
def k0_off8 (k0_t1 : Fin k0_t1_loop.trips) (c0_i32_2621 : BitVec 32) : Fin 3 → Nat :=
  let c7_2622 : Index := 7#32
  let c15_i32_2619 : BitVec 32 := 15#32
  let c0_i32_832 : BitVec 32 := 0#32
  let c1_i32_833 : BitVec 32 := 1#32
  let arg18 : BitVec 32 := Scf.iv c0_i32_832 c1_i32_833 k0_t1
  let v4108 : BitVec 32 := Scalar.subi c15_i32_2619 arg18
  let c8_i32_2620 : BitVec 32 := 8#32
  let v4109 : BitVec 32 := Scalar.muli v4108 c8_i32_2620
  let v4110 : BitVec 32 := Scalar.addi c0_i32_2621 v4109
  let v4111 : BitVec 32 := v4110
  let v4112 : Index := Scalar.indexCast v4111
  let c0_2623 : Index := 0#32
  ![7, v4112.toNat, 0]
def k0_mult16 (k0_t1 : Fin k0_t1_loop.trips) : BitVec 32 :=
  let c128_i32_2643 : BitVec 32 := 128#32
  let c15_i32_2641 : BitVec 32 := 15#32
  let c0_i32_832 : BitVec 32 := 0#32
  let c1_i32_833 : BitVec 32 := 1#32
  let arg18 : BitVec 32 := Scf.iv c0_i32_832 c1_i32_833 k0_t1
  let v4167 : BitVec 32 := Scalar.subi c15_i32_2641 arg18
  let c8_i32_2642 : BitVec 32 := 8#32
  let v4168 : BitVec 32 := Scalar.muli v4167 c8_i32_2642
  let v4169 : BitVec 32 := Scalar.addi c128_i32_2643 v4168
  v4169
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel9.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S32x1x64 : Shape := ⟨3, ![32, 1, 64]⟩
abbrev S32x64x1 : Shape := ⟨3, ![32, 64, 1]⟩
abbrev S32x1x1 : Shape := ⟨3, ![32, 1, 1]⟩
abbrev S32x1x16 : Shape := ⟨3, ![32, 1, 16]⟩
abbrev S32x16x256 : Shape := ⟨3, ![32, 16, 256]⟩
abbrev S32x256x128 : Shape := ⟨3, ![32, 256, 128]⟩
abbrev S32x128x256 : Shape := ⟨3, ![32, 128, 256]⟩
abbrev S32x1x128 : Shape := ⟨3, ![32, 1, 128]⟩
abbrev S8x1x64 : Shape := ⟨3, ![8, 1, 64]⟩
abbrev S8x64x1 : Shape := ⟨3, ![8, 64, 1]⟩
abbrev S8x1x1 : Shape := ⟨3, ![8, 1, 1]⟩
abbrev S8x16x64 : Shape := ⟨3, ![8, 16, 64]⟩
abbrev S8x64x16 : Shape := ⟨3, ![8, 64, 16]⟩
abbrev S8x1x16 : Shape := ⟨3, ![8, 1, 16]⟩
abbrev S8x16x256 : Shape := ⟨3, ![8, 16, 256]⟩
abbrev S8x256x128 : Shape := ⟨3, ![8, 256, 128]⟩
abbrev S8x128x256 : Shape := ⟨3, ![8, 128, 256]⟩
abbrev S8x1x128 : Shape := ⟨3, ![8, 1, 128]⟩
abbrev S1x1x64 : Shape := ⟨3, ![1, 1, 64]⟩
abbrev S1x64 : Shape := ⟨2, ![1, 64]⟩
abbrev S1x64x1 : Shape := ⟨3, ![1, 64, 1]⟩
abbrev S64x1 : Shape := ⟨2, ![64, 1]⟩
abbrev S1x1x1 : Shape := ⟨3, ![1, 1, 1]⟩
abbrev S1x1 : Shape := ⟨2, ![1, 1]⟩
abbrev S1x16x64 : Shape := ⟨3, ![1, 16, 64]⟩
abbrev S16x64 : Shape := ⟨2, ![16, 64]⟩
abbrev S1x64x16 : Shape := ⟨3, ![1, 64, 16]⟩
abbrev S64x16 : Shape := ⟨2, ![64, 16]⟩
abbrev S1x1x16 : Shape := ⟨3, ![1, 1, 16]⟩
abbrev S1x16 : Shape := ⟨2, ![1, 16]⟩
abbrev S64x128 : Shape := ⟨2, ![64, 128]⟩
abbrev S17x1 : Shape := ⟨2, ![17, 1]⟩
abbrev S17x64 : Shape := ⟨2, ![17, 64]⟩
abbrev S16x128 : Shape := ⟨2, ![16, 128]⟩
abbrev S17x128 : Shape := ⟨2, ![17, 128]⟩
abbrev S1x128 : Shape := ⟨2, ![1, 128]⟩
abbrev S256x128 : Shape := ⟨2, ![256, 128]⟩
abbrev S1x256 : Shape := ⟨2, ![1, 256]⟩
abbrev S16x256 : Shape := ⟨2, ![16, 256]⟩
abbrev S64x256 : Shape := ⟨2, ![64, 256]⟩
abbrev S128x256 : Shape := ⟨2, ![128, 256]⟩
abbrev S1x16x256 : Shape := ⟨3, ![1, 16, 256]⟩
abbrev S1x256x128 : Shape := ⟨3, ![1, 256, 128]⟩
abbrev S1x128x256 : Shape := ⟨3, ![1, 128, 256]⟩
abbrev S1x1x128 : Shape := ⟨3, ![1, 1, 128]⟩

abbrev nBuf : Space → Nat
  | .hbm => 23
  | .vmem => 30
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x16x64, .f32⟩
  | .hbm, ⟨6, _⟩ => ⟨S32x16x64, .f32⟩
  | .hbm, ⟨7, _⟩ => ⟨S32x16, .f32⟩
  | .hbm, ⟨8, _⟩ => ⟨S32x1x64, .f32⟩
  | .hbm, ⟨9, _⟩ => ⟨S32x1x64, .f32⟩
  | .hbm, ⟨10, _⟩ => ⟨S32x64x1, .f32⟩
  | .hbm, ⟨11, _⟩ => ⟨S32x64x1, .f32⟩
  | .hbm, ⟨12, _⟩ => ⟨S32x1x1, .f32⟩
  | .hbm, ⟨13, _⟩ => ⟨S32x16x64, .f32⟩
  | .hbm, ⟨14, _⟩ => ⟨S32x16x64, .f32⟩
  | .hbm, ⟨15, _⟩ => ⟨S32x64x16, .f32⟩
  | .hbm, ⟨16, _⟩ => ⟨S32x64x16, .f32⟩
  | .hbm, ⟨17, _⟩ => ⟨S32x1x16, .f32⟩
  | .hbm, ⟨18, _⟩ => ⟨S32x16x256, .f32⟩
  | .hbm, ⟨19, _⟩ => ⟨S32x256x128, .f32⟩
  | .hbm, ⟨20, _⟩ => ⟨S32x128x256, .f32⟩
  | .hbm, ⟨21, _⟩ => ⟨S32x1x128, .f32⟩
  | .hbm, ⟨22, _⟩ => ⟨S32x1x128, .f32⟩
  | .local _ .vmem, ⟨0, _⟩ => ⟨S8x1x64, .f32⟩
  | .local _ .vmem, ⟨1, _⟩ => ⟨S8x1x64, .f32⟩
  | .local _ .vmem, ⟨2, _⟩ => ⟨S8x1x64, .f32⟩
  | .local _ .vmem, ⟨3, _⟩ => ⟨S8x1x64, .f32⟩
  | .local _ .vmem, ⟨4, _⟩ => ⟨S8x64x1, .f32⟩
  | .local _ .vmem, ⟨5, _⟩ => ⟨S8x64x1, .f32⟩
  | .local _ .vmem, ⟨6, _⟩ => ⟨S8x64x1, .f32⟩
  | .local _ .vmem, ⟨7, _⟩ => ⟨S8x64x1, .f32⟩
  | .local _ .vmem, ⟨8, _⟩ => ⟨S8x1x1, .f32⟩
  | .local _ .vmem, ⟨9, _⟩ => ⟨S8x1x1, .f32⟩
  | .local _ .vmem, ⟨10, _⟩ => ⟨S8x16x64, .f32⟩
  | .local _ .vmem, ⟨11, _⟩ => ⟨S8x16x64, .f32⟩
  | .local _ .vmem, ⟨12, _⟩ => ⟨S8x16x64, .f32⟩
  | .local _ .vmem, ⟨13, _⟩ => ⟨S8x16x64, .f32⟩
  | .local _ .vmem, ⟨14, _⟩ => ⟨S8x64x16, .f32⟩
  | .local _ .vmem, ⟨15, _⟩ => ⟨S8x64x16, .f32⟩
  | .local _ .vmem, ⟨16, _⟩ => ⟨S8x64x16, .f32⟩
  | .local _ .vmem, ⟨17, _⟩ => ⟨S8x64x16, .f32⟩
  | .local _ .vmem, ⟨18, _⟩ => ⟨S8x1x16, .f32⟩
  | .local _ .vmem, ⟨19, _⟩ => ⟨S8x1x16, .f32⟩
  | .local _ .vmem, ⟨20, _⟩ => ⟨S8x16x256, .f32⟩
  | .local _ .vmem, ⟨21, _⟩ => ⟨S8x16x256, .f32⟩
  | .local _ .vmem, ⟨22, _⟩ => ⟨S8x256x128, .f32⟩
  | .local _ .vmem, ⟨23, _⟩ => ⟨S8x256x128, .f32⟩
  | .local _ .vmem, ⟨24, _⟩ => ⟨S8x128x256, .f32⟩
  | .local _ .vmem, ⟨25, _⟩ => ⟨S8x128x256, .f32⟩
  | .local _ .vmem, ⟨26, _⟩ => ⟨S8x1x128, .f32⟩
  | .local _ .vmem, ⟨27, _⟩ => ⟨S8x1x128, .f32⟩
  | .local _ .vmem, ⟨28, _⟩ => ⟨S8x1x128, .f32⟩
  | .local _ .vmem, ⟨29, _⟩ => ⟨S8x1x128, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x64x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x64x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference9Ideal.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S32x1 : Shape := ⟨2, ![32, 1]⟩
abbrev S17 : Shape := ⟨1, ![17]⟩
abbrev S1x17x1 : Shape := ⟨3, ![1, 17, 1]⟩
abbrev S32x1x64 : Shape := ⟨3, ![32, 1, 64]⟩
abbrev S32x17x64 : Shape := ⟨3, ![32, 17, 64]⟩
abbrev S_ : Shape := ⟨0, ![]⟩
abbrev S32x64x1 : Shape := ⟨3, ![32, 64, 1]⟩
abbrev S32x16x64x1 : Shape := ⟨4, ![32, 16, 64, 1]⟩
abbrev S32x1x64x16 : Shape := ⟨4, ![32, 1, 64, 16]⟩
abbrev S32x16x64x16 : Shape := ⟨4, ![32, 16, 64, 16]⟩
abbrev S32x16x128x16 : Shape := ⟨4, ![32, 16, 128, 16]⟩
abbrev S32x16x16x128 : Shape := ⟨4, ![32, 16, 16, 128]⟩
abbrev S32x256x128 : Shape := ⟨3, ![32, 256, 128]⟩
abbrev S32x16x1x64 : Shape := ⟨4, ![32, 16, 1, 64]⟩
abbrev S32x1x16x64 : Shape := ⟨4, ![32, 1, 16, 64]⟩
abbrev S32x16x16x64 : Shape := ⟨4, ![32, 16, 16, 64]⟩
abbrev S32x16x16x16 : Shape := ⟨4, ![32, 16, 16, 16]⟩
abbrev S16x16 : Shape := ⟨2, ![16, 16]⟩
abbrev S32x16x1 : Shape := ⟨3, ![32, 16, 1]⟩
abbrev S32x16x16 : Shape := ⟨3, ![32, 16, 16]⟩
abbrev S32x16x1x16 : Shape := ⟨4, ![32, 16, 1, 16]⟩
abbrev S32x16x15x16 : Shape := ⟨4, ![32, 16, 15, 16]⟩
abbrev S32x128x16x16 : Shape := ⟨4, ![32, 128, 16, 16]⟩
abbrev S32x1x128 : Shape := ⟨3, ![32, 1, 128]⟩
abbrev S32x16x256 : Shape := ⟨3, ![32, 16, 256]⟩
abbrev S32x128x256 : Shape := ⟨3, ![32, 128, 256]⟩

abbrev nBuf : Space → Nat
  | .hbm => 160
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x16x64, .f32⟩
  | 6 => ⟨S32x16x64, .f32⟩
  | 7 => ⟨S32x16, .f32⟩
  | 8 => ⟨S32, .f32⟩
  | 9 => ⟨S32x1, .f32⟩
  | 10 => ⟨S17, .i32⟩
  | 11 => ⟨S17, .f32⟩
  | 12 => ⟨S1x17x1, .f32⟩
  | 13 => ⟨S32x64, .f32⟩
  | 14 => ⟨S32x64, .f32⟩
  | 15 => ⟨S32x1x64, .f32⟩
  | 16 => ⟨S32x17x64, .f32⟩
  | 17 => ⟨S32x17x64, .f32⟩
  | 18 => ⟨S32x17x64, .f32⟩
  | 19 => ⟨S32x17x64, .f32⟩
  | 20 => ⟨S32x64, .f32⟩
  | 21 => ⟨S32x64, .f32⟩
  | 22 => ⟨S32x1x64, .f32⟩
  | 23 => ⟨S32x17x64, .f32⟩
  | 24 => ⟨S32x17x64, .f32⟩
  | 25 => ⟨S32x17x64, .f32⟩
  | 26 => ⟨S32x17x64, .f32⟩
  | 27 => ⟨S32x17x64, .f32⟩
  | 28 => ⟨S32x17x64, .f32⟩
  | 29 => ⟨S32x17x64, .f32⟩
  | 30 => ⟨S32x1x64, .f32⟩
  | 31 => ⟨S32x64, .f32⟩
  | 32 => ⟨S_, .f32⟩
  | 33 => ⟨S32x64, .f32⟩
  | 34 => ⟨S32x64, .f32⟩
  | 35 => ⟨S32x1x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64x1, .f32⟩
  | 49 => ⟨S32x64x16, .f32⟩
  | 50 => ⟨S32x64x16, .f32⟩
  | 51 => ⟨S32x64x1, .f32⟩
  | 52 => ⟨S32x64x16, .f32⟩
  | 53 => ⟨S32x64x16, .f32⟩
  | 54 => ⟨S32x64x16, .f32⟩
  | 55 => ⟨S32x64x1, .f32⟩
  | 56 => ⟨S32x64x16, .f32⟩
  | 57 => ⟨S32x64x16, .f32⟩
  | 58 => ⟨S32x64x1, .f32⟩
  | 59 => ⟨S32x64x16, .f32⟩
  | 60 => ⟨S32x64x16, .f32⟩
  | 61 => ⟨S32x64x16, .f32⟩
  | 62 => ⟨S32x16x64, .f32⟩
  | 63 => ⟨S32x16x64, .f32⟩
  | 64 => ⟨S32x16x64x1, .f32⟩
  | 65 => ⟨S32x16x64, .f32⟩
  | 66 => ⟨S32x16x64, .f32⟩
  | 67 => ⟨S32x16x64x1, .f32⟩
  | 68 => ⟨S32x1x64x16, .f32⟩
  | 69 => ⟨S32x1x64x16, .f32⟩
  | 70 => ⟨S32x16x64x16, .f32⟩
  | 71 => ⟨S32x16x64x16, .f32⟩
  | 72 => ⟨S32x16x64x16, .f32⟩
  | 73 => ⟨S32x16x64x16, .f32⟩
  | 74 => ⟨S32x16x64x16, .f32⟩
  | 75 => ⟨S32x16x64x16, .f32⟩
  | 76 => ⟨S32x16x64x16, .f32⟩
  | 77 => ⟨S32x16x64x16, .f32⟩
  | 78 => ⟨S32x16x64x16, .f32⟩
  | 79 => ⟨S32x16x64x16, .f32⟩
  | 80 => ⟨S32x16x64x16, .f32⟩
  | 81 => ⟨S32x16x64x16, .f32⟩
  | 82 => ⟨S32x16x64x16, .f32⟩
  | 83 => ⟨S32x16x64x16, .f32⟩
  | 84 => ⟨S32x16x128x16, .f32⟩
  | 85 => ⟨S32x16x16x128, .f32⟩
  | 86 => ⟨S32x256x128, .f32⟩
  | 87 => ⟨S32x16x64, .f32⟩
  | 88 => ⟨S32x16x1x64, .f32⟩
  | 89 => ⟨S32x16x64, .f32⟩
  | 90 => ⟨S32x16x1x64, .f32⟩
  | 91 => ⟨S32x1x16x64, .f32⟩
  | 92 => ⟨S32x1x16x64, .f32⟩
  | 93 => ⟨S32x16x16x64, .f32⟩
  | 94 => ⟨S32x16x16x64, .f32⟩
  | 95 => ⟨S32x16x16x64, .f32⟩
  | 96 => ⟨S32x16x16x64, .f32⟩
  | 97 => ⟨S32x16x16x64, .f32⟩
  | 98 => ⟨S32x16x16x64, .f32⟩
  | 99 => ⟨S32x16x16x64, .f32⟩
  | 100 => ⟨S32x16x16x64, .f32⟩
  | 101 => ⟨S32x16x16x64, .f32⟩
  | 102 => ⟨S32x16x16x64, .f32⟩
  | 103 => ⟨S32x16x16x64, .f32⟩
  | 104 => ⟨S32x16x16x64, .f32⟩
  | 105 => ⟨S32x16x16x64, .f32⟩
  | 106 => ⟨S32x16x16x64, .f32⟩
  | 107 => ⟨S32x16x16x16, .f32⟩
  | 108 => ⟨S32x16x16x16, .f32⟩
  | 109 => ⟨S32x16x16x16, .f32⟩
  | 110 => ⟨S16x16, .i32⟩
  | 111 => ⟨S16x16, .i32⟩
  | 112 => ⟨S_, .i32⟩
  | 113 => ⟨S16x16, .i32⟩
  | 114 => ⟨S16x16, .i32⟩
  | 115 => ⟨S16x16, .i1⟩
  | 116 => ⟨S32x16x1, .f32⟩
  | 117 => ⟨S_, .f32⟩
  | 118 => ⟨S_, .f32⟩
  | 119 => ⟨S32x16x16, .i1⟩
  | 120 => ⟨S32x16x16, .f32⟩
  | 121 => ⟨S32x16x16, .f32⟩
  | 122 => ⟨S32x16x16, .f32⟩
  | 123 => ⟨S32x16x1x16, .f32⟩
  | 124 => ⟨S32x16x1x16, .f32⟩
  | 125 => ⟨S32x16x1x16, .f32⟩
  | 126 => ⟨S32x16x15x16, .f32⟩
  | 127 => ⟨S32x16x16x16, .f32⟩
  | _ => ⟨S32x64, .f32⟩

abbrev hbmTy0_1 (i : Nat) : BufTy := match i % 128 with
  | 0 => ⟨S32x16x64, .f32⟩
  | 1 => ⟨S32x16x1x64, .f32⟩
  | 2 => ⟨S32x16x64, .f32⟩
  | 3 => ⟨S32x16x1x64, .f32⟩
  | 4 => ⟨S32x1x16x64, .f32⟩
  | 5 => ⟨S32x1x16x64, .f32⟩
  | 6 => ⟨S32x16x16x64, .f32⟩
  | 7 => ⟨S32x16x16x64, .f32⟩
  | 8 => ⟨S32x16x16x64, .f32⟩
  | 9 => ⟨S32x16x16x64, .f32⟩
  | 10 => ⟨S32x16x16x64, .f32⟩
  | 11 => ⟨S32x16x16x64, .f32⟩
  | 12 => ⟨S32x16x16x64, .f32⟩
  | 13 => ⟨S32x16x16x64, .f32⟩
  | 14 => ⟨S32x16x16x64, .f32⟩
  | 15 => ⟨S32x16x16x64, .f32⟩
  | 16 => ⟨S32x16x16x64, .f32⟩
  | 17 => ⟨S32x16x16x64, .f32⟩
  | 18 => ⟨S32x16x16x64, .f32⟩
  | 19 => ⟨S32x16x16x64, .f32⟩
  | 20 => ⟨S32x16x16x64, .f32⟩
  | 21 => ⟨S32x16x16x128, .f32⟩
  | 22 => ⟨S32x128x16x16, .f32⟩
  | 23 => ⟨S32x1x64, .f32⟩
  | 24 => ⟨S32x1x64, .f32⟩
  | 25 => ⟨S32x1x128, .f32⟩
  | 26 => ⟨S32x1x64, .f32⟩
  | 27 => ⟨S32x1x64, .f32⟩
  | 28 => ⟨S32x1x64, .f32⟩
  | 29 => ⟨S32x1x128, .f32⟩
  | 30 => ⟨S32x16x256, .f32⟩
  | 31 => ⟨S32x128x256, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_c : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_cst_0 : Ref sig .tc := ⟨.hbm, 117, rfl⟩
abbrev main_call0_v0 : Ref sig .tc := ⟨.hbm, 118, rfl⟩
abbrev main_call0_v1 : Ref sig .tc := ⟨.hbm, 119, rfl⟩
abbrev main_call0_v2 : Ref sig .tc := ⟨.hbm, 120, rfl⟩
abbrev main_call0_v3 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩

abbrev nD : Nat := 1
abbrev τ : Topo := Topo.v7x

variable {F : FTy → Type} [FloatOps F]
-- ==== Proof.Tile.lean ====
/- The backward sweep over the keys, tile by tile: the arrays one tile computes at any number of rows, and the state the
   tiles pass on. -/
module

public import Idealize.ShloMosaic.Lib.Pipeline.ValueKit
public import Idealize.ShloMosaic.Lib.Pointwise
public import Idealize.ShloMosaic.Lib.MatmulPlain

@[expose] public section

set_option maxRecDepth 16384

noncomputable section

namespace Cert.Tile

open Idealize.ShloMosaic
open scoped BigOperators

/-- A matrix of `r` rows and `c` columns. -/
abbrev Sh (r c : ℕ) : Shape := ⟨2, ![r, c]⟩

/-- The product that contracts the rows of both operands. -/
def transposedLhs (K M N : ℕ) : DotDims (Sh K M) (Sh K N) (Sh M N) where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap 0 1 [], by simpa [List.finRange] using List.Perm.swap 0 1 [],
    rfl, Nat.two_pos, fun b => by fin_cases b <;> rfl⟩

variable {n : ℕ}

theorem slices (r c r' c' o p : ℕ) (h : o + r' ≤ r) (h' : p + c' ≤ c) : (Sh r c).Slices ![o, p] (Sh r' c') :=
  ⟨rfl, fun a => by fin_cases a <;> assumption⟩

theorem widens (n : ℕ) : (Sh n 1).Broadcasts (Sh n 256) :=
  ⟨le_rfl, fun a => by
    fin_cases a
    · exact .inr fun _ => rfl
    · exact .inl rfl⟩

theorem stacked (top n c : ℕ) (h : top + n = 2048) : Shape.Concatenates [Sh top c, Sh n c] (Sh 2048 c) 0 := by
  refine ⟨le_rfl, fun s hs => ?_, ?_⟩
  · have : s = Sh top c ∨ s = Sh n c := by simpa using hs
    rcases this with rfl | rfl <;> exact ⟨rfl, fun b hb => by fin_cases b <;> first | exact absurd rfl hb | rfl⟩
  · simpa using h

/-- Zero everywhere. -/
abbrev zeros (r c : ℕ) : FVec Ideal (Sh r c) .f32 := broadcast (Sh r c) (Scalar.ofBits .f32 0x00000000#32)

/-- The scores of the tile. -/
def score (q : FVec Ideal (Sh n 64) .bf16) (k : FVec Ideal (Sh 256 64) .bf16) : FVec Ideal (Sh n 256) .f32 :=
  matmul (DotDims.transposedRhs n 64 256) none q k (constant (Sh n 256) .f32 0x00000000#32)

/-- The softplus of the scores. -/
def soft (z : FVec Ideal (Sh n 256) .f32) : FVec Ideal (Sh n 256) .f32 :=
  addf (maximumf z (zeros n 256))
    (log (addf (broadcast (Sh n 256) (Scalar.ofBits .f32 0x3F800000#32)) (exp (subf (zeros n 256) (absf z)))))

/-- The running sums of the columns that the triangle `w` picks. -/
def run (x : FVec Ideal (Sh n 256) .f32) (w : FVec Ideal (Sh 256 256) .bf16) : FVec Ideal (Sh n 256) .f32 :=
  matmul (DotDims.plain n 256 256) none (truncf .bf16 x (by decide)) w (constant (Sh n 256) .f32 0x00000000#32)

/-- What is inside the mask. -/
def keep (M : IVec (Sh n 256) 1) (x : FVec Ideal (Sh n 256) .f32) : FVec Ideal (Sh n 256) .f32 := select M x (zeros n 256)

/-- A column beside itself. -/
abbrev wide (x : FVec Ideal (Sh n 1) .f32) : FVec Ideal (Sh n 256) .f32 := broadcastTo (Sh n 256) x (widens n)

/-- One column. -/
abbrev col (j : ℕ) (h : j + 1 ≤ 256) (x : FVec Ideal (Sh n 256) .f32) : FVec Ideal (Sh n 1) .f32 :=
  extractStridedSlice (Sh n 1) ![0, j] x (slices n 256 n 1 0 j (by omega) h)

/-- The triangle of the sums to the right, the diagonal with them. -/
def tri : FVec Ideal (Sh 256 256) .bf16 :=
  truncf .bf16 (sitofp .f32 (extui 32 (cmpi .sge (iota .tc (Sh 256 256) 32 [0] (by decide)) (iota .tc (Sh 256 256) 32 [1] (by decide)))
    (by decide))) (by decide)

/-- The triangle of the sums to the left, the diagonal with them. -/
def triT : FVec Ideal (Sh 256 256) .bf16 :=
  truncf .bf16 (sitofp .f32 (extui 32 (cmpi .sle (iota .tc (Sh 256 256) 32 [0] (by decide)) (iota .tc (Sh 256 256) 32 [1] (by decide)))
    (by decide))) (by decide)

/-- The columns before the row. -/
def before : IVec (Sh 2048 256) 1 :=
  cmpi .slt (iota .tc (Sh 2048 256) 32 [1] (by decide)) (iota .tc (Sh 2048 256) 32 [0] (by decide))

/-- What one tile reads: the queries, the cotangent, the keys and the values, the mask, what is left of the softplus sums to
    the right of the tile, and the sums so far. -/
structure In (n : ℕ) where
  q : FVec Ideal (Sh n 64) .bf16
  o : FVec Ideal (Sh n 64) .bf16
  k : FVec Ideal (Sh 256 64) .bf16
  v : FVec Ideal (Sh 256 64) .bf16
  M : IVec (Sh n 256) 1
  c : FVec Ideal (Sh n 1) .f32
  g : FVec Ideal (Sh n 1) .f32
  dq : FVec Ideal (Sh n 64) .f32

namespace In
variable (x : In n)

abbrev z := score x.q x.k
abbrev r := run (keep x.M (soft x.z)) tri
/-- The softplus sums with this tile's. -/
abbrev c' := addf x.c (col 0 (by decide) x.r)
/-- The weights, given what lies to the right of the tile. -/
abbrev a (rest : FVec Ideal (Sh n 256) .f32) := keep x.M (exp (subf (subf x.z x.r) rest))
abbrev gr (rest : FVec Ideal (Sh n 256) .f32) := mulf (x.a rest) (score x.o x.v)
abbrev p (rest : FVec Ideal (Sh n 256) .f32) := run (x.gr rest) triT
abbrev g' (rest : FVec Ideal (Sh n 256) .f32) := addf x.g (col 255 (by decide) (x.p rest))
/-- The gradient of the scores. -/
abbrev dz (rest : FVec Ideal (Sh n 256) .f32) : FVec Ideal (Sh n 256) .bf16 :=
  truncf .bf16 (keep x.M (subf (x.gr rest) (mulf (exp (subf x.z (soft x.z))) (addf (wide x.g) (x.p rest))))) (by decide)
abbrev dq' (rest : FVec Ideal (Sh n 256) .f32) : FVec Ideal (Sh n 64) .f32 :=
  addf x.dq (matmul (DotDims.plain n 256 64) none (x.dz rest) x.k (constant (Sh n 64) .f32 0x00000000#32))
abbrev dk (rest : FVec Ideal (Sh n 256) .f32) : FVec Ideal (Sh 256 64) .f32 :=
  matmul (transposedLhs n 256 64) none (x.dz rest) x.q (constant (Sh 256 64) .f32 0x00000000#32)
abbrev dv (rest : FVec Ideal (Sh n 256) .f32) : FVec Ideal (Sh 256 64) .f32 :=
  matmul (transposedLhs n 256 64) none (truncf .bf16 (x.a rest) (by decide)) x.o (constant (Sh 256 64) .f32 0x00000000#32)

end In

/-- The sums that the tiles pass on. -/
structure State where
  c : FVec Ideal (Sh 2048 1) .f32
  g : FVec Ideal (Sh 2048 1) .f32
  dq : FVec Ideal (Sh 2048 64) .f32

/-- What one head of a block reads. -/
structure Head where
  q : FVec Ideal (Sh 2048 64) .bf16
  o : FVec Ideal (Sh 2048 64) .bf16
  call : FVec Ideal (Sh 2048 1) .f32
  k : Fin 8 → FVec Ideal (Sh 256 64) .bf16
  v : Fin 8 → FVec Ideal (Sh 256 64) .bf16

/-- The rows from `top` on. -/
abbrev high {φ : FTy} {c : ℕ} (top n : ℕ) (h : top + n = 2048) (x : FVec Ideal (Sh 2048 c) φ) : FVec Ideal (Sh n c) φ :=
  extractStridedSlice (Sh n c) ![top, 0] x (slices 2048 c n c top 0 (by omega) (by omega))

/-- The rows before `top` as they were, the others new. -/
abbrev stack {c : ℕ} (top n : ℕ) (h : top + n = 2048) (x : FVec Ideal (Sh 2048 c) .f32) (y : FVec Ideal (Sh n c) .f32) :
    FVec Ideal (Sh 2048 c) .f32 :=
  concatenate (Sh 2048 c) 0 [⟨Sh top c, extractStridedSlice (Sh top c) ![0, 0] x (slices 2048 c top c 0 0 (by omega) (by omega))⟩,
    ⟨Sh n c, y⟩] (stacked top n c h)

namespace Head
variable (H : Head)

/-- What the first tile reads. -/
abbrev in0 : In 2048 := ⟨H.q, H.o, H.k 0, H.v 0, before, zeros 2048 1, zeros 2048 1, zeros 2048 64⟩
abbrev rest0 : FVec Ideal (Sh 2048 256) .f32 := wide (subf H.call H.in0.c')
/-- The state after the first tile. -/
abbrev st0 : State := ⟨H.in0.c', H.in0.g' H.rest0, H.in0.dq' H.rest0⟩

/-- What a later tile reads. -/
abbrev inp (s : State) (d : Fin 8) (top n : ℕ) (h : top + n = 2048) : In n :=
  ⟨high top n h H.q, high top n h H.o, H.k d, H.v d,
    extractStridedSlice (Sh n 256) ![0, 0] before (slices 2048 256 n 256 0 0 (by omega) le_rfl),
    high top n h s.c, high top n h s.g, high top n h s.dq⟩
abbrev rest (s : State) (d : Fin 8) (top n : ℕ) (h : top + n = 2048) : FVec Ideal (Sh n 256) .f32 :=
  wide (subf (high top n h H.call) (H.inp s d top n h).c')
/-- The state after a later tile. -/
abbrev step (s : State) (d : Fin 8) (top n : ℕ) (h : top + n = 2048) : State :=
  ⟨stack top n h s.c (H.inp s d top n h).c',
   stack top n h s.g ((H.inp s d top n h).g' (H.rest s d top n h)),
   stack top n h s.dq ((H.inp s d top n h).dq' (H.rest s d top n h))⟩

def st1 : State := H.st0
def st2 : State := H.step H.st1 1 256 1792 rfl
def st3 : State := H.step H.st2 2 512 1536 rfl
def st4 : State := H.step H.st3 3 768 1280 rfl
def st5 : State := H.step H.st4 4 1024 1024 rfl
def st6 : State := H.step H.st5 5 1280 768 rfl
def st7 : State := H.step H.st6 6 1536 512 rfl
/-- What the last tile reads, and what it leaves of the queries' gradient. -/
abbrev in7 : In 256 := H.inp H.st7 7 1792 256 rfl
def dq : FVec Ideal (Sh 2048 64) .f32 := stack 1792 256 rfl H.st7.dq (H.in7.dq' (zeros 256 256))

/-- What tile `d` adds to the keys' gradient. -/
def dk (d : Fin 8) : FVec Ideal (Sh 256 64) .f32 := match d with
  | 0 => H.in0.dk H.rest0
  | 1 => (H.inp H.st1 1 256 1792 rfl).dk (H.rest H.st1 1 256 1792 rfl)
  | 2 => (H.inp H.st2 2 512 1536 rfl).dk (H.rest H.st2 2 512 1536 rfl)
  | 3 => (H.inp H.st3 3 768 1280 rfl).dk (H.rest H.st3 3 768 1280 rfl)
  | 4 => (H.inp H.st4 4 1024 1024 rfl).dk (H.rest H.st4 4 1024 1024 rfl)
  | 5 => (H.inp H.st5 5 1280 768 rfl).dk (H.rest H.st5 5 1280 768 rfl)
  | 6 => (H.inp H.st6 6 1536 512 rfl).dk (H.rest H.st6 6 1536 512 rfl)
  | 7 => H.in7.dk (zeros 256 256)

/-- What tile `d` adds to the values' gradient. -/
def dv (d : Fin 8) : FVec Ideal (Sh 256 64) .f32 := match d with
  | 0 => H.in0.dv H.rest0
  | 1 => (H.inp H.st1 1 256 1792 rfl).dv (H.rest H.st1 1 256 1792 rfl)
  | 2 => (H.inp H.st2 2 512 1536 rfl).dv (H.rest H.st2 2 512 1536 rfl)
  | 3 => (H.inp H.st3 3 768 1280 rfl).dv (H.rest H.st3 3 768 1280 rfl)
  | 4 => (H.inp H.st4 4 1024 1024 rfl).dv (H.rest H.st4 4 1024 1024 rfl)
  | 5 => (H.inp H.st5 5 1280 768 rfl).dv (H.rest H.st5 5 1280 768 rfl)
  | 6 => (H.inp H.st6 6 1536 512 rfl).dv (H.rest H.st6 6 1536 512 rfl)
  | 7 => H.in7.dv (zeros 256 256)

end Head

end Cert.Tile
-- ==== Proof.Sweep.lean ====
/- The attention of one head in real numbers, its gradient, and the sums of a tile of keys. -/
module

public import Idealize.ShloMosaic.Lib.Pointwise

@[expose] public section

noncomputable section

namespace Cert.Sweep

open Finset
open scoped BigOperators

/-- A head's queries, keys, values and cotangent, row by row. -/
structure Rows where
  Q : ℕ → ℕ → ℝ
  K : ℕ → ℕ → ℝ
  V : ℕ → ℕ → ℝ
  O : ℕ → ℕ → ℝ

/-- The softplus. -/
def sp (z : ℝ) : ℝ := Real.log (1 + Real.exp z)

theorem sp_pos (z : ℝ) : 0 < 1 + Real.exp z := by positivity

/-- The larger of the number and zero, and the logarithm of what is left, are the softplus. -/
theorem max_log (z : ℝ) : max z 0 + Real.log (1 + Real.exp (-|z|)) = sp z := by
  unfold sp
  rcases le_total 0 z with h | h
  · rw [max_eq_left h, abs_of_nonneg h]
    have : 1 + Real.exp z = Real.exp z * (1 + Real.exp (-z)) := by
      rw [mul_add, ← Real.exp_add]; simp [add_comm]
    rw [this, Real.log_mul (Real.exp_pos z).ne' (sp_pos _).ne', Real.log_exp]
  · rw [max_eq_right h, abs_of_nonpos h, neg_neg, zero_add]

namespace Rows
variable (R : Rows)

/-- The score of key `s` for query `t`. -/
def z (t s : ℕ) : ℝ := ∑ e : Fin 64, R.Q t e * R.K s e
/-- The softplus of the score of a key before the query. -/
def p (t s : ℕ) : ℝ := if s < t then sp (R.z t s) else 0
/-- The weight of key `s` for query `t`: the exponential of the score less the softplus of every score from `s` on. -/
def w (t s : ℕ) : ℝ := if s < t then Real.exp (R.z t s - ∑ j ∈ Ico s 2048, R.p t j) else 0
/-- The weight's own gradient times the weight. -/
def g (t s : ℕ) : ℝ := R.w t s * ∑ e : Fin 64, R.O t e * R.V s e
/-- The gradient of the score. -/
def D (t s : ℕ) : ℝ :=
  if s < t then R.g t s - Real.exp (R.z t s - sp (R.z t s)) * ∑ j ∈ range (s + 1), R.g t j else 0

theorem p_eq_zero {t s : ℕ} (h : t ≤ s) : R.p t s = 0 := if_neg (by omega)
theorem w_eq_zero {t s : ℕ} (h : t ≤ s) : R.w t s = 0 := if_neg (by omega)
theorem g_eq_zero {t s : ℕ} (h : t ≤ s) : R.g t s = 0 := by rw [g, R.w_eq_zero h, zero_mul]
theorem D_eq_zero {t s : ℕ} (h : t ≤ s) : R.D t s = 0 := if_neg (by omega)

end Rows

/-- The sum of a tile's columns from one on. -/
theorem sum_from (f : ℕ → ℝ) (top : ℕ) (j : Fin 256) :
    ∑ i : Fin 256, (if j ≤ i then f (top + i) else 0) = ∑ s ∈ Ico (top + j) (top + 256), f s := by
  simp only [Fin.le_def]
  rw [Fin.sum_univ_eq_sum_range (fun i => if (j : ℕ) ≤ i then f (top + i) else 0) 256, ← sum_filter]
  rw [sum_Ico_eq_sum_range]
  have h : (range 256).filter (fun i => (j : ℕ) ≤ i) = Ico (j : ℕ) 256 := by ext i; simp; omega
  rw [h, sum_Ico_eq_sum_range, show top + 256 - (top + j) = 256 - j by omega]
  exact sum_congr rfl fun i _ => by rw [add_assoc]

/-- The sum of a tile's columns up to one. -/
theorem sum_upto (f : ℕ → ℝ) (top : ℕ) (j : Fin 256) :
    ∑ i : Fin 256, (if i ≤ j then f (top + i) else 0) = ∑ s ∈ Ico top (top + j + 1), f s := by
  simp only [Fin.le_def]
  rw [Fin.sum_univ_eq_sum_range (fun i => if i ≤ (j : ℕ) then f (top + i) else 0) 256, ← sum_filter]
  have h : (range 256).filter (fun i => i ≤ (j : ℕ)) = range (j + 1) := by ext i; simp; omega
  rw [h, sum_Ico_eq_sum_range, show top + j + 1 - top = j + 1 by omega]

/-- The sum before a tile and the tile's columns up to one. -/
theorem sum_join (f : ℕ → ℝ) (a b : ℕ) (h : a ≤ b) : ∑ s ∈ range a, f s + ∑ s ∈ Ico a b, f s = ∑ s ∈ range b, f s := by
  rw [range_eq_Ico, range_eq_Ico, sum_Ico_consecutive f (Nat.zero_le a) h]

/-- A sum whose further terms vanish. -/
theorem sum_more (f : ℕ → ℝ) {a b : ℕ} (h : a ≤ b) (hf : ∀ s, a ≤ s → f s = 0) : ∑ s ∈ range a, f s = ∑ s ∈ range b, f s := by
  rw [← sum_join f a b h, sum_eq_zero (s := Ico a b) (fun s hs => hf s (mem_Ico.mp hs).1), add_zero]

/-- A sum whose terms before `top` vanish. -/
theorem sum_tail (f : ℕ → ℝ) (top n : ℕ) (h : top + n = 2048) (hf : ∀ t < top, f t = 0) :
    ∑ i : Fin n, f (top + i) = ∑ t ∈ range 2048, f t := by
  rw [Fin.sum_univ_eq_sum_range (fun i => f (top + i)) n, ← sum_join f top 2048 (by omega),
    sum_eq_zero (fun t ht => hf t (mem_range.mp ht)), zero_add, sum_Ico_eq_sum_range, show 2048 - top = n by omega]

end Cert.Sweep

end
-- ==== Proof.Reads.lean ====
/- The operations of a tile on matrices of real numbers. -/
module

public import proofs.«01_k».proof.Proof.Tile
public import proofs.«01_k».proof.Proof.Sweep
public import Idealize.ShloMosaic.Lib.WordCmp

@[expose] public section

noncomputable section

namespace Cert.Tile

open Idealize.ShloMosaic
open Idealize.ShloMosaic.ValueIdx (contrEquiv1 contrEquiv1_symm_val)
open scoped BigOperators

variable {n r c : ℕ} {φ ψ : FTy}

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The matrix `x` has the entries `f`. -/
def Has (x : FVec Ideal (Sh r c) φ) (f : ℕ → ℕ → EReal) : Prop := ∀ (i : Fin r) (j : Fin c), x (ix2 i j) = f i j

/-- The matrix `x` holds the real numbers `f`. -/
def Is (x : FVec Ideal (Sh r c) φ) (f : ℕ → ℕ → ℝ) : Prop := ∀ (i : Fin r) (j : Fin c), x (ix2 i j) = ((f i j : ℝ) : EReal)

theorem Is.congr {x : FVec Ideal (Sh r c) φ} {f g : ℕ → ℕ → ℝ} (h : Is x f) (e : ∀ (i : Fin r) (j : Fin c), f i j = g i j) :
    Is x g := fun i j => by rw [h i j, e i j]

variable {x y : FVec Ideal (Sh r c) φ} {f g : ℕ → ℕ → ℝ}

theorem is_zeros : Is (zeros r c) fun _ _ => 0 := fun i j => by
  show Ideal.ofBits .f32 0x00000000#32 = _
  rw [Ideal.ofBits_zero_f32]; rfl

theorem is_add (hx : Is x f) (hy : Is y g) : Is (addf x y) fun i j => f i j + g i j := fun i j => by
  show x (ix2 i j) + y (ix2 i j) = _
  rw [hx, hy, ← EReal.coe_add]

theorem is_sub (hx : Is x f) (hy : Is y g) : Is (subf x y) fun i j => f i j - g i j := fun i j => by
  show x (ix2 i j) - y (ix2 i j) = _
  rw [hx, hy, ← EReal.coe_sub]

theorem is_mul (hx : Is x f) (hy : Is y g) : Is (mulf x y) fun i j => f i j * g i j := fun i j => by
  show x (ix2 i j) * y (ix2 i j) = _
  rw [hx, hy, ← EReal.coe_mul]

theorem is_exp (hx : Is x f) : Is (exp x) fun i j => Real.exp (f i j) := fun i j => by
  show Ideal.exp (x (ix2 i j)) = _
  rw [hx, Ideal.exp_coe]

theorem is_trunc {x : FVec Ideal (Sh r c) .f32} (hx : Is x f) : Is (truncf .bf16 x (by decide)) f := fun i j => hx i j

theorem is_score {q : FVec Ideal (Sh n 64) .bf16} {k : FVec Ideal (Sh 256 64) .bf16} (hq : Is q f) (hk : Is k g) :
    Is (score q k) fun i j => ∑ e : Fin 64, f i e * g j e := fun i j => by
  refine (Ideal.matmul_transposedRhs_apply none q k _ i j).trans ?_
  show Ideal.ofBits .f32 0x00000000#32 + _ = _
  rw [Ideal.ofBits_zero_f32, zero_add, ← coe_sum]
  exact Finset.sum_congr rfl fun e _ => (congrArg₂ (· * ·) (hq i e) (hk j e)).trans (EReal.coe_mul _ _).symm

theorem is_plain {K M N : ℕ} {a : FVec Ideal (Sh M K) φ} {b : FVec Ideal (Sh K N) ψ} (ha : Is a f) (hb : Is b g) :
    Is (matmul (DotDims.plain M K N) none a b (constant (Sh M N) .f32 0x00000000#32))
      fun i j => ∑ s : Fin K, f i s * g s j := fun i j => by
  refine (Ideal.matmul_plain_apply none a b _ i j).trans ?_
  show Ideal.ofBits .f32 0x00000000#32 + _ = _
  rw [Ideal.ofBits_zero_f32, zero_add, ← coe_sum]
  exact Finset.sum_congr rfl fun e _ => (congrArg₂ (· * ·) (ha i e) (hb e j)).trans (EReal.coe_mul _ _).symm

theorem contr_rank (K M N : ℕ) : (transposedLhs K M N).contr.rank = 1 := rfl
theorem contr_size (K M N : ℕ) : (transposedLhs K M N).contr.size ⟨0, Nat.one_pos⟩ = K := rfl

theorem is_rows {K M N : ℕ} {a : FVec Ideal (Sh K M) φ} {b : FVec Ideal (Sh K N) ψ} (ha : Is a f) (hb : Is b g) :
    Is (matmul (transposedLhs K M N) none a b (constant (Sh M N) .f32 0x00000000#32))
      fun i j => ∑ s : Fin K, f s i * g s j := fun i j => by
  refine (Ideal.matmul_apply ..).trans ?_
  rw [← Equiv.sum_comp (contrEquiv1 (transposedLhs K M N) K (contr_rank K M N) (contr_size K M N)).symm]
  show Ideal.ofBits .f32 0x00000000#32 + _ = _
  rw [Ideal.ofBits_zero_f32, zero_add, ← coe_sum]
  refine Finset.sum_congr rfl fun s _ => ?_
  have hs := contrEquiv1_symm_val _ K (contr_rank K M N) (contr_size K M N) s
  have el : (transposedLhs K M N).lhsIdx (ix2 i j) ((contrEquiv1 (transposedLhs K M N) K (contr_rank K M N) (contr_size K M N)).symm s)
      = ix2 s i := by
    funext a; apply Fin.ext
    match a with
    | ⟨0, _⟩ => exact hs
    | ⟨1, _⟩ => rfl
  have er : (transposedLhs K M N).rhsIdx (ix2 i j) ((contrEquiv1 (transposedLhs K M N) K (contr_rank K M N) (contr_size K M N)).symm s)
      = ix2 s j := by
    funext a; apply Fin.ext
    match a with
    | ⟨0, _⟩ => exact hs
    | ⟨1, _⟩ => rfl
  rw [el, er, ha, hb, ← EReal.coe_mul]

/-- The mask of the columns before the row. -/
def Below (M : IVec (Sh n 256) 1) : Prop := ∀ (i : Fin n) (j : Fin 256), M (ix2 i j) = if (j : ℕ) < i then 1#1 else 0#1

theorem is_keep {M : IVec (Sh n 256) 1} {x : FVec Ideal (Sh n 256) .f32} (hM : Below M) (hx : Is x f) :
    Is (keep M x) fun i j => if j < i then f i j else 0 := fun i j => by
  show (if M (ix2 i j) = 1#1 then x (ix2 i j) else zeros n 256 (ix2 i j)) = _
  rw [hM, hx, is_zeros]
  by_cases h : (j : ℕ) < i <;> simp [h]

theorem is_soft {z : FVec Ideal (Sh n 256) .f32} (hz : Is z f) : Is (soft z) fun i j => Sweep.sp (f i j) := fun i j => by
  show max (z (ix2 i j)) (Ideal.ofBits .f32 0x00000000#32) + Ideal.log (Ideal.ofBits .f32 0x3F800000#32 +
    Ideal.exp (Ideal.ofBits .f32 0x00000000#32 - max (z (ix2 i j)) (-(z (ix2 i j))))) = _
  have h1 : Ideal.ofBits .f32 0x3F800000#32 = ((1 : ℝ) : EReal) := by
    simp [Ideal.ofBits, Ideal.ieee, -EReal.coe_mul]; norm_num
  rw [hz, Ideal.ofBits_zero_f32, h1, ← EReal.coe_neg]
  have hm (a b : ℝ) : max (a : EReal) b = ((max a b : ℝ) : EReal)  := (EReal.coe_strictMono.monotone.map_max).symm
  rw [hm, ← EReal.coe_zero, ← EReal.coe_sub, Ideal.exp_coe, ← EReal.coe_add, Ideal.log_coe, if_neg (Sweep.sp_pos _).not_ge, hm,
    ← EReal.coe_add, zero_sub]
  exact congrArg _ (Sweep.max_log (f i j))

theorem is_wide {x : FVec Ideal (Sh n 1) .f32} (hx : Is x f) : Is (wide x) fun i _ => f i 0 := fun i j => by
  refine Eq.trans ?_ (hx i 0)
  show broadcastTo (Sh n 256) x (widens n) (ix2 i j) = _
  unfold broadcastTo
  refine congrArg x (funext fun a => Fin.ext ?_)
  match a with
  | ⟨0, _⟩ =>
    dsimp only
    split
    · rename_i h; have : n = 1 := h; subst this; omega
    · rfl
  | ⟨1, _⟩ => rfl

theorem is_col {x : FVec Ideal (Sh n 256) .f32} (hx : Is x f) (j : ℕ) (h : j + 1 ≤ 256) : Is (col j h x) fun i _ => f i j :=
  fun i k => by
    refine Eq.trans ?_ (hx i ⟨j, by omega⟩)
    refine congrArg x (funext fun a => Fin.ext ?_)
    match a with
    | ⟨0, _⟩ => exact Nat.zero_add _
    | ⟨1, _⟩ => show j + (k : ℕ) = j; omega

theorem has_high {x : FVec Ideal (Sh 2048 c) φ} {f : ℕ → ℕ → EReal} (hx : Has x f) (top n : ℕ) (h : top + n = 2048) :
    Has (high top n h x) fun i j => f (top + i) j := fun i j => by
  refine Eq.trans ?_ (hx ⟨top + i, by omega⟩ j)
  refine congrArg x (funext fun a => Fin.ext ?_)
  match a with
  | ⟨0, _⟩ => rfl
  | ⟨1, _⟩ => exact Nat.zero_add _

theorem is_high {x : FVec Ideal (Sh 2048 c) φ} (hx : Is x f) (top n : ℕ) (h : top + n = 2048) :
    Is (high top n h x) fun i j => f (top + i) j := has_high (f := fun i j => f i j) hx top n h

theorem has_stack {f g : ℕ → ℕ → EReal} {x : FVec Ideal (Sh 2048 c) .f32} {y : FVec Ideal (Sh n c) .f32} (top : ℕ) (h : top + n = 2048)
    (hx : Has x g) (hy : Has y fun i j => f (top + i) j) (e : ∀ i j, i < top → g i j = f i j) : Has (stack top n h x y) f := fun i j => by
  by_cases hi : (i : ℕ) < top
  · refine (concatenate_pair_apply_left 0 _ _ (stacked top n c h) (ix2 i j) rfl (ix2 ⟨i, hi⟩ j) fun b => ?_).trans ?_
    · match b with
      | ⟨0, _⟩ => rfl
      | ⟨1, _⟩ => rfl
    · rw [← e i j hi, ← hx]
      refine congrArg x (funext fun a => Fin.ext ?_)
      match a with
      | ⟨0, _⟩ => exact Nat.zero_add _
      | ⟨1, _⟩ => exact Nat.zero_add _
  · refine (concatenate_pair_apply_right 0 _ _ (stacked top n c h) (ix2 i j) rfl rfl (ix2 ⟨i - top, by omega⟩ j) (fun b hb => ?_) ?_).trans ?_
    · match b with
      | ⟨0, _⟩ => exact absurd rfl hb
      | ⟨1, _⟩ => rfl
    · show (i : ℕ) - top + top = i
      omega
    · rw [hy]
      show f (top + (i - top)) j = _
      rw [show top + ((i : ℕ) - top) = i by omega]

theorem is_stack {x : FVec Ideal (Sh 2048 c) .f32} {y : FVec Ideal (Sh n c) .f32} (top : ℕ) (h : top + n = 2048)
    (hx : Is x g) (hy : Is y fun i j => f (top + i) j) (e : ∀ i j, i < top → g i j = f i j) : Is (stack top n h x y) f :=
  has_stack (f := fun i j => f i j) (g := fun i j => g i j) top h hx hy fun i j hi => congrArg _ (e i j hi)

/-- A truth value as a number. -/
theorem truth (p : Prop) [Decidable p] :
    ((((BitVec.ofBool (decide p)).setWidth 32).toInt : ℝ) : EReal) = (((if p then 1 else 0 : ℝ)) : EReal) := by
  by_cases h : p <;> simp [h]

theorem is_tri : Is tri fun i j => if j ≤ i then 1 else 0 := fun i j => by
  refine Eq.trans ?_ (truth ((j : ℕ) ≤ i))
  pointwise [tri]
  word_cmp
  rfl

theorem is_triT : Is triT fun i j => if i ≤ j then 1 else 0 := fun i j => by
  refine Eq.trans ?_ (truth ((i : ℕ) ≤ j))
  pointwise [triT]
  word_cmp
  rfl

theorem below_before : Below before := fun i j => by
  pointwise [before]
  word_cmp
  by_cases h : (j : ℕ) < i <;> simp [h]

theorem below_part (n : ℕ) (h : n ≤ 2048) :
    Below (extractStridedSlice (Sh n 256) ![0, 0] before (slices 2048 256 n 256 0 0 (by omega) le_rfl)) := fun i j => by
  refine Eq.trans ?_ (below_before ⟨i, by omega⟩ j)
  refine congrArg before (funext fun a => Fin.ext ?_)
  match a with
  | ⟨0, _⟩ => exact Nat.zero_add _
  | ⟨1, _⟩ => exact Nat.zero_add _

end Cert.Tile

end
-- ==== Proof.Chain.lean ====
/- The sweep of the tiles holds the gradient of the attention in real numbers. -/
module

public import proofs.«01_k».proof.Proof.Reads

@[expose] public section

noncomputable section

namespace Cert.Tile

open Idealize.ShloMosaic Finset
open scoped BigOperators

variable (R : Sweep.Rows) {n : ℕ}

/-- The softplus sums of a tile's scores, from each column on. -/
theorem is_sums {R : Sweep.Rows} {top : ℕ} {M : IVec (Sh n 256) 1} {z : FVec Ideal (Sh n 256) .f32} (hM : Below M)
    (hz : Is z fun i j => R.z (top + i) (top + j)) :
    Is (run (keep M (soft z)) tri) fun i j => ∑ s ∈ Ico (top + j) (top + 256), R.p (top + i) s := by
  have hs : Is (truncf .bf16 (keep M (soft z)) (by decide)) fun i j => R.p (top + i) (top + j) :=
    is_trunc ((is_keep hM (is_soft hz)).congr fun i j => by simp [Sweep.Rows.p])
  refine (is_plain hs is_tri).congr fun i j => ?_
  rw [← Sweep.sum_from]
  exact sum_congr rfl fun s _ => by simp

/-- The tile at `top` reads the rows `R` and the sums over the keys before it. -/
structure In.Fits (x : In n) (top : ℕ) : Prop where
  q : Is x.q fun i e => R.Q (top + i) e
  o : Is x.o fun i e => R.O (top + i) e
  k : Is x.k fun j e => R.K (top + j) e
  v : Is x.v fun j e => R.V (top + j) e
  M : Below x.M
  c : Is x.c fun i _ => ∑ s ∈ range top, R.p (top + i) s
  g : Is x.g fun i _ => ∑ s ∈ range top, R.g (top + i) s
  dq : Is x.dq fun i e => ∑ s ∈ range top, R.D (top + i) s * R.K s e

/-- What is left of the softplus sums to the right of the tile at `top`. -/
abbrev Rest (top : ℕ) (rest : FVec Ideal (Sh n 256) .f32) : Prop :=
  Is rest fun i _ => ∑ s ∈ Ico (top + 256) 2048, R.p (top + i) s

namespace In.Fits
variable {R} {x : In n} {top : ℕ} {rest : FVec Ideal (Sh n 256) .f32}

theorem z (h : x.Fits R top) : Is x.z fun i j => R.z (top + i) (top + j) := is_score h.q h.k

theorem r (h : x.Fits R top) : Is x.r fun i j => ∑ s ∈ Ico (top + j) (top + 256), R.p (top + i) s := is_sums h.M h.z

theorem c' (h : x.Fits R top) : Is x.c' fun i _ => ∑ s ∈ range (top + 256), R.p (top + i) s :=
  (is_add h.c (is_col h.r 0 (by decide))).congr fun i _ => Sweep.sum_join _ _ _ (by omega)

theorem a (h : x.Fits R top) (ht : top + 256 ≤ 2048) (hr : Rest R top rest) :
    Is (x.a rest) fun i j => R.w (top + i) (top + j) :=
  (is_keep h.M (is_exp (is_sub (is_sub h.z h.r) hr))).congr fun i j => by
    rw [sub_sub, sum_Ico_consecutive _ (by omega) ht]
    simp [Sweep.Rows.w]

theorem gr (h : x.Fits R top) (ht : top + 256 ≤ 2048) (hr : Rest R top rest) :
    Is (x.gr rest) fun i j => R.g (top + i) (top + j) := is_mul (h.a ht hr) (is_score h.o h.v)

theorem p (h : x.Fits R top) (ht : top + 256 ≤ 2048) (hr : Rest R top rest) :
    Is (x.p rest) fun i j => ∑ s ∈ Ico top (top + j + 1), R.g (top + i) s := by
  refine (is_plain (is_trunc (h.gr ht hr)) is_triT).congr fun i j => ?_
  rw [← Sweep.sum_upto]
  exact sum_congr rfl fun s _ => by simp

theorem g' (h : x.Fits R top) (ht : top + 256 ≤ 2048) (hr : Rest R top rest) :
    Is (x.g' rest) fun i _ => ∑ s ∈ range (top + 256), R.g (top + i) s :=
  (is_add h.g (is_col (h.p ht hr) 255 (by decide))).congr fun i _ => Sweep.sum_join _ _ _ (by omega)

theorem dz (h : x.Fits R top) (ht : top + 256 ≤ 2048) (hr : Rest R top rest) :
    Is (x.dz rest) fun i j => R.D (top + i) (top + j) :=
  is_trunc ((is_keep h.M (is_sub (h.gr ht hr) (is_mul (is_exp (is_sub h.z (is_soft h.z)))
    (is_add (is_wide h.g) (h.p ht hr))))).congr fun i j => by
      rw [Sweep.sum_join _ _ _ (by omega)]
      simp [Sweep.Rows.D, Nat.add_assoc])

theorem dq' (h : x.Fits R top) (ht : top + 256 ≤ 2048) (hr : Rest R top rest) :
    Is (x.dq' rest) fun i e => ∑ s ∈ range (top + 256), R.D (top + i) s * R.K s e :=
  (is_add h.dq (is_plain (h.dz ht hr) h.k)).congr fun i e => by
    rw [← Sweep.sum_join _ top (top + 256) (by omega), sum_Ico_eq_sum_range, show top + 256 - top = 256 by omega,
      Fin.sum_univ_eq_sum_range (fun s => R.D (top + i) (top + s) * R.K (top + s) e) 256]

theorem dk (h : x.Fits R top) (ht : top + 256 ≤ 2048) (hn : top + n = 2048) (hr : Rest R top rest) :
    Is (x.dk rest) fun j e => ∑ t ∈ range 2048, R.D t (top + j) * R.Q t e :=
  (is_rows (h.dz ht hr) h.q).congr fun j e =>
    Sweep.sum_tail (fun t => R.D t (top + j) * R.Q t e) top n hn fun t h => by rw [R.D_eq_zero (by omega), zero_mul]

theorem dv (h : x.Fits R top) (ht : top + 256 ≤ 2048) (hn : top + n = 2048) (hr : Rest R top rest) :
    Is (x.dv rest) fun j e => ∑ t ∈ range 2048, R.w t (top + j) * R.O t e :=
  (is_rows (is_trunc (h.a ht hr)) h.o).congr fun j e =>
    Sweep.sum_tail (fun t => R.w t (top + j) * R.O t e) top n hn fun t h => by rw [R.w_eq_zero (by omega), zero_mul]

end In.Fits

/-- The head reads the rows `R`, and its softplus sums. -/
structure Head.Fits (H : Head) : Prop where
  q : Is H.q R.Q
  o : Is H.o R.O
  call : Is H.call fun i _ => ∑ s ∈ range 2048, R.p i s
  k (d : Fin 8) : Is (H.k d) fun j e => R.K (256 * d + j) e
  v (d : Fin 8) : Is (H.v d) fun j e => R.V (256 * d + j) e

/-- The state after the keys before `top`. -/
structure State.Fits (s : State) (top : ℕ) : Prop where
  c : Is s.c fun i _ => ∑ j ∈ range top, R.p i j
  g : Is s.g fun i _ => ∑ j ∈ range top, R.g i j
  dq : Is s.dq fun i e => ∑ j ∈ range top, R.D i j * R.K j e

namespace Head.Fits
variable {R} {H : Head} (h : H.Fits R)
include h

theorem in0 : H.in0.Fits R 0 where
  q := h.q.congr fun i e => by simp
  o := h.o.congr fun i e => by simp
  k := h.k 0
  v := h.v 0
  M := below_before
  c := is_zeros
  g := is_zeros
  dq := is_zeros

theorem rest0 : Rest R 0 H.rest0 :=
  (is_wide (is_sub h.call h.in0.c')).congr fun i j => by
    rw [sub_eq_iff_eq_add', Sweep.sum_join _ _ _ (by omega), zero_add]

theorem st0 : H.st0.Fits R 256 where
  c := h.in0.c'.congr fun i e => by simp
  g := (h.in0.g' (by decide) h.rest0).congr fun i e => by simp
  dq := (h.in0.dq' (by decide) h.rest0).congr fun i e => by simp

variable {s : State} {d : Fin 8} {top : ℕ} (hs : s.Fits R top) (hd : top = 256 * d)
include hs hd

theorem inp (hn : top + n = 2048) : (H.inp s d top n hn).Fits R top where
  q := is_high h.q top n hn
  o := is_high h.o top n hn
  k := by subst hd; exact h.k d
  v := by subst hd; exact h.v d
  M := below_part n (by omega)
  c := is_high hs.c top n hn
  g := is_high hs.g top n hn
  dq := is_high hs.dq top n hn

theorem rest (ht : top + 256 ≤ 2048) (hn : top + n = 2048) : Rest R top (H.rest s d top n hn) :=
  (is_wide (is_sub (is_high h.call top n hn) (h.inp hs hd hn).c')).congr fun i j => by
    rw [sub_eq_iff_eq_add', Sweep.sum_join _ _ _ ht]

theorem step (ht : top + 256 ≤ 2048) (hn : top + n = 2048) : (H.step s d top n hn).Fits R (top + 256) where
  c := is_stack top hn hs.c (h.inp hs hd hn).c' fun i _ hi =>
    Sweep.sum_more _ (by omega) fun j hj => R.p_eq_zero (by omega)
  g := is_stack top hn hs.g ((h.inp hs hd hn).g' ht (h.rest hs hd ht hn)) fun i _ hi =>
    Sweep.sum_more _ (by omega) fun j hj => R.g_eq_zero (by omega)
  dq := is_stack top hn hs.dq ((h.inp hs hd hn).dq' ht (h.rest hs hd ht hn)) fun i e hi =>
    Sweep.sum_more _ (by omega) fun j hj => by rw [R.D_eq_zero (by omega), zero_mul]

omit hs hd

theorem st1 : H.st1.Fits R 256 := h.st0
theorem st2 : H.st2.Fits R 512 := h.step h.st1 (d := 1) rfl (by decide) rfl
theorem st3 : H.st3.Fits R 768 := h.step h.st2 (d := 2) rfl (by decide) rfl
theorem st4 : H.st4.Fits R 1024 := h.step h.st3 (d := 3) rfl (by decide) rfl
theorem st5 : H.st5.Fits R 1280 := h.step h.st4 (d := 4) rfl (by decide) rfl
theorem st6 : H.st6.Fits R 1536 := h.step h.st5 (d := 5) rfl (by decide) rfl
theorem st7 : H.st7.Fits R 1792 := h.step h.st6 (d := 6) rfl (by decide) rfl
theorem in7 : H.in7.Fits R 1792 := h.inp h.st7 (d := 7) rfl rfl

theorem rest7 : Rest R 1792 (zeros 256 256) := is_zeros.congr fun i j => by simp

/-- The queries' gradient. -/
theorem dq : Is H.dq fun i e => ∑ s ∈ range 2048, R.D i s * R.K s e :=
  is_stack 1792 rfl h.st7.dq (h.in7.dq' (by decide) h.rest7) fun i e hi =>
    Sweep.sum_more _ (by omega) fun j hj => by rw [R.D_eq_zero (by omega), zero_mul]

/-- The keys' gradient, tile by tile. -/
theorem dk (d : Fin 8) : Is (H.dk d) fun j e => ∑ t ∈ range 2048, R.D t (256 * d + j) * R.Q t e := by
  match d with
  | 0 => exact h.in0.dk (by decide) rfl h.rest0
  | 1 => exact (h.inp h.st1 (d := 1) rfl rfl).dk (by decide) rfl (h.rest h.st1 (d := 1) rfl (by decide) rfl)
  | 2 => exact (h.inp h.st2 (d := 2) rfl rfl).dk (by decide) rfl (h.rest h.st2 (d := 2) rfl (by decide) rfl)
  | 3 => exact (h.inp h.st3 (d := 3) rfl rfl).dk (by decide) rfl (h.rest h.st3 (d := 3) rfl (by decide) rfl)
  | 4 => exact (h.inp h.st4 (d := 4) rfl rfl).dk (by decide) rfl (h.rest h.st4 (d := 4) rfl (by decide) rfl)
  | 5 => exact (h.inp h.st5 (d := 5) rfl rfl).dk (by decide) rfl (h.rest h.st5 (d := 5) rfl (by decide) rfl)
  | 6 => exact (h.inp h.st6 (d := 6) rfl rfl).dk (by decide) rfl (h.rest h.st6 (d := 6) rfl (by decide) rfl)
  | 7 => exact h.in7.dk (by decide) rfl h.rest7

/-- The values' gradient, tile by tile. -/
theorem dv (d : Fin 8) : Is (H.dv d) fun j e => ∑ t ∈ range 2048, R.w t (256 * d + j) * R.O t e := by
  match d with
  | 0 => exact h.in0.dv (by decide) rfl h.rest0
  | 1 => exact (h.inp h.st1 (d := 1) rfl rfl).dv (by decide) rfl (h.rest h.st1 (d := 1) rfl (by decide) rfl)
  | 2 => exact (h.inp h.st2 (d := 2) rfl rfl).dv (by decide) rfl (h.rest h.st2 (d := 2) rfl (by decide) rfl)
  | 3 => exact (h.inp h.st3 (d := 3) rfl rfl).dv (by decide) rfl (h.rest h.st3 (d := 3) rfl (by decide) rfl)
  | 4 => exact (h.inp h.st4 (d := 4) rfl rfl).dv (by decide) rfl (h.rest h.st4 (d := 4) rfl (by decide) rfl)
  | 5 => exact (h.inp h.st5 (d := 5) rfl rfl).dv (by decide) rfl (h.rest h.st5 (d := 5) rfl (by decide) rfl)
  | 6 => exact (h.inp h.st6 (d := 6) rfl rfl).dv (by decide) rfl (h.rest h.st6 (d := 6) rfl (by decide) rfl)
  | 7 => exact h.in7.dv (by decide) rfl h.rest7

end Head.Fits

end Cert.Tile

end
-- ==== Proof.Forward.lean ====
/- The forward sweep over the keys, from the last tile to the first: what one tile adds, what the tiles leave, and the sums over
   real numbers that they hold. -/
module

public import proofs.«01_k».proof.Proof.Chain

@[expose] public section

set_option maxRecDepth 16384

noncomputable section

namespace Cert.Tile

open Idealize.ShloMosaic Finset
open scoped BigOperators

/-- What one tile of the forward sweep reads: the queries, the keys and the values, the mask, and the sums so far. -/
structure Fwd (n : ℕ) where
  q : FVec Ideal (Sh n 64) .bf16
  k : FVec Ideal (Sh 256 64) .bf16
  v : FVec Ideal (Sh 256 64) .bf16
  M : IVec (Sh n 256) 1
  o : FVec Ideal (Sh n 64) .f32
  c : FVec Ideal (Sh n 1) .f32

namespace Fwd
variable {n : ℕ} (x : Fwd n)

abbrev z := score x.q x.k
abbrev r := run (keep x.M (soft x.z)) tri
/-- The weights. -/
abbrev a := keep x.M (exp (subf (subf x.z x.r) (wide x.c)))
abbrev o' : FVec Ideal (Sh n 64) .f32 :=
  addf x.o (matmul (DotDims.plain n 256 64) none (truncf .bf16 x.a (by decide)) x.v (constant (Sh n 64) .f32 0x00000000#32))
abbrev c' := addf x.c (col 0 (by decide) x.r)

end Fwd

/-- The sums that the tiles of the forward sweep pass on. -/
structure Sums where
  o : FVec Ideal (Sh 2048 64) .f32
  c : FVec Ideal (Sh 2048 1) .f32

/-- What one head of a block reads in the forward sweep. -/
structure FwdHead where
  q : FVec Ideal (Sh 2048 64) .bf16
  k : Fin 8 → FVec Ideal (Sh 256 64) .bf16
  v : Fin 8 → FVec Ideal (Sh 256 64) .bf16

namespace FwdHead
variable (H : FwdHead)

/-- What a tile before the first reads. -/
abbrev inp (s : Sums) (d : Fin 8) (top n : ℕ) (h : top + n = 2048) : Fwd n :=
  ⟨high top n h H.q, H.k d, H.v d, extractStridedSlice (Sh n 256) ![0, 0] before (slices 2048 256 n 256 0 0 (by omega) le_rfl),
    high top n h s.o, high top n h s.c⟩
/-- The sums after it. -/
abbrev step (s : Sums) (d : Fin 8) (top n : ℕ) (h : top + n = 2048) : Sums :=
  ⟨stack top n h s.o (H.inp s d top n h).o', stack top n h s.c (H.inp s d top n h).c'⟩

def s7 : Sums := H.step ⟨zeros 2048 64, zeros 2048 1⟩ 7 1792 256 rfl
def s6 : Sums := H.step H.s7 6 1536 512 rfl
def s5 : Sums := H.step H.s6 5 1280 768 rfl
def s4 : Sums := H.step H.s5 4 1024 1024 rfl
def s3 : Sums := H.step H.s4 3 768 1280 rfl
def s2 : Sums := H.step H.s3 2 512 1536 rfl
def s1 : Sums := H.step H.s2 1 256 1792 rfl
/-- What the tile of the first keys reads. -/
abbrev in0 : Fwd 2048 := ⟨H.q, H.k 0, H.v 0, before, H.s1.o, H.s1.c⟩
/-- The attention. -/
def o : FVec Ideal (Sh 2048 64) .f32 := H.in0.o'
/-- The softplus sums. -/
def c : FVec Ideal (Sh 2048 1) .f32 := H.in0.c'

end FwdHead

variable (R : Sweep.Rows) (V : ℕ → ℕ → EReal) {n : ℕ}

/-- The tile at `top` reads the queries and keys of `R`, the values `V` and the sums over the keys behind it. -/
structure Fwd.Fits (x : Fwd n) (top : ℕ) : Prop where
  q : Is x.q fun i e => R.Q (top + i) e
  k : Is x.k fun j e => R.K (top + j) e
  v : Has x.v fun j e => V (top + j) e
  M : Below x.M
  o : Has x.o fun i e => ∑ s ∈ Ico (top + 256) 2048, (R.w (top + i) s : EReal) * V s e
  c : Is x.c fun i _ => ∑ s ∈ Ico (top + 256) 2048, R.p (top + i) s

namespace Fwd.Fits
variable {R V} {x : Fwd n} {top : ℕ} (h : x.Fits R V top) (ht : top + 256 ≤ 2048)
include h

theorem r : Is x.r fun i j => ∑ s ∈ Ico (top + j) (top + 256), R.p (top + i) s := is_sums h.M (is_score h.q h.k)

include ht

theorem c' : Is x.c' fun i _ => ∑ s ∈ Ico top 2048, R.p (top + i) s :=
  (is_add h.c (is_col h.r 0 (by decide))).congr fun i _ => by
    rw [add_zero, add_comm, sum_Ico_consecutive _ (by omega) ht]

theorem a : Is x.a fun i j => R.w (top + i) (top + j) :=
  (is_keep h.M (is_exp (is_sub (is_sub (is_score h.q h.k) h.r) (is_wide h.c)))).congr fun i j => by
    rw [sub_sub, sum_Ico_consecutive _ (by omega) ht]
    simp [Sweep.Rows.w, Sweep.Rows.z]

theorem o' : Has x.o' fun i e => ∑ s ∈ Ico top 2048, (R.w (top + i) s : EReal) * V s e := fun i e => by
  have hp : matmul (DotDims.plain n 256 64) none (truncf .bf16 x.a (by decide)) x.v (constant (Sh n 64) .f32 0x00000000#32) (ix2 i e)
      = ∑ s ∈ range 256, (R.w (top + i) (top + s) : EReal) * V (top + s) e := by
    refine (Ideal.matmul_plain_apply none _ _ _ i e).trans ?_
    show Ideal.ofBits .f32 0x00000000#32 + _ = _
    rw [Ideal.ofBits_zero_f32, zero_add, ← Fin.sum_univ_eq_sum_range (fun s => (R.w (top + i) (top + s) : EReal) * V (top + s) e)]
    exact sum_congr rfl fun s _ => congrArg₂ (fun a b : EReal => a * b) (h.a ht i s) (h.v s e)
  show x.o (ix2 i e) + _ = ∑ s ∈ Ico top 2048, (R.w (top + i) s : EReal) * V s e
  rw [hp, h.o i e]
  show ∑ s ∈ Ico (top + 256) 2048, (R.w (top + i) s : EReal) * V s e + _ = _
  rw [← sum_Ico_consecutive _ (show top ≤ top + 256 by omega) ht, sum_Ico_eq_sum_range _ top (top + 256),
    show top + 256 - top = 256 by omega, add_comm]

end Fwd.Fits

/-- The head reads the queries and keys of `R` and the values `V`. -/
structure FwdHead.Fits (H : FwdHead) : Prop where
  q : Is H.q R.Q
  k (d : Fin 8) : Is (H.k d) fun j e => R.K (256 * d + j) e
  v (d : Fin 8) : Has (H.v d) fun j e => V (256 * d + j) e

/-- The sums over the keys from `top` on. -/
structure Sums.Fits (s : Sums) (top : ℕ) : Prop where
  o : Has s.o fun i e => ∑ j ∈ Ico top 2048, (R.w i j : EReal) * V j e
  c : Is s.c fun i _ => ∑ j ∈ Ico top 2048, R.p i j

/-- Sums over keys behind the query vanish. -/
theorem behind {M : Type*} [AddCommMonoid M] {f : ℕ → M} {a b : ℕ} (ha : a ≤ b) (hb : b ≤ 2048) (hf : ∀ j, a ≤ j → f j = 0) : ∑ j ∈ Ico b 2048, f j = ∑ j ∈ Ico a 2048, f j := by
  rw [sum_eq_zero fun j hj => hf j (ha.trans (mem_Ico.mp hj).1), sum_eq_zero fun j hj => hf j (mem_Ico.mp hj).1]

namespace FwdHead.Fits
variable {R V} {H : FwdHead} (h : H.Fits R V)
include h

variable {s : Sums} {d : Fin 8} {top : ℕ} (hs : s.Fits R V (top + 256)) (hd : top = 256 * d)

include hs hd

theorem inp (hn : top + n = 2048) : (H.inp s d top n hn).Fits R V top where
  q := is_high h.q top n hn
  k := by subst hd; exact h.k d
  v := by subst hd; exact h.v d
  M := below_part n (by omega)
  o := has_high hs.o top n hn
  c := is_high hs.c top n hn

theorem step (ht : top + 256 ≤ 2048) (hn : top + n = 2048) : (H.step s d top n hn).Fits R V top where
  o := has_stack top hn hs.o ((h.inp hs hd hn).o' ht) fun i e hi =>
    behind (by omega) ht fun j hj => by rw [R.w_eq_zero (by omega), EReal.coe_zero, zero_mul]
  c := is_stack top hn hs.c ((h.inp hs hd hn).c' ht) fun i _ hi => behind (by omega) ht fun j hj => R.p_eq_zero (by omega)

omit hs hd

theorem s7 : H.s7.Fits R V 1792 := h.step (d := 7) ⟨fun i j => (is_zeros i j).trans (by simp), is_zeros.congr fun i j => by simp⟩ rfl (by decide) rfl
theorem s6 : H.s6.Fits R V 1536 := h.step (d := 6) h.s7 rfl (by decide) rfl
theorem s5 : H.s5.Fits R V 1280 := h.step (d := 5) h.s6 rfl (by decide) rfl
theorem s4 : H.s4.Fits R V 1024 := h.step (d := 4) h.s5 rfl (by decide) rfl
theorem s3 : H.s3.Fits R V 768 := h.step (d := 3) h.s4 rfl (by decide) rfl
theorem s2 : H.s2.Fits R V 512 := h.step (d := 2) h.s3 rfl (by decide) rfl
theorem s1 : H.s1.Fits R V 256 := h.step (d := 1) h.s2 rfl (by decide) rfl

theorem in0 : H.in0.Fits R V 0 where
  q := h.q.congr fun i e => by simp
  k := h.k 0
  v := fun j e => (h.v 0 j e).trans (by simp)
  M := below_before
  o := fun i e => (h.s1.o i e).trans (by simp)
  c := h.s1.c.congr fun i e => by simp

/-- The attention of a query: the values weighted. -/
theorem o : Has H.o fun i e => ∑ s ∈ range 2048, (R.w i s : EReal) * V s e := fun i e =>
  (h.in0.o' (by decide) i e).trans (by
    show ∑ s ∈ Ico 0 2048, (R.w (0 + i) s : EReal) * V s e = ∑ s ∈ range 2048, (R.w i s : EReal) * V s e
    rw [range_eq_Ico, zero_add])
/-- The softplus sums of a query. -/
theorem c : Is H.c fun i _ => ∑ s ∈ range 2048, R.p i s := (h.in0.c' (by decide)).congr fun i e => by rw [range_eq_Ico, zero_add]

end FwdHead.Fits

end Cert.Tile

end
-- ==== Proof.Block.lean ====
/- What one grid point of the attention's backward sweep leaves in its three blocks: the tiles' sums of `Tile`, head by head. -/
module

public import proofs.«01_k».proof.Proof.Gen.Kernel2Ideal.Value
public import proofs.«01_k».proof.Proof.Tile
public import Idealize.ShloMosaic.Lib.Pipeline.ReadBack

@[expose] public section

set_option maxRecDepth 100000

noncomputable section

namespace Cert.Kernel2Ideal.Value

open Cert.Kernel2Ideal Cert.Kernel2Ideal.Gen Idealize.ShloMosaic Idealize.ShloMosaic.TcCoe Idealize.SL.Sem

theorem tile_in (d : Fin 8) (h : Fin 2) : ∀ a, (![256 * d.val, 64 * h.val] : Fin 2 → ℕ) a + ![256, 64] a ≤ S2048x128.size a := by
  have := d.isLt; have := h.isLt
  intro a; fin_cases a
  · show 256 * d.val + 256 ≤ 2048; omega
  · show 64 * h.val + 64 ≤ 128; omega

theorem head_in (h : Fin 2) : ∀ a, (![0, 64 * h.val] : Fin 2 → ℕ) a + ![2048, 64] a ≤ S2048x128.size a := by
  have := h.isLt
  intro a; fin_cases a
  · show 0 + 2048 ≤ 2048; omega
  · show 64 * h.val + 64 ≤ 128; omega

/-- Tile `d` of head `h` of a block. -/
def tileOf (X : Vec Ideal S2048x128 .bf16) (h : Fin 2) (d : Fin 8) : FVec Ideal S256x64 .bf16 :=
  shapeCast S256x64 (View.ld X (Rect.unit (s := S2048x128) ![256 * d.val, 64 * h.val] ![256, 64] (tile_in d h))) shapeCasts_S256x64_S256x64

/-- Head `h` of a block. -/
def headOf (X : Vec Ideal S2048x128 .bf16) (h : Fin 2) : FVec Ideal S2048x64 .bf16 :=
  shapeCast S2048x64 (View.ld X (Rect.unit (s := S2048x128) ![0, 64 * h.val] ![2048, 64] (head_in h))) shapeCasts_S2048x64_S2048x64

/-- The same of a block of the wider format. -/
def headOf32 (X : Vec Ideal S2048x128 .f32) (h : Fin 2) : FVec Ideal S2048x64 .f32 :=
  shapeCast S2048x64 (View.ld X (Rect.unit (s := S2048x128) ![0, 64 * h.val] ![2048, 64] (head_in h))) shapeCasts_S2048x64_S2048x64

/-- What head `h` of a point reads. -/
def head (q k v : Vec Ideal S2048x128 .bf16) (c o : Vec Ideal S2048x128 .f32) (h : Fin 2) : Tile.Head :=
  ⟨headOf q h, truncf .bf16 (headOf32 o h) bitsLt_bf16_f32,
   extractStridedSlice S2048x1 ![0, 0] (headOf32 c h) slices_S2048x64_o0_0_S2048x1, tileOf k h, tileOf v h⟩

/-- A block whose heads' tiles are given. -/
def spread (f : Fin 2 → Fin 8 → FVec Ideal S256x64 .f32) : Vec Ideal S2048x128 .f32 := fun y =>
  f ⟨(y 1).val / 64, by have : (y 1).val < 128 := (y 1).isLt; omega⟩ ⟨(y 0).val / 256, by have : (y 0).val < 2048 := (y 0).isLt; omega⟩
    (ix2 ⟨(y 0).val % 256, by omega⟩ ⟨(y 1).val % 64, by omega⟩)

theorem spread_at (f : Fin 2 → Fin 8 → FVec Ideal S256x64 .f32) (h : Fin 2) (d : Fin 8) (off : Fin 2 → ℕ) (inb) (h0 : off 0 = 256 * d.val)
    (h1 : off 1 = 64 * h.val) (x : S256x64.Idx) : f h d x = spread f ((Rect.unit (s := S2048x128) off ![256, 64] inb).emb x) := by
  have a0 : (x 0).val < 256 := (x 0).isLt
  have a1 : (x 1).val < 64 := (x 1).isLt
  have e0 : (((Rect.unit (s := S2048x128) off ![256, 64] inb).emb x) 0).val = 256 * d.val + (x 0).val := by
    rw [← h0]; exact ValueKit.rect_emb_unit_val _ _ _ _ _
  have e1 : (((Rect.unit (s := S2048x128) off ![256, 64] inb).emb x) 1).val = 64 * h.val + (x 1).val := by
    rw [← h1]; exact ValueKit.rect_emb_unit_val _ _ _ _ _
  unfold spread
  congr 1
  · apply Fin.ext; show h.val = _ / 64; rw [e1]; omega
  · apply Fin.ext; show d.val = _ / 256; rw [e0]; omega
  · funext a; apply Fin.ext
    match a with
    | ⟨0, _⟩ => show (x 0).val = _ % 256; rw [e0]; omega
    | ⟨1, _⟩ => show (x 1).val = _ % 64; rw [e1]; omega

/-- A block whose heads are given. -/
def lay (f : Fin 2 → FVec Ideal S2048x64 .f32) : Vec Ideal S2048x128 .f32 := fun y =>
  f ⟨(y 1).val / 64, by have : (y 1).val < 128 := (y 1).isLt; omega⟩ (ix2 (y 0) ⟨(y 1).val % 64, by omega⟩)

theorem lay_at (f : Fin 2 → FVec Ideal S2048x64 .f32) (h : Fin 2) (off : Fin 2 → ℕ) (inb) (h0 : off 0 = 0)
    (h1 : off 1 = 64 * h.val) (x : S2048x64.Idx) : f h x = lay f ((Rect.unit (s := S2048x128) off ![2048, 64] inb).emb x) := by
  have a1 : (x 1).val < 64 := (x 1).isLt
  have e0 : (((Rect.unit (s := S2048x128) off ![2048, 64] inb).emb x) 0).val = (x 0).val := by
    have : (((Rect.unit (s := S2048x128) off ![2048, 64] inb).emb x) 0).val = off 0 + (x 0).val :=
      ValueKit.rect_emb_unit_val _ _ _ _ _
    rw [this, h0, Nat.zero_add]
  have e1 : (((Rect.unit (s := S2048x128) off ![2048, 64] inb).emb x) 1).val = 64 * h.val + (x 1).val := by
    rw [← h1]; exact ValueKit.rect_emb_unit_val _ _ _ _ _
  unfold lay
  congr 1
  · apply Fin.ext; show h.val = _ / 64; rw [e1]; omega
  · funext a; apply Fin.ext
    match a with
    | ⟨0, _⟩ => exact e0.symm
    | ⟨1, _⟩ => show (x 1).val = _ % 64; rw [e1]; omega

theorem cast_self {s : Shape} (X : s.Idx → EReal) (h : s.ShapeCasts s) (j : s.Idx) : shapeCast s X h j = X j := by
  rw [shapeCast_apply X h j j rfl]

theorem add_old (A T : FVec Ideal S256x64 .f32) (x : S256x64.Idx) (h : A x = 0) : addf (F := Ideal) (φ := .f32) A T x = T x := by
  show A x + T x = T x
  rw [h, zero_add]

/-- A load of a buffer that was filled with zeros. -/
theorem zero_fill {sg : RefSig} {κ : Kind} {sp : Space} (w : View sg κ sp S2048x128 .f32) (r : Rect S2048x128) (inb) (j : r.shape.Idx) :
    w.readCov (Val := Elt Ideal) [⟨Rect.unit ![0, 0] S2048x128.size inb, broadcast S2048x128 (Scalar.ofBits (F := Ideal) .f32 0x00000000#32)⟩]
      r.toLoadRect j = 0 :=
  (congrFun (View.readCov_fill w inb _ [] r (fun a => by fin_cases a <;> rfl)) j).trans Ideal.ofBits_zero_f32

variable (x0 x1 x2 : Vec Ideal S2048x128 .bf16) (x3 x4 : Vec Ideal S2048x128 .f32)

/-- The queries' gradient of a point's block. -/
theorem dq_block (c : Dev nD) (t : Fin cfg0.N) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) x0 x1 x2 x3 x4
      = lay fun h => (head x0 x1 x2 x3 x4 h).dq := by
  frame_out
  funext y
  refine View.canon_append_of_piecesOf (lay fun h => (head x0 x1 x2 x3 x4 h).dq) [] [_, _] ⟨?_, ?_, trivial⟩ y ?_
  · refine fun x => Eq.trans ?_ (lay_at (fun h => (head x0 x1 x2 x3 x4 h).dq) 1 _ (head_in 1) rfl rfl x)
    sl_kernel_rfl
  · refine fun x => Eq.trans ?_ (lay_at (fun h => (head x0 x1 x2 x3 x4 h).dq) 0 _ (head_in 0) rfl rfl x)
    sl_kernel_rfl
  · exact View.cover_of_tiledBy _ ![2048, 64] (by sl_kernel_rfl) y

/-- The keys' gradient of a point's block. -/
theorem dk_block (c : Dev nD) (t : Fin cfg0.N) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) x0 x1 x2 x3 x4
      = spread fun h d => (head x0 x1 x2 x3 x4 h).dk d := by
  frame_out
  funext y
  refine View.canon_append_of_piecesOf (spread fun h d => (head x0 x1 x2 x3 x4 h).dk d) [_] [_, _, _, _, _, _, _, _, _, _, _, _, _, _, _, _]
    ⟨?_, ?_, ?_, ?_, ?_, ?_, ?_, ?_, ?_, ?_, ?_, ?_, ?_, ?_, ?_, ?_, trivial⟩ y ?_
  · refine fun x => (add_old _ _ x ?_).trans (Eq.trans ?_ (spread_at (fun h d => (head x0 x1 x2 x3 x4 h).dk d) 1 7 _ (tile_in 7 1) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dk d) 0 7 _ (tile_in 7 0) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dk d) 1 6 _ (tile_in 6 1) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dk d) 0 6 _ (tile_in 6 0) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dk d) 1 5 _ (tile_in 5 1) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dk d) 0 5 _ (tile_in 5 0) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dk d) 1 4 _ (tile_in 4 1) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dk d) 0 4 _ (tile_in 4 0) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dk d) 1 3 _ (tile_in 3 1) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dk d) 0 3 _ (tile_in 3 0) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dk d) 1 2 _ (tile_in 2 1) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dk d) 0 2 _ (tile_in 2 0) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dk d) 1 1 _ (tile_in 1 1) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dk d) 0 1 _ (tile_in 1 0) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dk d) 1 0 _ (tile_in 0 1) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dk d) 0 0 _ (tile_in 0 0) rfl rfl x))
    · refine (cast_self _ shapeCasts_S256x64_S256x64 x).trans ?_
      repeat refine (congrFun (View.readCov_skip _ _ _ _ _ rfl) x).trans ?_
      exact zero_fill _ _ _ x
    · sl_kernel_rfl
  · exact View.cover_of_tiledBy _ ![256, 64] (by sl_kernel_rfl) y

/-- The values' gradient of a point's block. -/
theorem dv_block (c : Dev nD) (t : Fin cfg0.N) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) x0 x1 x2 x3 x4
      = spread fun h d => (head x0 x1 x2 x3 x4 h).dv d := by
  frame_out
  funext y
  refine View.canon_append_of_piecesOf (spread fun h d => (head x0 x1 x2 x3 x4 h).dv d) [_] [_, _, _, _, _, _, _, _, _, _, _, _, _, _, _, _]
    ⟨?_, ?_, ?_, ?_, ?_, ?_, ?_, ?_, ?_, ?_, ?_, ?_, ?_, ?_, ?_, ?_, trivial⟩ y ?_
  · refine fun x => (add_old _ _ x ?_).trans (Eq.trans ?_ (spread_at (fun h d => (head x0 x1 x2 x3 x4 h).dv d) 1 7 _ (tile_in 7 1) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dv d) 0 7 _ (tile_in 7 0) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dv d) 1 6 _ (tile_in 6 1) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dv d) 0 6 _ (tile_in 6 0) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dv d) 1 5 _ (tile_in 5 1) rfl rfl x))
    · unfold k0_pay222; refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dv d) 0 5 _ (tile_in 5 0) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dv d) 1 4 _ (tile_in 4 1) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dv d) 0 4 _ (tile_in 4 0) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dv d) 1 3 _ (tile_in 3 1) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dv d) 0 3 _ (tile_in 3 0) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dv d) 1 2 _ (tile_in 2 1) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dv d) 0 2 _ (tile_in 2 0) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dv d) 1 1 _ (tile_in 1 1) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dv d) 0 1 _ (tile_in 1 0) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dv d) 1 0 _ (tile_in 0 1) rfl rfl x))
    · refine (cast_self _ shapeCasts_S256x64_S256x64 x).trans ?_
      repeat refine (congrFun (View.readCov_skip _ _ _ _ _ rfl) x).trans ?_
      exact zero_fill _ _ _ x
    · sl_kernel_rfl
  · refine fun x => (add_old _ _ x ?_).trans (Eq.trans ?_ (spread_at (fun h d => (head x0 x1 x2 x3 x4 h).dv d) 0 0 _ (tile_in 0 0) rfl rfl x))
    · refine (cast_self _ shapeCasts_S256x64_S256x64 x).trans ?_
      repeat refine (congrFun (View.readCov_skip _ _ _ _ _ rfl) x).trans ?_
      exact zero_fill _ _ _ x
    · sl_kernel_rfl
  · exact View.cover_of_tiledBy _ ![256, 64] (by sl_kernel_rfl) y

end Cert.Kernel2Ideal.Value
-- ==== Proof.ForwardBlock.lean ====
/- What one grid point of the attention's forward sweep leaves in its two blocks: the tiles' sums of `Forward`, head by head. -/
module

public import proofs.«01_k».proof.Proof.Gen.Kernel6Ideal.Value
public import proofs.«01_k».proof.Proof.Forward
public import proofs.«01_k».proof.Proof.Block

@[expose] public section

set_option maxRecDepth 100000

noncomputable section

namespace Cert.Kernel6Ideal.Value

open Cert.Kernel6Ideal Cert.Kernel6Ideal.Gen Idealize.ShloMosaic Idealize.ShloMosaic.TcCoe Idealize.SL.Sem
open Cert.Kernel2Ideal.Value (tileOf headOf lay lay_at head_in)

/-- What head `h` of a point reads. -/
def fwdHead (q k v : Vec Ideal S2048x128 .bf16) (h : Fin 2) : Tile.FwdHead := ⟨headOf q h, tileOf k h, tileOf v h⟩

/-- The sums of a head, once for each of its features. -/
def spreadSums (H : Tile.FwdHead) : FVec Ideal S2048x64 .f32 :=
  broadcastTo S2048x64 (shapeCast S2048x1 H.c shapeCasts_S2048x1_S2048x1) broadcasts_S2048x1_S2048x64

variable (x0 x1 x2 : Vec Ideal S2048x128 .bf16)

/-- The attention of a point's block. -/
theorem o_block (c : Dev nD) (t : Fin cfg0.N) :
    out0_A_3 c (grid0.coords t) (ms0_0 t) (hs0_0 t) (ms0_1 t) (hs0_1 t) (ms0_2 t) (hs0_2 t) (ms0_3 t) (hs0_3 t) (ms0_4 t) (hs0_4 t) x0 x1 x2
      = lay fun h => (fwdHead x0 x1 x2 h).o := by
  frame_out
  funext y
  refine View.canon_append_of_piecesOf (lay fun h => (fwdHead x0 x1 x2 h).o) [] [_, _] ⟨?_, ?_, trivial⟩ y ?_
  · refine fun x => Eq.trans ?_ (lay_at (fun h => (fwdHead x0 x1 x2 h).o) 1 _ (head_in 1) rfl rfl x)
    sl_kernel_rfl
  · refine fun x => Eq.trans ?_ (lay_at (fun h => (fwdHead x0 x1 x2 h).o) 0 _ (head_in 0) rfl rfl x)
    sl_kernel_rfl
  · exact View.cover_of_tiledBy _ ![2048, 64] (by sl_kernel_rfl) y

/-- The softplus sums of a point's block. -/
theorem c_block (c : Dev nD) (t : Fin cfg0.N) :
    out0_A_4 c (grid0.coords t) (ms0_0 t) (hs0_0 t) (ms0_1 t) (hs0_1 t) (ms0_2 t) (hs0_2 t) (ms0_3 t) (hs0_3 t) (ms0_4 t) (hs0_4 t) x0 x1 x2
      = lay fun h => spreadSums (fwdHead x0 x1 x2 h) := by
  frame_out
  funext y
  refine View.canon_append_of_piecesOf (lay fun h => spreadSums (fwdHead x0 x1 x2 h)) [] [_, _] ⟨?_, ?_, trivial⟩ y ?_
  · refine fun x => Eq.trans ?_ (lay_at (fun h => spreadSums (fwdHead x0 x1 x2 h)) 1 _ (head_in 1) rfl rfl x)
    sl_kernel_rfl
  · refine fun x => Eq.trans ?_ (lay_at (fun h => spreadSums (fwdHead x0 x1 x2 h)) 0 _ (head_in 0) rfl rfl x)
    sl_kernel_rfl
  · exact View.cover_of_tiledBy _ ![2048, 64] (by sl_kernel_rfl) y

end Cert.Kernel6Ideal.Value

end
-- ==== Proof.Heads.lean ====
/- The heads of the attention as rows of real numbers, and the three gradients as arrays over them. -/
module

public import proofs.«01_k».proof.Proof.Chain
public import Idealize.ShloMosaic.Lib.Pointwise

@[expose] public section

noncomputable section

namespace Cert.Attn

open Idealize.ShloMosaic Finset
open scoped BigOperators

/-- One of the streams of the attention: a batch, a position, the heads' features side by side. -/
abbrev Stream := FVec Ideal ⟨3, ![2, 2048, 512]⟩ .f32

/-- Every element is a real number. -/
def Real' (x : Stream) : Prop := ∀ j, x j = ((x j).toReal : EReal)

/-- Feature `e` of head `h` of batch `b` at position `t`. -/
def feat (x : Stream) (b h t e : ℕ) : ℝ :=
  (x (ix3 ⟨b % 2, Nat.mod_lt _ (by decide)⟩ ⟨t % 2048, Nat.mod_lt _ (by decide)⟩ ⟨(64 * h + e) % 512, Nat.mod_lt _ (by decide)⟩)).toReal

theorem feat_eq {x : Stream} (hx : Real' x) (b : Fin 2) (t : Fin 2048) (l : Fin 512) {b' h t' e : ℕ} (hb : b' = b) (ht : t' = t)
    (hl : 64 * h + e = l) : x (ix3 b t l) = ((feat x b' h t' e : ℝ) : EReal) := by
  subst hb ht
  rw [hx (ix3 b t l), feat]
  refine congrArg (fun i => ((x i).toReal : EReal)) (funext fun a => Fin.ext ?_)
  match a with
  | ⟨0, _⟩ => exact (Nat.mod_eq_of_lt b.isLt).symm
  | ⟨1, _⟩ => exact (Nat.mod_eq_of_lt t.isLt).symm
  | ⟨2, _⟩ => show (l : ℕ) = (64 * h + e) % 512; have := l.isLt; omega

variable (q k v o : Stream)

/-- Head `h` of batch `b`: the queries scaled by the root of the number of features. -/
def rows (b h : ℕ) : Sweep.Rows where
  Q t e := feat q b h t e * (1 / 8)
  K := feat k b h
  V := feat v b h
  O := feat o b h

/-- The head of a row and a column. -/
abbrev rowsAt (y : (Tile.Sh 4096 512).Idx) : Sweep.Rows := rows q k v o ((y 0).val / 2048) ((y 1).val / 64)

/-- The gradient of the scaled queries. -/
def dQ : FVec Ideal (Tile.Sh 4096 512) .f32 := fun y =>
  ((∑ s ∈ range 2048, (rowsAt q k v o y).D ((y 0).val % 2048) s * (rowsAt q k v o y).K s ((y 1).val % 64) : ℝ) : EReal)
/-- The gradient of the keys. -/
def dK : FVec Ideal (Tile.Sh 4096 512) .f32 := fun y =>
  ((∑ t ∈ range 2048, (rowsAt q k v o y).D t ((y 0).val % 2048) * (rowsAt q k v o y).Q t ((y 1).val % 64) : ℝ) : EReal)
/-- The gradient of the values. -/
def dV : FVec Ideal (Tile.Sh 4096 512) .f32 := fun y =>
  ((∑ t ∈ range 2048, (rowsAt q k v o y).w t ((y 0).val % 2048) * (rowsAt q k v o y).O t ((y 1).val % 64) : ℝ) : EReal)

/-! ## The softplus of a score and the words of its constants -/

theorem eighth : Ideal.ofBits .f32 0x3E000000#32 = (((1 / 8 : ℝ)) : EReal) := by
  simp [Ideal.ofBits, Ideal.ieee, -EReal.coe_mul]; norm_num

theorem coe_max (a b : ℝ) : max (a : EReal) b = ((max a b : ℝ) : EReal) := (EReal.coe_strictMono.monotone.map_max).symm

theorem log1p_exp (z : ℝ) : Ideal.log1p (Ideal.exp (-(max (z : EReal) (-(z : EReal))))) = ((Real.log (1 + Real.exp (-|z|)) : ℝ) : EReal) := by
  rw [← EReal.coe_neg, coe_max, ← EReal.coe_neg, Ideal.exp_coe]
  show Ideal.log (1 + _) = _
  rw [← EReal.coe_one, ← EReal.coe_add, Ideal.log_coe, if_neg (Sweep.sp_pos _).not_ge]
  rfl

/-- The softplus that both programs write on the host. -/
theorem log_soft (z : ℝ) :
    max (z : EReal) 0 + Ideal.log1p (Ideal.exp (-(max (z : EReal) (-(z : EReal))))) = ((Sweep.sp z : ℝ) : EReal) := by
  rw [log1p_exp, ← EReal.coe_zero, coe_max, ← EReal.coe_add, Sweep.max_log]

end Cert.Attn

end
-- ==== Proof.Arrays.lean ====
/- What the attention's backward call leaves in its three arrays, over the arguments of the step. -/
module

public import proofs.«01_k».proof.Proof.Block
public import proofs.«01_k».proof.Proof.Heads
public import Idealize.ShloMosaic.Lib.Pipeline.ValueKit
public import Idealize.ShloMosaic.Lib.Claim

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.Attn
open Cert.Tile (Is coe_sum)
open scoped BigOperators

theorem idx : ∀ t : Fin cfg0.N, win0_0.index t = ![t.val / 4, t.val % 4] ∧ win0_1.index t = ![t.val / 4, t.val % 4]
    ∧ win0_2.index t = ![t.val / 4, t.val % 4] ∧ win0_3.index t = ![t.val / 4, t.val % 4] ∧ win0_4.index t = ![t.val / 4, t.val % 4]
    ∧ win0_5.index t = ![t.val / 4, t.val % 4] ∧ win0_6.index t = ![t.val / 4, t.val % 4] ∧ win0_7.index t = ![t.val / 4, t.val % 4] :=
  (by decide +kernel : ∀ t : Fin grid0.N, _)

/-! ## The host lines -/

/-- The scores of every head. -/
def zK (q k : FVec Ideal S2x2048x512 .f32) : FVec Ideal S2x8x2048x2048 .f32 :=
  mulf (Host.dotGeneral dot_S2x8x2048x64_S2x8x2048x64_S2x8x2048x2048_3_3_2_2_01_01 none
      (transpose S2x8x2048x64 [0, 2, 1, 3] (shapeCast S2x2048x8x64 q shapeCasts_S2x2048x512_S2x2048x8x64) transposes_S2x2048x8x64_S2x8x2048x64_0_2_1_3)
      (transpose S2x8x2048x64 [0, 2, 1, 3] (shapeCast S2x2048x8x64 k shapeCasts_S2x2048x512_S2x2048x8x64) transposes_S2x2048x8x64_S2x8x2048x64_0_2_1_3))
    (broadcastInDim S2x8x2048x2048 ![] bcast_S_S2x8x2048x2048 (constant S_ .f32 0x3E000000#32))
/-- Zeros. -/
def zero4 : FVec Ideal S2x8x2048x2048 .f32 := broadcastInDim S2x8x2048x2048 ![] bcast_S_S2x8x2048x2048 (constant S_ .f32 0x00000000#32)
/-- The softplus. -/
def softK (z : FVec Ideal S2x8x2048x2048 .f32) : FVec Ideal S2x8x2048x2048 .f32 :=
  select (cmpf .une (subf z zero4) (subf z zero4)) (addf z zero4)
    (addf (maximumf z zero4) (Host.log1p (Host.exp (Host.negf (Host.absf (subf z zero4))))))
/-- Where the key lies before the query. -/
def before4 : IVec S2x8x2048x2048 1 := broadcastInDim S2x8x2048x2048 ![2, 3] bcast_S2048x2048_S2x8x2048x2048_2_3
  (cmpi .slt (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0))))
/-- The sums over the keys, once for each feature of the head. -/
def sumK (p : FVec Ideal S2x8x2048x2048 .f32) : FVec Ideal S4096x512 .f32 :=
  shapeCast S4096x512 (broadcastInDim S2x2048x8x64 ![0, 1, 2, 3] bcast_S2x2048x8x1_S2x2048x8x64_0_1_2_3
    (broadcastInDim S2x2048x8x1 ![0, 1, 2] bcast_S2x2048x8_S2x2048x8x1_0_1_2 (transpose S2x2048x8 [0, 2, 1]
      (Host.reduceAdd p (constant S_ .f32 0x00000000#32) reducesTo_S2x8x2048x2048_S2x8x2048_d3 h_S_) transposes_S2x8x2048_S2x2048x8_0_2_1))) shapeCasts_S2x2048x8x64_S4096x512

variable (m : (ℓ : Loc nD τ sig) → Buf (Elt Ideal) ℓ)

/-- The queries, the keys, the values and the gradient that arrives. -/
abbrev aQ (c : Dev nD) : Stream := m ((c : Thread nD τ).loc main_arg0)
abbrev aK (c : Dev nD) : Stream := m ((c : Thread nD τ).loc main_arg1)
abbrev aV (c : Dev nD) : Stream := m ((c : Thread nD τ).loc main_arg2)
abbrev aO (c : Dev nD) : Stream := m ((c : Thread nD τ).loc main_arg3)

theorem q_at (c : Dev nD) (r : Fin 4096) (l : Fin 512) : V m c main_v3 (ix2 r l)
    = aQ m c (ix3 ⟨r / 2048, by omega⟩ ⟨r % 2048, by omega⟩ l) * Ideal.ofBits .f32 0x3E000000#32 := by
  dsimp only [V, hostOps0, hostOps0_1, hostOps0_2, hostOps0_3, hostOps0_4, List.flatten_cons, List.flatten_nil, List.cons_append, List.nil_append]
  after_results
  pointwise
theorem k_at (c : Dev nD) (r : Fin 4096) (l : Fin 512) : V m c main_v5 (ix2 r l) = aK m c (ix3 ⟨r / 2048, by omega⟩ ⟨r % 2048, by omega⟩ l) := by
  dsimp only [V, hostOps0, hostOps0_1, hostOps0_2, hostOps0_3, hostOps0_4, List.flatten_cons, List.flatten_nil, List.cons_append, List.nil_append]
  after_results
  pointwise
theorem v_at (c : Dev nD) (r : Fin 4096) (l : Fin 512) : V m c main_v7 (ix2 r l) = aV m c (ix3 ⟨r / 2048, by omega⟩ ⟨r % 2048, by omega⟩ l) := by
  dsimp only [V, hostOps0, hostOps0_1, hostOps0_2, hostOps0_3, hostOps0_4, List.flatten_cons, List.flatten_nil, List.cons_append, List.nil_append]
  after_results
  pointwise
theorem o_at (c : Dev nD) (r : Fin 4096) (l : Fin 512) : V m c main_v8 (ix2 r l) = aO m c (ix3 ⟨r / 2048, by omega⟩ ⟨r % 2048, by omega⟩ l) := by
  dsimp only [V, hostOps0, hostOps0_1, hostOps0_2, hostOps0_3, hostOps0_4, List.flatten_cons, List.flatten_nil, List.cons_append, List.nil_append]
  after_results
  pointwise

theorem c_eq (c : Dev nD) : V m c main_v29 = sumK (select before4 (softK (zK (aQ m c) (aK m c))) zero4) := by
  dsimp only [V, hostOps0, hostOps0_1, hostOps0_2, hostOps0_3, hostOps0_4, List.flatten_cons, List.flatten_nil, List.cons_append, List.nil_append]
  after_results
  rfl

theorem zK_at {q k v o : Stream} (hq : Real' q) (hk : Real' k) (b : Fin 2) (h : Fin 8) (t s : Fin 2048) :
    zK q k (ix4 b h t s) = (((rows q k v o b h).z t s : ℝ) : EReal) := by
  pointwise [zK]
  rw [eighth]
  have e (x : Fin 64) : q (ix3 b t ⟨(h : ℕ) * 64 + x, by omega⟩) * k (ix3 b s ⟨(h : ℕ) * 64 + x, by omega⟩)
      = ((feat q b h t x * feat k b h s x : ℝ) : EReal) := by
    rw [feat_eq hq b t _ rfl rfl (show 64 * (h : ℕ) + x = _ by dsimp only; omega),
      feat_eq hk b s _ rfl rfl (show 64 * (h : ℕ) + x = _ by dsimp only; omega), ← EReal.coe_mul]
  rw [Finset.sum_congr rfl fun x _ => e x, coe_sum, ← EReal.coe_mul, Finset.sum_mul]
  refine congrArg _ (Finset.sum_congr rfl fun x _ => ?_)
  show _ = feat q b h t x * (1 / 8) * feat k b h s x
  ring

theorem softK_at (z : FVec Ideal S2x8x2048x2048 .f32) (j : S2x8x2048x2048.Idx) (r : ℝ) (hz : z j = (r : EReal)) : softK z j = ((Sweep.sp r : ℝ) : EReal) := by
  pointwise [softK, zero4]
  rw [if_neg (fun h => h rfl), hz]
  exact log_soft r

theorem before4_at (b : Fin 2) (h : Fin 8) (t s : Fin 2048) : before4 (ix4 b h t s) = if (s : ℕ) < t then 1#1 else 0#1 := by
  pointwise [before4]
  word_cmp
  by_cases h : (s : ℕ) < t <;> simp [h]

theorem sumK_at (p : FVec Ideal S2x8x2048x2048 .f32) (r : Fin 4096) (l : Fin 512) :
    sumK p (ix2 r l) = ∑ s : Fin 2048, p (ix4 ⟨r / 2048, by omega⟩ ⟨l / 64, by omega⟩ ⟨r % 2048, by omega⟩ s) := by
  pointwise [sumK]

/-- The softplus sums that the call reads. -/
theorem c_at {c : Dev nD} (hq : Real' (aQ m c)) (hk : Real' (aK m c)) (r : Fin 4096) (l : Fin 512) : V m c main_v29 (ix2 r l)
    = ((∑ s ∈ Finset.range 2048, (rows (aQ m c) (aK m c) (aV m c) (aO m c) (r / 2048) (l / 64)).p (r % 2048) s : ℝ) : EReal) := by
  refine (congrFun (c_eq m c) _).trans ((sumK_at _ r l).trans ?_)
  rw [← Fin.sum_univ_eq_sum_range (fun s => (rows (aQ m c) (aK m c) (aV m c) (aO m c) (r / 2048) (l / 64)).p (r % 2048) s), ← coe_sum]
  refine Finset.sum_congr rfl fun s _ => ?_
  show (if before4 _ = 1#1 then softK _ _ else zero4 _) = _
  rw [before4_at, softK_at _ _ _ (zK_at (v := aV m c) (o := aO m c) hq hk _ _ _ s)]
  show _ = ((if (s : ℕ) < r % 2048 then _ else (0 : ℝ) : ℝ) : EReal)
  by_cases h : (s : ℕ) < r % 2048
  · simp [h]
  · simp only [h, if_false]; pointwise [zero4]; simp

/-! ## The blocks of a point -/

theorem headOf_at (X : Vec Ideal S2048x128 .bf16) (h : Fin 2) (i : Fin 2048) (e : Fin 64) :
    headOf X h (ix2 i e) = X (ix2 i ⟨64 * h + e, by omega⟩) := by
  refine (cast_self _ _ _).trans (congrArg X (funext fun a => Fin.ext ?_))
  match a with
  | ⟨0, _⟩ => exact (ValueKit.rect_emb_unit_val _ _ _ _ _).trans (Nat.zero_add _)
  | ⟨1, _⟩ => exact ValueKit.rect_emb_unit_val _ _ _ _ _

theorem headOf32_at (X : Vec Ideal S2048x128 .f32) (h : Fin 2) (i : Fin 2048) (e : Fin 64) :
    headOf32 X h (ix2 i e) = X (ix2 i ⟨64 * h + e, by omega⟩) := by
  refine (cast_self _ _ _).trans (congrArg X (funext fun a => Fin.ext ?_))
  match a with
  | ⟨0, _⟩ => exact (ValueKit.rect_emb_unit_val _ _ _ _ _).trans (Nat.zero_add _)
  | ⟨1, _⟩ => exact ValueKit.rect_emb_unit_val _ _ _ _ _

theorem tileOf_at (X : Vec Ideal S2048x128 .bf16) (h : Fin 2) (d : Fin 8) (i : Fin 256) (e : Fin 64) :
    tileOf X h d (ix2 i e) = X (ix2 ⟨256 * d + i, by omega⟩ ⟨64 * h + e, by omega⟩) := by
  refine (cast_self _ _ _).trans (congrArg X (funext fun a => Fin.ext ?_))
  match a with
  | ⟨0, _⟩ => exact ValueKit.rect_emb_unit_val _ _ _ _ _
  | ⟨1, _⟩ => exact ValueKit.rect_emb_unit_val _ _ _ _ _

/-- Entry (`i`, `j`) of the point's block of an array of 4096 rows and 512 columns. -/
abbrev cell (t : Fin cfg0.N) (i : Fin 2048) (j : Fin 128) : S4096x512.Idx :=
  ix2 ⟨2048 * (t.val / 4) + i, by have : t.val < 8 := t.isLt; omega⟩ ⟨128 * (t.val % 4) + j, by omega⟩

theorem blk0 (c : Dev nD) (t : Fin cfg0.N) (i : Fin 2048) (j : Fin 128) : iblk m c 0 t (ix2 i j) = V m c main_v3 (cell t i j) := by
  unfold cell; blk_point [iblk, idx t]
theorem blk1 (c : Dev nD) (t : Fin cfg0.N) (i : Fin 2048) (j : Fin 128) : iblk m c 1 t (ix2 i j) = V m c main_v5 (cell t i j) := by
  unfold cell; blk_point [iblk, idx t]
theorem blk2 (c : Dev nD) (t : Fin cfg0.N) (i : Fin 2048) (j : Fin 128) : iblk m c 2 t (ix2 i j) = V m c main_v7 (cell t i j) := by
  unfold cell; blk_point [iblk, idx t]
theorem blk3 (c : Dev nD) (t : Fin cfg0.N) (i : Fin 2048) (j : Fin 128) : iblk m c 3 t (ix2 i j) = V m c main_v29 (cell t i j) := by
  unfold cell; blk_point [iblk, idx t]
theorem blk4 (c : Dev nD) (t : Fin cfg0.N) (i : Fin 2048) (j : Fin 128) : iblk m c 4 t (ix2 i j) = V m c main_v8 (cell t i j) := by
  unfold cell; blk_point [iblk, idx t]

/-- Every argument's elements are real numbers. -/
structure Reals (c : Dev nD) : Prop where
  q : Real' (aQ m c)
  k : Real' (aK m c)
  v : Real' (aV m c)
  o : Real' (aO m c)

/-- The rows of head `h` of point `t`. -/
abbrev rowsOf (c : Dev nD) (t : Fin cfg0.N) (h : Fin 2) : Sweep.Rows :=
  rows (aQ m c) (aK m c) (aV m c) (aO m c) (t.val / 4) (2 * (t.val % 4) + h)

variable {m}

theorem sums_at (q k v o : Stream) {b h i b' h' i' : ℕ} (hb : b = b') (hi : i = i') (hh : h = h') :
    ∑ s ∈ Finset.range 2048, (rows q k v o b h).p i s = ∑ s ∈ Finset.range 2048, (rows q k v o b' h').p i' s := by
  subst hb hi hh; rfl

theorem scaled {x : EReal} {r : ℝ} (h : x = (r : EReal)) : x * Ideal.ofBits .f32 0x3E000000#32 = ((r * (1 / 8) : ℝ) : EReal) := by
  rw [h, eighth, ← EReal.coe_mul]

section
variable {c : Dev nD} (hr : Reals m c) (t : Fin cfg0.N) (h : Fin 2)

theorem in_rows (i : Fin 2048) : (2048 * (t.val / 4) + (i : ℕ)) / 2048 = t.val / 4 ∧ (2048 * (t.val / 4) + (i : ℕ)) % 2048 = i := by omega

include hr in
theorem fits_q (i : Fin 2048) (e : Fin 64) :
    headOf (iblk m c 0 t) h (ix2 i e) = ((feat (aQ m c) (t.val / 4) (2 * (t.val % 4) + h) i e * (1 / 8) : ℝ) : EReal) := by
  refine (headOf_at _ h i e).trans ((blk0 m c t _ _).trans ((q_at m c _ _).trans (scaled ?_)))
  exact feat_eq hr.q _ _ _ (in_rows t i).1.symm (in_rows t i).2.symm (by dsimp only; omega)

include hr in
theorem fits_o (i : Fin 2048) (e : Fin 64) :
    headOf32 (iblk m c 4 t) h (ix2 i e) = ((feat (aO m c) (t.val / 4) (2 * (t.val % 4) + h) i e : ℝ) : EReal) := by
  refine (headOf32_at _ h i e).trans ((blk4 m c t _ _).trans ((o_at m c _ _).trans ?_))
  exact feat_eq hr.o _ _ _ (in_rows t i).1.symm (in_rows t i).2.symm (by dsimp only; omega)

include hr in
theorem fits_k (d : Fin 8) (i : Fin 256) (e : Fin 64) :
    tileOf (iblk m c 1 t) h d (ix2 i e) = ((feat (aK m c) (t.val / 4) (2 * (t.val % 4) + h) (256 * d + i) e : ℝ) : EReal) := by
  refine (tileOf_at _ h d i e).trans ((blk1 m c t _ _).trans ((k_at m c _ _).trans ?_))
  exact feat_eq hr.k _ _ _ (in_rows t ⟨256 * d + i, by omega⟩).1.symm (in_rows t ⟨256 * d + i, by omega⟩).2.symm (by dsimp only; omega)

include hr in
theorem fits_v (d : Fin 8) (i : Fin 256) (e : Fin 64) :
    tileOf (iblk m c 2 t) h d (ix2 i e) = ((feat (aV m c) (t.val / 4) (2 * (t.val % 4) + h) (256 * d + i) e : ℝ) : EReal) := by
  refine (tileOf_at _ h d i e).trans ((blk2 m c t _ _).trans ((v_at m c _ _).trans ?_))
  exact feat_eq hr.v _ _ _ (in_rows t ⟨256 * d + i, by omega⟩).1.symm (in_rows t ⟨256 * d + i, by omega⟩).2.symm (by dsimp only; omega)

include hr in
theorem fits_call (i : Fin 2048) (j : Fin 1) :
    extractStridedSlice S2048x1 ![0, 0] (headOf32 (iblk m c 3 t) h) slices_S2048x64_o0_0_S2048x1 (ix2 i j)
      = ((∑ s ∈ Finset.range 2048, (rowsOf m c t h).p i s : ℝ) : EReal) := by
  have e : extractStridedSlice S2048x1 ![0, 0] (headOf32 (iblk m c 3 t) h) slices_S2048x64_o0_0_S2048x1 (ix2 i j)
      = headOf32 (iblk m c 3 t) h (ix2 i 0) := congrArg (headOf32 (iblk m c 3 t) h) (funext fun a => Fin.ext (by
    match a with
    | ⟨0, _⟩ => exact Nat.zero_add _
    | ⟨1, _⟩ => show 0 + (j : ℕ) = 0; omega))
  refine e.trans ((headOf32_at _ h i 0).trans ((blk3 m c t _ _).trans ((c_at m hr.q hr.k _ _).trans ?_)))
  exact congrArg (fun r : ℝ => (r : EReal)) (sums_at _ _ _ _ (in_rows t i).1 (in_rows t i).2
    (by show (128 * (t.val % 4) + (64 * (h : ℕ) + 0)) / 64 = _; omega))

include hr in
theorem head_fits : (head (iblk m c 0 t) (iblk m c 1 t) (iblk m c 2 t) (iblk m c 3 t) (iblk m c 4 t) h).Fits (rowsOf m c t h) where
  q := fits_q hr t h
  o := fits_o hr t h
  k := fits_k hr t h
  v := fits_v hr t h
  call := fits_call hr t h

end

/-! ## The three arrays -/

theorem lay_fits {f : Fin 2 → FVec Ideal S2048x64 .f32} {g : Fin 2 → ℕ → ℕ → ℝ} (hf : ∀ h, Is (f h) (g h)) (y : S2048x128.Idx) :
    lay f y = ((g ⟨(y 1).val / 64, by have : (y 1).val < 128 := (y 1).isLt; omega⟩ (y 0).val ((y 1).val % 64) : ℝ) : EReal) := hf _ _ _

theorem spread_fits {f : Fin 2 → Fin 8 → FVec Ideal S256x64 .f32} {g : Fin 2 → ℕ → ℕ → ℝ}
    (hf : ∀ h d, Is (f h d) fun j e => g h (256 * d + j) e) (y : S2048x128.Idx) :
    spread f y = ((g ⟨(y 1).val / 64, by have : (y 1).val < 128 := (y 1).isLt; omega⟩ (y 0).val ((y 1).val % 64) : ℝ) : EReal) := by
  refine (hf _ _ _ _).trans (congrArg (fun n : ℕ => ((g _ n _ : ℝ) : EReal)) ?_)
  exact Nat.div_add_mod (y 0).val 256

/-- An array of real rows, at entry `y` of the point's block. -/
theorem cell_at (t : Fin cfg0.N) (y : S2048x128.Idx) (q k v o : Stream) (f : Sweep.Rows → ℕ → ℕ → ℝ) :
    f (rows q k v o (t.val / 4) (2 * (t.val % 4) + (y 1).val / 64)) (y 0).val ((y 1).val % 64)
      = f (rowsAt q k v o (cell t (y 0) (y 1))) (((cell t (y 0) (y 1)) 0).val % 2048) (((cell t (y 0) (y 1)) 1).val % 64) := by
  have a0 : (y 0).val < 2048 := (y 0).isLt
  have a1 : (y 1).val < 128 := (y 1).isLt
  have h0 : ((cell t (y 0) (y 1)) 0).val = 2048 * (t.val / 4) + (y 0).val := rfl
  have h1 : ((cell t (y 0) (y 1)) 1).val = 128 * (t.val % 4) + (y 1).val := rfl
  unfold rowsAt
  rw [h0, h1, show (2048 * (t.val / 4) + (y 0).val) / 2048 = t.val / 4 by omega, show (2048 * (t.val / 4) + (y 0).val) % 2048 = (y 0).val by omega,
    show (128 * (t.val % 4) + (y 1).val) / 64 = 2 * (t.val % 4) + (y 1).val / 64 by omega,
    show (128 * (t.val % 4) + (y 1).val) % 64 = (y 1).val % 64 by omega]

theorem place5 (G : S4096x512.Idx → EReal) (t : Fin cfg0.N) (y : S2048x128.Idx) :
    G (cell t (y 0) (y 1)) = G (((View.whole main_v31_0).slice (win0_5.rect t)).emb y) := by
  unfold cell; blk_point [idx t]

theorem dq_final {c : Dev nD} (hr : Reals m c) : (dats m 0 c).arrAt 5 cfg0.N = dQ (aQ m c) (aK m c) (aV m c) (aO m c) := by
  refine (dats m 0 c).arrAt_eq_of_covers 5 _ (by decide +kernel) fun t _ y => ?_
  blk_simp; rw [after0_5]; simp only [outsAt0]; rw [dq_block]
  refine (lay_fits (fun h => (head_fits hr t h).dq) y).trans (Eq.trans (congrArg (fun r : ℝ => (r : EReal)) ?_) (place5 (dQ (aQ m c) (aK m c) (aV m c) (aO m c)) t y))
  exact cell_at t y _ _ _ _ fun R i e => ∑ s ∈ Finset.range 2048, R.D i s * R.K s e

theorem place6 (G : S4096x512.Idx → EReal) (t : Fin cfg0.N) (y : S2048x128.Idx) :
    G (cell t (y 0) (y 1)) = G (((View.whole main_v31_1).slice (win0_6.rect t)).emb y) := by
  unfold cell; blk_point [idx t]

theorem dk_final {c : Dev nD} (hr : Reals m c) : (dats m 0 c).arrAt 6 cfg0.N = dK (aQ m c) (aK m c) (aV m c) (aO m c) := by
  refine (dats m 0 c).arrAt_eq_of_covers 6 _ (by decide +kernel) fun t _ y => ?_
  blk_simp; rw [after0_6]; simp only [outsAt0]; rw [dk_block]
  refine (spread_fits (g := fun h i e => ∑ s ∈ Finset.range 2048, (rowsOf m c t h).D s i * (rowsOf m c t h).Q s e) (fun h d => (head_fits hr t h).dk d) y).trans (Eq.trans (congrArg (fun r : ℝ => (r : EReal)) ?_) (place6 (dK (aQ m c) (aK m c) (aV m c) (aO m c)) t y))
  exact cell_at t y _ _ _ _ fun R i e => ∑ s ∈ Finset.range 2048, R.D s i * R.Q s e

theorem place7 (G : S4096x512.Idx → EReal) (t : Fin cfg0.N) (y : S2048x128.Idx) :
    G (cell t (y 0) (y 1)) = G (((View.whole main_v31_2).slice (win0_7.rect t)).emb y) := by
  unfold cell; blk_point [idx t]

theorem dv_final {c : Dev nD} (hr : Reals m c) : (dats m 0 c).arrAt 7 cfg0.N = dV (aQ m c) (aK m c) (aV m c) (aO m c) := by
  refine (dats m 0 c).arrAt_eq_of_covers 7 _ (by decide +kernel) fun t _ y => ?_
  blk_simp; rw [after0_7]; simp only [outsAt0]; rw [dv_block]
  refine (spread_fits (g := fun h i e => ∑ s ∈ Finset.range 2048, (rowsOf m c t h).w s i * (rowsOf m c t h).O s e) (fun h d => (head_fits hr t h).dv d) y).trans (Eq.trans (congrArg (fun r : ℝ => (r : EReal)) ?_) (place7 (dV (aQ m c) (aK m c) (aV m c) (aO m c)) t y))
  exact cell_at t y _ _ _ _ fun R i e => ∑ s ∈ Finset.range 2048, R.w s i * R.O s e

end Cert.Kernel2Ideal.Value
end
-- ==== Proof.Grad.lean ====
/- The attention's gradient as the reference computes it, stage by stage. -/
module

public import proofs.«01_k».proof.Proof.Gen.Reference2Ideal.Run
public import Idealize.ShloMosaic.Lib.Pointwise

@[expose] public section

set_option maxRecDepth 16384

noncomputable section

namespace Cert.Reference2Ideal.Out

open Cert.Reference2Ideal Cert.Reference2Ideal.Gen Idealize.ShloMosaic Idealize.ShloMosaic.TcCoe Idealize.SL.Sem Idealize.ShloMosaic.StableHlo

variable (m : (ℓ : Loc nD τ sig) → Buf (Elt Ideal) ℓ)

abbrev r_arg0 (c : Dev nD) : FVec Ideal S2x2048x512 .f32 := m ((c.tc : Thread nD τ).loc main_arg0)
abbrev r_arg1 (c : Dev nD) : FVec Ideal S2x2048x512 .f32 := m ((c.tc : Thread nD τ).loc main_arg1)
abbrev r_arg2 (c : Dev nD) : FVec Ideal S2x2048x512 .f32 := m ((c.tc : Thread nD τ).loc main_arg2)
abbrev r_arg3 (c : Dev nD) : FVec Ideal S2x2048x512 .f32 := m ((c.tc : Thread nD τ).loc main_arg3)
def rz (c : Dev nD) : FVec Ideal S2x8x2048x2048 .f32 :=
  mulf (Host.dotGeneral dot_S2x8x2048x64_S2x8x2048x64_S2x8x2048x2048_3_3_2_2_01_01 none (transpose S2x8x2048x64 [0, 2, 1, 3] (shapeCast _ (r_arg0 m c) shapeCasts_S2x2048x512_S2x2048x8x64) transposes_S2x2048x8x64_S2x8x2048x64_0_2_1_3) (transpose S2x8x2048x64 [0, 2, 1, 3] (shapeCast _ (r_arg1 m c) shapeCasts_S2x2048x512_S2x2048x8x64) transposes_S2x2048x8x64_S2x8x2048x64_0_2_1_3)) (broadcastInDim S2x8x2048x2048 ![] bcast_S_S2x8x2048x2048 ((constant S_ .f32 0x3E000000#32)))
def rs (c : Dev nD) : FVec Ideal S2x8x2048x2048 .f32 :=
  select ((cmpf .une) (subf (rz m c) ((broadcastInDim S2x8x2048x2048 ![] bcast_S_S2x8x2048x2048) ((constant S_ .f32 0x00000000#32)))) (subf (rz m c) ((broadcastInDim S2x8x2048x2048 ![] bcast_S_S2x8x2048x2048) ((constant S_ .f32 0x00000000#32))))) (addf (rz m c) ((broadcastInDim S2x8x2048x2048 ![] bcast_S_S2x8x2048x2048) ((constant S_ .f32 0x00000000#32)))) (addf (maximumf (rz m c) ((broadcastInDim S2x8x2048x2048 ![] bcast_S_S2x8x2048x2048) ((constant S_ .f32 0x00000000#32)))) (Host.log1p (Host.exp (Host.negf (Host.absf (subf (rz m c) ((broadcastInDim S2x8x2048x2048 ![] bcast_S_S2x8x2048x2048) ((constant S_ .f32 0x00000000#32)))))))))
def rsg (c : Dev nD) : FVec Ideal S2x8x2048x2048 .f32 :=
  Host.exp (subf (select ((cmpf .oeq) (rz m c) ((broadcastInDim S2x8x2048x2048 ![] bcast_S_S2x8x2048x2048) ((constant S_ .f32 0x7F800000#32)))) ((broadcastInDim S2x8x2048x2048 ![] bcast_S_S2x8x2048x2048) ((constant S_ .f32 0x00000000#32))) (rz m c)) (select ((cmpf .oeq) (rs m c) ((broadcastInDim S2x8x2048x2048 ![] bcast_S_S2x8x2048x2048) ((constant S_ .f32 0x7F800000#32)))) ((broadcastInDim S2x8x2048x2048 ![] bcast_S_S2x8x2048x2048) ((constant S_ .f32 0x00000000#32))) (rs m c)))
def rmask (_ : Dev nD) : IVec S2x8x2048x2048 1 :=
  (broadcastInDim S2x8x2048x2048 ![2, 3] bcast_S2048x2048_S2x8x2048x2048_2_3) (cmpi .slt (broadcastInDim S2048x2048 ![0, 1] bcast_S1x2048_S2048x2048_0_1 (broadcastInDim S1x2048 ![1] bcast_S2048_S1x2048_1 ((iotaInDim S2048 32 0)))) (broadcastInDim S2048x2048 ![0, 1] bcast_S2048x1_S2048x2048_0_1 (broadcastInDim S2048x1 ![0] bcast_S2048_S2048x1_0 ((iotaInDim S2048 32 0)))))
def rlm (c : Dev nD) : FVec Ideal S2x8x2048x2048 .f32 :=
  select (rmask c) (Host.negf (rs m c)) ((broadcastInDim S2x8x2048x2048 ![] bcast_S_S2x8x2048x2048) (id ((constant S_ .f32 0x00000000#32))))
def rcu (c : Dev nD) : FVec Ideal S2x8x2048x2048 .f32 :=
  Host.reduceWindowAdd ![1, 1, 1, 2048] ![1, 1, 1, 1] ![0, 0, 0, 0] ![0, 0, 0, 2047] (rlm m c) ((broadcastInDim S_ ![] bcast_S_S_) ((constant S_ .f32 0x00000000#32))) reduceWindows_S2x8x2048x2048_S2x8x2048x2048_w1s1p0_0_w1s1p0_0_w1s1p0_0_w2048s1p0_2047 h_S_
def rns (c : Dev nD) : FVec Ideal S2x8x2048x2048 .f32 :=
  select ((cmpf .une) (subf (Host.negf (rz m c)) ((broadcastInDim S2x8x2048x2048 ![] bcast_S_S2x8x2048x2048) ((constant S_ .f32 0x00000000#32)))) (subf (Host.negf (rz m c)) ((broadcastInDim S2x8x2048x2048 ![] bcast_S_S2x8x2048x2048) ((constant S_ .f32 0x00000000#32))))) (addf (Host.negf (rz m c)) ((broadcastInDim S2x8x2048x2048 ![] bcast_S_S2x8x2048x2048) ((constant S_ .f32 0x00000000#32)))) (addf (maximumf (Host.negf (rz m c)) ((broadcastInDim S2x8x2048x2048 ![] bcast_S_S2x8x2048x2048) ((constant S_ .f32 0x00000000#32)))) (Host.log1p (Host.exp (Host.negf (Host.absf (subf (Host.negf (rz m c)) ((broadcastInDim S2x8x2048x2048 ![] bcast_S_S2x8x2048x2048) ((constant S_ .f32 0x00000000#32)))))))))
def rob (c : Dev nD) : FVec Ideal S2x8x2048x2048 .f32 :=
  Host.exp (subf (select ((cmpf .oeq) (Host.negf (rz m c)) ((broadcastInDim S2x8x2048x2048 ![] bcast_S_S2x8x2048x2048) ((constant S_ .f32 0x7F800000#32)))) ((broadcastInDim S2x8x2048x2048 ![] bcast_S_S2x8x2048x2048) ((constant S_ .f32 0x00000000#32))) (Host.negf (rz m c))) (select ((cmpf .oeq) (rns m c) ((broadcastInDim S2x8x2048x2048 ![] bcast_S_S2x8x2048x2048) ((constant S_ .f32 0x7F800000#32)))) ((broadcastInDim S2x8x2048x2048 ![] bcast_S_S2x8x2048x2048) ((constant S_ .f32 0x00000000#32))) (rns m c)))
def rea (c : Dev nD) : FVec Ideal S2x8x2048x2048 .f32 :=
  Host.exp (addf (Host.negf (rns m c)) (subf (rcu m c) (rlm m c)))
def ra (c : Dev nD) : FVec Ideal S2x8x2048x2048 .f32 :=
  select (rmask c) (rea m c) ((broadcastInDim S2x8x2048x2048 ![] bcast_S_S2x8x2048x2048) (id ((constant S_ .f32 0x00000000#32))))
def rg (c : Dev nD) : FVec Ideal S2x8x2048x2048 .f32 :=
  mulf (select (rmask c) (Host.dotGeneral dot_S2x8x2048x64_S2x8x2048x64_S2x8x2048x2048_3_3_2_2_01_01 none (transpose S2x8x2048x64 [0, 2, 1, 3] (shapeCast _ (r_arg3 m c) shapeCasts_S2x2048x512_S2x2048x8x64) transposes_S2x2048x8x64_S2x8x2048x64_0_2_1_3) (transpose S2x8x2048x64 [0, 2, 1, 3] (shapeCast _ (r_arg2 m c) shapeCasts_S2x2048x512_S2x2048x8x64) transposes_S2x2048x8x64_S2x8x2048x64_0_2_1_3)) ((broadcastInDim S2x8x2048x2048 ![] bcast_S_S2x8x2048x2048) ((constant S_ .f32 0x00000000#32)))) (rea m c)
def rcg (c : Dev nD) : FVec Ideal S2x8x2048x2048 .f32 :=
  Host.reduceWindowAdd ![1, 1, 1, 2048] ![1, 1, 1, 1] ![0, 0, 0, 2047] ![0, 0, 0, 0] (rg m c) ((broadcastInDim S_ ![] bcast_S_S_) ((constant S_ .f32 0x00000000#32))) reduceWindows_S2x8x2048x2048_S2x8x2048x2048_w1s1p0_0_w1s1p0_0_w1s1p0_0_w2048s1p2047_0 h_S_
def rdz (c : Dev nD) : FVec Ideal S2x8x2048x2048 .f32 :=
  mulf (addf (Host.negf (mulf (Host.negf (rg m c)) (rob m c))) (mulf (Host.negf (select (rmask c) (addf (Host.negf (rg m c)) (rcg m c)) ((broadcastInDim S2x8x2048x2048 ![] bcast_S_S2x8x2048x2048) ((constant S_ .f32 0x00000000#32))))) (rsg m c))) (broadcastInDim S2x8x2048x2048 ![] bcast_S_S2x8x2048x2048 ((constant S_ .f32 0x3E000000#32)))
def rdq (c : Dev nD) : FVec Ideal S4096x512 .f32 :=
  shapeCast _ (Host.divf (shapeCast _ (transpose S2x2048x8x64 [0, 2, 1, 3] (Host.dotGeneral dot_S2x8x2048x2048_S2x8x2048x64_S2x8x2048x64_3_2_2_3_01_01 none (rdz m c) (transpose S2x8x2048x64 [0, 2, 1, 3] (shapeCast _ (r_arg1 m c) shapeCasts_S2x2048x512_S2x2048x8x64) transposes_S2x2048x8x64_S2x8x2048x64_0_2_1_3)) transposes_S2x8x2048x64_S2x2048x8x64_0_2_1_3) shapeCasts_S2x2048x8x64_S2x2048x512) (broadcastInDim S2x2048x512 ![] bcast_S_S2x2048x512 ((constant S_ .f32 0x3E000000#32)))) shapeCasts_S2x2048x512_S4096x512
def rdk (c : Dev nD) : FVec Ideal S4096x512 .f32 :=
  shapeCast _ (shapeCast _ (transpose S2x2048x8x64 [0, 2, 1, 3] (Host.dotGeneral dot_S2x8x2048x2048_S2x8x2048x64_S2x8x2048x64_2_2_3_3_01_01 none (rdz m c) (transpose S2x8x2048x64 [0, 2, 1, 3] (shapeCast _ (r_arg0 m c) shapeCasts_S2x2048x512_S2x2048x8x64) transposes_S2x2048x8x64_S2x8x2048x64_0_2_1_3)) transposes_S2x8x2048x64_S2x2048x8x64_0_2_1_3) shapeCasts_S2x2048x8x64_S2x2048x512) shapeCasts_S2x2048x512_S4096x512
def rdv (c : Dev nD) : FVec Ideal S4096x512 .f32 :=
  shapeCast _ (shapeCast _ (transpose S2x2048x8x64 [0, 2, 1, 3] (transpose S2x8x2048x64 [0, 1, 3, 2] (Host.dotGeneral dot_S2x8x2048x64_S2x8x2048x2048_S2x8x64x2048_2_2_3_3_01_01 none (transpose S2x8x2048x64 [0, 2, 1, 3] (shapeCast _ (r_arg3 m c) shapeCasts_S2x2048x512_S2x2048x8x64) transposes_S2x2048x8x64_S2x8x2048x64_0_2_1_3) (ra m c)) transposes_S2x8x64x2048_S2x8x2048x64_0_1_3_2) transposes_S2x8x2048x64_S2x2048x8x64_0_2_1_3) shapeCasts_S2x2048x8x64_S2x2048x512) shapeCasts_S2x2048x512_S4096x512

set_option maxHeartbeats 4000000 in
theorem rdq_eq (c : Dev nD) : Value.res_main_v55 m c = rdq m c := by
  delta Value.res_main_v55
  delta rdq
  delta rdz
  delta rcg
  delta rg
  delta rea
  delta rob
  delta rns
  delta rcu
  delta rlm
  delta rmask
  delta rsg
  delta rs
  delta rz
  rfl
set_option maxHeartbeats 4000000 in
theorem rdk_eq (c : Dev nD) : Value.res_main_v56 m c = rdk m c := by
  delta Value.res_main_v56
  delta rdk
  delta rdz
  delta rcg
  delta rg
  delta rea
  delta rob
  delta rns
  delta rcu
  delta rlm
  delta rmask
  delta rsg
  delta rs
  delta rz
  rfl
set_option maxHeartbeats 4000000 in
theorem rdv_eq (c : Dev nD) : Value.res_main_v57 m c = rdv m c := by
  delta Value.res_main_v57
  delta rdv
  delta ra
  delta rea
  delta rns
  delta rcu
  delta rlm
  delta rmask
  delta rs
  delta rz
  rfl

end Cert.Reference2Ideal.Out

end
-- ==== Proof.Running.lean ====
/- Running sums along the last of four axes, as a window that is padded on one side writes them. -/
module

public import proofs.«01_k».proof.Proof.Heads

@[expose] public section

noncomputable section

namespace Cert.Attn

open Idealize.ShloMosaic Finset
open scoped BigOperators

/-- The scores' shape. -/
abbrev Sq : Shape := ⟨4, ![2, 8, 2048, 2048]⟩
/-- A window along the last axis. -/
abbrev Wd : Shape := ⟨4, ![1, 1, 1, 2048]⟩

theorem numel_wd : Wd.numel = 2048 := by decide +kernel

theorem fold_sum {N : ℕ} (f : Fin N → EReal) (a : EReal) : (List.finRange N).foldl (fun r n => r + f n) a = a + ∑ n, f n := by
  rw [Fin.sum_univ_def]
  generalize List.finRange N = l
  induction l generalizing a with
  | nil => simp
  | cons n l ih => rw [List.foldl_cons, ih, List.map_cons, List.sum_cons, add_assoc]

theorem window_fold {s t u : Shape} (window strides lo hi : Fin s.rank → ℕ) (x : FVec Ideal s .f32) (init : FVec Ideal u .f32)
    (h : s.ReduceWindows window strides lo hi t) (hu : 0 < u.numel) (j : t.Idx) :
    Host.reduceWindowAdd window strides lo hi x init h hu j = (List.finRange (⟨s.rank, window⟩ : Shape).numel).foldl (fun r n => r +
      (fun i : (⟨s.rank, window⟩ : Shape).Idx => if hin : ∀ a, lo a ≤ (j (a.cast h.1.symm)).val * strides a + (i a).val ∧
        (j (a.cast h.1.symm)).val * strides a + (i a).val - lo a < s.size a then x (fun a => ⟨_, (hin a).2⟩) else init (Shape.Idx.first hu))
      ((⟨s.rank, window⟩ : Shape).rowMajor.symm n)) (init (Shape.Idx.first hu)) := by
  show Host.reduceWindow (· + ·) window strides lo hi x (fun _ : (⟨0, ![]⟩ : Shape).Idx => init (Shape.Idx.first hu)) h (by decide) j = _
  unfold Host.reduceWindow
  refine congrArg (fun f => List.foldl f _ _) (funext fun r => funext fun n => congrArg (r + ·) ?_)
  dsimp only
  split
  · rfl
  · rfl

/-- A sum over the window's positions is one over its last coordinate. -/
theorem sum_wd (f : Wd.Idx → EReal) : ∑ n : Fin Wd.numel, f (Wd.rowMajor.symm n) = ∑ w : Fin 2048, f (ix4 0 0 0 w) := by
  rw [Equiv.sum_comp Wd.rowMajor.symm f]
  refine (Fintype.sum_bijective (fun w : Fin 2048 => (ix4 0 0 0 w : Wd.Idx)) ⟨fun w w' e => ?_, fun i => ⟨i 3, ?_⟩⟩ _ _ fun _ => rfl).symm
  · exact congrFun e 3
  · funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl

/-- One position of a window padded by `lo` below: the element there, or nothing. -/
theorem window_at (x : FVec Ideal Sq .f32) (init : FVec Ideal ⟨0, ![]⟩ .f32) (lo hi : Fin 4 → ℕ) (h) (hu)
    (hi0 : init (Shape.Idx.first hu) = 0) (f : ℕ → ℝ) (b : Fin 2) (g : Fin 8) (t s : Fin 2048) (hx : ∀ i : Fin 2048, x (ix4 b g t i) = ((f i : ℝ) : EReal))
    (h0 : lo 0 = 0) (h1 : lo 1 = 0) (h2 : lo 2 = 0) :
    Host.reduceWindowAdd (F := Ideal) (s := Sq) (t := Sq) (u := ⟨0, ![]⟩) (φ := .f32) ![1, 1, 1, 2048] ![1, 1, 1, 1] lo hi x init h hu (ix4 b g t s)
      = ((∑ w : Fin 2048, if lo 3 ≤ s.val + w.val ∧ s.val + w.val - lo 3 < 2048 then f (s.val + w.val - lo 3) else 0 : ℝ) : EReal) := by
  refine (window_fold _ _ _ _ _ _ _ _ _).trans ((fold_sum _ _).trans ?_)
  rw [hi0, zero_add]
  refine (sum_wd (fun i => if hin : ∀ a : Fin 4, lo a ≤ (ix4 b g t s a).val * (![1, 1, 1, 1] : Fin 4 → ℕ) a + (i a).val ∧
    (ix4 b g t s a).val * (![1, 1, 1, 1] : Fin 4 → ℕ) a + (i a).val - lo a < Sq.size a then x (fun a => ⟨_, (hin a).2⟩) else 0)).trans ?_
  rw [← Tile.coe_sum]
  refine sum_congr rfl fun w _ => ?_
  dsimp only
  by_cases hw : lo 3 ≤ s.val + w.val ∧ s.val + w.val - lo 3 < 2048
  · rw [if_pos hw, dif_pos fun a => ?_]
    · rw [← hx ⟨_, hw.2⟩]
      refine congrArg x (funext fun a => Fin.ext ?_)
      match a with
      | ⟨0, _⟩ => show b.val * 1 + 0 - lo 0 = b.val; omega
      | ⟨1, _⟩ => show g.val * 1 + 0 - lo 1 = g.val; omega
      | ⟨2, _⟩ => show t.val * 1 + 0 - lo 2 = t.val; omega
      | ⟨3, _⟩ => show s.val * 1 + w.val - lo 3 = s.val + w.val - lo 3; omega
    · match a with
      | ⟨0, _⟩ => show lo 0 ≤ b.val * 1 + 0 ∧ b.val * 1 + 0 - lo 0 < 2; omega
      | ⟨1, _⟩ => show lo 1 ≤ g.val * 1 + 0 ∧ g.val * 1 + 0 - lo 1 < 8; omega
      | ⟨2, _⟩ => show lo 2 ≤ t.val * 1 + 0 ∧ t.val * 1 + 0 - lo 2 < 2048; omega
      | ⟨3, _⟩ => show lo 3 ≤ s.val * 1 + w.val ∧ s.val * 1 + w.val - lo 3 < 2048; omega
  · rw [if_neg hw, dif_neg fun hin => hw ?_]
    · rfl
    · have := hin 3
      change lo 3 ≤ s.val * 1 + w.val ∧ s.val * 1 + w.val - lo 3 < 2048 at this
      omega

/-- The sums from each position on. -/
theorem sum_right (f : ℕ → ℝ) (s : Fin 2048) :
    (∑ w : Fin 2048, if 0 ≤ s.val + w.val ∧ s.val + w.val - 0 < 2048 then f (s.val + w.val - 0) else 0) = ∑ i ∈ Ico s.val 2048, f i := by
  rw [Fin.sum_univ_eq_sum_range (fun w => if 0 ≤ s.val + w ∧ s.val + w - 0 < 2048 then f (s.val + w - 0) else 0), ← sum_filter,
    sum_Ico_eq_sum_range]
  refine sum_congr (Finset.ext fun w => ?_) fun w _ => rfl
  rw [mem_filter, mem_range, mem_range]; omega

/-- The sums up to each position. -/
theorem sum_left (f : ℕ → ℝ) (s : Fin 2048) :
    (∑ w : Fin 2048, if 2047 ≤ s.val + w.val ∧ s.val + w.val - 2047 < 2048 then f (s.val + w.val - 2047) else 0) = ∑ i ∈ range (s.val + 1), f i := by
  rw [Fin.sum_univ_eq_sum_range (fun w => if 2047 ≤ s.val + w ∧ s.val + w - 2047 < 2048 then f (s.val + w - 2047) else 0), ← sum_filter]
  refine sum_bij' (fun w _ => s.val + w - 2047) (fun i _ => 2047 + i - s.val) ?_ ?_ ?_ ?_ fun _ _ => rfl
  · intro w hw; rw [mem_filter, mem_range] at hw; rw [mem_range]; omega
  · intro i hi; rw [mem_range] at hi; rw [mem_filter, mem_range]; omega
  · intro w hw; rw [mem_filter, mem_range] at hw; omega
  · intro i hi; rw [mem_range] at hi; omega

end Cert.Attn

end
-- ==== Proof.GradReads.lean ====
/- The reference's gradient of the attention, read as the sums over real numbers that the backward sweep computes. -/
module

public import proofs.«01_k».proof.Proof.Arrays
public import proofs.«01_k».proof.Proof.Grad
public import proofs.«01_k».proof.Proof.Running

@[expose] public section

set_option maxRecDepth 16384

noncomputable section

namespace Cert.Attn

open Idealize.ShloMosaic Finset
open Cert.Kernel2Ideal.Value (zK zero4 softK before4 softK_at before4_at zK_at)
open Cert.Tile (coe_sum)
open scoped BigOperators

/-! ## Two identities of the softplus -/

theorem sp_neg (z : ℝ) : Sweep.sp (-z) = Sweep.sp z - z := by
  have h : 1 + Real.exp z = Real.exp z * (1 + Real.exp (-z)) := by
    rw [mul_add, ← Real.exp_add]; simp [add_comm]
  unfold Sweep.sp
  rw [h, Real.log_mul (Real.exp_pos z).ne' (Sweep.sp_pos _).ne', Real.log_exp]; ring

theorem sigmoids (z : ℝ) : Real.exp (-z - Sweep.sp (-z)) + Real.exp (z - Sweep.sp z) = 1 := by
  rw [sp_neg, show -z - (Sweep.sp z - z) = -Sweep.sp z by ring, sub_eq_add_neg, Real.exp_add, Real.exp_neg,
    show Real.exp (Sweep.sp z) = 1 + Real.exp z from Real.exp_log (Sweep.sp_pos z)]
  have := (Sweep.sp_pos z).ne'
  field_simp

/-! ## Arrays of the scores' shape that hold real numbers -/

/-- The array holds `f` of the rows of every head. -/
def Shows (q k v o : Stream) (x : FVec Ideal Sq .f32) (f : Sweep.Rows → ℕ → ℕ → ℝ) : Prop :=
  ∀ (b : Fin 2) (h : Fin 8) (t s : Fin 2048), x (ix4 b h t s) = ((f (rows q k v o b h) t s : ℝ) : EReal)

/-- Infinity everywhere. -/
def inf4 : FVec Ideal Sq .f32 := broadcastInDim Sq ![] Kernel2Ideal.Gen.bcast_S_S2x8x2048x2048 (constant ⟨0, ![]⟩ .f32 0x7F800000#32)
/-- One eighth everywhere. -/
def eighth4 : FVec Ideal Sq .f32 := broadcastInDim Sq ![] Kernel2Ideal.Gen.bcast_S_S2x8x2048x2048 (constant ⟨0, ![]⟩ .f32 0x3E000000#32)
/-- The products of two streams' rows, head by head. -/
def dotK (a b : Stream) : FVec Ideal Sq .f32 :=
  Host.dotGeneral Kernel2Ideal.dot_S2x8x2048x64_S2x8x2048x64_S2x8x2048x2048_3_3_2_2_01_01 none
      (transpose ⟨4, ![2, 8, 2048, 64]⟩ [0, 2, 1, 3] (shapeCast ⟨4, ![2, 2048, 8, 64]⟩ a Kernel2Ideal.Gen.shapeCasts_S2x2048x512_S2x2048x8x64) Kernel2Ideal.Gen.transposes_S2x2048x8x64_S2x8x2048x64_0_2_1_3)
      (transpose ⟨4, ![2, 8, 2048, 64]⟩ [0, 2, 1, 3] (shapeCast ⟨4, ![2, 2048, 8, 64]⟩ b Kernel2Ideal.Gen.shapeCasts_S2x2048x512_S2x2048x8x64) Kernel2Ideal.Gen.transposes_S2x2048x8x64_S2x8x2048x64_0_2_1_3)

theorem zero4_at (j : Sq.Idx) : zero4 j = ((0 : ℝ) : EReal) := by
  show Ideal.ofBits .f32 0x00000000#32 = _
  rw [Ideal.ofBits_zero_f32]; rfl
theorem inf4_at (j : Sq.Idx) : inf4 j = ⊤ := by
  show Ideal.ofBits .f32 0x7F800000#32 = _
  simp [Ideal.ofBits, Ideal.ieee]

namespace Shows
variable {q k v o : Stream} {x y : FVec Ideal Sq .f32} {f g : Sweep.Rows → ℕ → ℕ → ℝ}

theorem of_eq (hx : Shows q k v o x f) (h : ∀ (R : Sweep.Rows) (t s : ℕ), f R t s = g R t s) : Shows q k v o x g :=
  fun b g' t s => (hx b g' t s).trans (by rw [h])
theorem neg (hx : Shows q k v o x f) : Shows q k v o (Host.negf x) fun R t s => -f R t s :=
  fun b h t s => (congrArg (fun a : EReal => -a) (hx b h t s)).trans (EReal.coe_neg _).symm
theorem add (hx : Shows q k v o x f) (hy : Shows q k v o y g) : Shows q k v o (addf x y) fun R t s => f R t s + g R t s :=
  fun b h t s => (congrArg₂ (fun a b : EReal => a + b) (hx b h t s) (hy b h t s)).trans (EReal.coe_add _ _).symm
theorem sub (hx : Shows q k v o x f) (hy : Shows q k v o y g) : Shows q k v o (subf x y) fun R t s => f R t s - g R t s :=
  fun b h t s => (congrArg₂ (fun a b : EReal => a - b) (hx b h t s) (hy b h t s)).trans (EReal.coe_sub _ _).symm
theorem mul (hx : Shows q k v o x f) (hy : Shows q k v o y g) : Shows q k v o (mulf x y) fun R t s => f R t s * g R t s :=
  fun b h t s => (congrArg₂ (fun a b : EReal => a * b) (hx b h t s) (hy b h t s)).trans (EReal.coe_mul _ _).symm
theorem exp (hx : Shows q k v o x f) : Shows q k v o (Host.exp x) fun R t s => Real.exp (f R t s) :=
  fun b h t s => (congrArg Ideal.exp (hx b h t s)).trans (Ideal.exp_coe _)
theorem soft (hx : Shows q k v o x f) : Shows q k v o (softK x) fun R t s => Sweep.sp (f R t s) :=
  fun b h t s => softK_at x _ _ (hx b h t s)
theorem eighth (hx : Shows q k v o x f) : Shows q k v o (mulf x eighth4) fun R t s => f R t s * (1 / 8) :=
  fun b h t s => (congrArg₂ (fun a b : EReal => a * b) (hx b h t s) Attn.eighth).trans (EReal.coe_mul _ _).symm
/-- A number is not infinite, and is what is picked. -/
theorem finite (hx : Shows q k v o x f) : Shows q k v o (select (cmpf .oeq x inf4) zero4 x) f := fun b h t s => by
  have : (cmpf .oeq x inf4) (ix4 b h t s) ≠ 1#1 := by
    show Ideal.cmp .oeq (x (ix4 b h t s)) (inf4 (ix4 b h t s)) ≠ 1#1
    rw [inf4_at, hx b h t s]
    simp [Ideal.cmp]
  exact (if_neg this).trans (hx b h t s)
/-- Only the keys before the query. -/
theorem masked (hx : Shows q k v o x f) : Shows q k v o (select before4 x zero4) fun R t s => if s < t then f R t s else 0 := fun b h t s => by
  show (if before4 _ = 1#1 then x _ else zero4 _) = _
  rw [before4_at, hx b h t s, zero4_at]
  by_cases e : (s : ℕ) < t <;> simp [e]

theorem dot {a c : Stream} (ha : Real' a) (hc : Real' c) (f : Sweep.Rows → ℕ → ℕ → ℝ)
    (h : ∀ (b h : ℕ) (t s : ℕ), f (rows q k v o b h) t s = ∑ e : Fin 64, feat a b h t e * feat c b h s e) : Shows q k v o (dotK a c) f := fun b h' t s => by
  pointwise [dotK]
  have e (x : Fin 64) : a (ix3 b t ⟨(h' : ℕ) * 64 + x, by omega⟩) * c (ix3 b s ⟨(h' : ℕ) * 64 + x, by omega⟩)
      = ((feat a b h' t x * feat c b h' s x : ℝ) : EReal) := by
    rw [feat_eq ha b t _ rfl rfl (show 64 * (h' : ℕ) + x = _ by dsimp only; omega),
      feat_eq hc b s _ rfl rfl (show 64 * (h' : ℕ) + x = _ by dsimp only; omega), ← EReal.coe_mul]
  rw [Finset.sum_congr rfl fun x _ => e x, coe_sum, h]

/-- The sums over the keys from each on. -/
theorem sums_from (hx : Shows q k v o x f) (init : FVec Ideal ⟨0, ![]⟩ .f32) (hi : init (Shape.Idx.first (by decide)) = 0) (h) (hu) :
    Shows q k v o (Host.reduceWindowAdd (F := Ideal) (s := Sq) (t := Sq) (u := ⟨0, ![]⟩) (φ := .f32) ![1, 1, 1, 2048] ![1, 1, 1, 1] ![0, 0, 0, 0] ![0, 0, 0, 2047] x init h hu)
      fun R t s => ∑ i ∈ Ico s 2048, f R t i := fun b g t s =>
  (window_at x init ![0, 0, 0, 0] ![0, 0, 0, 2047] h hu hi _ b g t s (fun i => hx b g t i) rfl rfl rfl).trans
    (congrArg (fun r : ℝ => (r : EReal)) (sum_right _ s))
/-- The sums over the keys up to each. -/
theorem sums_to (hx : Shows q k v o x f) (init : FVec Ideal ⟨0, ![]⟩ .f32) (hi : init (Shape.Idx.first (by decide)) = 0) (h) (hu) :
    Shows q k v o (Host.reduceWindowAdd (F := Ideal) (s := Sq) (t := Sq) (u := ⟨0, ![]⟩) (φ := .f32) ![1, 1, 1, 2048] ![1, 1, 1, 1] ![0, 0, 0, 2047] ![0, 0, 0, 0] x init h hu)
      fun R t s => ∑ i ∈ range (s + 1), f R t i := fun b g t s =>
  (window_at x init ![0, 0, 0, 2047] ![0, 0, 0, 0] h hu hi _ b g t s (fun i => hx b g t i) rfl rfl rfl).trans
    (congrArg (fun r : ℝ => (r : EReal)) (sum_left _ s))

end Shows

end Cert.Attn

namespace Cert.Reference2Ideal.Out

open Cert.Reference2Ideal Cert.Reference2Ideal.Gen Idealize.ShloMosaic Idealize.ShloMosaic.TcCoe Idealize.SL.Sem Cert.Attn
open Cert.Kernel2Ideal.Value (zK zero4 softK before4 softK_at before4_at zK_at)
open Cert.Tile (coe_sum)
open scoped BigOperators

variable (m : (ℓ : Loc nD τ sig) → Buf (Elt Ideal) ℓ)

/-- The queries' gradient from the scores'. -/
def outQ (x : FVec Ideal Sq .f32) (k : Stream) : FVec Ideal S4096x512 .f32 :=
  shapeCast _ (Host.divf (shapeCast _ (transpose S2x2048x8x64 [0, 2, 1, 3] (Host.dotGeneral dot_S2x8x2048x2048_S2x8x2048x64_S2x8x2048x64_3_2_2_3_01_01 none x (transpose S2x8x2048x64 [0, 2, 1, 3] (shapeCast _ k shapeCasts_S2x2048x512_S2x2048x8x64) transposes_S2x2048x8x64_S2x8x2048x64_0_2_1_3)) transposes_S2x8x2048x64_S2x2048x8x64_0_2_1_3) shapeCasts_S2x2048x8x64_S2x2048x512) (broadcastInDim S2x2048x512 ![] bcast_S_S2x2048x512 ((constant S_ .f32 0x3E000000#32)))) shapeCasts_S2x2048x512_S4096x512
/-- The keys' gradient from the scores'. -/
def outK (x : FVec Ideal Sq .f32) (q : Stream) : FVec Ideal S4096x512 .f32 :=
  shapeCast _ (shapeCast _ (transpose S2x2048x8x64 [0, 2, 1, 3] (Host.dotGeneral dot_S2x8x2048x2048_S2x8x2048x64_S2x8x2048x64_2_2_3_3_01_01 none x (transpose S2x8x2048x64 [0, 2, 1, 3] (shapeCast _ q shapeCasts_S2x2048x512_S2x2048x8x64) transposes_S2x2048x8x64_S2x8x2048x64_0_2_1_3)) transposes_S2x8x2048x64_S2x2048x8x64_0_2_1_3) shapeCasts_S2x2048x8x64_S2x2048x512) shapeCasts_S2x2048x512_S4096x512
/-- The values' gradient from the weights. -/
def outV (x : FVec Ideal Sq .f32) (o : Stream) : FVec Ideal S4096x512 .f32 :=
  shapeCast _ (shapeCast _ (transpose S2x2048x8x64 [0, 2, 1, 3] (transpose S2x8x2048x64 [0, 1, 3, 2] (Host.dotGeneral dot_S2x8x2048x64_S2x8x2048x2048_S2x8x64x2048_2_2_3_3_01_01 none (transpose S2x8x2048x64 [0, 2, 1, 3] (shapeCast _ o shapeCasts_S2x2048x512_S2x2048x8x64) transposes_S2x2048x8x64_S2x8x2048x64_0_2_1_3) x) transposes_S2x8x64x2048_S2x8x2048x64_0_1_3_2) transposes_S2x8x2048x64_S2x2048x8x64_0_2_1_3) shapeCasts_S2x2048x8x64_S2x2048x512) shapeCasts_S2x2048x512_S4096x512

/-- Every argument's elements are real numbers. -/
structure Reals (c : Dev nD) : Prop where
  q : Real' (r_arg0 m c)
  k : Real' (r_arg1 m c)
  v : Real' (r_arg2 m c)
  o : Real' (r_arg3 m c)

/-- The array holds `f` of the rows of the arguments' heads. -/
abbrev Holds (c : Dev nD) (x : FVec Ideal Sq .f32) (f : Sweep.Rows → ℕ → ℕ → ℝ) : Prop :=
  Shows (r_arg0 m c) (r_arg1 m c) (r_arg2 m c) (r_arg3 m c) x f

theorem init_zero : ((broadcastInDim S_ ![] bcast_S_S_) (constant S_ .f32 0x00000000#32) : FVec Ideal S_ .f32) (Shape.Idx.first (by decide)) = 0 := by
  show Ideal.ofBits .f32 0x00000000#32 = _
  exact Ideal.ofBits_zero_f32

variable {m} {c : Dev nD} (hr : Reals m c)

include hr

theorem rz_at : Holds m c (rz m c) fun R t s => R.z t s := fun b h t s => zK_at hr.q hr.k b h t s
theorem rs_at : Holds m c (rs m c) fun R t s => Sweep.sp (R.z t s) := (rz_at hr).soft
theorem rns_at : Holds m c (rns m c) fun R t s => Sweep.sp (-R.z t s) := (rz_at hr).neg.soft
theorem rsg_at : Holds m c (rsg m c) fun R t s => Real.exp (R.z t s - Sweep.sp (R.z t s)) := ((rz_at hr).finite.sub (rs_at hr).finite).exp
theorem rob_at : Holds m c (rob m c) fun R t s => Real.exp (-R.z t s - Sweep.sp (-R.z t s)) := ((rz_at hr).neg.finite.sub (rns_at hr).finite).exp
theorem rlm_at : Holds m c (rlm m c) fun R t s => -R.p t s := ((rs_at hr).neg.masked).of_eq fun R t s => by
  unfold Sweep.Rows.p; split <;> simp
theorem rcu_at : Holds m c (rcu m c) fun R t s => ∑ i ∈ Finset.Ico s 2048, -R.p t i := (rlm_at hr).sums_from _ init_zero _ _
theorem rea_at : Holds m c (rea m c) fun R t s => Real.exp (-Sweep.sp (-R.z t s) + (∑ i ∈ Finset.Ico s 2048, -R.p t i - -R.p t s)) :=
  ((rns_at hr).neg.add ((rcu_at hr).sub (rlm_at hr))).exp

omit hr in
/-- Before the query the exponential is the weight. -/
theorem weight (R : Sweep.Rows) {t s : ℕ} (h : s < t) :
    Real.exp (-Sweep.sp (-R.z t s) + (∑ i ∈ Finset.Ico s 2048, -R.p t i - -R.p t s)) = R.w t s := by
  rw [Sweep.Rows.w, if_pos h, Finset.sum_neg_distrib, sp_neg, show R.p t s = Sweep.sp (R.z t s) from if_pos h]
  congr 1; ring

theorem ra_at : Holds m c (ra m c) Sweep.Rows.w := ((rea_at hr).masked).of_eq fun R t s => by
  by_cases h : s < t
  · rw [if_pos h, weight R h]
  · rw [if_neg h, R.w_eq_zero (by omega)]

theorem rg_at : Holds m c (rg m c) Sweep.Rows.g :=
  (((Shows.dot hr.o hr.v (fun R t s => ∑ e : Fin 64, R.O t e * R.V s e) fun _ _ _ _ => rfl).masked).mul (rea_at hr)).of_eq fun R t s => by
    by_cases h : s < t
    · rw [if_pos h, weight R h, mul_comm]; rfl
    · rw [if_neg h, R.g_eq_zero (by omega), zero_mul]

theorem rcg_at : Holds m c (rcg m c) fun R t s => ∑ i ∈ Finset.range (s + 1), R.g t i := (rg_at hr).sums_to _ init_zero _ _

theorem rdz_at : Holds m c (rdz m c) fun R t s => R.D t s * (1 / 8) :=
  ((((rg_at hr).neg.mul (rob_at hr)).neg.add ((((rg_at hr).neg.add (rcg_at hr)).masked).neg.mul (rsg_at hr))).eighth).of_eq fun R t s => by
    by_cases h : s < t
    · have := sigmoids (R.z t s)
      rw [if_pos h, Sweep.Rows.D, if_pos h, show Real.exp (-R.z t s - Sweep.sp (-R.z t s)) = 1 - Real.exp (R.z t s - Sweep.sp (R.z t s)) by linarith]
      ring
    · rw [if_neg h, R.D_eq_zero (by omega), R.g_eq_zero (by omega)]; ring

/-! ## The three gradients -/

omit hr in
theorem dq_read (x : FVec Ideal Sq .f32) (r : Fin 4096) (l : Fin 512) : outQ x (r_arg1 m c) (ix2 r l)
    = Ideal.div (∑ s : Fin 2048, x (ix4 ⟨r / 2048, by omega⟩ ⟨l / 64, by omega⟩ ⟨r % 2048, by omega⟩ s) * r_arg1 m c (ix3 ⟨r / 2048, by omega⟩ s l))
        (Ideal.ofBits .f32 0x3E000000#32) := by
  pointwise [outQ]
omit hr in
theorem dk_read (x : FVec Ideal Sq .f32) (r : Fin 4096) (l : Fin 512) : outK x (r_arg0 m c) (ix2 r l)
    = ∑ t : Fin 2048, x (ix4 ⟨r / 2048, by omega⟩ ⟨l / 64, by omega⟩ t ⟨r % 2048, by omega⟩) * r_arg0 m c (ix3 ⟨r / 2048, by omega⟩ t l) := by
  pointwise [outK]
omit hr in
theorem dv_read (x : FVec Ideal Sq .f32) (r : Fin 4096) (l : Fin 512) : outV x (r_arg3 m c) (ix2 r l)
    = ∑ t : Fin 2048, r_arg3 m c (ix3 ⟨r / 2048, by omega⟩ t l) * x (ix4 ⟨r / 2048, by omega⟩ ⟨l / 64, by omega⟩ t ⟨r % 2048, by omega⟩) := by
  pointwise [outV]

omit hr in
theorem of_entries {x y : FVec Ideal S4096x512 .f32} (h : ∀ (r : Fin 4096) (l : Fin 512), x (ix2 r l) = y (ix2 r l)) : x = y := by
  funext j
  have e : j = ix2 (j 0) (j 1) := funext fun a => by
    match a with
    | ⟨0, _⟩ => rfl
    | ⟨1, _⟩ => rfl
  exact (congrArg x e).trans ((h _ _).trans (congrArg y e.symm))

omit hr in
theorem eighths (a b : ℝ) : a * (1 / 8) * b * (1 / (1 / 8)) = a * b := by ring

theorem rdq_final : rdq m c = dQ (r_arg0 m c) (r_arg1 m c) (r_arg2 m c) (r_arg3 m c) := of_entries fun r l => by
  refine (dq_read _ r l).trans ?_
  have e (s : Fin 2048) := congrArg₂ (fun a b : EReal => a * b) (rdz_at hr ⟨r / 2048, by omega⟩ ⟨l / 64, by omega⟩ ⟨r % 2048, by omega⟩ s)
    (feat_eq hr.k ⟨r / 2048, by omega⟩ s l rfl rfl (Nat.div_add_mod (l : ℕ) 64))
  rw [Finset.sum_congr rfl fun s _ => (e s).trans (EReal.coe_mul _ _).symm, coe_sum, eighth, Ideal.div_coe (by norm_num), ← EReal.coe_mul, Finset.sum_mul]
  refine congrArg (fun a : ℝ => (a : EReal)) ((Finset.sum_congr rfl fun s _ => ?_).trans (Fin.sum_univ_eq_sum_range (fun s => _ * _) 2048))
  exact eighths _ _

theorem rdk_final : rdk m c = dK (r_arg0 m c) (r_arg1 m c) (r_arg2 m c) (r_arg3 m c) := of_entries fun r l => by
  refine (dk_read _ r l).trans ?_
  have e (t : Fin 2048) := congrArg₂ (fun a b : EReal => a * b) (rdz_at hr ⟨r / 2048, by omega⟩ ⟨l / 64, by omega⟩ t ⟨r % 2048, by omega⟩)
    (feat_eq hr.q ⟨r / 2048, by omega⟩ t l rfl rfl (Nat.div_add_mod (l : ℕ) 64))
  rw [Finset.sum_congr rfl fun t _ => (e t).trans (EReal.coe_mul _ _).symm, coe_sum]
  refine congrArg (fun a : ℝ => (a : EReal)) ((Finset.sum_congr rfl fun t _ => ?_).trans (Fin.sum_univ_eq_sum_range (fun t => _ * _) 2048))
  exact (mul_right_comm _ _ _).trans (mul_assoc _ _ _)

theorem rdv_final : rdv m c = dV (r_arg0 m c) (r_arg1 m c) (r_arg2 m c) (r_arg3 m c) := of_entries fun r l => by
  refine (dv_read _ r l).trans ?_
  have e (t : Fin 2048) := congrArg₂ (fun a b : EReal => a * b) (feat_eq hr.o ⟨r / 2048, by omega⟩ t l rfl rfl (Nat.div_add_mod (l : ℕ) 64))
    (ra_at hr ⟨r / 2048, by omega⟩ ⟨l / 64, by omega⟩ t ⟨r % 2048, by omega⟩)
  rw [Finset.sum_congr rfl fun t _ => (e t).trans (EReal.coe_mul _ _).symm, coe_sum]
  refine congrArg (fun a : ℝ => (a : EReal)) ((Finset.sum_congr rfl fun t _ => ?_).trans (Fin.sum_univ_eq_sum_range (fun t => _ * _) 2048))
  exact mul_comm _ _

end Cert.Reference2Ideal.Out

end
-- ==== Proof.ForwardArrays.lean ====
/- What the attention's forward call leaves in its two arrays, and the reference's attention and sums, over the arguments of the
   step. -/
module

public import proofs.«01_k».proof.Proof.Gen.Reference6Ideal.Run
public import proofs.«01_k».proof.Proof.ForwardBlock
public import proofs.«01_k».proof.Proof.GradReads

@[expose] public section

set_option maxRecDepth 16384

noncomputable section

namespace Cert.Attn

open Idealize.ShloMosaic Finset
open Cert.Kernel2Ideal.Value (zK zero4 softK before4 sumK sumK_at)
open Cert.Tile (coe_sum)
open scoped BigOperators

/-- Feature `e` of head `h` of batch `b` at position `t`, finite or not. -/
def entry (x : Stream) (b h t e : ℕ) : EReal :=
  x (ix3 ⟨b % 2, Nat.mod_lt _ (by decide)⟩ ⟨t % 2048, Nat.mod_lt _ (by decide)⟩ ⟨(64 * h + e) % 512, Nat.mod_lt _ (by decide)⟩)

theorem entry_eq (x : Stream) (b : Fin 2) (t : Fin 2048) (l : Fin 512) {b' h t' e : ℕ} (hb : b' = b) (ht : t' = t)
    (hl : 64 * h + e = l) : x (ix3 b t l) = entry x b' h t' e := by
  subst hb ht
  refine congrArg x (funext fun a => Fin.ext ?_)
  match a with
  | ⟨0, _⟩ => exact (Nat.mod_eq_of_lt b.isLt).symm
  | ⟨1, _⟩ => exact (Nat.mod_eq_of_lt t.isLt).symm
  | ⟨2, _⟩ => show (l : ℕ) = (64 * h + e) % 512; have := l.isLt; omega

variable (q k v : Stream)

/-- The attention: the values weighted. -/
def attended : FVec Ideal (Tile.Sh 4096 512) .f32 := fun y =>
  ∑ s ∈ range 2048, ((rowsAt q k v v y).w ((y 0).val % 2048) s : EReal) * entry v ((y 0).val / 2048) ((y 1).val / 64) s ((y 1).val % 64)
/-- The softplus sums of every query, once for each feature of the head. -/
def summed : FVec Ideal (Tile.Sh 4096 512) .f32 := fun y =>
  ((∑ s ∈ range 2048, (rowsAt q k v v y).p ((y 0).val % 2048) s : ℝ) : EReal)

/-! ## The reference -/

/-- The sums of the logarithms from each key on. -/
def tailK (l : FVec Ideal Sq .f32) : FVec Ideal Sq .f32 :=
  Host.reduceWindowAdd ![1, 1, 1, 2048] ![1, 1, 1, 1] ![0, 0, 0, 0] ![0, 0, 0, 2047] l
    (broadcastInDim ⟨0, ![]⟩ ![] Reference6Ideal.Gen.bcast_S_S_ (constant ⟨0, ![]⟩ .f32 0x00000000#32))
    Reference6Ideal.Gen.reduceWindows_S2x8x2048x2048_S2x8x2048x2048_w1s1p0_0_w1s1p0_0_w1s1p0_0_w2048s1p0_2047 Reference6Ideal.Gen.h_S_

/-- The logarithms of what a key leaves to the keys before it. -/
abbrev leftK : FVec Ideal Sq .f32 := select before4 (Host.negf (softK (zK q k))) zero4

/-- The weights as the reference computes them. -/
def weightK : FVec Ideal Sq .f32 :=
  select before4 (Host.exp (addf (Host.negf (softK (Host.negf (zK q k)))) (subf (tailK (leftK q k)) (leftK q k)))) zero4

/-- The values weighted. -/
def outA (x : FVec Ideal Sq .f32) : FVec Ideal (Tile.Sh 4096 512) .f32 :=
  shapeCast _ (shapeCast ⟨3, ![2, 2048, 512]⟩ (transpose ⟨4, ![2, 2048, 8, 64]⟩ [0, 2, 1, 3]
    (Host.dotGeneral Reference6Ideal.dot_S2x8x2048x2048_S2x8x2048x64_S2x8x2048x64_3_2_2_3_01_01 none x
      (transpose ⟨4, ![2, 8, 2048, 64]⟩ [0, 2, 1, 3] (shapeCast ⟨4, ![2, 2048, 8, 64]⟩ v Reference6Ideal.Gen.shapeCasts_S2x2048x512_S2x2048x8x64)
        Reference6Ideal.Gen.transposes_S2x2048x8x64_S2x8x2048x64_0_2_1_3))
    Reference6Ideal.Gen.transposes_S2x8x2048x64_S2x2048x8x64_0_2_1_3) Reference6Ideal.Gen.shapeCasts_S2x2048x8x64_S2x2048x512)
    Reference6Ideal.Gen.shapeCasts_S2x2048x512_S4096x512

theorem outA_at (x : FVec Ideal Sq .f32) (r : Fin 4096) (l : Fin 512) : outA v x (ix2 r l)
    = ∑ s : Fin 2048, x (ix4 ⟨r / 2048, by omega⟩ ⟨l / 64, by omega⟩ ⟨r % 2048, by omega⟩ s) * v (ix3 ⟨r / 2048, by omega⟩ s l) := by
  pointwise [outA]

variable {q k}

theorem z_shows (hq : Real' q) (hk : Real' k) : Shows q k v v (zK q k) fun R t s => R.z t s :=
  fun b h t s => Kernel2Ideal.Value.zK_at hq hk b h t s

theorem left_shows (hq : Real' q) (hk : Real' k) : Shows q k v v (leftK q k) fun R t s => -R.p t s :=
  (z_shows v hq hk).soft.neg.masked.of_eq fun R t s => by unfold Sweep.Rows.p; split <;> simp

theorem weight_shows (hq : Real' q) (hk : Real' k) : Shows q k v v (weightK q k) Sweep.Rows.w :=
  (((z_shows v hq hk).neg.soft.neg.add (((left_shows v hq hk).sums_from _ Reference2Ideal.Out.init_zero _ _).sub (left_shows v hq hk))).exp.masked).of_eq
    fun R t s => by
      by_cases h : s < t
      · rw [if_pos h, Reference2Ideal.Out.weight R h]
      · rw [if_neg h, R.w_eq_zero (by omega)]

theorem attended_eq (hq : Real' q) (hk : Real' k) : outA v (weightK q k) = attended q k v := Reference2Ideal.Out.of_entries fun r l => by
  refine (outA_at v _ r l).trans (Eq.trans (sum_congr rfl fun s _ => congrArg₂ (fun a b : EReal => a * b) (weight_shows v hq hk _ _ _ s)
    (entry_eq v ⟨r / 2048, by omega⟩ s l rfl rfl (Nat.div_add_mod (l : ℕ) 64))) ?_)
  exact Fin.sum_univ_eq_sum_range (fun s => ((rowsAt q k v v (ix2 r l)).w (r % 2048) s : EReal) * entry v (r / 2048) (l / 64) s (l % 64)) 2048

theorem summed_eq (hq : Real' q) (hk : Real' k) : sumK (select before4 (softK (zK q k)) zero4) = summed q k v := Reference2Ideal.Out.of_entries fun r l => by
  refine (sumK_at _ r l).trans (Eq.trans (sum_congr rfl fun s _ => (z_shows v hq hk).soft.masked _ _ _ s) ?_)
  rw [coe_sum]
  exact congrArg (fun a : ℝ => (a : EReal)) (Fin.sum_univ_eq_sum_range (fun s => (rowsAt q k v v (ix2 r l)).p (r % 2048) s) 2048)

end Cert.Attn

namespace Cert.Reference6Ideal.Out

open Cert.Reference6Ideal Idealize.ShloMosaic Idealize.ShloMosaic.TcCoe Idealize.SL.Sem Cert.Attn
open Cert.Kernel2Ideal.Value (zK zero4 softK before4 sumK)

variable (m : (ℓ : Loc nD τ sig) → Buf (Elt Ideal) ℓ)

/-- The queries, the keys and the values. -/
abbrev aQ (c : Dev nD) : Stream := m ((c : Thread nD τ).loc main_arg0)
abbrev aK (c : Dev nD) : Stream := m ((c : Thread nD τ).loc main_arg1)
abbrev aV (c : Dev nD) : Stream := m ((c : Thread nD τ).loc main_arg2)

set_option maxHeartbeats 4000000 in
theorem attended_eq (c : Dev nD) : Value.res_main_v48 m c = outA (aV m c) (weightK (aQ m c) (aK m c)) := by
  delta Value.res_main_v48 outA weightK tailK softK before4 zero4 zK
  rfl
set_option maxHeartbeats 4000000 in
theorem summed_eq (c : Dev nD) : Value.res_main_v49 m c = sumK (select before4 (softK (zK (aQ m c) (aK m c))) zero4) := by
  delta Value.res_main_v49 sumK softK before4 zero4 zK
  rfl

end Cert.Reference6Ideal.Out

namespace Cert.Kernel6Ideal.Value

open Cert.Kernel6Ideal Cert.Kernel6Ideal.Gen Idealize.ShloMosaic Idealize.ShloMosaic.TcCoe Idealize.SL.Sem Cert.Attn
open Cert.Kernel2Ideal.Value (lay headOf headOf_at tileOf tileOf_at scaled)
open Cert.Tile (Is Has)
open Finset
open scoped BigOperators

theorem idx : ∀ t : Fin cfg0.N, win0_0.index t = ![t.val / 4, t.val % 4] ∧ win0_1.index t = ![t.val / 4, t.val % 4]
    ∧ win0_2.index t = ![t.val / 4, t.val % 4] ∧ win0_3.index t = ![t.val / 4, t.val % 4] ∧ win0_4.index t = ![t.val / 4, t.val % 4] :=
  (by decide +kernel : ∀ t : Fin grid0.N, _)

variable (m : (ℓ : Loc nD τ sig) → Buf (Elt Ideal) ℓ)

/-- The queries, the keys and the values. -/
abbrev aQ (c : Dev nD) : Stream := m ((c : Thread nD τ).loc main_arg0)
abbrev aK (c : Dev nD) : Stream := m ((c : Thread nD τ).loc main_arg1)
abbrev aV (c : Dev nD) : Stream := m ((c : Thread nD τ).loc main_arg2)

theorem q_at (c : Dev nD) (r : Fin 4096) (l : Fin 512) : V m c main_v3 (ix2 r l)
    = aQ m c (ix3 ⟨r / 2048, by omega⟩ ⟨r % 2048, by omega⟩ l) * Ideal.ofBits .f32 0x3E000000#32 := by
  dsimp only [V, hostOps0]
  after_results
  pointwise
theorem k_at (c : Dev nD) (r : Fin 4096) (l : Fin 512) : V m c main_v5 (ix2 r l) = aK m c (ix3 ⟨r / 2048, by omega⟩ ⟨r % 2048, by omega⟩ l) := by
  dsimp only [V, hostOps0]
  after_results
  pointwise
theorem v_at (c : Dev nD) (r : Fin 4096) (l : Fin 512) : V m c main_v7 (ix2 r l) = aV m c (ix3 ⟨r / 2048, by omega⟩ ⟨r % 2048, by omega⟩ l) := by
  dsimp only [V, hostOps0]
  after_results
  pointwise

/-- Entry (`i`, `j`) of the point's block of an array of 4096 rows and 512 columns. -/
abbrev cell (t : Fin cfg0.N) (i : Fin 2048) (j : Fin 128) : S4096x512.Idx :=
  ix2 ⟨2048 * (t.val / 4) + i, by have : t.val < 8 := t.isLt; omega⟩ ⟨128 * (t.val % 4) + j, by omega⟩

theorem blk0 (c : Dev nD) (t : Fin cfg0.N) (i : Fin 2048) (j : Fin 128) : iblk m c 0 t (ix2 i j) = V m c main_v3 (cell t i j) := by
  unfold cell; blk_point [iblk, idx t]
theorem blk1 (c : Dev nD) (t : Fin cfg0.N) (i : Fin 2048) (j : Fin 128) : iblk m c 1 t (ix2 i j) = V m c main_v5 (cell t i j) := by
  unfold cell; blk_point [iblk, idx t]
theorem blk2 (c : Dev nD) (t : Fin cfg0.N) (i : Fin 2048) (j : Fin 128) : iblk m c 2 t (ix2 i j) = V m c main_v7 (cell t i j) := by
  unfold cell; blk_point [iblk, idx t]

/-- The rows of head `h` of point `t`. -/
abbrev rowsOf (c : Dev nD) (t : Fin cfg0.N) (h : Fin 2) : Sweep.Rows :=
  rows (aQ m c) (aK m c) (aV m c) (aV m c) (t.val / 4) (2 * (t.val % 4) + h)

/-- An array of heads, at entry `y` of the point's block. -/
theorem cell_at (t : Fin cfg0.N) (y : S2048x128.Idx) (q k v : Stream) (f : Sweep.Rows → (ℕ → ℕ → EReal) → ℕ → ℕ → EReal) :
    f (rows q k v v (t.val / 4) (2 * (t.val % 4) + (y 1).val / 64)) (entry v (t.val / 4) (2 * (t.val % 4) + (y 1).val / 64)) (y 0).val ((y 1).val % 64)
      = (fun z : S4096x512.Idx => f (rowsAt q k v v z) (entry v ((z 0).val / 2048) ((z 1).val / 64)) ((z 0).val % 2048) ((z 1).val % 64))
          (cell t (y 0) (y 1)) := by
  have h0 : (y 0).val < 2048 := (y 0).isLt
  have h1 : (y 1).val < 128 := (y 1).isLt
  have a : (2048 * (t.val / 4) + (y 0).val) / 2048 = t.val / 4 := by omega
  have b : (2048 * (t.val / 4) + (y 0).val) % 2048 = (y 0).val := by omega
  have d : (128 * (t.val % 4) + (y 1).val) / 64 = 2 * (t.val % 4) + (y 1).val / 64 := by omega
  have e : (128 * (t.val % 4) + (y 1).val) % 64 = (y 1).val % 64 := by omega
  show _ = f (rows q k v v ((2048 * (t.val / 4) + (y 0).val) / 2048) ((128 * (t.val % 4) + (y 1).val) / 64))
    (entry v ((2048 * (t.val / 4) + (y 0).val) / 2048) ((128 * (t.val % 4) + (y 1).val) / 64))
    ((2048 * (t.val / 4) + (y 0).val) % 2048) ((128 * (t.val % 4) + (y 1).val) % 64)
  rw [a, b, d, e]

/-- A column of sums, once for each feature. -/
theorem spread_at (H : Tile.FwdHead) (i : Fin 2048) (e : Fin 64) : spreadSums H (ix2 i e) = H.c (ix2 i 0) := by
  unfold spreadSums
  generalize H.c = x
  pointwise []

variable {m} {c : Dev nD} (hq : Real' (aQ m c)) (hk : Real' (aK m c))
include hq hk

theorem head_fits (t : Fin cfg0.N) (h : Fin 2) : (fwdHead (iblk m c 0 t) (iblk m c 1 t) (iblk m c 2 t) h).Fits (rowsOf m c t h)
    (entry (aV m c) (t.val / 4) (2 * (t.val % 4) + h)) where
  q i e := (headOf_at _ h i e).trans ((blk0 m c t _ _).trans ((q_at m c _ _).trans
    (scaled (feat_eq hq _ _ _ (by dsimp only; omega) (by dsimp only; omega) (by dsimp only; omega)))))
  k d i e := (tileOf_at _ h d i e).trans ((blk1 m c t _ _).trans ((k_at m c _ _).trans
    (feat_eq hk _ _ _ (by dsimp only; omega) (by dsimp only; omega) (by dsimp only; omega))))
  v d i e := (tileOf_at _ h d i e).trans ((blk2 m c t _ _).trans ((v_at m c _ _).trans
    (entry_eq _ _ _ _ (by dsimp only; omega) (by dsimp only; omega) (by dsimp only; omega))))

omit hq hk in
theorem place3 (G : S4096x512.Idx → EReal) (t : Fin cfg0.N) (y : S2048x128.Idx) :
    G (cell t (y 0) (y 1)) = G (((View.whole main_v8_0).slice (win0_3.rect t)).emb y) := by
  unfold cell; blk_point [idx t]
omit hq hk in
theorem place4 (G : S4096x512.Idx → EReal) (t : Fin cfg0.N) (y : S2048x128.Idx) :
    G (cell t (y 0) (y 1)) = G (((View.whole main_v8_1).slice (win0_4.rect t)).emb y) := by
  unfold cell; blk_point [idx t]

theorem o_final : (dats m 0 c).arrAt 3 cfg0.N = attended (aQ m c) (aK m c) (aV m c) := by
  refine (dats m 0 c).arrAt_eq_of_covers 3 _ (by decide +kernel) fun t _ y => ?_
  blk_simp; rw [after0_3]; simp only [outsAt0]; rw [o_block]
  refine ((head_fits hq hk t _).o _ _).trans (Eq.trans ?_ (place3 (attended (aQ m c) (aK m c) (aV m c)) t y))
  exact cell_at t y (aQ m c) (aK m c) (aV m c) fun R V i e => ∑ s ∈ range 2048, (R.w i s : EReal) * V s e

theorem c_final : (dats m 0 c).arrAt 4 cfg0.N = summed (aQ m c) (aK m c) (aV m c) := by
  refine (dats m 0 c).arrAt_eq_of_covers 4 _ (by decide +kernel) fun t _ y => ?_
  blk_simp; rw [after0_4]; simp only [outsAt0]; rw [c_block]
  refine (spread_at _ _ _).trans (((head_fits hq hk t _).c _ 0).trans (Eq.trans ?_ (place4 (summed (aQ m c) (aK m c) (aV m c)) t y)))
  exact cell_at t y (aQ m c) (aK m c) (aV m c) fun R _ i _ => ((∑ s ∈ range 2048, R.p i s : ℝ) : EReal)

end Cert.Kernel6Ideal.Value

namespace Cert.Attn

open Idealize.ShloMosaic Idealize.ShloMosaic.TcCoe

/-! ## The two programs -/

variable {m : (ℓ : Loc Kernel6Ideal.nD Kernel6Ideal.τ Kernel6Ideal.sig) → Buf (Elt Ideal) ℓ}
variable {m' : (ℓ : Loc Reference6Ideal.nD Reference6Ideal.τ Reference6Ideal.sig) → Buf (Elt Ideal) ℓ}

/-- The two forward programs start from the same queries, keys and values. -/
structure Same (m : (ℓ : Loc Kernel6Ideal.nD Kernel6Ideal.τ Kernel6Ideal.sig) → Buf (Elt Ideal) ℓ)
    (m' : (ℓ : Loc Reference6Ideal.nD Reference6Ideal.τ Reference6Ideal.sig) → Buf (Elt Ideal) ℓ) (c : Dev Kernel6Ideal.nD) : Prop where
  q : Reference6Ideal.Out.aQ m' c = Kernel6Ideal.Value.aQ m c
  k : Reference6Ideal.Out.aK m' c = Kernel6Ideal.Value.aK m c
  v : Reference6Ideal.Out.aV m' c = Kernel6Ideal.Value.aV m c

variable {c : Dev Kernel6Ideal.nD} (h : Same m m' c) (hq : Real' (Kernel6Ideal.Value.aQ m c)) (hk : Real' (Kernel6Ideal.Value.aK m c))
include h hq hk

theorem attended_agree : Reference6Ideal.Value.res_main_v48 m' c = (Kernel6Ideal.Gen.dats m 0 c).arrAt 3 Kernel6Ideal.cfg0.N := by
  rw [Reference6Ideal.Out.attended_eq, h.q, h.k, h.v, Kernel6Ideal.Value.o_final hq hk]
  exact attended_eq _ hq hk
theorem summed_agree : Reference6Ideal.Value.res_main_v49 m' c = (Kernel6Ideal.Gen.dats m 0 c).arrAt 4 Kernel6Ideal.cfg0.N := by
  rw [Reference6Ideal.Out.summed_eq, h.q, h.k, Kernel6Ideal.Value.c_final hq hk]
  exact summed_eq _ hq hk

end Cert.Attn

end
-- ==== Proof.Recurrence.lean ====
/- The scan's gradient kernel, run on whole buffers. The body reads its eight inputs, sweeps the rows with one counted
   loop that carries the running state's gradient, and writes six results; three buffers of its own hold what it works
   with. Here: the eight inputs end as they were, the six results and the three work buffers hold something. The text is
   that of the idealized program at any float operations, so the printed program has the same run. -/
module

public import proofs.«01_k».proof.Proof.Gen.Kernel7Ideal.Frame
public import proofs.«01_k».proof.Proof.Gen.Kernel7Ideal.Skeleton
public import proofs.«01_k».proof.Proof.Gen.Kernel7Ideal.Loops

@[expose] public section

set_option maxRecDepth 16384

noncomputable section

namespace Cert.Recurrence

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Kernel7Ideal Cert.Kernel7Ideal.Gen

variable {F : FTy → Type} [FloatOps F]

local notation "𝕄" => MT nD τ sig Unit (Elt F) ℕ (UR sig nD τ) ℕ

/-- A buffer whose contents nobody names. -/
abbrev held (c : Dev nD) {s : Shape} (a : Memref sig .tc .vmem s .f32) : sProp 𝕄 :=
  iprop(∃ d, owns (c : Thread nD τ) a fullShare d)

set_option maxHeartbeats 8000000 in
/-- One call of the body: the inputs' buffers come back as they were, the others at some contents. -/
theorem body_run (c : Dev nD) (i : grid0.Coords)
    (a1 : Memref sig .tc .vmem S8x256x256 .f32) (h1 : a1.IsWhole) (a2 : Memref sig .tc .vmem S8x256x256 .f32) (h2 :
    a2.IsWhole) (a3 : Memref sig .tc .vmem S8x256x128 .f32) (h3 : a3.IsWhole) (a4 : Memref sig .tc .vmem S8x16x256
    .f32) (h4 : a4.IsWhole) (a5 : Memref sig .tc .vmem S8x256x128 .f32) (h5 : a5.IsWhole) (a6 : Memref sig .tc .vmem
    S8x128x256 .f32) (h6 : a6.IsWhole) (a7 : Memref sig .tc .vmem S8x1x128 .f32) (h7 : a7.IsWhole) (a8 : Memref sig
    .tc .vmem S8x1x128 .f32) (h8 : a8.IsWhole) (a9 : Memref sig .tc .vmem S8x256x256 .f32) (h9 : a9.IsWhole) (a10 :
    Memref sig .tc .vmem S8x16x256 .f32) (h10 : a10.IsWhole) (a11 : Memref sig .tc .vmem S8x256x128 .f32) (h11 :
    a11.IsWhole) (a12 : Memref sig .tc .vmem S8x128x256 .f32) (h12 : a12.IsWhole) (a13 : Memref sig .tc .vmem
    S8x1x128 .f32) (h13 : a13.IsWhole) (a14 : Memref sig .tc .vmem S8x1x128 .f32) (h14 : a14.IsWhole) (a15 : Memref
    sig .tc .vmem S8x256x128 .f32) (h15 : a15.IsWhole) (a16 : Memref sig .tc .vmem S8x256x128 .f32) (h16 :
    a16.IsWhole) (a17 : Memref sig .tc .vmem S8x256x256 .f32) (h17 : a17.IsWhole)
    (x0 : Vec F S8x256x256 .f32) (x1 : Vec F S8x256x256 .f32) (x2 : Vec F S8x256x128 .f32) (x3 : Vec F S8x16x256
    .f32) (x4 : Vec F S8x256x128 .f32) (x5 : Vec F S8x128x256 .f32) (x6 : Vec F S8x1x128 .f32) (x7 : Vec F S8x1x128
    .f32) (E : Set ℕ) (K : PUnit → sProp 𝕄) :
      iprop(owns (c : Thread nD τ) a1 fullShare x0 ∗ owns (c : Thread nD τ) a2 fullShare x1 ∗ owns (c : Thread nD τ)
      a3 fullShare x2 ∗ owns (c : Thread nD τ) a4 fullShare x3 ∗ owns (c : Thread nD τ) a5 fullShare x4 ∗ owns (c :
      Thread nD τ) a6 fullShare x5 ∗ owns (c : Thread nD τ) a7 fullShare x6 ∗ owns (c : Thread nD τ) a8 fullShare x7
      ∗ held c a9 ∗ held c a10 ∗ held c a11 ∗ held c a12 ∗ held c a13 ∗ held c a14 ∗ held c a15 ∗ held c a16 ∗ held c
      a17 ∗ (iprop(owns (c : Thread nD τ) a1 fullShare x0 ∗ owns (c : Thread nD τ) a2 fullShare x1 ∗ owns (c : Thread
      nD τ) a3 fullShare x2 ∗ owns (c : Thread nD τ) a4 fullShare x3 ∗ owns (c : Thread nD τ) a5 fullShare x4 ∗ owns
      (c : Thread nD τ) a6 fullShare x5 ∗ owns (c : Thread nD τ) a7 fullShare x6 ∗ owns (c : Thread nD τ) a8
      fullShare x7 ∗ held c a9 ∗ held c a10 ∗ held c a11 ∗ held c a12 ∗ held c a13 ∗ held c a14 ∗ held c a15 ∗ held c
      a16 ∗ held c a17) -∗ K ⟨⟩))
      ⊢ wp frame (wpE (defs₀ (F := F)) Variants.none c none) E
          (cc0_s5_bwd i a1 h1 a2 h2 a3 h3 a4 h4 a5 h5 a6 h6 a7 h7 a8 h8 a9 h9 a10 h10 a11 h11 a12 h12 a13 h13 a14 h14
          a15 h15 a16 h16 a17 h17) K := by
  simp only [cc0_s5_bwd_eq_skeleton]; unfold cc0_s5_bwd_skel
  simp only [k0_part23_eq_skeleton, k0_part24_eq_skeleton, k0_part25_eq_skeleton, k0_part26_eq_skeleton,
  k0_part27_eq_skeleton, k0_part28_eq_skeleton, k0_part29_eq_skeleton, k0_part30_eq_skeleton, k0_part31_eq_skeleton,
  k0_part32_eq_skeleton, k0_part33_eq_skeleton, k0_part34_eq_skeleton, k0_part35_eq_skeleton, k0_part36_eq_skeleton,
  k0_part37_eq_skeleton, k0_part38_eq_skeleton, k0_part39_eq_skeleton, k0_part40_eq_skeleton, k0_part41_eq_skeleton,
  k0_part42_eq_skeleton, k0_part43_eq_skeleton, k0_part44_eq_skeleton, k0_part45_eq_skeleton, k0_part46_eq_skeleton,
  k0_part47_eq_skeleton, k0_part48_eq_skeleton, k0_part49_eq_skeleton, k0_part50_eq_skeleton, k0_part51_eq_skeleton,
  k0_part52_eq_skeleton, k0_part53_eq_skeleton, k0_part54_eq_skeleton, k0_part55_eq_skeleton, k0_part56_eq_skeleton,
  k0_part57_eq_skeleton, k0_part58_eq_skeleton, k0_part59_eq_skeleton, k0_part60_eq_skeleton, k0_part61_eq_skeleton,
  k0_part62_eq_skeleton, k0_part63_eq_skeleton, k0_part64_eq_skeleton, k0_part65_eq_skeleton, k0_part66_eq_skeleton,
  k0_part67_eq_skeleton, k0_part68_eq_skeleton, k0_part69_eq_skeleton, k0_part70_eq_skeleton, k0_part71_eq_skeleton,
  k0_part72_eq_skeleton, k0_part73_eq_skeleton, k0_part74_eq_skeleton, k0_part75_eq_skeleton, k0_part76_eq_skeleton,
  k0_part77_eq_skeleton, k0_part78_eq_skeleton, k0_part79_eq_skeleton, k0_part80_eq_skeleton, k0_part81_eq_skeleton,
  k0_part82_eq_skeleton, k0_part83_eq_skeleton, k0_part84_eq_skeleton, k0_part85_eq_skeleton, k0_part86_eq_skeleton,
  k0_part87_eq_skeleton, k0_part88_eq_skeleton, k0_part89_eq_skeleton, k0_part90_eq_skeleton, k0_part91_eq_skeleton,
  k0_part92_eq_skeleton, k0_part93_eq_skeleton, k0_part94_eq_skeleton, k0_part95_eq_skeleton, k0_part96_eq_skeleton,
  k0_part97_eq_skeleton, k0_part98_eq_skeleton, k0_part99_eq_skeleton, k0_part100_eq_skeleton,
  k0_part101_eq_skeleton, k0_part102_eq_skeleton, k0_part103_eq_skeleton, k0_part104_eq_skeleton,
  k0_part105_eq_skeleton, k0_part106_eq_skeleton, k0_part107_eq_skeleton, k0_part108_eq_skeleton,
  k0_part109_eq_skeleton, k0_part110_eq_skeleton, k0_part111_eq_skeleton, k0_part112_eq_skeleton,
  k0_part113_eq_skeleton, k0_part114_eq_skeleton, k0_part115_eq_skeleton, k0_part116_eq_skeleton,
  k0_part117_eq_skeleton, k0_part118_eq_skeleton, k0_part119_eq_skeleton, k0_part120_eq_skeleton,
  k0_part121_eq_skeleton, k0_part122_eq_skeleton]
  unfold held owns
  iintro ⟨⟨%f0, %e0, K0⟩, ⟨%f1, %e1, K1⟩, ⟨%f2, %e2, K2⟩, ⟨%f3, %e3, K3⟩, ⟨%f4, %e4, K4⟩, ⟨%f5, %e5, K5⟩, ⟨%f6, %e6,
  K6⟩, ⟨%f7, %e7, K7⟩, ⟨%d8, %f8, -, K8⟩, ⟨%d9, %f9, -, K9⟩, ⟨%d10, %f10, -, K10⟩, ⟨%d11, %f11, -, K11⟩, ⟨%d12, %f12,
  -, K12⟩, ⟨%d13, %f13, -, K13⟩, ⟨%d14, %f14, -, K14⟩, ⟨%d15, %f15, -, K15⟩, ⟨%d16, %f16, -, K16⟩, Hk⟩
  obtain rfl := h1.eq_unread e0; obtain rfl := h2.eq_unread e1; obtain rfl := h3.eq_unread e2; obtain rfl :=
  h4.eq_unread e3; obtain rfl := h5.eq_unread e4; obtain rfl := h6.eq_unread e5; obtain rfl := h7.eq_unread e6;
  obtain rfl := h8.eq_unread e7
  sl_exec
  sl_step
  iapply Hk
  isplitl [K0]
  · iexists _; isplitr; swap; · iexact K0
    ipureintro; exact h1.read_unread _
  isplitl [K1]
  · iexists _; isplitr; swap; · iexact K1
    ipureintro; exact h2.read_unread _
  isplitl [K2]
  · iexists _; isplitr; swap; · iexact K2
    ipureintro; exact h3.read_unread _
  isplitl [K3]
  · iexists _; isplitr; swap; · iexact K3
    ipureintro; exact h4.read_unread _
  isplitl [K4]
  · iexists _; isplitr; swap; · iexact K4
    ipureintro; exact h5.read_unread _
  isplitl [K5]
  · iexists _; isplitr; swap; · iexact K5
    ipureintro; exact h6.read_unread _
  isplitl [K6]
  · iexists _; isplitr; swap; · iexact K6
    ipureintro; exact h7.read_unread _
  isplitl [K7]
  · iexists _; isplitr; swap; · iexact K7
    ipureintro; exact h8.read_unread _
  isplitl [K8]
  · iexists _, _; isplitr; swap; · iexact K8
    ipureintro; rfl
  isplitl [K9]
  · iexists _, _; isplitr; swap; · iexact K9
    ipureintro; rfl
  isplitl [K10]
  · iexists _, _; isplitr; swap; · iexact K10
    ipureintro; rfl
  isplitl [K11]
  · iexists _, _; isplitr; swap; · iexact K11
    ipureintro; rfl
  isplitl [K12]
  · iexists _, _; isplitr; swap; · iexact K12
    ipureintro; rfl
  isplitl [K13]
  · iexists _, _; isplitr; swap; · iexact K13
    ipureintro; rfl
  isplitl [K14]
  · iexists _, _; isplitr; swap; · iexact K14
    ipureintro; rfl
  isplitl [K15]
  · iexists _, _; isplitr; swap; · iexact K15
    ipureintro; rfl
  iexists _, _; isplitr; swap; · iexact K16
  ipureintro; rfl

variable (m : (ℓ : Loc nD τ sig) → Buf (Elt F) ℓ) (ρ : Dev nD → PrngReg)

/-- What the sweep over the grid keeps: an input's buffer is left as it was handed over, of a result nothing is said. -/
def data (c : Dev nD) : RDat τ (Elt F) Unit ℕ (UR sig nD τ) ℕ cfg0 c where
  A w := V m c (Pipeline.arrRef spec0 w)
  after w _ Y X := (cfg0.win w).isOut = false → X = Y
  Φ _ := Pipeline.ΦA spec0 c
  q _ := fullShare
  owed _ := 0

/-- The work buffers and the generator register, as the body gets them and gives them back. -/
theorem work_eq (c : Dev nD) : (Pipeline.ΦA spec0 c : sProp 𝕄)
    = iprop((held c (Memref.whole cc0_scratch0) ∗ held c (Memref.whole cc0_scratch1) ∗ held c (Memref.whole cc0_scratch2))
      ∗ (∃ r, prngReg c r)) := by
  unfold Pipeline.ΦA; rw [scopedRest0_eq]; simp only [held, owns_whole]; rfl

/-- A result's buffer, whatever it holds, is one the sweep accepts. -/
theorem kept_out (c : Dev nD) {w : Fin cfg0.W} (t : Fin cfg0.N) (Y X : (cfg0.win w).block.Idx → Elt F (cfg0.win w).elt)
    (h : (cfg0.win w).isOut = true) : (data m c).after w t Y X := fun h' => absurd (h.symm.trans h') (by decide)

theorem kept_in (c : Dev nD) {w : Fin cfg0.W} (t : Fin cfg0.N) (Y : (cfg0.win w).block.Idx → Elt F (cfg0.win w).elt) :
    (data m c).after w t Y Y := fun _ => rfl

set_option maxHeartbeats 1600000 in
/-- The body at a grid point, on the buffers the sweep hands it. -/
theorem step (c : Dev nD) (t : Fin cfg0.N) (Y : (w : Fin cfg0.W) → (cfg0.win w).block.Idx → Elt F (cfg0.win w).elt) :
    iprop((data m c).Φ t.castSucc ∗ (data m c).owesAt () t.castSucc
        ∗ bigSep Finset.univ fun w => owns (c : Thread nD τ) ((cfg0.win w).stage (cfg0.slots t w)) fullShare (Y w))
      ⊢ wp frame (wpE (defs₀ (F := F)) Variants.none c none) Set.univ (bodyAt0 t) fun _ =>
        iprop((data m c).Φ t.succ ∗ (data m c).owesAt () t.succ
          ∗ bigSep Finset.univ fun w => iprop(∃ X, ⌜(data m c).after w t (Y w) X⌝
            ∗ owns (c : Thread nD τ) ((cfg0.win w).stage (cfg0.slots t w)) fullShare X)) := by
  rw [bigSep_W0, bigSep_W0]
  rw [show (data m c).Φ t.succ = (data m c).Φ t.castSucc from rfl,
    show (data m c).owesAt () t.succ = (data m c).owesAt () t.castSucc from rfl,
    show (data m c).Φ t.castSucc = Pipeline.ΦA spec0 c from rfl, work_eq]
  iintro ⟨⟨⟨S0, S1, S2⟩, G⟩, O, K0, K1, K2, K3, K4, K5, K6, K7, K8, K9, K10, K11, K12, K13⟩
  iapply (body_run c (grid0.coords t) _ _ _ _ _ _ _ _ _ _ _ _ _ _ _ _ _ _ _ _ _ _ _ _ _ _ _ _ _ _ _ _ _ _ (Y 0) (Y 1)
  (Y 2) (Y 3) (Y 4) (Y 5) (Y 6) (Y 7) Set.univ _)
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [K8]; · iexists _; iexact K8
  isplitl [K9]; · iexists _; iexact K9
  isplitl [K10]; · iexists _; iexact K10
  isplitl [K11]; · iexists _; iexact K11
  isplitl [K12]; · iexists _; iexact K12
  isplitl [K13]; · iexists _; iexact K13
  isplitl [S0]; · iexact S0
  isplitl [S1]; · iexact S1
  isplitl [S2]; · iexact S2
  iintro ⟨K0, K1, K2, K3, K4, K5, K6, K7, ⟨%d8, K8⟩, ⟨%d9, K9⟩, ⟨%d10, K10⟩, ⟨%d11, K11⟩, ⟨%d12, K12⟩, ⟨%d13, K13⟩,
  S0, S1, S2⟩
  isplitl [S0 S1 S2 G]
  · isplitl [S0 S1 S2]
    · isplitl [S0]; · iexact S0
      isplitl [S1]; · iexact S1
      iexact S2
    iexact G
  isplitl [O]; · iexact O
  isplitl [K0]
  · iexists _; isplitr; swap; · iexact K0
    ipureintro; exact kept_in m c t _
  isplitl [K1]
  · iexists _; isplitr; swap; · iexact K1
    ipureintro; exact kept_in m c t _
  isplitl [K2]
  · iexists _; isplitr; swap; · iexact K2
    ipureintro; exact kept_in m c t _
  isplitl [K3]
  · iexists _; isplitr; swap; · iexact K3
    ipureintro; exact kept_in m c t _
  isplitl [K4]
  · iexists _; isplitr; swap; · iexact K4
    ipureintro; exact kept_in m c t _
  isplitl [K5]
  · iexists _; isplitr; swap; · iexact K5
    ipureintro; exact kept_in m c t _
  isplitl [K6]
  · iexists _; isplitr; swap; · iexact K6
    ipureintro; exact kept_in m c t _
  isplitl [K7]
  · iexists _; isplitr; swap; · iexact K7
    ipureintro; exact kept_in m c t _
  isplitl [K8]
  · iexists _; isplitr; swap; · iexact K8
    ipureintro; exact kept_out m c (w := 8) t _ _ rfl
  isplitl [K9]
  · iexists _; isplitr; swap; · iexact K9
    ipureintro; exact kept_out m c (w := 9) t _ _ rfl
  isplitl [K10]
  · iexists _; isplitr; swap; · iexact K10
    ipureintro; exact kept_out m c (w := 10) t _ _ rfl
  isplitl [K11]
  · iexists _; isplitr; swap; · iexact K11
    ipureintro; exact kept_out m c (w := 11) t _ _ rfl
  isplitl [K12]
  · iexists _; isplitr; swap; · iexact K12
    ipureintro; exact kept_out m c (w := 12) t _ _ rfl
  iexists _; isplitr; swap; · iexact K13
  ipureintro; exact kept_out m c (w := 13) t _ _ rfl

theorem row (t : Fin cfg0.N) : defs₀ (F := F) .tc cfg0.body (cfg0.bodyArgs t (cfg0.slots t)) = bodyAt0 t := by
  unfold defs₀; rw [Defs.onTc_tc]

theorem sweep (c : Dev nD) : (data m c).BodyObligation (defs₀ (F := F)) Variants.none () Set.univ := fun t Y _ => by
  rw [row]
  exact triple_restated (step m c t Y) rfl .rfl fun _ => .rfl

set_option backward.isDefEq.respectTransparency.types false in
/-- Every run of the program ends, with all counters at zero again and every array an input or a result of the sweep. -/
theorem ends : θ_run defs (onTc (τ := τ) (main (F := F))) (s₀ m ρ)
    (fun r => Pipeline.RDat.FramePost (cfgs 0) (data m) (V m) r ∧ r.2.sem = fun _ => 0) :=
  RDat.θ_run_frame (Q' := _) cfgs (0 : Fin 1) launch0 defs₀ Variants.none (data m) m ρ main
    (hbody := sweep m) (hshare := fun c w => by unfold RDat.share; split <;> rfl) (howed := fun _ _ => rfl)
    (V := V m) (hmain := hmain m Variants.none) (hA := fun _ _ => by dsimp only [data]) (hΦ := fun _ _ => rfl)

/-- An input array of a finished run is the array the run began with. -/
theorem input_kept {r : PUnit × MemSt nD τ sig (Elt F)} (h : Pipeline.RDat.FramePost (cfgs 0) (data m) (V m) r) (c : Dev nD)
    (w : Fin cfg0.W) (hw : (cfg0.win w).isOut = false) :
    r.2.mem ((cfg0.spec w).arr.view.loc (c.tc : Thread nD τ)) = V m c (Pipeline.arrRef spec0 w) := by
  have e := (h c).1 w
  rw [(data m c).ArrAt_in w hw] at e
  exact e

/-- The frame of the scan's gradient: the eight arguments end unchanged and every counter is zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(input_kept m h.1 c 0 rfl).trans (V_main_arg0 m c),
    (input_kept m h.1 c 1 rfl).trans (V_main_arg1 m c),
    (input_kept m h.1 c 2 rfl).trans (V_main_arg2 m c),
    (input_kept m h.1 c 3 rfl).trans (V_main_arg3 m c),
    (input_kept m h.1 c 4 rfl).trans (V_main_arg4 m c),
    (input_kept m h.1 c 5 rfl).trans (V_main_arg5 m c),
    (input_kept m h.1 c 6 rfl).trans (V_main_arg6 m c),
    (input_kept m h.1 c 7 rfl).trans (V_main_arg7 m c)⟩, h.2⟩) (ends m ρ)

end Cert.Recurrence

end
-- ==== Proof.OperatorsSpec.lean ====
/- The operators of the recurrence of one group, entry by entry, as functions of the group's parameters; and over the reals, the state's
   power one step on. -/
module

public import Idealize.ShloMosaic.Lib.Claim
public import Idealize.ShloMosaic.Lib.Pointwise

@[expose] public section

noncomputable section

namespace Cert.Operators

open Idealize.ShloMosaic
open scoped BigOperators

/-- A counter as a number. -/
abbrev num (k : ℕ) : EReal := FloatOps.sitofp (F := Ideal) .f32 (BitVec.ofNat 32 k)

theorem num_eq (k : ℕ) (h : k < 2 ^ 31) : num k = ((k : ℝ) : EReal) := by
  have : (BitVec.ofNat 32 k).toInt = (k : ℤ) := by
    rw [BitVec.toInt_eq_toNat_of_lt] <;> rw [BitVec.toNat_ofNat, Nat.mod_eq_of_lt (by omega)]
    omega
  show (((BitVec.ofNat 32 k).toInt : ℝ) : EReal) = _
  rw [this]
  norm_cast

/-- One group's parameters: the state's factor, the step, the input and output matrices and the direct term. -/
structure Params where
  lr : Fin 64 → EReal
  li : Fin 64 → EReal
  dt : EReal
  br : Fin 16 → Fin 64 → EReal
  bi : Fin 16 → Fin 64 → EReal
  cr : Fin 64 → Fin 16 → EReal
  ci : Fin 64 → Fin 16 → EReal
  d : Fin 16 → EReal

namespace Params

variable (P : Params)

/-- The powers of the state's factor over a step. -/
def pr (k : ℕ) (s : Fin 64) : EReal := Ideal.exp (num k * (P.lr s * P.dt)) * Ideal.cos (num k * (P.li s * P.dt))
def pi (k : ℕ) (s : Fin 64) : EReal := Ideal.exp (num k * (P.lr s * P.dt)) * Ideal.sin (num k * (P.li s * P.dt))
/-- The discrete input matrix. -/
def den (s : Fin 64) : EReal := P.lr s * P.lr s + P.li s * P.li s
def cfr (s : Fin 64) : EReal := Ideal.div ((P.pr 1 s - 1) * P.lr s + P.pi 1 s * P.li s) (P.den s)
def cfi (s : Fin 64) : EReal := Ideal.div (P.pi 1 s * P.lr s - (P.pr 1 s - 1) * P.li s) (P.den s)
def bbr (h : Fin 16) (s : Fin 64) : EReal := P.cfr s * P.br h s - P.cfi s * P.bi h s
def bbi (h : Fin 16) (s : Fin 64) : EReal := P.cfr s * P.bi h s + P.cfi s * P.br h s
/-- How the state is read `k` frames on. -/
def wr (k : ℕ) (s : Fin 64) (h : Fin 16) : EReal := P.pr k s * P.cr s h - P.pi k s * P.ci s h
def wi (k : ℕ) (s : Fin 64) (h : Fin 16) : EReal := P.pr k s * P.ci s h + P.pi k s * P.cr s h
/-- The state's factor over a step. -/
def fa (s : Fin 64) : EReal := Ideal.exp (P.lr s * P.dt) * Ideal.cos (P.li s * P.dt)
def fb (s : Fin 64) : EReal := Ideal.exp (P.lr s * P.dt) * Ideal.sin (P.li s * P.dt)

/-- The state of a lane of a row whose halves are the real and the imaginary parts. -/
abbrev lane (j : Fin 128) : Fin 64 := ⟨j.val % 64, by omega⟩
/-- The frame and the channel of an entry of a chunk. -/
abbrev fr (j : Fin 256) : Fin 16 := ⟨j.val / 16, by omega⟩
abbrev ch (j : Fin 256) : Fin 16 := ⟨j.val % 16, by omega⟩

/-- The state's factor over a chunk, for both halves, and with the sign with which the other half is added. -/
def la (j : Fin 128) : EReal := P.pr 16 (lane j)
def lb (j : Fin 128) : EReal := if j.val < 64 then -P.pi 16 (lane j) else P.pi 16 (lane j)
/-- What the frames of a chunk add to the state at its end. -/
def b (r : Fin 256) (j : Fin 128) : EReal := if j.val < 64
  then P.pr (15 - fr r) (lane j) * P.bbr (ch r) (lane j) - P.pi (15 - fr r) (lane j) * P.bbi (ch r) (lane j)
  else P.pr (15 - fr r) (lane j) * P.bbi (ch r) (lane j) + P.pi (15 - fr r) (lane j) * P.bbr (ch r) (lane j)
/-- How the frames of a chunk read the state at its start. -/
def c (r : Fin 128) (j : Fin 256) : EReal := if r.val < 64
  then P.wr (fr j + 1) (lane r) (ch j) else -P.wi (fr j + 1) (lane r) (ch j)
/-- What the first frame of a chunk adds to the output of each. -/
def k (h : Fin 16) (j : Fin 256) : EReal := (∑ s, P.bbr h s * P.wr (fr j) s (ch j)) - (∑ s, P.bbi h s * P.wi (fr j) s (ch j))
  + if j.val = h.val then P.d (ch j) else 0

/-- The parameters the powers and the output matrix are made of are real numbers. -/
structure Real (P : Params) : Prop where
  lr s : P.lr s = ((P.lr s).toReal : EReal)
  li s : P.li s = ((P.li s).toReal : EReal)
  dt : P.dt = (P.dt.toReal : EReal)
  cr s h : P.cr s h = ((P.cr s h).toReal : EReal)
  ci s h : P.ci s h = ((P.ci s h).toReal : EReal)

variable {P} (hP : P.Real)
include hP

/-- Reading one frame on is a further step's factor: the real part and the imaginary one. -/
theorem step (k : ℕ) (hk : k < 16) (s : Fin 64) (h : Fin 16) :
    P.wr k s h * P.fa s - P.wi k s h * P.fb s = P.wr (k + 1) s h ∧ P.wr k s h * P.fb s + P.wi k s h * P.fa s = P.wi (k + 1) s h := by
  unfold wr wi fa fb pr pi
  rw [hP.lr s, hP.li s, hP.dt, hP.cr s h, hP.ci s h, num_eq k (by omega), num_eq (k + 1) (by omega)]
  generalize (P.lr s).toReal = a
  generalize (P.li s).toReal = b
  generalize P.dt.toReal = t
  generalize (P.cr s h).toReal = x
  generalize (P.ci s h).toReal = y
  simp only [← EReal.coe_mul, Ideal.exp_coe, Ideal.cos_coe, Ideal.sin_coe, ← EReal.coe_sub, ← EReal.coe_add, EReal.coe_eq_coe_iff]
  have e : Real.exp (((k + 1 : ℕ) : ℝ) * (a * t)) = Real.exp ((k : ℝ) * (a * t)) * Real.exp (a * t) := by
    rw [← Real.exp_add]; congr 1; push_cast; ring
  have n : ((k + 1 : ℕ) : ℝ) * (b * t) = (k : ℝ) * (b * t) + b * t := by push_cast; ring
  rw [e, n, Real.cos_add, Real.sin_add]
  constructor <;> ring

end Params

/-! ## The operators of all groups -/

section
variable (Q : Fin 32 → Params)

def laAll : FVec Ideal ⟨3, ![32, 1, 128]⟩ .f32 := fun y => (Q (y 0)).la (y 2)
def lbAll : FVec Ideal ⟨3, ![32, 1, 128]⟩ .f32 := fun y => (Q (y 0)).lb (y 2)
def bAll : FVec Ideal ⟨3, ![32, 256, 128]⟩ .f32 := fun y => (Q (y 0)).b (y 1) (y 2)
def cAll : FVec Ideal ⟨3, ![32, 128, 256]⟩ .f32 := fun y => (Q (y 0)).c (y 1) (y 2)
def kAll : FVec Ideal ⟨3, ![32, 16, 256]⟩ .f32 := fun y => (Q (y 0)).k (y 1) (y 2)
end

theorem ix3_eq {a b c : ℕ} (y : (⟨3, ![a, b, c]⟩ : Shape).Idx) : ix3 (y 0) (y 1) (y 2) = y := funext fun i => match i with
  | ⟨0, _⟩ => rfl
  | ⟨1, _⟩ => rfl
  | ⟨2, _⟩ => rfl

/-- Two arrays of three axes with the same entries are equal. -/
theorem of_entries {a b c : ℕ} {x z : FVec Ideal ⟨3, ![a, b, c]⟩ .f32} (h : ∀ i j l, x (ix3 i j l) = z (ix3 i j l)) : x = z := by
  funext y
  rw [← ix3_eq y]
  exact h _ _ _

end Cert.Operators
end
-- ==== Proof.Operators.lean ====
/- What one group's pass of the recurrence's operators computes, over the blocks it reads: the powers of the state's factor, the discrete
   input matrix, and from them what a chunk's frames add to the state and how the state is read within the chunk. -/
module

public import proofs.«01_k».proof.Proof.Gen.Kernel9Ideal.Value
public import proofs.«01_k».proof.Proof.OperatorsSpec
public import Idealize.ShloMosaic.Lib.Pipeline.ValueKit
public import Idealize.ShloMosaic.Lib.Pipeline.ReadBack
public import Mathlib.Tactic.FinCases
public import Idealize.ShloMosaic.Lib.Pointwise

@[expose] public section

set_option maxRecDepth 100000

noncomputable section

namespace Cert.Operators

open Cert.Kernel9Ideal Cert.Kernel9Ideal.Gen Idealize.ShloMosaic Idealize.ShloMosaic.TcCoe Idealize.SL.Sem
open scoped BigOperators

/-- One group's parameters as the body reads them, the state's factor as a row and as a column. -/
structure Group where
  lr : FVec Ideal S1x64 .f32
  li : FVec Ideal S1x64 .f32
  lrc : FVec Ideal S64x1 .f32
  lic : FVec Ideal S64x1 .f32
  dt : FVec Ideal S1x1 .f32
  br : FVec Ideal S16x64 .f32
  bi : FVec Ideal S16x64 .f32
  cr : FVec Ideal S64x16 .f32
  ci : FVec Ideal S64x16 .f32
  d : FVec Ideal S1x16 .f32

/-! ## The 0/1 patterns -/

abbrev row64 : IVec S64x128 32 := iota .tc S64x128 32 [0] iota_S64x128_d0_w32
abbrev col64 : IVec S64x128 32 := iota .tc S64x128 32 [1] iota_S64x128_d1_w32
abbrev w64 : BitVec 32 := Scalar.select (Scalar.cmpi .eq 64#32 0#32) 1#32 64#32

/-- One where the state is the lane's, in both halves. -/
def twice : FVec Ideal S64x128 .f32 := k0_pay14 (F := Ideal) row64 col64 w64 k0_pay13

/-- A bit as a number. -/
theorem bit_num (b : BitVec 1) (p : Prop) [Decidable p] (h : b = if p then 1#1 else 0#1) :
    FloatOps.sitofp (F := Ideal) .f32 (BitVec.setWidth 32 b) = if p then (1 : EReal) else 0 := by
  subst h
  show (((BitVec.setWidth 32 (if p then 1#1 else 0#1)).toInt : ℝ) : EReal) = _
  split <;> simp

set_option maxHeartbeats 4000000 in
theorem twice_at (s : Fin 64) (j : Fin 128) : twice (ix2 s j) = if s.val = j.val % 64 then 1 else 0 := by
  unfold twice
  pointwise [k0_pay14, k0_pay13]
  refine bit_num _ _ ?_
  revert s j
  decide +kernel

set_option maxHeartbeats 4000000 in
theorem tile_at (s : Fin 16) (j : Fin 256) : k0_pay53 (F := Ideal) (ix2 s j) = if s.val = j.val % 16 then 1 else 0 := by
  pointwise [k0_pay53]
  refine bit_num _ _ ?_
  revert s j
  decide +kernel

set_option maxHeartbeats 4000000 in
theorem repeat_at (s : Fin 16) (j : Fin 256) : k0_pay61 (F := Ideal) (ix2 s j) = if s.val = j.val / 16 then 1 else 0 := by
  pointwise [k0_pay61]
  refine bit_num _ _ ?_
  revert s j
  decide +kernel

namespace Group

variable (G : Group)

/-! ## What the body computes of one group -/

/-- The powers of the state's factor over a step, the real parts and the imaginary ones. -/
def pwr : FVec Ideal S17x64 .f32 := k0_pay18 G.lr G.li G.dt
def pwi : FVec Ideal S17x64 .f32 := k0_pay19 G.lr G.li G.dt
/-- The powers once for each half of the lanes. -/
def pwr2 : FVec Ideal S17x128 .f32 := k0_pay28 twice G.pwr
def pwi2 : FVec Ideal S17x128 .f32 := k0_pay29 twice G.pwi
def la : FVec Ideal S1x128 .f32 := k0_pay51 G.pwr2
def lb : FVec Ideal S1x128 .f32 := k0_pay52 G.pwi2 k0_pay30

/-- The discrete input matrix. -/
def bbr : FVec Ideal S16x128 .f32 := k0_pay25 G.lr G.li G.br G.bi G.dt row64 col64 w64 k0_pay13
def bbi : FVec Ideal S16x128 .f32 := k0_pay27 G.br G.bi twice (k0_pay24 G.lr G.li G.dt) (k0_pay26 G.lr G.li G.dt)
theorem row_in : ∀ k : Fin 16, Shape.Slices S17x128 ![k.val, 0] S1x128 := by decide +kernel
/-- What a frame adds to the state `k` frames on. -/
def add (k : Fin 16) : FVec Ideal S16x128 .f32 :=
  select (broadcastTo S16x128 (shapeCast S1x128 (k0_pay30) shapeCasts_S1x128_S1x128) broadcasts_S1x128_S16x128)
    (subf (mulf G.bbr (broadcastTo S16x128 (extractStridedSlice S1x128 ![k.val, 0] G.pwr2 (row_in k)) broadcasts_S1x128_S16x128))
      (mulf G.bbi (broadcastTo S16x128 (extractStridedSlice S1x128 ![k.val, 0] G.pwi2 (row_in k)) broadcasts_S1x128_S16x128)))
    (addf (mulf G.bbr (broadcastTo S16x128 (extractStridedSlice S1x128 ![k.val, 0] G.pwi2 (row_in k)) broadcasts_S1x128_S16x128))
      (mulf G.bbi (broadcastTo S16x128 (extractStridedSlice S1x128 ![k.val, 0] G.pwr2 (row_in k)) broadcasts_S1x128_S16x128)))
/-- The frames of a chunk below one another. -/
def bMat : FVec Ideal S256x128 .f32 :=
  concatenate S256x128 0 (List.ofFn fun n : Fin 16 => ⟨S16x128, G.add ⟨15 - n, by omega⟩⟩)
    concatenates_S16x128_S16x128_S16x128_S16x128_S16x128_S16x128_S16x128_S16x128_S16x128_S16x128_S16x128_S16x128_S16x128_S16x128_S16x128_S16x128_S256x128_d0
/-- How the state is read at a chunk's frames, from the state at its beginning. -/
def wr : FVec Ideal S64x256 .f32 := k0_pay64 G.lic G.dt (k0_pay54 G.cr) (k0_pay55 G.ci) k0_pay56 k0_pay57 (k0_pay58 G.lrc G.dt)
def wi : FVec Ideal S64x256 .f32 := k0_pay65 G.lic G.dt (k0_pay54 G.cr) (k0_pay55 G.ci) k0_pay56 k0_pay57 (k0_pay58 G.lrc G.dt)
def cMat : FVec Ideal S128x256 .f32 := k0_pay67 G.lrc G.lic G.dt G.wr G.wi
def lane256 : IVec S1x256 32 := iota .tc S1x256 32 [1] iota_S1x256_d1_w32
def kt : FVec Ideal S1x16x256 .f32 := k0_pay68 G.d G.bbr G.bbi lane256 k0_pay53 G.wr G.wi (k0_pay66 lane256)

/-! ## The entries -/

abbrev pr (k : ℕ) (s : Fin 64) : EReal :=
  Ideal.exp (num k * (G.lr (ix2 0 s) * G.dt (ix2 0 0))) * Ideal.cos (num k * (G.li (ix2 0 s) * G.dt (ix2 0 0)))
abbrev pi (k : ℕ) (s : Fin 64) : EReal :=
  Ideal.exp (num k * (G.lr (ix2 0 s) * G.dt (ix2 0 0))) * Ideal.sin (num k * (G.li (ix2 0 s) * G.dt (ix2 0 0)))

theorem pwr_at (k : Fin 17) (s : Fin 64) : G.pwr (ix2 k s) = G.pr k s := by
  unfold pwr
  pointwise [k0_pay18, k0_pay16, k0_pay17, k0_pay15]
theorem pwi_at (k : Fin 17) (s : Fin 64) : G.pwi (ix2 k s) = G.pi k s := by
  unfold pwi
  pointwise [k0_pay19, k0_pay16, k0_pay17, k0_pay15]

/-- The lane's state. -/
abbrev st (j : Fin 128) : Fin 64 := Params.lane j

/-- A sum against the pattern is the lane's entry. -/
theorem sum_twice (f : Fin 64 → EReal) (j : Fin 128) : (∑ s, f s * twice (ix2 s j)) = f (st j) := by
  have : ∀ s, f s * twice (ix2 s j) = if s = st j then f s else 0 := fun s => by
    rw [twice_at]
    by_cases h : s.val = j.val % 64
    · rw [if_pos h, if_pos (Fin.ext h), mul_one]
    · rw [if_neg h, if_neg (fun e => h (congrArg Fin.val e)), mul_zero]
  simp only [this, Finset.sum_ite_eq', Finset.mem_univ, if_true]

/-- A lane of the first half. -/
theorem first_half : ∀ j : Fin 128, IntOp.cmpi .slt (BitVec.ofNat 32 j.val) 64#32 = if j.val < 64 then 1#1 else 0#1 := by decide +kernel
theorem selected (p : Prop) [Decidable p] (a b : EReal) : Scalar.select (if p then 1#1 else 0#1) a b = if p then a else b := by
  unfold Scalar.select
  split <;> simp

theorem pwr2_at (k : Fin 17) (j : Fin 128) : G.pwr2 (ix2 k j) = G.pr k (st j) := by
  unfold pwr2
  have h := sum_twice (fun s => G.pwr (ix2 k s)) j
  rw [pwr_at] at h
  generalize G.pwr = x at *
  generalize twice = y at *
  pointwise [k0_pay28]
  exact h
theorem pwi2_at (k : Fin 17) (j : Fin 128) : G.pwi2 (ix2 k j) = G.pi k (st j) := by
  unfold pwi2
  have h := sum_twice (fun s => G.pwi (ix2 k s)) j
  rw [pwi_at] at h
  generalize G.pwi = x at *
  generalize twice = y at *
  pointwise [k0_pay29]
  exact h

theorem la_at (j : Fin 128) : G.la (ix2 0 j) = G.pr 16 (st j) := by
  unfold la
  have h := G.pwr2_at 16 j
  generalize G.pwr2 = x at *
  pointwise [k0_pay51]
  exact h
theorem lb_at (j : Fin 128) : G.lb (ix2 0 j) = if j.val < 64 then -G.pi 16 (st j) else G.pi 16 (st j) := by
  unfold lb
  have h := G.pwi2_at 16 j
  generalize G.pwi2 = x at *
  pointwise [k0_pay52, k0_pay30]
  rw [first_half, h, zero_sub]
  exact selected _ _ _

/-- The discrete step's factor of the input matrix, and the entries of the discrete input matrix. -/
abbrev den (s : Fin 64) : EReal := G.lr (ix2 0 s) * G.lr (ix2 0 s) + G.li (ix2 0 s) * G.li (ix2 0 s)
abbrev cfr (s : Fin 64) : EReal := Ideal.div ((G.pr 1 s - 1) * G.lr (ix2 0 s) + G.pi 1 s * G.li (ix2 0 s)) (G.den s)
abbrev cfi (s : Fin 64) : EReal := Ideal.div (G.pi 1 s * G.lr (ix2 0 s) - (G.pr 1 s - 1) * G.li (ix2 0 s)) (G.den s)
abbrev br' (h : Fin 16) (s : Fin 64) : EReal := G.cfr s * G.br (ix2 h s) - G.cfi s * G.bi (ix2 h s)
abbrev bi' (h : Fin 16) (s : Fin 64) : EReal := G.cfr s * G.bi (ix2 h s) + G.cfi s * G.br (ix2 h s)

theorem bbr_at (h : Fin 16) (j : Fin 128) : G.bbr (ix2 h j) = G.br' h (st j) := by
  refine Eq.trans ?_ (sum_twice (G.br' h) j)
  unfold bbr twice
  pointwise [k0_pay25, k0_pay24, k0_pay23, k0_pay22, k0_pay21, k0_pay20, k0_pay19, k0_pay18, k0_pay17, k0_pay16, k0_pay15]
theorem bbi_at (h : Fin 16) (j : Fin 128) : G.bbi (ix2 h j) = G.bi' h (st j) := by
  refine Eq.trans ?_ (sum_twice (G.bi' h) j)
  unfold bbi
  generalize twice = y at *
  pointwise [k0_pay27, k0_pay26, k0_pay24, k0_pay23, k0_pay22, k0_pay21, k0_pay20, k0_pay19, k0_pay18, k0_pay17, k0_pay16, k0_pay15]
theorem add_at (k h : Fin 16) (j : Fin 128) : G.add k (ix2 h j) = if j.val < 64
    then G.bbr (ix2 h j) * G.pr k (st j) - G.bbi (ix2 h j) * G.pi k (st j)
    else G.bbr (ix2 h j) * G.pi k (st j) + G.bbi (ix2 h j) * G.pr k (st j) := by
  unfold add
  have a := G.pwr2_at ⟨k, by omega⟩ j
  have b := G.pwi2_at ⟨k, by omega⟩ j
  generalize G.pwr2 = x at *
  generalize G.pwi2 = x at *
  generalize G.bbr = x at *
  generalize G.bbi = x at *
  pointwise [k0_pay30]
  rw [first_half, a, b]
  exact selected _ _ _
theorem bMat_at (q h : Fin 16) (j : Fin 128) : G.bMat (ix2 ⟨16 * q + h, by omega⟩ j) = G.add ⟨15 - q, by omega⟩ (ix2 h j) := by
  refine concatenate_ofFn_apply (t := S256x128) (s₁ := S16x128) 0 (fun n : Fin 16 => G.add ⟨15 - n, by omega⟩) _ rfl 16 rfl (ix2 ⟨16 * q.val + h.val, by omega⟩ j) q ?_ (ix2 h j) ?_ fun b hb => ?_
  · show (16 * q.val + h.val) / 16 = q.val; omega
  · show h.val = (16 * q.val + h.val) % 16; omega
  · match b with
    | ⟨0, _⟩ => exact absurd rfl hb
    | ⟨1, _⟩ => rfl

/-- The state is read at frame `j / 16` by the feature `j % 16`. -/
abbrev fr (j : Fin 256) : Fin 16 := Params.fr j
abbrev ch (j : Fin 256) : Fin 16 := Params.ch j
theorem sum_tile (f : Fin 16 → EReal) (j : Fin 256) : (∑ s, f s * k0_pay53 (F := Ideal) (ix2 s j)) = f (ch j) := by
  have : ∀ s, f s * k0_pay53 (F := Ideal) (ix2 s j) = if s = ch j then f s else 0 := fun s => by
    rw [tile_at]
    by_cases h : s.val = j.val % 16
    · rw [if_pos h, if_pos (Fin.ext h), mul_one]
    · rw [if_neg h, if_neg (fun e => h (congrArg Fin.val e)), mul_zero]
  simp only [this, Finset.sum_ite_eq', Finset.mem_univ, if_true]
theorem sum_repeat (f : Fin 16 → EReal) (j : Fin 256) : (∑ s, f s * k0_pay61 (F := Ideal) (ix2 s j)) = f (fr j) := by
  have : ∀ s, f s * k0_pay61 (F := Ideal) (ix2 s j) = if s = fr j then f s else 0 := fun s => by
    rw [repeat_at]
    by_cases h : s.val = j.val / 16
    · rw [if_pos h, if_pos (Fin.ext h), mul_one]
    · rw [if_neg h, if_neg (fun e => h (congrArg Fin.val e)), mul_zero]
  simp only [this, Finset.sum_ite_eq', Finset.mem_univ, if_true]

/-- The powers from the column. -/
abbrev prc (k : ℕ) (s : Fin 64) : EReal :=
  Ideal.exp (num k * (G.lrc (ix2 s 0) * G.dt (ix2 0 0))) * Ideal.cos (num k * (G.lic (ix2 s 0) * G.dt (ix2 0 0)))
abbrev pic (k : ℕ) (s : Fin 64) : EReal :=
  Ideal.exp (num k * (G.lrc (ix2 s 0) * G.dt (ix2 0 0))) * Ideal.sin (num k * (G.lic (ix2 s 0) * G.dt (ix2 0 0)))
abbrev wr' (s : Fin 64) (j : Fin 256) : EReal := G.prc (fr j) s * G.cr (ix2 s (ch j)) - G.pic (fr j) s * G.ci (ix2 s (ch j))
abbrev wi' (s : Fin 64) (j : Fin 256) : EReal := G.prc (fr j) s * G.ci (ix2 s (ch j)) + G.pic (fr j) s * G.cr (ix2 s (ch j))

theorem wr_at (s : Fin 64) (j : Fin 256) : G.wr (ix2 s j) = G.wr' s j := by
  unfold wr
  pointwise [k0_pay64, k0_pay62, k0_pay63, k0_pay59, k0_pay60, k0_pay54, k0_pay55, k0_pay56, k0_pay57, k0_pay58]
  exact congrArg₂ (· - ·) (congrArg₂ (· * ·) (sum_repeat (fun k => G.prc k s) j) (sum_tile (fun h => G.cr (ix2 s h)) j))
    (congrArg₂ (· * ·) (sum_repeat (fun k => G.pic k s) j) (sum_tile (fun h => G.ci (ix2 s h)) j))
theorem wi_at (s : Fin 64) (j : Fin 256) : G.wi (ix2 s j) = G.wi' s j := by
  unfold wi
  pointwise [k0_pay65, k0_pay62, k0_pay63, k0_pay59, k0_pay60, k0_pay54, k0_pay55, k0_pay56, k0_pay57, k0_pay58]
  exact congrArg₂ (· + ·) (congrArg₂ (· * ·) (sum_repeat (fun k => G.prc k s) j) (sum_tile (fun h => G.ci (ix2 s h)) j))
    (congrArg₂ (· * ·) (sum_repeat (fun k => G.pic k s) j) (sum_tile (fun h => G.cr (ix2 s h)) j))

/-- The state's factor over a step, from the column. -/
abbrev fa (s : Fin 64) : EReal := Ideal.exp (G.lrc (ix2 s 0) * G.dt (ix2 0 0)) * Ideal.cos (G.lic (ix2 s 0) * G.dt (ix2 0 0))
abbrev fb (s : Fin 64) : EReal := Ideal.exp (G.lrc (ix2 s 0) * G.dt (ix2 0 0)) * Ideal.sin (G.lic (ix2 s 0) * G.dt (ix2 0 0))

theorem cMat_re (s : Fin 64) (j : Fin 256) : G.cMat (ix2 ⟨s, by omega⟩ j) = G.wr' s j * G.fa s - G.wi' s j * G.fb s := by
  have a := G.wr_at s j
  have b := G.wi_at s j
  unfold cMat
  generalize G.wr = x at *
  generalize G.wi = x at *
  rw [← a, ← b]
  pointwise [k0_pay67]
theorem cMat_im (s : Fin 64) (j : Fin 256) : G.cMat (ix2 ⟨64 + s, by omega⟩ j) = 0 - (G.wr' s j * G.fb s + G.wi' s j * G.fa s) := by
  have a := G.wr_at s j
  have b := G.wi_at s j
  unfold cMat
  generalize G.wr = x at *
  generalize G.wi = x at *
  rw [← a, ← b]
  pointwise [k0_pay67]

/-- A lane of the first frame, at the feature's own place. -/
theorem own : ∀ (h : Fin 16) (j : Fin 256), IntOp.andi (IntOp.cmpi .slt (BitVec.ofNat 32 j.val) 16#32) (IntOp.cmpi .eq (BitVec.ofNat 32 j.val) (BitVec.ofNat 32 h.val))
    = if j.val = h.val then 1#1 else 0#1 := by decide +kernel

theorem kt_at (h : Fin 16) (j : Fin 256) : G.kt (ix3 0 h j)
    = (∑ s, G.br' h s * G.wr' s j) - (∑ s, G.bi' h s * G.wi' s j) + if j.val = h.val then G.d (ix2 0 (ch j)) else 0 := by
  have a := fun s => G.wr_at s j
  have b := fun s => G.wi_at s j
  have e : ∀ s : Fin 64, st ⟨s.val, by omega⟩ = s := fun s => Fin.ext (Nat.mod_eq_of_lt s.isLt)
  have c := fun s : Fin 64 => G.bbr_at h ⟨s.val, by omega⟩
  have d := fun s : Fin 64 => G.bbi_at h ⟨s.val, by omega⟩
  have t := sum_tile (fun l => G.d (ix2 0 l)) j
  simp only [e] at c d
  unfold kt
  generalize G.wr = x at *
  generalize G.wi = x at *
  generalize G.bbr = x at *
  generalize G.bbi = x at *
  simp only [← a, ← b, ← c, ← d]
  pointwise [k0_pay68, k0_pay66, lane256]
  rw [own, selected, t]

end Group

/-! ## The groups of a block -/

theorem inb (g : Fin 8) (a b : ℕ) : ∀ i, (![g.val, 0, 0] : Fin 3 → ℕ) i + ![1, a, b] i ≤ ![8, a, b] i := by
  have := g.isLt
  intro i; fin_cases i
  · show g.val + 1 ≤ 8; omega
  · show 0 + a ≤ a; omega
  · show 0 + b ≤ b; omega

variable (x0 x1 : Vec Ideal S8x1x64 .f32) (x2 x3 : Vec Ideal S8x64x1 .f32) (x4 : Vec Ideal S8x1x1 .f32)
  (x5 x6 : Vec Ideal S8x16x64 .f32) (x7 x8 : Vec Ideal S8x64x16 .f32) (x9 : Vec Ideal S8x1x16 .f32)

/-- What the body reads of group `g`. -/
def held (g : Fin 8) : Group where
  lr := k0_pay3 (View.ld x0 (Rect.unit (s := S8x1x64) ![g.val, 0, 0] S1x1x64.size (inb g 1 64)))
  li := k0_pay4 (View.ld x1 (Rect.unit (s := S8x1x64) ![g.val, 0, 0] S1x1x64.size (inb g 1 64)))
  lrc := k0_pay5 (View.ld x2 (Rect.unit (s := S8x64x1) ![g.val, 0, 0] S1x64x1.size (inb g 64 1)))
  lic := k0_pay6 (View.ld x3 (Rect.unit (s := S8x64x1) ![g.val, 0, 0] S1x64x1.size (inb g 64 1)))
  dt := k0_pay12 (View.ld x4 (Rect.unit (s := S8x1x1) ![g.val, 0, 0] S1x1x1.size (inb g 1 1)))
  br := k0_pay7 (View.ld x5 (Rect.unit (s := S8x16x64) ![g.val, 0, 0] S1x16x64.size (inb g 16 64)))
  bi := k0_pay8 (View.ld x6 (Rect.unit (s := S8x16x64) ![g.val, 0, 0] S1x16x64.size (inb g 16 64)))
  cr := k0_pay9 (View.ld x7 (Rect.unit (s := S8x64x16) ![g.val, 0, 0] S1x64x16.size (inb g 64 16)))
  ci := k0_pay10 (View.ld x8 (Rect.unit (s := S8x64x16) ![g.val, 0, 0] S1x64x16.size (inb g 64 16)))
  d := k0_pay11 (View.ld x9 (Rect.unit (s := S8x1x16) ![g.val, 0, 0] S1x1x16.size (inb g 1 16)))

variable (g : Fin 8)
theorem held_lr (s : Fin 64) : (held x0 x1 x2 x3 x4 x5 x6 x7 x8 x9 g).lr (ix2 0 s) = x0 (ix3 g 0 s) := by
  unfold held; pointwise [k0_pay3]
theorem held_li (s : Fin 64) : (held x0 x1 x2 x3 x4 x5 x6 x7 x8 x9 g).li (ix2 0 s) = x1 (ix3 g 0 s) := by
  unfold held; pointwise [k0_pay4]
theorem held_lrc (s : Fin 64) : (held x0 x1 x2 x3 x4 x5 x6 x7 x8 x9 g).lrc (ix2 s 0) = x2 (ix3 g s 0) := by
  unfold held; pointwise [k0_pay5]
theorem held_lic (s : Fin 64) : (held x0 x1 x2 x3 x4 x5 x6 x7 x8 x9 g).lic (ix2 s 0) = x3 (ix3 g s 0) := by
  unfold held; pointwise [k0_pay6]
theorem held_br (h : Fin 16) (s : Fin 64) : (held x0 x1 x2 x3 x4 x5 x6 x7 x8 x9 g).br (ix2 h s) = x5 (ix3 g h s) := by
  unfold held; pointwise [k0_pay7]
theorem held_bi (h : Fin 16) (s : Fin 64) : (held x0 x1 x2 x3 x4 x5 x6 x7 x8 x9 g).bi (ix2 h s) = x6 (ix3 g h s) := by
  unfold held; pointwise [k0_pay8]
theorem held_cr (s : Fin 64) (h : Fin 16) : (held x0 x1 x2 x3 x4 x5 x6 x7 x8 x9 g).cr (ix2 s h) = x7 (ix3 g s h) := by
  unfold held; pointwise [k0_pay9]
theorem held_ci (s : Fin 64) (h : Fin 16) : (held x0 x1 x2 x3 x4 x5 x6 x7 x8 x9 g).ci (ix2 s h) = x8 (ix3 g s h) := by
  unfold held; pointwise [k0_pay10]
theorem held_d (h : Fin 16) : (held x0 x1 x2 x3 x4 x5 x6 x7 x8 x9 g).d (ix2 0 h) = x9 (ix3 g 0 h) := by
  unfold held; pointwise [k0_pay11]
theorem held_dt : (held x0 x1 x2 x3 x4 x5 x6 x7 x8 x9 g).dt (ix2 0 0) = Ideal.exp (x4 (ix3 g 0 0)) := by
  unfold held; pointwise [k0_pay12]

/-- A block whose groups are given. -/
def lay {a b : ℕ} (f : Fin 8 → Vec Ideal ⟨3, ![1, a, b]⟩ .f32) : Vec Ideal ⟨3, ![8, a, b]⟩ .f32 := fun y => f (y 0) (ix3 0 (y 1) (y 2))

theorem lay_at {a b : ℕ} (f : Fin 8 → Vec Ideal ⟨3, ![1, a, b]⟩ .f32) (g : Fin 8) (x : (⟨3, ![1, a, b]⟩ : Shape).Idx) :
    f g x = lay f ((Rect.unit (s := ⟨3, ![8, a, b]⟩) ![g.val, 0, 0] ![1, a, b] (inb g a b)).emb x) := by
  have e : ∀ i, (((Rect.unit (s := ⟨3, ![8, a, b]⟩) ![g.val, 0, 0] ![1, a, b] (inb g a b)).emb x) i).val
      = (![g.val, 0, 0] : Fin 3 → ℕ) i + (x i).val := fun i => ValueKit.rect_emb_unit_val _ _ _ _ _
  have z : (x 0).val = 0 := Nat.lt_one_iff.mp (x 0).isLt
  unfold lay
  congr 1
  · congr 1
    apply Fin.ext; rw [e 0]; show g.val = g.val + (x 0).val; omega
  · funext i; apply Fin.ext
    match i with
    | ⟨0, _⟩ => exact z
    | ⟨1, _⟩ => exact ((e 1).trans (Nat.zero_add _)).symm
    | ⟨2, _⟩ => exact ((e 2).trans (Nat.zero_add _)).symm

/-- The group's place in a block. -/
abbrev place (a b : ℕ) (g : Fin 8) : Rect ⟨3, ![8, a, b]⟩ := Rect.unit ![g.val, 0, 0] ![1, a, b] (inb g a b)

/-- Eight stores, one for each group. -/
abbrev stores {a b : ℕ} (f : Fin 8 → Vec Ideal ⟨3, ![1, a, b]⟩ .f32) : List (View.Piece (Elt Ideal) ⟨3, ![8, a, b]⟩ .f32) :=
  [⟨place a b 7, f 7⟩, ⟨place a b 6, f 6⟩, ⟨place a b 5, f 5⟩, ⟨place a b 4, f 4⟩, ⟨place a b 3, f 3⟩, ⟨place a b 2, f 2⟩,
    ⟨place a b 1, f 1⟩, ⟨place a b 0, f 0⟩]

/-- Eight stores, one for each group, leave the block of the groups. -/
theorem laid {a b : ℕ} (f : Fin 8 → Vec Ideal ⟨3, ![1, a, b]⟩ .f32)
    (hc : ∀ y, ∃ p ∈ stores f, y ∈ p.1.set) : View.canon (stores f) = lay f := by
  funext y
  refine View.canon_append_of_piecesOf (lay f) [] [_, _, _, _, _, _, _, _]
    ⟨lay_at f 7, lay_at f 6, lay_at f 5, lay_at f 4, lay_at f 3, lay_at f 2, lay_at f 1, lay_at f 0, trivial⟩ y (hc y)

set_option maxHeartbeats 4000000
theorem la_block : out0_13 x0 x1 x2 x3 x4 x5 x6 x7 x8 x9 = lay fun g => k0_pay71 (held x0 x1 x2 x3 x4 x5 x6 x7 x8 x9 g).la :=
  Eq.trans (by sl_kernel_rfl) (laid _ (View.cover_of_tiledBy _ ![1, 1, 128] (by sl_kernel_rfl)))
theorem lb_block : out0_14 x0 x1 x2 x3 x4 x5 x6 x7 x8 x9 = lay fun g => k0_pay72 (held x0 x1 x2 x3 x4 x5 x6 x7 x8 x9 g).lb :=
  Eq.trans (by sl_kernel_rfl) (laid _ (View.cover_of_tiledBy _ ![1, 1, 128] (by sl_kernel_rfl)))
theorem bMat_block : out0_11 x0 x1 x2 x3 x4 x5 x6 x7 x8 x9 = lay fun g => k0_pay69 (held x0 x1 x2 x3 x4 x5 x6 x7 x8 x9 g).bMat :=
  Eq.trans (by sl_kernel_rfl) (laid _ (View.cover_of_tiledBy _ ![1, 256, 128] (by sl_kernel_rfl)))
theorem cMat_block : out0_12 x0 x1 x2 x3 x4 x5 x6 x7 x8 x9 = lay fun g => k0_pay70 (held x0 x1 x2 x3 x4 x5 x6 x7 x8 x9 g).cMat :=
  Eq.trans (by sl_kernel_rfl) (laid _ (View.cover_of_tiledBy _ ![1, 128, 256] (by sl_kernel_rfl)))
theorem kt_block : out0_10 x0 x1 x2 x3 x4 x5 x6 x7 x8 x9 = lay fun g => (held x0 x1 x2 x3 x4 x5 x6 x7 x8 x9 g).kt :=
  Eq.trans (by sl_kernel_rfl) (laid _ (View.cover_of_tiledBy _ ![1, 16, 256] (by sl_kernel_rfl)))

end Cert.Operators
end
-- ==== Proof.OperatorsRef.lean ====
/- The reference's operators of the recurrence, entry by entry. -/
module

public import proofs.«01_k».proof.Proof.Gen.Reference9Ideal.Run
public import proofs.«01_k».proof.Proof.OperatorsSpec
public import Idealize.ShloMosaic.Lib.Pointwise

@[expose] public section

set_option maxRecDepth 100000

noncomputable section

namespace Cert.Reference9Ideal.Out

open Cert.Reference9Ideal Cert.Reference9Ideal.Value Idealize.ShloMosaic Idealize.ShloMosaic.TcCoe Idealize.SL.Sem
open Cert.Operators
open scoped BigOperators

variable (m : (ℓ : Loc nD τ sig) → Buf (Elt Ideal) ℓ) (c : Dev nD)

/-- Group `g`'s parameters. -/
abbrev params (g : Fin 32) : Params where
  lr s := m ((c.tc : Thread nD τ).loc main_arg0) (ix2 g s)
  li s := m ((c.tc : Thread nD τ).loc main_arg1) (ix2 g s)
  dt := Ideal.exp (m ((c.tc : Thread nD τ).loc main_arg2) (ix1 g))
  br h s := m ((c.tc : Thread nD τ).loc main_arg3) (ix3 g s h)
  bi h s := m ((c.tc : Thread nD τ).loc main_arg4) (ix3 g s h)
  cr s h := m ((c.tc : Thread nD τ).loc main_arg5) (ix3 g h s)
  ci s h := m ((c.tc : Thread nD τ).loc main_arg6) (ix3 g h s)
  d h := m ((c.tc : Thread nD τ).loc main_arg7) (ix2 g h)

theorem low (j : Fin 128) (h : j.val < 64) : (⟨j.val, h⟩ : Fin 64) = Params.lane j := Fin.ext (Nat.mod_eq_of_lt h).symm
theorem high (j : Fin 128) (h : ¬ j.val < 64) : (⟨j.val - 64, by omega⟩ : Fin 64) = Params.lane j :=
  Fin.ext (by show j.val - 64 = j.val % 64; omega)

theorem b_at (g : Fin 32) (q h : Fin 16) (j : Fin 128) : res_main_v77 m c (ix3 g ⟨16 * q + h, by omega⟩ j) = if j.val < 64
    then (params m c g).pr (15 - q) (Params.lane j) * (params m c g).bbr h (Params.lane j) - (params m c g).pi (15 - q) (Params.lane j) * (params m c g).bbi h (Params.lane j)
    else (params m c g).pr (15 - q) (Params.lane j) * (params m c g).bbi h (Params.lane j) + (params m c g).pi (15 - q) (Params.lane j) * (params m c g).bbr h (Params.lane j) := by
  have e : (15 - q.val) = q.rev.val := by rw [Fin.val_rev]; omega
  rw [e]
  unfold res_main_v77
  pointwise []
  split
  · rename_i h'
    rw [low j h']
    rfl
  · rename_i h'
    rw [high j h']
    rfl

theorem c_re (g : Fin 32) (s : Fin 64) (k h : Fin 16) :
    res_main_v144 m c (ix3 g ⟨s, by omega⟩ ⟨16 * k + h, by omega⟩) = (params m c g).wr (k + 1) s h := by
  unfold res_main_v144
  pointwise []
  rw [Nat.add_comm 1]
  rfl
theorem c_im (g : Fin 32) (s : Fin 64) (k h : Fin 16) :
    res_main_v144 m c (ix3 g ⟨64 + s, by omega⟩ ⟨16 * k + h, by omega⟩) = -(params m c g).wi (k + 1) s h := by
  unfold res_main_v144
  pointwise []
  rw [Nat.add_comm 1]
  rfl

/-- The direct term stands where the channels are the same. -/
theorem direct (h l : Fin 16) (a : EReal) :
    Scalar.select (IntOp.cmpi CmpIPredicate.eq (IntOp.addi (BitVec.ofNat 32 h.val) 0#32) (BitVec.ofNat 32 l.val)) a 0 = if h = l then a else 0 := by
  have : IntOp.cmpi CmpIPredicate.eq (IntOp.addi (BitVec.ofNat 32 h.val) 0#32) (BitVec.ofNat 32 l.val) = if h = l then 1#1 else 0#1 := by
    revert h l; decide +kernel
  rw [this]
  unfold Scalar.select
  split <;> simp

theorem k_at (g : Fin 32) (h k l : Fin 16) : res_main_v143 m c (ix3 g h ⟨16 * k + l, by omega⟩)
    = (∑ s, (params m c g).bbr h s * (params m c g).wr k s l) - (∑ s, (params m c g).bbi h s * (params m c g).wi k s l)
      + if 16 * k.val + l.val = h.val then (params m c g).d l else 0 := by
  unfold res_main_v143
  pointwise []
  split
  · rename_i n
    have e : (if 16 * k.val + l.val = h.val then (params m c g).d l else 0) = if h = l then (params m c g).d h else 0 := by
      by_cases x : h = l
      · subst x; rw [if_pos rfl, if_pos (by omega)]
      · rw [if_neg x, if_neg fun y => x (Fin.ext (by omega))]
    rw [e, ← direct]
    refine congrArg₂ (· + ·) rfl (congrArg (Scalar.select _ _) ?_)
    exact Ideal.ofBits_zero_f32
  · rename_i n
    have e : 1 + (k.val - 1) = k.val := by omega
    rw [e, if_neg (by omega), add_zero]
    rfl

/-- What the reference leaves in its results. -/
theorem run_entries (ρ : Dev nD → PrngReg) :
    θ_run defs (onTc (τ := τ) (main (F := Ideal))) ⟨m, fun _ => 0, ρ⟩ fun r => ∀ c : Dev nD,
      r.2.mem ((c.tc : Thread nD τ).loc main_v143) = kAll (params m c)
      ∧ r.2.mem ((c.tc : Thread nD τ).loc main_v77) = bAll (params m c)
      ∧ r.2.mem ((c.tc : Thread nD τ).loc main_v144) = cAll (params m c)
      ∧ r.2.mem ((c.tc : Thread nD τ).loc main_v138) = laAll (params m c)
      ∧ r.2.mem ((c.tc : Thread nD τ).loc main_v142) = lbAll (params m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (run m ρ)
  obtain ⟨hk, hb, hc, ha, hl, keep⟩ := h c
  refine ⟨hk.trans (of_entries fun g h j => ?_), hb.trans (of_entries fun g r j => ?_), hc.trans (of_entries fun g r j => ?_),
    ha.trans (of_entries fun g i j => ?_), hl.trans (of_entries fun g i j => ?_), keep⟩
  · have e : (⟨16 * (Params.fr j).val + (Params.ch j).val, by omega⟩ : Fin 256) = j := Fin.ext (Nat.div_add_mod _ 16)
    have v := k_at m c g h (Params.fr j) (Params.ch j)
    have w : 16 * (Params.fr j).val + (Params.ch j).val = j.val := Nat.div_add_mod _ 16
    rw [e, w] at v
    exact v
  · have e : (⟨16 * (Params.fr r).val + (Params.ch r).val, by omega⟩ : Fin 256) = r := Fin.ext (Nat.div_add_mod _ 16)
    have v := b_at m c g (Params.fr r) (Params.ch r) j
    rw [e] at v
    exact v
  · have e : (⟨16 * (Params.fr j).val + (Params.ch j).val, by omega⟩ : Fin 256) = j := Fin.ext (Nat.div_add_mod _ 16)
    show _ = (params m c g).c r j
    unfold Params.c
    by_cases n : r.val < 64
    · have v := c_re m c g (Params.lane r) (Params.fr j) (Params.ch j)
      have w : (⟨(Params.lane r).val, by omega⟩ : Fin 128) = r := Fin.ext (Nat.mod_eq_of_lt n)
      rw [e, w] at v
      rw [if_pos n]
      exact v
    · have v := c_im m c g (Params.lane r) (Params.fr j) (Params.ch j)
      have w : (⟨64 + (Params.lane r).val, by omega⟩ : Fin 128) = r := Fin.ext (by show 64 + r.val % 64 = r.val; omega)
      rw [e, w] at v
      rw [if_neg n]
      exact v
  · show _ = (params m c g).la j
    obtain rfl : i = 0 := Subsingleton.elim _ _
    pointwise []
    split
    · rename_i n; rw [low j n]; rfl
    · rename_i n; rw [high j n]; rfl
  · show _ = (params m c g).lb j
    obtain rfl : i = 0 := Subsingleton.elim _ _
    unfold Params.lb
    pointwise []
    split
    · rename_i n; rw [low j n]; rfl
    · rename_i n; rw [high j n]; rfl

end Cert.Reference9Ideal.Out
end
-- ==== Proof.OperatorsArrays.lean ====
/- What the operators' call leaves in its arrays. -/
module

public import proofs.«01_k».proof.Proof.Operators
public import proofs.«01_k».proof.Proof.OperatorsRef

@[expose] public section

set_option maxRecDepth 16384

noncomputable section

namespace Cert.Operators

open Cert.Kernel9Ideal Cert.Kernel9Ideal.Gen Idealize.ShloMosaic Idealize.ShloMosaic.TcCoe Idealize.SL.Sem
open scoped BigOperators

namespace Group

variable (G : Group)

/-- A group's parameters. -/
def params : Params where
  lr s := G.lr (ix2 0 s)
  li s := G.li (ix2 0 s)
  dt := G.dt (ix2 0 0)
  br h s := G.br (ix2 h s)
  bi h s := G.bi (ix2 h s)
  cr s h := G.cr (ix2 s h)
  ci s h := G.ci (ix2 s h)
  d h := G.d (ix2 0 h)

theorem la_eq (j : Fin 128) : k0_pay71 G.la (ix3 0 0 j) = G.params.la j := by
  have a := G.la_at j
  generalize G.la = x at *
  pointwise [k0_pay71]
  exact a
theorem lb_eq (j : Fin 128) : k0_pay72 G.lb (ix3 0 0 j) = G.params.lb j := by
  have a := G.lb_at j
  generalize G.lb = x at *
  pointwise [k0_pay72]
  exact a
theorem b_eq (r : Fin 256) (j : Fin 128) : k0_pay69 G.bMat (ix3 0 r j) = G.params.b r j := by
  have e : (⟨16 * (Params.fr r).val + (Params.ch r).val, by omega⟩ : Fin 256) = r := Fin.ext (Nat.div_add_mod _ 16)
  have a := (G.bMat_at (Params.fr r) (Params.ch r) j).trans (G.add_at _ _ j)
  rw [e, G.bbr_at, G.bbi_at] at a
  generalize G.bMat = x at *
  pointwise [k0_pay69]
  rw [a]
  unfold Params.b
  congr 1
  · exact congrArg₂ (· - ·) (mul_comm _ _) (mul_comm _ _)
  · exact (add_comm _ _).trans (congrArg₂ (· + ·) (mul_comm _ _) (mul_comm _ _))

/-- The columns hold the rows' values. -/
structure Twofold : Prop where
  lr s : G.lrc (ix2 s 0) = G.lr (ix2 0 s)
  li s : G.lic (ix2 s 0) = G.li (ix2 0 s)

variable {G} (hG : G.Twofold)
include hG

theorem wr_eq (s : Fin 64) (j : Fin 256) : G.wr' s j = G.params.wr (fr j) s (ch j) := by
  unfold wr' prc pic
  rw [hG.lr, hG.li]
  rfl
theorem wi_eq (s : Fin 64) (j : Fin 256) : G.wi' s j = G.params.wi (fr j) s (ch j) := by
  unfold wi' prc pic
  rw [hG.lr, hG.li]
  rfl
theorem fa_eq (s : Fin 64) : G.fa s = G.params.fa s := by
  unfold fa
  rw [hG.lr, hG.li]
  rfl
theorem fb_eq (s : Fin 64) : G.fb s = G.params.fb s := by
  unfold fb
  rw [hG.lr, hG.li]
  rfl

theorem k_eq (h : Fin 16) (j : Fin 256) : G.kt (ix3 0 h j) = G.params.k h j := by
  rw [G.kt_at]
  simp only [wr_eq hG, wi_eq hG]
  rfl

theorem c_eq (hP : G.params.Real) (r : Fin 128) (j : Fin 256) : k0_pay70 G.cMat (ix3 0 r j) = G.params.c r j := by
  obtain ⟨p, q⟩ := Params.step hP (fr j) (by omega) (Params.lane r) (ch j)
  unfold Params.c
  by_cases n : r.val < 64
  · have w : (⟨(Params.lane r).val, by omega⟩ : Fin 128) = r := Fin.ext (Nat.mod_eq_of_lt n)
    have a := G.cMat_re (Params.lane r) j
    rw [w, wr_eq hG, wi_eq hG, fa_eq hG, fb_eq hG, p] at a
    rw [if_pos n]
    generalize G.cMat = x at *
    pointwise [k0_pay70]
    exact a
  · have w : (⟨64 + (Params.lane r).val, by omega⟩ : Fin 128) = r := Fin.ext (by show 64 + r.val % 64 = r.val; omega)
    have a := G.cMat_im (Params.lane r) j
    rw [w, wr_eq hG, wi_eq hG, fa_eq hG, fb_eq hG, q, zero_sub] at a
    rw [if_neg n]
    generalize G.cMat = x at *
    pointwise [k0_pay70]
    exact a

end Group

end Cert.Operators

namespace Cert.Kernel9Ideal.Value

open Cert.Kernel9Ideal Cert.Kernel9Ideal.Gen Idealize.ShloMosaic Idealize.ShloMosaic.TcCoe Idealize.SL.Sem
open Cert.Operators
open scoped BigOperators

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] ∧ win0_8.index t = ![t.val, 0, 0] ∧ win0_9.index t = ![t.val, 0, 0] ∧ win0_10.index t = ![t.val, 0, 0]
    ∧ win0_11.index t = ![t.val, 0, 0] ∧ win0_12.index t = ![t.val, 0, 0] ∧ win0_13.index t = ![t.val, 0, 0] ∧ win0_14.index t = ![t.val, 0, 0] :=
  (by decide +kernel : ∀ t : Fin grid0.N, _)

variable (m : (ℓ : Loc nD τ sig) → Buf (Elt Ideal) ℓ) (c : Dev nD)

/-- Group `g`'s parameters. -/
abbrev params (g : Fin 32) : Params where
  lr s := m ((c.tc : Thread nD τ).loc main_arg0) (ix2 g s)
  li s := m ((c.tc : Thread nD τ).loc main_arg1) (ix2 g s)
  dt := Ideal.exp (m ((c.tc : Thread nD τ).loc main_arg2) (ix1 g))
  br h s := m ((c.tc : Thread nD τ).loc main_arg3) (ix3 g s h)
  bi h s := m ((c.tc : Thread nD τ).loc main_arg4) (ix3 g s h)
  cr s h := m ((c.tc : Thread nD τ).loc main_arg5) (ix3 g h s)
  ci s h := m ((c.tc : Thread nD τ).loc main_arg6) (ix3 g h s)
  d h := m ((c.tc : Thread nD τ).loc main_arg7) (ix2 g h)

/-- Group `g` of point `t` among all groups. -/
abbrev at' (t : Fin cfg0.N) (g : Fin 8) : Fin 32 := ⟨8 * t.val + g.val, by have : t.val < 4 := t.isLt; omega⟩

theorem v0 (g : Fin 32) (s : Fin 64) : V m c main_v0 (ix3 g 0 s) = (params m c g).lr s := by
  dsimp only [V, hostOps0]; after_results; pointwise
theorem v1 (g : Fin 32) (s : Fin 64) : V m c main_v1 (ix3 g 0 s) = (params m c g).li s := by
  dsimp only [V, hostOps0]; after_results; pointwise
theorem v2 (g : Fin 32) (s : Fin 64) : V m c main_v2 (ix3 g s 0) = (params m c g).lr s := by
  dsimp only [V, hostOps0]; after_results; pointwise
theorem v3 (g : Fin 32) (s : Fin 64) : V m c main_v3 (ix3 g s 0) = (params m c g).li s := by
  dsimp only [V, hostOps0]; after_results; pointwise
theorem v4 (g : Fin 32) : V m c main_v4 (ix3 g 0 0) = m ((c.tc : Thread nD τ).loc main_arg2) (ix1 g) := by
  dsimp only [V, hostOps0]; after_results; pointwise
theorem v5 (g : Fin 32) (h : Fin 16) (s : Fin 64) : V m c main_v5 (ix3 g h s) = (params m c g).br h s := by
  dsimp only [V, hostOps0]; after_results; pointwise
theorem v6 (g : Fin 32) (h : Fin 16) (s : Fin 64) : V m c main_v6 (ix3 g h s) = (params m c g).bi h s := by
  dsimp only [V, hostOps0]; after_results; pointwise
theorem v7 (g : Fin 32) (s : Fin 64) (h : Fin 16) : V m c main_v7 (ix3 g s h) = (params m c g).cr s h := by
  dsimp only [V, hostOps0]; after_results; pointwise
theorem v8 (g : Fin 32) (s : Fin 64) (h : Fin 16) : V m c main_v8 (ix3 g s h) = (params m c g).ci s h := by
  dsimp only [V, hostOps0]; after_results; pointwise
theorem v9 (g : Fin 32) (h : Fin 16) : V m c main_v9 (ix3 g 0 h) = (params m c g).d h := by
  dsimp only [V, hostOps0]; after_results; pointwise

variable (t : Fin cfg0.N) (g : Fin 8)

theorem blk0 (s : Fin 64) : iblk m c 0 t (ix3 g 0 s) = V m c main_v0 (ix3 (at' t g) 0 s) := by blk_point [iblk, idx t]
theorem blk1 (s : Fin 64) : iblk m c 1 t (ix3 g 0 s) = V m c main_v1 (ix3 (at' t g) 0 s) := by blk_point [iblk, idx t]
theorem blk2 (s : Fin 64) : iblk m c 2 t (ix3 g s 0) = V m c main_v2 (ix3 (at' t g) s 0) := by blk_point [iblk, idx t]
theorem blk3 (s : Fin 64) : iblk m c 3 t (ix3 g s 0) = V m c main_v3 (ix3 (at' t g) s 0) := by blk_point [iblk, idx t]
theorem blk4 : iblk m c 4 t (ix3 g 0 0) = V m c main_v4 (ix3 (at' t g) 0 0) := by blk_point [iblk, idx t]
theorem blk5 (h : Fin 16) (s : Fin 64) : iblk m c 5 t (ix3 g h s) = V m c main_v5 (ix3 (at' t g) h s) := by blk_point [iblk, idx t]
theorem blk6 (h : Fin 16) (s : Fin 64) : iblk m c 6 t (ix3 g h s) = V m c main_v6 (ix3 (at' t g) h s) := by blk_point [iblk, idx t]
theorem blk7 (s : Fin 64) (h : Fin 16) : iblk m c 7 t (ix3 g s h) = V m c main_v7 (ix3 (at' t g) s h) := by blk_point [iblk, idx t]
theorem blk8 (s : Fin 64) (h : Fin 16) : iblk m c 8 t (ix3 g s h) = V m c main_v8 (ix3 (at' t g) s h) := by blk_point [iblk, idx t]
theorem blk9 (h : Fin 16) : iblk m c 9 t (ix3 g 0 h) = V m c main_v9 (ix3 (at' t g) 0 h) := by blk_point [iblk, idx t]

/-- The group a point's blocks hold. -/
abbrev group : Group := held (iblk m c 0 t) (iblk m c 1 t) (iblk m c 2 t) (iblk m c 3 t) (iblk m c 4 t) (iblk m c 5 t) (iblk m c 6 t)
  (iblk m c 7 t) (iblk m c 8 t) (iblk m c 9 t) g

theorem group_params : (group m c t g).params = params m c (at' t g) := by
  unfold Group.params params
  congr 1
  · funext s; exact (held_lr ..).trans ((blk0 m c t g s).trans (v0 m c _ s))
  · funext s; exact (held_li ..).trans ((blk1 m c t g s).trans (v1 m c _ s))
  · exact (held_dt ..).trans (congrArg Ideal.exp ((blk4 m c t g).trans (v4 m c _)))
  · funext h s; exact (held_br ..).trans ((blk5 m c t g h s).trans (v5 m c _ h s))
  · funext h s; exact (held_bi ..).trans ((blk6 m c t g h s).trans (v6 m c _ h s))
  · funext s h; exact (held_cr ..).trans ((blk7 m c t g s h).trans (v7 m c _ s h))
  · funext s h; exact (held_ci ..).trans ((blk8 m c t g s h).trans (v8 m c _ s h))
  · funext h; exact (held_d ..).trans ((blk9 m c t g h).trans (v9 m c _ h))

theorem group_twofold : (group m c t g).Twofold where
  lr s := ((held_lrc ..).trans ((blk2 m c t g s).trans (v2 m c _ s))).trans
    ((held_lr ..).trans ((blk0 m c t g s).trans (v0 m c _ s))).symm
  li s := ((held_lic ..).trans ((blk3 m c t g s).trans (v3 m c _ s))).trans
    ((held_li ..).trans ((blk1 m c t g s).trans (v1 m c _ s))).symm

theorem place10 (G : S32x16x256.Idx → EReal) (y : S8x16x256.Idx) :
    G (ix3 (at' t (y 0)) (y 1) (y 2)) = G (((View.whole main_v10_0).slice (win0_10.rect t)).emb y) := by blk_point [idx t]
theorem place11 (G : S32x256x128.Idx → EReal) (y : S8x256x128.Idx) :
    G (ix3 (at' t (y 0)) (y 1) (y 2)) = G (((View.whole main_v10_1).slice (win0_11.rect t)).emb y) := by blk_point [idx t]
theorem place12 (G : S32x128x256.Idx → EReal) (y : S8x128x256.Idx) :
    G (ix3 (at' t (y 0)) (y 1) (y 2)) = G (((View.whole main_v10_2).slice (win0_12.rect t)).emb y) := by blk_point [idx t]
theorem place13 (G : S32x1x128.Idx → EReal) (y : S8x1x128.Idx) :
    G (ix3 (at' t (y 0)) (y 1) (y 2)) = G (((View.whole main_v10_3).slice (win0_13.rect t)).emb y) := by blk_point [idx t]
theorem place14 (G : S32x1x128.Idx → EReal) (y : S8x1x128.Idx) :
    G (ix3 (at' t (y 0)) (y 1) (y 2)) = G (((View.whole main_v10_4).slice (win0_14.rect t)).emb y) := by blk_point [idx t]

/-- A block of groups, entry by entry. -/
theorem lay_eq {a b : ℕ} {f : Fin 8 → Vec Ideal ⟨3, ![1, a, b]⟩ .f32} {q : Params → Fin a → Fin b → EReal}
    (h : ∀ g i j, f g (ix3 0 i j) = q (group m c t g).params i j) (y : (⟨3, ![8, a, b]⟩ : Shape).Idx) :
    lay f y = q (params m c (at' t (y 0))) (y 1) (y 2) :=
  (h (y 0) (y 1) (y 2)).trans (congrArg (fun P => q P (y 1) (y 2)) (group_params m c t (y 0)))

theorem k_final : (dats m 0 c).arrAt 10 cfg0.N = kAll (params m c) := by
  refine (dats m 0 c).arrAt_eq_of_covers 10 _ (by decide +kernel) fun t _ y => ?_
  blk_simp; rw [after0_10, kt_block]
  exact (lay_eq m c t (q := Params.k) (fun g i j => Group.k_eq (group_twofold m c t g) i j) y).trans (place10 t (kAll (params m c)) y)
theorem b_final : (dats m 0 c).arrAt 11 cfg0.N = bAll (params m c) := by
  refine (dats m 0 c).arrAt_eq_of_covers 11 _ (by decide +kernel) fun t _ y => ?_
  blk_simp; rw [after0_11, bMat_block]
  exact (lay_eq m c t (q := Params.b) (fun g i j => Group.b_eq (group m c t g) i j) y).trans (place11 t (bAll (params m c)) y)
theorem c_final (hP : ∀ g, (params m c g).Real) : (dats m 0 c).arrAt 12 cfg0.N = cAll (params m c) := by
  refine (dats m 0 c).arrAt_eq_of_covers 12 _ (by decide +kernel) fun t _ y => ?_
  blk_simp; rw [after0_12, cMat_block]
  exact (lay_eq m c t (q := Params.c) (fun g i j => Group.c_eq (group_twofold m c t g) (by rw [group_params]; exact hP _) i j) y).trans (place12 t (cAll (params m c)) y)
theorem la_final : (dats m 0 c).arrAt 13 cfg0.N = laAll (params m c) := by
  refine (dats m 0 c).arrAt_eq_of_covers 13 _ (by decide +kernel) fun t _ y => ?_
  blk_simp; rw [after0_13, la_block]
  exact (lay_eq m c t (q := (fun P _ j => P.la j)) (fun g i j => by obtain rfl : i = 0 := Subsingleton.elim _ _; exact Group.la_eq (group m c t g) j) y).trans (place13 t (laAll (params m c)) y)
theorem lb_final : (dats m 0 c).arrAt 14 cfg0.N = lbAll (params m c) := by
  refine (dats m 0 c).arrAt_eq_of_covers 14 _ (by decide +kernel) fun t _ y => ?_
  blk_simp; rw [after0_14, lb_block]
  exact (lay_eq m c t (q := (fun P _ j => P.lb j)) (fun g i j => by obtain rfl : i = 0 := Subsingleton.elim _ _; exact Group.lb_eq (group m c t g) j) y).trans (place14 t (lbAll (params m c)) y)

end Cert.Kernel9Ideal.Value
end
-- ==== Proof.RunKernelIdeal.lean ====
/- What every array holds after `KernelIdeal`'s host lines and kernel calls: the contents at the last boundary. -/
module

public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every execution ends, and every array then holds the contents `W12` of the last boundary. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W12 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h _ => h)

end Cert.KernelIdeal.Out

end
-- ==== Proof.Spec.lean ====
/- The formulas of the layers' normalisation and of its derivative on one row, on plain functions of a feature. -/
module

public import Idealize.ShloMosaic.Lib.Pointwise

@[expose] public section

noncomputable section

namespace Cert.Spec

open Idealize.ShloMosaic
open scoped BigOperators

variable {n : ℕ}

/-- The mean of the squares of a row, plus the small constant that keeps it positive. -/
def var (N : EReal) (v : Fin n → EReal) : EReal := Ideal.div (∑ k, v k * v k) N + Ideal.ofBits .f32 0x358637BD#32

/-- A row divided by its root mean square, times the gain. -/
def rms (N : EReal) (v g : Fin n → EReal) (j : Fin n) : EReal := v j * Ideal.rsqrt (var N v) * g j

/-- What the derivative of `rms` sends through the mean, for the cotangent `d`. -/
def rmsMean (N : EReal) (v g d : Fin n → EReal) : EReal :=
  Ideal.div ((∑ k, v k * (d k * g k)) * (Ideal.ofBits .f32 0xBF000000#32 * Ideal.div (Ideal.rsqrt (var N v)) (var N v))) N

/-- The derivative of `rms` in the row, for the cotangent `d`: the direct part, and the mean's part for each of the two
    factors of the square. -/
def rmsRow (N : EReal) (v g d : Fin n → EReal) (j : Fin n) : EReal :=
  d j * g j * Ideal.rsqrt (var N v) + v j * rmsMean N v g d + rmsMean N v g d * v j

end Cert.Spec

end
-- ==== Proof.Sums.lean ====
/- Sums over rows regrouped, and the values of the constants. -/
module

public import Idealize.ShloMosaic.Lib.Pointwise

@[expose] public section

noncomputable section

namespace Cert.Sums

open Idealize.ShloMosaic
open scoped BigOperators

/-! ## Constants -/

theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem features : Ideal.ofBits .f32 0x44800000#32 = ((1024 : ℝ) : EReal) := by
  simp [Ideal.ofBits, Ideal.ieee, -EReal.coe_mul]; norm_num
theorem per_feature : Ideal.ofBits .f32 0x3A800000#32 = ((1 / 1024 : ℝ) : EReal) := by
  simp [Ideal.ofBits, Ideal.ieee, -EReal.coe_mul]; norm_num
theorem half_features : Ideal.ofBits .f32 0x44000000#32 = ((512 : ℝ) : EReal) := by
  simp [Ideal.ofBits, Ideal.ieee, -EReal.coe_mul]; norm_num

/-! ## A real factor of a sum of terms that are not negative -/

theorem sq_nonneg (x : EReal) : 0 ≤ x * x := by
  rcases le_total 0 x with h | h
  · exact EReal.mul_nonneg h h
  · simpa [neg_mul_neg] using EReal.mul_nonneg (EReal.neg_nonneg.mpr h) (EReal.neg_nonneg.mpr h)

theorem sum_mul_coe {ι : Type*} (t : Finset ι) (f : ι → EReal) (hf : ∀ i, 0 ≤ f i) (r : ℝ) :
    ∑ i ∈ t, f i * (r : EReal) = (∑ i ∈ t, f i) * (r : EReal) := by
  classical
  induction t using Finset.induction_on with
  | empty => simp
  | insert a t h ih =>
    rw [Finset.sum_insert h, Finset.sum_insert h, ih,
      EReal.right_distrib_of_nonneg (hf a) (Finset.sum_nonneg fun i _ => hf i)]

/-! ## Rows -/

/-- The batch of a row. -/
abbrev bt (i : Fin 4096) : Fin 2 := ⟨i.val / 2048, by have := i.isLt; omega⟩
/-- The position of a row in its batch. -/
abbrev ps (i : Fin 4096) : Fin 2048 := ⟨i.val % 2048, by omega⟩

/-- A sum over the rows is the sum over the batches and the positions. -/
theorem sum_rows {M : Type*} [AddCommMonoid M] (f : Fin 2 → Fin 2048 → M) :
    ∑ i : Fin 4096, f (bt i) (ps i) = ∑ b, ∑ p, f b p := by
  rw [Fin.sum_univ_tiles 2 2048 rfl]
  refine Finset.sum_congr rfl fun b _ => Finset.sum_congr rfl fun p _ => ?_
  have hb := b.isLt; have hp := p.isLt
  congr 1 <;> apply Fin.ext <;> show _ = _ <;> simp only [] <;> omega

/-- Row `r` of the tile that block `i` of eight rows stands for. -/
def tileRow (i : Fin 64) (r : Fin 512) : Fin 4096 := ⟨i.val / 8 * 512 + r.val, by have := i.isLt; have := r.isLt; omega⟩

theorem select_first (x : Fin 64) (a : EReal) :
    Scalar.select (IntOp.cmpi .eq (BitVec.ofNat 32 (x.val % 8)) 0#32) a 0 = if x.val % 8 = 0 then a else 0 := by
  have h : BitVec.ofNat 32 (x.val % 8) = 0#32 ↔ x.val % 8 = 0 := by
    constructor
    · intro h
      have h' := congrArg BitVec.toNat h
      simp only [BitVec.toNat_ofNat] at h'
      omega
    · intro h; rw [h]
  by_cases hx : x.val % 8 = 0
  · rw [if_pos hx, h.mpr hx]; rfl
  · rw [if_neg hx]
    have h0 : IntOp.cmpi .eq (BitVec.ofNat 32 (x.val % 8)) 0#32 = 0#1 := by
      show BitVec.ofBool _ = _
      rw [show (BitVec.ofNat 32 (x.val % 8) == 0#32) = false from beq_eq_false_iff_ne.mpr fun e => hx (h.mp e)]
      rfl
    rw [h0]; rfl

/-- Eight-row blocks that hold a tile's sum in their first row add up to the sum over all rows. -/
theorem sum_tiles (g : Fin 4096 → EReal) :
    ∑ x : Fin 64, (if x.val % 8 = 0 then ∑ r : Fin 512, g (tileRow x r) else 0) = ∑ r, g r := by
  rw [Fin.sum_univ_tiles 8 8 rfl, Fin.sum_univ_tiles 8 512 rfl g]
  refine Finset.sum_congr rfl fun i _ => ?_
  rw [Finset.sum_eq_single (0 : Fin 8)]
  · rw [if_pos (by simp)]
    refine Finset.sum_congr rfl fun r _ => congrArg g (Fin.ext ?_)
    simp [tileRow]
  · intro b _ hb
    rw [if_neg]
    have := b.isLt
    have hb' : b.val ≠ 0 := fun e => hb (Fin.ext e)
    simp only []
    omega
  · simp

/-- The same for blocks that hold it in their first corner. -/
theorem sum_corners (A : Fin 64 → EReal) :
    ∑ x : Fin 64, ∑ y : Fin 128, Scalar.select (IntOp.andi (IntOp.cmpi .eq (BitVec.ofNat 32 (x.val % 8)) 0#32)
      (IntOp.cmpi .eq (BitVec.ofNat 32 y.val) 0#32)) (A x) 0 = ∑ x : Fin 64, if x.val % 8 = 0 then A x else 0 := by
  refine Finset.sum_congr rfl fun x _ => ?_
  rw [Finset.sum_eq_single (0 : Fin 128)]
  · rw [← select_first x (A x)]
    congr 1
    show IntOp.andi _ (BitVec.ofBool (BitVec.ofNat 32 0 == 0#32)) = _
    generalize IntOp.cmpi .eq (BitVec.ofNat 32 (x.val % 8)) 0#32 = b
    revert b; decide
  · intro y _ hy
    have hy' : y.val ≠ 0 := fun e => hy (Fin.ext e)
    have h0 : IntOp.cmpi .eq (BitVec.ofNat 32 y.val) 0#32 = 0#1 := by
      show BitVec.ofBool _ = _
      rw [show (BitVec.ofNat 32 y.val == 0#32) = false from beq_eq_false_iff_ne.mpr fun e => by
        have h' := congrArg BitVec.toNat e
        simp only [BitVec.toNat_ofNat] at h'
        have := y.isLt
        omega]
      rfl
    rw [h0]
    generalize IntOp.cmpi .eq (BitVec.ofNat 32 (x.val % 8)) 0#32 = b
    have : IntOp.andi b 0#1 = 0#1 := by revert b; decide
    rw [this]; rfl
  · simp

/-! ## The host's sums over the two leading axes -/

section
variable {n0 n1 n2 : ℕ} {t : Shape}

/-- The sum over the two leading axes of three. -/
theorem reduce01 (h : (⟨3, ![n0, n1, n2]⟩ : Shape).ReducesTo [0, 1] ⟨1, ![n2]⟩) (v : (⟨3, ![n0, n1, n2]⟩ : Shape).Idx → EReal)
    (z : EReal) (j : (⟨1, ![n2]⟩ : Shape).Idx) :
    Ideal.hostReduceAdd h v z j = z + ∑ a : Fin n0, ∑ b : Fin n1, v (ix3 a b (j 0)) := by
  have hf : ∀ i, h.drop i = j ↔ ∃ k : Fin n0 × Fin n1, ix3 k.1 k.2 (j 0) = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  refine congrArg (z + ·) ?_
  refine (Finset.sum_filter_eq_sum_of_fiber (fun i => h.drop i = j) (fun k : Fin n0 × Fin n1 => ix3 k.1 k.2 (j 0))
    (fun _ _ e => Prod.ext (congrFun e 0) (congrFun e 1)) hf v).trans ?_
  exact Fintype.sum_prod_type _

end

end Cert.Sums

end
-- ==== Proof.Mlp.lean ====
/- The arrays that the calls of the output projection, of the squared-ReLU layer and of the loss leave, as functions of the
   arrays they read. -/
module

public import proofs.«01_k».proof.Proof.RunKernelIdeal
public import Idealize.ShloMosaic.Lib.Pipeline.ValueKit
public import Idealize.ShloMosaic.Lib.Pointwise
public import proofs.«01_k».proof.Proof.Spec
public import proofs.«01_k».proof.Proof.Sums

@[expose] public section

set_option maxRecDepth 16384

noncomputable section

namespace Cert.KernelIdeal.Out

open Cert.Sums (tileRow)
open Idealize.ShloMosaic Idealize.ShloMosaic.TcCoe Idealize.SL.Sem
open Idealize.ShloMosaic.Pipeline (Dat)
open Cert.KernelIdeal Cert.KernelIdeal.Gen
open scoped BigOperators

section Regions
variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The number of features. -/
abbrev nf : EReal := Ideal.ofBits .f32 0x44800000#32

/-- The stream after the output projection. -/
def proj (M : FVec Ideal S4096x1024 .bf16) (W : FVec Ideal S1024x1024 .bf16) (X : FVec Ideal S4096x1024 .f32) :
    FVec Ideal S4096x1024 .f32 :=
  fun j => (∑ k : Fin 1024, M (ix2 (j 0) k) * W (ix2 k (j 1))) + X j

/-- Its normalised rows. -/
def nrm (H : FVec Ideal S4096x1024 .f32) (G : FVec Ideal S1x1024 .f32) : FVec Ideal S4096x1024 .bf16 :=
  fun j => Spec.rms nf (fun k => H (ix2 (j 0) k)) (fun k => G (ix2 0 k)) (j 1)

theorem proj_final (c : Dev nD) : (dat0 V c).arrAt 4 cfg0.N = proj (V c main_v4) (V c main_v5) (V c main_v0) := by
  refine (dat0 V c).arrAt_eq_of_covers 4 _ (by decide +kernel) fun t _ y => ?_
  blk_simp; rw [after0_4]; frame_out
  pointwise [k0_pay1, proj]
  blk_point [iblk0, idx0 t]

theorem nrm_final (c : Dev nD) : (dat0 V c).arrAt 5 cfg0.N = nrm (proj (V c main_v4) (V c main_v5) (V c main_v0)) (V c main_v2) := by
  refine (dat0 V c).arrAt_eq_of_covers 5 _ (by decide +kernel) fun t _ y => ?_
  blk_simp; rw [after0_5]; frame_out
  pointwise [k0_pay1, k0_pay2, proj, nrm, Spec.rms, Spec.var]
  blk_point [iblk0, idx0 t]

theorem idx1 : ∀ t : Fin cfg1.N, win1_0.index t = ![t.val / 4, 0] ∧ win1_1.index t = ![0, t.val % 4]
    ∧ win1_2.index t = ![t.val / 4, t.val % 4] :=
  (by decide +kernel : ∀ t : Fin grid1.N, _)

/-- The positive part of the hidden layer. -/
def act (X : FVec Ideal S4096x1024 .bf16) (W : FVec Ideal S1024x4096 .bf16) : FVec Ideal S4096x4096 .bf16 :=
  fun j => max (∑ k : Fin 1024, X (ix2 (j 0) k) * W (ix2 k (j 1))) 0

theorem act_final (c : Dev nD) : (dat1 V c).arrAt 2 cfg1.N = act (V c main_v8_1) (V c main_v6) := by
  refine (dat1 V c).arrAt_eq_of_covers 2 _ (by decide +kernel) fun t _ y => ?_
  blk_simp; rw [after1_2]; frame_out
  pointwise [k1_pay1, act]
  blk_point [iblk1, idx1 t]

theorem idx2 : ∀ t : Fin cfg2.N, win2_0.index t = ![t.val, 0] ∧ win2_1.index t = ![0, 0] ∧ win2_2.index t = ![t.val, 0]
    ∧ win2_3.index t = ![t.val, 0] ∧ win2_4.index t = ![t.val, 0] ∧ win2_5.index t = ![t.val, 0]
    ∧ win2_6.index t = ![t.val, 0] :=
  (by decide +kernel : ∀ t : Fin grid2.N, _)

/-- The prediction minus the target, over the number of features: the loss's derivative. -/
def err (A : FVec Ideal S4096x4096 .bf16) (W : FVec Ideal S4096x1024 .bf16) (H T : FVec Ideal S4096x1024 .f32) :
    FVec Ideal S4096x1024 .f32 :=
  fun j => ((∑ k : Fin 4096, A (ix2 (j 0) k) * A (ix2 (j 0) k) * W (ix2 k (j 1))) + H j - T j) * Ideal.ofBits .f32 0x3A800000#32

theorem err_final (c : Dev nD) :
    (dat2 V c).arrAt 4 cfg2.N = err (V c main_v9) (V c main_v7) (V c main_v8_0) (V c main_v1) := by
  refine (dat2 V c).arrAt_eq_of_covers 4 _ (by decide +kernel) fun t _ y => ?_
  blk_simp; rw [after2_4]; frame_out
  pointwise [k2_pay2, err]
  blk_point [iblk2, idx2 t]

theorem errb_final (c : Dev nD) :
    (dat2 V c).arrAt 5 cfg2.N = err (V c main_v9) (V c main_v7) (V c main_v8_0) (V c main_v1) := by
  refine (dat2 V c).arrAt_eq_of_covers 5 _ (by decide +kernel) fun t _ y => ?_
  blk_simp; rw [after2_5]; frame_out
  pointwise [k2_pay2, k2_pay3, err]
  blk_point [iblk2, idx2 t]

/-- Each tile's part of the loss, in the tile's corner. -/
def lossTiles (E : FVec Ideal S4096x1024 .f32) : FVec Ideal S64x128 .f32 :=
  fun j => Scalar.select (IntOp.andi (IntOp.cmpi .eq (BitVec.ofNat 32 ((j 0).val % 8)) 0#32) (IntOp.cmpi .eq (BitVec.ofNat 32 (j 1).val) 0#32))
    ((∑ r : Fin 512, ∑ k : Fin 1024, E (ix2 (tileRow (j 0) r) k) * E (ix2 (tileRow (j 0) r) k)) * Ideal.ofBits .f32 0x44000000#32) 0

theorem loss_final (c : Dev nD) :
    (dat2 V c).arrAt 6 cfg2.N = lossTiles (err (V c main_v9) (V c main_v7) (V c main_v8_0) (V c main_v1)) := by
  refine (dat2 V c).arrAt_eq_of_covers 6 _ (by decide +kernel) fun t _ y => ?_
  blk_simp; rw [after2_6]; frame_out
  pointwise [k2_pay1, k2_pay2, k2_pay4, k2_pay5, err, lossTiles, tileRow]
  blk_point [iblk2, idx2 t]
  exact congrArg (BitVec.ofNat 32) (by omega)

theorem idx3 : ∀ t : Fin cfg3.N, win3_0.index t = ![0, t.val] ∧ win3_1.index t = ![0, 0] ∧ win3_2.index t = ![t.val, 0] :=
  (by decide +kernel : ∀ t : Fin grid3.N, _)

/-- The gradient of the second weight. -/
def dW2 (A : FVec Ideal S4096x4096 .bf16) (E : FVec Ideal S4096x1024 .bf16) : FVec Ideal S4096x1024 .f32 :=
  fun j => ∑ r : Fin 4096, A (ix2 r (j 0)) * A (ix2 r (j 0)) * E (ix2 r (j 1))

theorem dW2_final (c : Dev nD) : (dat3 V c).arrAt 2 cfg3.N = dW2 (V c main_v9) (V c main_v10_1) := by
  refine (dat3 V c).arrAt_eq_of_covers 2 _ (by decide +kernel) fun t _ y => ?_
  blk_simp; rw [after3_2]; frame_out
  pointwise [k3_pay1, dW2]
  blk_point [iblk3, idx3 t]

theorem idx4 : ∀ t : Fin cfg4.N, win4_0.index t = ![t.val / 4, 0] ∧ win4_1.index t = ![t.val % 4, 0]
    ∧ win4_2.index t = ![t.val / 4, t.val % 4] ∧ win4_3.index t = ![t.val / 4, t.val % 4] :=
  (by decide +kernel : ∀ t : Fin grid4.N, _)

/-- The backward layer: the product with the transposed weight, times twice the saved positive part. -/
def dact (D : FVec Ideal S4096x1024 .bf16) (W : FVec Ideal S4096x1024 .bf16) (A : FVec Ideal S4096x4096 .bf16) :
    FVec Ideal S4096x4096 .bf16 :=
  fun j => (∑ k : Fin 1024, D (ix2 (j 0) k) * W (ix2 (j 1) k)) * (Ideal.ofBits .f32 0x40000000#32 * A j)

theorem dact_final (c : Dev nD) : (dat4 V c).arrAt 3 cfg4.N = dact (V c main_v10_1) (V c main_v7) (V c main_v9) := by
  refine (dat4 V c).arrAt_eq_of_covers 3 _ (by decide +kernel) fun t _ y => ?_
  blk_simp; rw [after4_3]; frame_out
  pointwise [k4_pay1, dact]
  blk_point [iblk4, idx4 t]

theorem idx5 : ∀ t : Fin cfg5.N, win5_0.index t = ![0, 0] ∧ win5_1.index t = ![0, t.val] ∧ win5_2.index t = ![0, t.val] :=
  (by decide +kernel : ∀ t : Fin grid5.N, _)

/-- The gradient of the first weight. -/
def dW1 (X : FVec Ideal S4096x1024 .bf16) (D : FVec Ideal S4096x4096 .bf16) : FVec Ideal S1024x4096 .f32 :=
  fun j => ∑ r : Fin 4096, X (ix2 r (j 0)) * D (ix2 r (j 1))

theorem dW1_final (c : Dev nD) : (dat5 V c).arrAt 2 cfg5.N = dW1 (V c main_v8_1) (V c main_v13) := by
  refine (dat5 V c).arrAt_eq_of_covers 2 _ (by decide +kernel) fun t _ y => ?_
  blk_simp; rw [after5_2]; frame_out
  pointwise [k5_pay1, dW1]
  blk_point [iblk5, idx5 t]

theorem idx6 : ∀ t : Fin cfg6.N, win6_0.index t = ![t.val, 0] ∧ win6_1.index t = ![0, 0] ∧ win6_2.index t = ![t.val, 0]
    ∧ win6_3.index t = ![t.val, 0] ∧ win6_4.index t = ![0, 0] ∧ win6_5.index t = ![t.val, 0] ∧ win6_6.index t = ![t.val, 0] :=
  (by decide +kernel : ∀ t : Fin grid6.N, _)

/-- The cotangent of the normalised rows. -/
def dn (D : FVec Ideal S4096x4096 .bf16) (W : FVec Ideal S1024x4096 .bf16) : FVec Ideal S4096x1024 .f32 :=
  fun j => ∑ k : Fin 4096, D (ix2 (j 0) k) * W (ix2 (j 1) k)

/-- The gradient of the stream: the residual path's plus the normalisation's. -/
def dh (N E H : FVec Ideal S4096x1024 .f32) (G : FVec Ideal S1x1024 .f32) : FVec Ideal S4096x1024 .f32 :=
  fun j => E j + Spec.rmsRow nf (fun k => H (ix2 (j 0) k)) (fun k => G (ix2 0 k)) (fun k => N (ix2 (j 0) k)) (j 1)

theorem dh_final (c : Dev nD) :
    (dat6 V c).arrAt 5 cfg6.N = dh (dn (V c main_v13) (V c main_v6)) (V c main_v10_0) (V c main_v8_0) (V c main_v2) := by
  refine (dat6 V c).arrAt_eq_of_covers 5 _ (by decide +kernel) fun t _ y => ?_
  blk_simp; rw [after6_5]; frame_out
  pointwise [k6_pay1, k6_pay3, k6_pay4, k6_pay5, k6_pay6, k6_pay7, k6_pay9, k6_pay10, k6_pay11, dh, dn, Spec.rmsRow, Spec.rmsMean, Spec.var, Finset.univ_unique, Finset.sum_singleton]
  blk_point [iblk6, idx6 t]

/-- Each tile's part of the gain's gradient, in the tile's first row. -/
def dgTiles (N H : FVec Ideal S4096x1024 .f32) : FVec Ideal S64x1024 .f32 :=
  fun j => Scalar.select (IntOp.cmpi .eq (BitVec.ofNat 32 ((j 0).val % 8)) 0#32)
    (∑ r : Fin 512, H (ix2 (tileRow (j 0) r) (j 1)) * Ideal.rsqrt (Spec.var nf fun k => H (ix2 (tileRow (j 0) r) k))
      * N (ix2 (tileRow (j 0) r) (j 1))) 0

theorem dg_final (c : Dev nD) :
    (dat6 V c).arrAt 6 cfg6.N = dgTiles (dn (V c main_v13) (V c main_v6)) (V c main_v8_0) := by
  refine (dat6 V c).arrAt_eq_of_covers 6 _ (by decide +kernel) fun t _ y => ?_
  blk_simp; rw [after6_6]; frame_out
  pointwise [k6_pay2, k6_pay3, k6_pay5, k6_pay6, k6_pay7, k6_pay8, dgTiles, tileRow, dn, Spec.var]
  blk_point [iblk6, idx6 t]
  exact congrArg (BitVec.ofNat 32) (by omega)

theorem idx7 : ∀ t : Fin cfg7.N, win7_0.index t = ![0, 0] ∧ win7_1.index t = ![0, t.val] ∧ win7_2.index t = ![0, t.val] :=
  (by decide +kernel : ∀ t : Fin grid7.N, _)

/-- The gradient of the output projection's weight. -/
def dWo (M : FVec Ideal S4096x1024 .bf16) (D : FVec Ideal S4096x1024 .f32) : FVec Ideal S1024x1024 .f32 :=
  fun j => ∑ r : Fin 4096, M (ix2 r (j 0)) * D (ix2 r (j 1))

theorem dWo_final (c : Dev nD) : (dat7 V c).arrAt 2 cfg7.N = dWo (V c main_v4) (V c main_v15_0) := by
  refine (dat7 V c).arrAt_eq_of_covers 2 _ (by decide +kernel) fun t _ y => ?_
  blk_simp; rw [after7_2]; frame_out
  pointwise [k7_pay1, dWo]
  blk_point [iblk7, idx7 t]

end Regions

end Cert.KernelIdeal.Out

end
-- ==== Proof.Values.lean ====
/- The results of the kernel over its arguments, call after call. -/
module

public import proofs.«01_k».proof.Proof.Mlp

@[expose] public section

set_option maxRecDepth 16384

noncomputable section

namespace Cert.KernelIdeal.Out

open Idealize.ShloMosaic Idealize.ShloMosaic.TcCoe Idealize.SL.Sem
open Idealize.ShloMosaic.Pipeline (Dat)
open Cert.KernelIdeal Cert.KernelIdeal.Gen

/-- A stream's rows: its batches one after the other. -/
abbrev rows (X : FVec Ideal S2x2048x1024 .f32) : FVec Ideal S4096x1024 .f32 :=
  shapeCast S4096x1024 X shapeCasts_S2x2048x1024_S4096x1024
/-- A gain as a row. -/
abbrev gain (G : FVec Ideal S1024 .f32) : FVec Ideal S1x1024 .f32 := broadcastInDim S1x1024 ![1] bcast_S1024_S1x1024_1 G

variable (m : (ℓ : Loc nD τ sig) → Buf (Elt Ideal) ℓ) (ρ : Dev nD → PrngReg)

/-! ## The arguments as the calls read them -/

def aX (c : Dev nD) : FVec Ideal S4096x1024 .f32 := rows (m ((c : Thread nD τ).loc main_arg0))
def aT (c : Dev nD) : FVec Ideal S4096x1024 .f32 := rows (m ((c : Thread nD τ).loc main_arg6))
def aG (c : Dev nD) : FVec Ideal S1x1024 .f32 := gain (m ((c : Thread nD τ).loc main_arg3))
def aM (c : Dev nD) : FVec Ideal S4096x1024 .bf16 := rows (m ((c : Thread nD τ).loc main_arg1))
def aWo (c : Dev nD) : FVec Ideal S1024x1024 .bf16 := (m ((c : Thread nD τ).loc main_arg2))
def aW1 (c : Dev nD) : FVec Ideal S1024x4096 .bf16 := (m ((c : Thread nD τ).loc main_arg4))
def aW2 (c : Dev nD) : FVec Ideal S4096x1024 .bf16 := (m ((c : Thread nD τ).loc main_arg5))

theorem v0_V1 (c : Dev nD) : V1 m ρ c main_v0 = aX m c := by
  show StableHlo.after hostOps0 (W0 m ρ c) (Proc.devRef .tc main_v0) = _
  after_results; rfl
theorem v1_V1 (c : Dev nD) : V1 m ρ c main_v1 = aT m c := by
  show StableHlo.after hostOps0 (W0 m ρ c) (Proc.devRef .tc main_v1) = _
  after_results; rfl
theorem v2_V1 (c : Dev nD) : V1 m ρ c main_v2 = aG m c := by
  show StableHlo.after hostOps0 (W0 m ρ c) (Proc.devRef .tc main_v2) = _
  after_results; rfl
theorem v4_V1 (c : Dev nD) : V1 m ρ c main_v4 = aM m c := by
  show StableHlo.after hostOps0 (W0 m ρ c) (Proc.devRef .tc main_v4) = _
  after_results; rfl
theorem v5_V1 (c : Dev nD) : V1 m ρ c main_v5 = aWo m c := by
  show StableHlo.after hostOps0 (W0 m ρ c) (Proc.devRef .tc main_v5) = _
  after_results; rfl
theorem v6_V1 (c : Dev nD) : V1 m ρ c main_v6 = aW1 m c := by
  show StableHlo.after hostOps0 (W0 m ρ c) (Proc.devRef .tc main_v6) = _
  after_results; rfl
theorem v7_V1 (c : Dev nD) : V1 m ρ c main_v7 = aW2 m c := by
  show StableHlo.after hostOps0 (W0 m ρ c) (Proc.devRef .tc main_v7) = _
  after_results; rfl

/-! ## What the calls leave -/

def kH (c : Dev nD) : FVec Ideal S4096x1024 .f32 := proj (aM m c) (aWo m c) (aX m c)
def kN (c : Dev nD) : FVec Ideal S4096x1024 .bf16 := nrm (kH m c) (aG m c)
def kA (c : Dev nD) : FVec Ideal S4096x4096 .bf16 := act (kN m c) (aW1 m c)
def kE (c : Dev nD) : FVec Ideal S4096x1024 .f32 := err (kA m c) (aW2 m c) (kH m c) (aT m c)
def kLT (c : Dev nD) : FVec Ideal S64x128 .f32 := lossTiles (kE m c)
def kW2 (c : Dev nD) : FVec Ideal S4096x1024 .f32 := dW2 (kA m c) (kE m c)
def kD (c : Dev nD) : FVec Ideal S4096x4096 .bf16 := dact (kE m c) (aW2 m c) (kA m c)
def kW1 (c : Dev nD) : FVec Ideal S1024x4096 .f32 := dW1 (kN m c) (kD m c)
def kDN (c : Dev nD) : FVec Ideal S4096x1024 .f32 := dn (kD m c) (aW1 m c)
def kDH (c : Dev nD) : FVec Ideal S4096x1024 .f32 := dh (kDN m c) (kE m c) (kH m c) (aG m c)
def kGT (c : Dev nD) : FVec Ideal S64x1024 .f32 := dgTiles (kDN m c) (kH m c)
def kWo (c : Dev nD) : FVec Ideal S1024x1024 .f32 := dWo (aM m c) (kDH m c)
def kL (c : Dev nD) : FVec Ideal S_ .f32 :=
  Host.reduceAdd (kLT m c) (constant S_ .f32 0x00000000#32) reducesTo_S64x128_S_d0_1 h_S_
def kGr (c : Dev nD) : FVec Ideal S1x1024 .f32 := broadcastInDim S1x1024 ![1] bcast_S1024_S1x1024_1
  (Host.reduceAdd (kGT m c) (constant S_ .f32 0x00000000#32) reducesTo_S64x1024_S1024_d0 h_S_)
def kG (c : Dev nD) : FVec Ideal S1024 .f32 :=
  shapeCast S1024 (kGr m c) shapeCasts_S1x1024_S1024

theorem v8_0_W2 (c : Dev nD) : W2 m ρ c (Proc.devRef .tc main_v8_0) = kH m c := by
  refine ((W2_arr m ρ c 4).trans (proj_final (V1 m ρ) c)).trans ?_
  have h_v4 : V1 m ρ c main_v4 = aM m c := v4_V1 m ρ c
  have h_v5 : V1 m ρ c main_v5 = aWo m c := v5_V1 m ρ c
  have h_v0 : V1 m ρ c main_v0 = aX m c := v0_V1 m ρ c
  rw [h_v4, h_v5, h_v0]; rfl
theorem v8_1_W2 (c : Dev nD) : W2 m ρ c (Proc.devRef .tc main_v8_1) = kN m c := by
  refine ((W2_arr m ρ c 5).trans (nrm_final (V1 m ρ) c)).trans ?_
  have h_v4 : V1 m ρ c main_v4 = aM m c := v4_V1 m ρ c
  have h_v5 : V1 m ρ c main_v5 = aWo m c := v5_V1 m ρ c
  have h_v0 : V1 m ρ c main_v0 = aX m c := v0_V1 m ρ c
  have h_v2 : V1 m ρ c main_v2 = aG m c := v2_V1 m ρ c
  rw [h_v4, h_v5, h_v0, h_v2]; rfl
theorem v9_W3 (c : Dev nD) : W3 m ρ c (Proc.devRef .tc main_v9) = kA m c := by
  refine ((W3_arr m ρ c 2).trans (act_final (V2 m ρ) c)).trans ?_
  have h_v8_1 : V2 m ρ c main_v8_1 = kN m c := v8_1_W2 m ρ c
  have h_v6 : V2 m ρ c main_v6 = aW1 m c := (W2_of m ρ c main_v6 (by decide)).trans (v6_V1 m ρ c)
  rw [h_v8_1, h_v6]; rfl
theorem v10_0_W4 (c : Dev nD) : W4 m ρ c (Proc.devRef .tc main_v10_0) = kE m c := by
  refine ((W4_arr m ρ c 4).trans (err_final (V3 m ρ) c)).trans ?_
  have h_v9 : V3 m ρ c main_v9 = kA m c := v9_W3 m ρ c
  have h_v7 : V3 m ρ c main_v7 = aW2 m c := ((W3_of m ρ c main_v7 (by decide)).trans (W2_of m ρ c main_v7 (by decide))).trans (v7_V1 m ρ c)
  have h_v8_0 : V3 m ρ c main_v8_0 = kH m c := (W3_of m ρ c main_v8_0 (by decide)).trans (v8_0_W2 m ρ c)
  have h_v1 : V3 m ρ c main_v1 = aT m c := ((W3_of m ρ c main_v1 (by decide)).trans (W2_of m ρ c main_v1 (by decide))).trans (v1_V1 m ρ c)
  rw [h_v9, h_v7, h_v8_0, h_v1]; rfl
theorem v10_1_W4 (c : Dev nD) : W4 m ρ c (Proc.devRef .tc main_v10_1) = kE m c := by
  refine ((W4_arr m ρ c 5).trans (errb_final (V3 m ρ) c)).trans ?_
  have h_v9 : V3 m ρ c main_v9 = kA m c := v9_W3 m ρ c
  have h_v7 : V3 m ρ c main_v7 = aW2 m c := ((W3_of m ρ c main_v7 (by decide)).trans (W2_of m ρ c main_v7 (by decide))).trans (v7_V1 m ρ c)
  have h_v8_0 : V3 m ρ c main_v8_0 = kH m c := (W3_of m ρ c main_v8_0 (by decide)).trans (v8_0_W2 m ρ c)
  have h_v1 : V3 m ρ c main_v1 = aT m c := ((W3_of m ρ c main_v1 (by decide)).trans (W2_of m ρ c main_v1 (by decide))).trans (v1_V1 m ρ c)
  rw [h_v9, h_v7, h_v8_0, h_v1]; rfl
theorem v10_2_W4 (c : Dev nD) : W4 m ρ c (Proc.devRef .tc main_v10_2) = kLT m c := by
  refine ((W4_arr m ρ c 6).trans (loss_final (V3 m ρ) c)).trans ?_
  have h_v9 : V3 m ρ c main_v9 = kA m c := v9_W3 m ρ c
  have h_v7 : V3 m ρ c main_v7 = aW2 m c := ((W3_of m ρ c main_v7 (by decide)).trans (W2_of m ρ c main_v7 (by decide))).trans (v7_V1 m ρ c)
  have h_v8_0 : V3 m ρ c main_v8_0 = kH m c := (W3_of m ρ c main_v8_0 (by decide)).trans (v8_0_W2 m ρ c)
  have h_v1 : V3 m ρ c main_v1 = aT m c := ((W3_of m ρ c main_v1 (by decide)).trans (W2_of m ρ c main_v1 (by decide))).trans (v1_V1 m ρ c)
  rw [h_v9, h_v7, h_v8_0, h_v1]; rfl
theorem v11_W5 (c : Dev nD) : W5 m ρ c (Proc.devRef .tc main_v11) = kL m c := by
  have h : W4 m ρ c (Proc.devRef .tc main_v10_2) = kLT m c := v10_2_W4 m ρ c
  show StableHlo.after hostOps3 (W4 m ρ c) (Proc.devRef .tc main_v11) = _
  after_results; rw [h]; rfl
theorem v12_W6 (c : Dev nD) : W6 m ρ c (Proc.devRef .tc main_v12) = kW2 m c := by
  refine ((W6_arr m ρ c 2).trans (dW2_final (V5 m ρ) c)).trans ?_
  have h_v9 : V5 m ρ c main_v9 = kA m c := ((W5_of m ρ c main_v9 (by decide)).trans (W4_of m ρ c main_v9 (by decide))).trans (v9_W3 m ρ c)
  have h_v10_1 : V5 m ρ c main_v10_1 = kE m c := (W5_of m ρ c main_v10_1 (by decide)).trans (v10_1_W4 m ρ c)
  rw [h_v9, h_v10_1]; rfl
theorem v13_W7 (c : Dev nD) : W7 m ρ c (Proc.devRef .tc main_v13) = kD m c := by
  refine ((W7_arr m ρ c 3).trans (dact_final (V6 m ρ) c)).trans ?_
  have h_v10_1 : V6 m ρ c main_v10_1 = kE m c := ((W6_of m ρ c main_v10_1 (by decide)).trans (W5_of m ρ c main_v10_1 (by decide))).trans (v10_1_W4 m ρ c)
  have h_v7 : V6 m ρ c main_v7 = aW2 m c := (((((W6_of m ρ c main_v7 (by decide)).trans (W5_of m ρ c main_v7 (by decide))).trans (W4_of m ρ c main_v7 (by decide))).trans (W3_of m ρ c main_v7 (by decide))).trans (W2_of m ρ c main_v7 (by decide))).trans (v7_V1 m ρ c)
  have h_v9 : V6 m ρ c main_v9 = kA m c := (((W6_of m ρ c main_v9 (by decide)).trans (W5_of m ρ c main_v9 (by decide))).trans (W4_of m ρ c main_v9 (by decide))).trans (v9_W3 m ρ c)
  rw [h_v10_1, h_v7, h_v9]; rfl
theorem v14_W8 (c : Dev nD) : W8 m ρ c (Proc.devRef .tc main_v14) = kW1 m c := by
  refine ((W8_arr m ρ c 2).trans (dW1_final (V7 m ρ) c)).trans ?_
  have h_v8_1 : V7 m ρ c main_v8_1 = kN m c := (((((W7_of m ρ c main_v8_1 (by decide)).trans (W6_of m ρ c main_v8_1 (by decide))).trans (W5_of m ρ c main_v8_1 (by decide))).trans (W4_of m ρ c main_v8_1 (by decide))).trans (W3_of m ρ c main_v8_1 (by decide))).trans (v8_1_W2 m ρ c)
  have h_v13 : V7 m ρ c main_v13 = kD m c := v13_W7 m ρ c
  rw [h_v8_1, h_v13]; rfl
theorem v15_0_W9 (c : Dev nD) : W9 m ρ c (Proc.devRef .tc main_v15_0) = kDH m c := by
  refine ((W9_arr m ρ c 5).trans (dh_final (V8 m ρ) c)).trans ?_
  have h_v13 : V8 m ρ c main_v13 = kD m c := (W8_of m ρ c main_v13 (by decide)).trans (v13_W7 m ρ c)
  have h_v6 : V8 m ρ c main_v6 = aW1 m c := (((((((W8_of m ρ c main_v6 (by decide)).trans (W7_of m ρ c main_v6 (by decide))).trans (W6_of m ρ c main_v6 (by decide))).trans (W5_of m ρ c main_v6 (by decide))).trans (W4_of m ρ c main_v6 (by decide))).trans (W3_of m ρ c main_v6 (by decide))).trans (W2_of m ρ c main_v6 (by decide))).trans (v6_V1 m ρ c)
  have h_v10_0 : V8 m ρ c main_v10_0 = kE m c := ((((W8_of m ρ c main_v10_0 (by decide)).trans (W7_of m ρ c main_v10_0 (by decide))).trans (W6_of m ρ c main_v10_0 (by decide))).trans (W5_of m ρ c main_v10_0 (by decide))).trans (v10_0_W4 m ρ c)
  have h_v8_0 : V8 m ρ c main_v8_0 = kH m c := ((((((W8_of m ρ c main_v8_0 (by decide)).trans (W7_of m ρ c main_v8_0 (by decide))).trans (W6_of m ρ c main_v8_0 (by decide))).trans (W5_of m ρ c main_v8_0 (by decide))).trans (W4_of m ρ c main_v8_0 (by decide))).trans (W3_of m ρ c main_v8_0 (by decide))).trans (v8_0_W2 m ρ c)
  have h_v2 : V8 m ρ c main_v2 = aG m c := (((((((W8_of m ρ c main_v2 (by decide)).trans (W7_of m ρ c main_v2 (by decide))).trans (W6_of m ρ c main_v2 (by decide))).trans (W5_of m ρ c main_v2 (by decide))).trans (W4_of m ρ c main_v2 (by decide))).trans (W3_of m ρ c main_v2 (by decide))).trans (W2_of m ρ c main_v2 (by decide))).trans (v2_V1 m ρ c)
  rw [h_v13, h_v6, h_v10_0, h_v8_0, h_v2]; rfl
theorem v15_1_W9 (c : Dev nD) : W9 m ρ c (Proc.devRef .tc main_v15_1) = kGT m c := by
  refine ((W9_arr m ρ c 6).trans (dg_final (V8 m ρ) c)).trans ?_
  have h_v13 : V8 m ρ c main_v13 = kD m c := (W8_of m ρ c main_v13 (by decide)).trans (v13_W7 m ρ c)
  have h_v6 : V8 m ρ c main_v6 = aW1 m c := (((((((W8_of m ρ c main_v6 (by decide)).trans (W7_of m ρ c main_v6 (by decide))).trans (W6_of m ρ c main_v6 (by decide))).trans (W5_of m ρ c main_v6 (by decide))).trans (W4_of m ρ c main_v6 (by decide))).trans (W3_of m ρ c main_v6 (by decide))).trans (W2_of m ρ c main_v6 (by decide))).trans (v6_V1 m ρ c)
  have h_v8_0 : V8 m ρ c main_v8_0 = kH m c := ((((((W8_of m ρ c main_v8_0 (by decide)).trans (W7_of m ρ c main_v8_0 (by decide))).trans (W6_of m ρ c main_v8_0 (by decide))).trans (W5_of m ρ c main_v8_0 (by decide))).trans (W4_of m ρ c main_v8_0 (by decide))).trans (W3_of m ρ c main_v8_0 (by decide))).trans (v8_0_W2 m ρ c)
  rw [h_v13, h_v6, h_v8_0]; rfl
theorem v17_W10 (c : Dev nD) : W10 m ρ c (Proc.devRef .tc main_v17) = kGr m c := by
  have h : W9 m ρ c (Proc.devRef .tc main_v15_1) = kGT m c := v15_1_W9 m ρ c
  show StableHlo.after hostOps7 (W9 m ρ c) (Proc.devRef .tc main_v17) = _
  after_results; rw [h]; rfl
theorem v18_W11 (c : Dev nD) : W11 m ρ c (Proc.devRef .tc main_v18) = kWo m c := by
  refine ((W11_arr m ρ c 2).trans (dWo_final (V10 m ρ) c)).trans ?_
  have h_v4 : V10 m ρ c main_v4 = aM m c := (((((((((W10_of m ρ c main_v4 (by decide)).trans (W9_of m ρ c main_v4 (by decide))).trans (W8_of m ρ c main_v4 (by decide))).trans (W7_of m ρ c main_v4 (by decide))).trans (W6_of m ρ c main_v4 (by decide))).trans (W5_of m ρ c main_v4 (by decide))).trans (W4_of m ρ c main_v4 (by decide))).trans (W3_of m ρ c main_v4 (by decide))).trans (W2_of m ρ c main_v4 (by decide))).trans (v4_V1 m ρ c)
  have h_v15_0 : V10 m ρ c main_v15_0 = kDH m c := (W10_of m ρ c main_v15_0 (by decide)).trans (v15_0_W9 m ρ c)
  rw [h_v4, h_v15_0]; rfl
theorem v19_W12 (c : Dev nD) : W12 m ρ c (Proc.devRef .tc main_v19) = kG m c := by
  have h : W11 m ρ c (Proc.devRef .tc main_v17) = kGr m c := (W11_of m ρ c main_v17 (by decide)).trans (v17_W10 m ρ c)
  show StableHlo.after hostOps8 (W11 m ρ c) (Proc.devRef .tc main_v19) = _
  after_results; rw [h]; rfl

/-- Every execution ends with the six results at these arrays. -/
theorem run : θ_run defs (onTc (τ := τ) (main (F := Ideal))) ⟨m, fun _ => 0, ρ⟩ (fun r => ∀ c : Dev nD,
    r.2.mem ((c.tc : Thread nD τ).loc main_v11) = kL m c
    ∧ r.2.mem ((c.tc : Thread nD τ).loc main_v15_0) = kDH m c
    ∧ r.2.mem ((c.tc : Thread nD τ).loc main_v18) = kWo m c
    ∧ r.2.mem ((c.tc : Thread nD τ).loc main_v19) = kG m c
    ∧ r.2.mem ((c.tc : Thread nD τ).loc main_v14) = kW1 m c
    ∧ r.2.mem ((c.tc : Thread nD τ).loc main_v12) = kW2 m c) :=
  (θ_run defs _ _).mono (fun _ h c =>
    ⟨(h c _ (mem_uc main_v11 (by decide))).trans ((((((((W12_of m ρ c main_v11 (by decide)).trans (W11_of m ρ c main_v11 (by decide))).trans (W10_of m ρ c main_v11 (by decide))).trans (W9_of m ρ c main_v11 (by decide))).trans (W8_of m ρ c main_v11 (by decide))).trans (W7_of m ρ c main_v11 (by decide))).trans (W6_of m ρ c main_v11 (by decide))).trans (v11_W5 m ρ c)),
     (h c _ (mem_uc main_v15_0 (by decide))).trans ((((W12_of m ρ c main_v15_0 (by decide)).trans (W11_of m ρ c main_v15_0 (by decide))).trans (W10_of m ρ c main_v15_0 (by decide))).trans (v15_0_W9 m ρ c)),
     (h c _ (mem_uc main_v18 (by decide))).trans ((W12_of m ρ c main_v18 (by decide)).trans (v18_W11 m ρ c)),
     (h c _ (mem_uc main_v19 (by decide))).trans (v19_W12 m ρ c),
     (h c _ (mem_uc main_v14 (by decide))).trans (((((W12_of m ρ c main_v14 (by decide)).trans (W11_of m ρ c main_v14 (by decide))).trans (W10_of m ρ c main_v14 (by decide))).trans (W9_of m ρ c main_v14 (by decide))).trans (v14_W8 m ρ c)),
     (h c _ (mem_uc main_v12 (by decide))).trans (((((((W12_of m ρ c main_v12 (by decide)).trans (W11_of m ρ c main_v12 (by decide))).trans (W10_of m ρ c main_v12 (by decide))).trans (W9_of m ρ c main_v12 (by decide))).trans (W8_of m ρ c main_v12 (by decide))).trans (W7_of m ρ c main_v12 (by decide))).trans (v12_W6 m ρ c))⟩) (run_all m ρ)

end Cert.KernelIdeal.Out

end
-- ==== Proof.RefStages.lean ====
/- The reference's lines, one array after the other. -/
module

public import proofs.«01_k».proof.Proof.Gen.ReferenceIdeal.Run
public import Idealize.ShloMosaic.Lib.Pointwise

@[expose] public section

set_option maxRecDepth 16384

noncomputable section

namespace Cert.ReferenceIdeal.Out

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

abbrev r_arg0 (c : Dev nD) : FVec Ideal S2x2048x1024 .f32 := m ((c.tc : Thread nD τ).loc main_arg0)
abbrev r_arg1 (c : Dev nD) : FVec Ideal S2x2048x1024 .f32 := m ((c.tc : Thread nD τ).loc main_arg1)
abbrev r_arg2 (c : Dev nD) : FVec Ideal S1024x1024 .f32 := m ((c.tc : Thread nD τ).loc main_arg2)
abbrev r_arg3 (c : Dev nD) : FVec Ideal S1024 .f32 := m ((c.tc : Thread nD τ).loc main_arg3)
abbrev r_arg4 (c : Dev nD) : FVec Ideal S1024x4096 .f32 := m ((c.tc : Thread nD τ).loc main_arg4)
abbrev r_arg5 (c : Dev nD) : FVec Ideal S4096x1024 .f32 := m ((c.tc : Thread nD τ).loc main_arg5)
abbrev r_arg6 (c : Dev nD) : FVec Ideal S2x2048x1024 .f32 := m ((c.tc : Thread nD τ).loc main_arg6)
def rH (c : Dev nD) : FVec Ideal S2x2048x1024 .f32 :=
  addf (r_arg0 m c) (Host.dotGeneral dot_S2x2048x1024_S1024x1024_S2x2048x1024_2_0_01_1_n_n none (r_arg1 m c) (r_arg2 m c))
def rVar (c : Dev nD) : FVec Ideal S2x2048x1 .f32 :=
  addf (Host.divf (broadcastInDim S2x2048x1 ![0, 1] bcast_S2x2048_S2x2048x1_0_1 (Host.reduceAdd (mulf (rH m c) (rH m c)) ((constant S_ .f32 0x00000000#32)) reducesTo_S2x2048x1024_S2x2048_d2 h_S_)) (broadcastInDim S2x2048x1 ![] bcast_S_S2x2048x1 ((constant S_ .f32 0x44800000#32)))) (broadcastInDim S2x2048x1 ![] bcast_S_S2x2048x1 ((constant S_ .f32 0x358637BD#32)))
def rInv (c : Dev nD) : FVec Ideal S2x2048x1 .f32 :=
  Host.rsqrt (rVar m c)
def rUnit (c : Dev nD) : FVec Ideal S2x2048x1024 .f32 :=
  mulf (rH m c) (broadcastInDim S2x2048x1024 ![0, 1, 2] bcast_S2x2048x1_S2x2048x1024_0_1_2 (rInv m c))
def rN (c : Dev nD) : FVec Ideal S2x2048x1024 .f32 :=
  mulf (rUnit m c) (broadcastInDim S2x2048x1024 ![0, 1, 2] bcast_S1x1x1024_S2x2048x1024_0_1_2 (broadcastInDim S1x1x1024 ![2] bcast_S1024_S1x1x1024_2 (r_arg3 m c)))
def rPre (c : Dev nD) : FVec Ideal S2x2048x4096 .f32 :=
  Host.dotGeneral dot_S2x2048x1024_S1024x4096_S2x2048x4096_2_0_01_1_n_n none (rN m c) (r_arg4 m c)
def rPos (c : Dev nD) : FVec Ideal S2x2048x4096 .f32 :=
  maximumf (rPre m c) ((broadcastInDim S2x2048x4096 ![] bcast_S_S2x2048x4096) ((constant S_ .f32 0x00000000#32)))
def rE0 (c : Dev nD) : FVec Ideal S2x2048x1024 .f32 :=
  subf (addf (rH m c) (Host.dotGeneral dot_S2x2048x4096_S4096x1024_S2x2048x1024_2_0_01_1_n_n none (mulf (rPos m c) (rPos m c)) (r_arg5 m c))) (r_arg6 m c)
def rLoss (c : Dev nD) : FVec Ideal S_ .f32 :=
  mulf ((constant S_ .f32 0x3F000000#32)) (Host.reduceAdd (Host.divf (Host.reduceAdd (mulf (rE0 m c) (rE0 m c)) ((constant S_ .f32 0x00000000#32)) reducesTo_S2x2048x1024_S2x2048_d2 h_S_) (broadcastInDim S2x2048 ![] bcast_S_S2x2048 ((constant S_ .f32 0x44800000#32)))) ((constant S_ .f32 0x00000000#32)) reducesTo_S2x2048_S_d0_1 h_S_)
def rE (c : Dev nD) : FVec Ideal S2x2048x1024 .f32 :=
  mulf (broadcastInDim S2x2048x1024 ![0, 1] bcast_S2x2048_S2x2048x1024_0_1 (Host.divf (broadcastInDim S2x2048 ![] bcast_S_S2x2048 (mulf ((constant S_ .f32 0x3F000000#32)) ((constant S_ .f32 0x3F800000#32)))) (broadcastInDim S2x2048 ![] bcast_S_S2x2048 ((constant S_ .f32 0x44800000#32))))) (mulf (broadcastInDim S2x2048x1024 ![] bcast_S_S2x2048x1024 ((constant S_ .f32 0x40000000#32))) (rE0 m c))
def rW2 (c : Dev nD) : FVec Ideal S4096x1024 .f32 :=
  transpose S4096x1024 [1, 0] (Host.dotGeneral dot_S2x2048x1024_S2x2048x4096_S1024x4096_01_01_2_2_n_n none (rE m c) (mulf (rPos m c) (rPos m c))) transposes_S1024x4096_S4096x1024_1_0
def rDA (c : Dev nD) : FVec Ideal S2x2048x4096 .f32 :=
  select (cmpf .ogt (rPre m c) (broadcastInDim S2x2048x4096 ![] bcast_S_S2x2048x4096 ((constant S_ .f32 0x00000000#32)))) (mulf (Host.dotGeneral dot_S2x2048x1024_S4096x1024_S2x2048x4096_2_1_01_0_n_n none (rE m c) (r_arg5 m c)) (mulf (broadcastInDim S2x2048x4096 ![] bcast_S_S2x2048x4096 ((constant S_ .f32 0x40000000#32))) (rPos m c))) (broadcastInDim S2x2048x4096 ![] bcast_S_S2x2048x4096 ((constant S_ .f32 0x00000000#32)))
def rW1 (c : Dev nD) : FVec Ideal S1024x4096 .f32 :=
  transpose S1024x4096 [1, 0] (Host.dotGeneral dot_S2x2048x4096_S2x2048x1024_S4096x1024_01_01_2_2_n_n none (rDA m c) (rN m c)) transposes_S4096x1024_S1024x4096_1_0
def rDN (c : Dev nD) : FVec Ideal S2x2048x1024 .f32 :=
  Host.dotGeneral dot_S2x2048x4096_S1024x4096_S2x2048x1024_2_1_01_0_n_n none (rDA m c) (r_arg4 m c)
def rDirect (c : Dev nD) : FVec Ideal S2x2048x1024 .f32 :=
  mulf (rDN m c) (broadcastInDim S2x2048x1024 ![0, 1, 2] bcast_S1x1x1024_S2x2048x1024_0_1_2 (broadcastInDim S1x1x1024 ![2] bcast_S1024_S1x1x1024_2 (r_arg3 m c)))
def rG (c : Dev nD) : FVec Ideal S1024 .f32 :=
  Host.reduceAdd (shapeCast _ (Host.reduceAdd (mulf (rUnit m c) (rDN m c)) ((constant S_ .f32 0x00000000#32)) reducesTo_S2x2048x1024_S1024_d0_1 h_S_) shapeCasts_S1024_S1x1x1024) ((constant S_ .f32 0x00000000#32)) reducesTo_S1x1x1024_S1024_d0_1 h_S_
def rBack (c : Dev nD) : FVec Ideal S2x2048x1024 .f32 :=
  broadcastInDim S2x2048x1024 ![0, 1] bcast_S2x2048_S2x2048x1024_0_1 (Host.reduceAdd (Host.divf (mulf (shapeCast _ (Host.reduceAdd (mulf (rH m c) (rDirect m c)) ((constant S_ .f32 0x00000000#32)) reducesTo_S2x2048x1024_S2x2048_d2 h_S_) shapeCasts_S2x2048_S2x2048x1) (mulf (broadcastInDim S2x2048x1 ![] bcast_S_S2x2048x1 ((constant S_ .f32 0xBF000000#32))) (Host.divf (rInv m c) (rVar m c)))) (broadcastInDim S2x2048x1 ![] bcast_S_S2x2048x1 ((constant S_ .f32 0x44800000#32)))) ((constant S_ .f32 0x00000000#32)) reducesTo_S2x2048x1_S2x2048_d2 h_S_)
def rDH (c : Dev nD) : FVec Ideal S2x2048x1024 .f32 :=
  addf (addf (addf (rE m c) (mulf (rDirect m c) (broadcastInDim S2x2048x1024 ![0, 1, 2] bcast_S2x2048x1_S2x2048x1024_0_1_2 (rInv m c)))) (mulf (rH m c) (rBack m c))) (mulf (rBack m c) (rH m c))
def rWo (c : Dev nD) : FVec Ideal S1024x1024 .f32 :=
  transpose S1024x1024 [1, 0] (Host.dotGeneral dot_S2x2048x1024_S2x2048x1024_S1024x1024_01_01_2_2_n_n none (rDH m c) (r_arg1 m c)) transposes_S1024x1024_S1024x1024_1_0
def rRows (c : Dev nD) : FVec Ideal S4096x1024 .f32 :=
  shapeCast _ (rDH m c) shapeCasts_S2x2048x1024_S4096x1024

set_option maxHeartbeats 4000000 in
theorem rLoss_eq (c : Dev nD) : Value.res_main_v36 m c = rLoss m c := by
  delta Value.res_main_v36
  delta rLoss
  delta rE0
  delta rPos
  delta rPre
  delta rN
  delta rUnit
  delta rInv
  delta rVar
  delta rH
  rfl
set_option maxHeartbeats 4000000 in
theorem rG_eq (c : Dev nD) : Value.res_main_v57 m c = rG m c := by
  delta Value.res_main_v57
  delta rG
  delta rDN
  delta rDA
  delta rE
  delta rE0
  delta rPos
  delta rPre
  delta rN
  delta rUnit
  delta rInv
  delta rVar
  delta rH
  rfl
set_option maxHeartbeats 4000000 in
theorem rRows_eq (c : Dev nD) : Value.res_main_v75 m c = rRows m c := by
  delta Value.res_main_v75
  delta rRows
  delta rDH
  delta rBack
  delta rDirect
  delta rDN
  delta rDA
  delta rE
  delta rE0
  delta rPos
  delta rPre
  delta rN
  delta rUnit
  delta rInv
  delta rVar
  delta rH
  rfl
set_option maxHeartbeats 4000000 in
theorem rWo_eq (c : Dev nD) : Value.res_main_v74 m c = rWo m c := by
  delta Value.res_main_v74
  delta rWo
  delta rDH
  delta rBack
  delta rDirect
  delta rDN
  delta rDA
  delta rE
  delta rE0
  delta rPos
  delta rPre
  delta rN
  delta rUnit
  delta rInv
  delta rVar
  delta rH
  rfl
set_option maxHeartbeats 4000000 in
theorem rW1_eq (c : Dev nD) : Value.res_main_v50 m c = rW1 m c := by
  delta Value.res_main_v50
  delta rW1
  delta rDA
  delta rE
  delta rE0
  delta rPos
  delta rPre
  delta rN
  delta rUnit
  delta rInv
  delta rVar
  delta rH
  rfl
set_option maxHeartbeats 4000000 in
theorem rW2_eq (c : Dev nD) : Value.res_main_v44 m c = rW2 m c := by
  delta Value.res_main_v44
  delta rW2
  delta rE
  delta rE0
  delta rPos
  delta rPre
  delta rN
  delta rUnit
  delta rInv
  delta rVar
  delta rH
  rfl

end Cert.ReferenceIdeal.Out

end
-- ==== Proof.Bridge.lean ====
/- The kernel's arrays are the reference's, stage after stage: the streams with their batches one after the other. -/
module

public import proofs.«01_k».proof.Proof.Values
public import proofs.«01_k».proof.Proof.RefStages

@[expose] public section

set_option maxRecDepth 16384

noncomputable section

namespace Cert.Bridge

open Idealize.ShloMosaic Idealize.ShloMosaic.TcCoe Idealize.SL.Sem
open Cert.KernelIdeal (S2x2048x1024 S4096x1024 S1024x1024 S1024 S1024x4096 S4096x4096)
open Cert.Sums Cert.KernelIdeal.Out Cert.ReferenceIdeal.Out

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev 1)

/-- Both programs start from the same arguments. -/
structure Same : Prop where
  x : r_arg0 m' c = m ((c.tc : Thread KernelIdeal.nD KernelIdeal.τ).loc KernelIdeal.main_arg0)
  mixed : r_arg1 m' c = m ((c.tc : Thread KernelIdeal.nD KernelIdeal.τ).loc KernelIdeal.main_arg1)
  w_out : r_arg2 m' c = m ((c.tc : Thread KernelIdeal.nD KernelIdeal.τ).loc KernelIdeal.main_arg2)
  gain : r_arg3 m' c = m ((c.tc : Thread KernelIdeal.nD KernelIdeal.τ).loc KernelIdeal.main_arg3)
  w_in : r_arg4 m' c = m ((c.tc : Thread KernelIdeal.nD KernelIdeal.τ).loc KernelIdeal.main_arg4)
  w_mlp : r_arg5 m' c = m ((c.tc : Thread KernelIdeal.nD KernelIdeal.τ).loc KernelIdeal.main_arg5)
  target : r_arg6 m' c = m ((c.tc : Thread KernelIdeal.nD KernelIdeal.τ).loc KernelIdeal.main_arg6)

variable {m m' c} (s : Same m m' c)
include s

theorem hX : aX m c = rows (r_arg0 m' c) := by rw [s.x]; rfl
theorem hT : aT m c = rows (r_arg6 m' c) := by rw [s.target]; rfl
theorem hM : aM m c = rows (r_arg1 m' c) := by rw [s.mixed]; rfl
theorem hG : aG m c = KernelIdeal.Out.gain (r_arg3 m' c) := by rw [s.gain]; rfl
theorem hWo : aWo m c = r_arg2 m' c := by rw [s.w_out]; rfl
theorem hW1 : aW1 m c = r_arg4 m' c := by rw [s.w_in]; rfl
theorem hW2 : aW2 m c = r_arg5 m' c := by rw [s.w_mlp]; rfl

theorem h_eq : kH m c = rows (rH m' c) := by
  rw [kH, hX s, hM s, hWo s]
  funext j; pointwise [proj, rH]
  exact add_comm _ _

theorem n_eq : kN m c = rows (rN m' c) := by
  rw [kN, h_eq s, hG s]
  funext j; pointwise [nrm, rN, rUnit, rInv, rVar, Spec.rms, Spec.var]

omit s in
theorem rows_apply (X : FVec Ideal S2x2048x1024 .f32) (j : S4096x1024.Idx) : rows X j = X (ix3 (bt (j 0)) (ps (j 0)) (j 1)) := by
  pointwise []

/-- A hidden layer's rows. -/
def wide (X : FVec Ideal ReferenceIdeal.S2x2048x4096 .f32) : FVec Ideal S4096x4096 .bf16 := fun j => X (ix3 (bt (j 0)) (ps (j 0)) (j 1))

theorem a_eq : kA m c = wide (rPos m' c) := by
  rw [kA, n_eq s, hW1 s]
  funext j; pointwise [act, rPos, rPre, wide]

theorem e0_eq (j : S4096x1024.Idx) :
    kE m c j = rE0 m' c (ix3 (bt (j 0)) (ps (j 0)) (j 1)) * Ideal.ofBits .f32 0x3A800000#32 := by
  rw [kE, h_eq s, a_eq s, hT s, hW2 s]
  pointwise [err, rE0, wide]
  rw [add_comm]

theorem e_eq : kE m c = rows (rE m' c) := by
  funext j
  rw [e0_eq s]
  pointwise [rE]
  rw [two, half, features, per_feature, Ideal.div_coe (by norm_num), ← mul_assoc, ← EReal.coe_mul, ← EReal.coe_mul, mul_comm]
  norm_num

theorem d_eq : kD m c = wide (rDA m' c) := by
  rw [kD, e_eq s, hW2 s, a_eq s]
  funext j; pointwise [dact, rDA, wide, rPos]
  split_ifs with h
  · rfl
  · rw [max_eq_right (not_lt.mp h), mul_zero, mul_zero]

theorem dn_eq : kDN m c = rows (rDN m' c) := by
  rw [kDN, hW1 s, d_eq s]
  funext j; pointwise [dn, rDN, wide]

theorem dh_eq : kDH m c = rows (rDH m' c) := by
  rw [kDH, dn_eq s, e_eq s, h_eq s, hG s]
  funext j; pointwise [dh, rDH, rDirect, rBack, rInv, rVar, Spec.rmsRow, Spec.rmsMean, Spec.var, Finset.univ_unique, Finset.sum_singleton]
  simp only [add_assoc]

theorem rows_eq : kDH m c = rRows m' c := by
  rw [dh_eq s]
  funext j; pointwise [rRows]

theorem wo_eq : kWo m c = rWo m' c := by
  rw [kWo, hM s, dh_eq s]
  funext j; pointwise [dWo, rWo]
  rw [sum_rows fun b p => r_arg1 m' c (ix3 b p (j 0)) * rDH m' c (ix3 b p (j 1))]
  exact Finset.sum_congr rfl fun b _ => Finset.sum_congr rfl fun p _ => mul_comm _ _

theorem w1_eq : kW1 m c = rW1 m' c := by
  rw [kW1, n_eq s, d_eq s]
  funext j; pointwise [dW1, rW1, wide]
  rw [sum_rows fun b p => rN m' c (ix3 b p (j 0)) * rDA m' c (ix3 b p (j 1))]
  exact Finset.sum_congr rfl fun b _ => Finset.sum_congr rfl fun p _ => mul_comm _ _

theorem w2_eq : kW2 m c = rW2 m' c := by
  rw [kW2, e_eq s, a_eq s]
  funext j; pointwise [dW2, rW2, wide]
  rw [sum_rows fun b p => rPos m' c (ix3 b p (j 0)) * rPos m' c (ix3 b p (j 0)) * rE m' c (ix3 b p (j 1))]
  exact Finset.sum_congr rfl fun b _ => Finset.sum_congr rfl fun p _ => mul_comm _ _

/-- The gain's gradient is a sum over all rows. -/
theorem g_rows (j : S1024.Idx) : kG m c j = ∑ i : Fin 4096, rH m' c (ix3 (bt i) (ps i) (j 0))
    * Ideal.rsqrt (Spec.var nf fun k => rH m' c (ix3 (bt i) (ps i) k)) * rDN m' c (ix3 (bt i) (ps i) (j 0)) := by
  rw [kG, kGr, kGT, dn_eq s, h_eq s]
  pointwise [dgTiles]
  simp only [select_first]
  exact sum_tiles fun i => rH m' c (ix3 (bt i) (ps i) (j 0))
    * Ideal.rsqrt (Spec.var nf fun k => rH m' c (ix3 (bt i) (ps i) k)) * rDN m' c (ix3 (bt i) (ps i) (j 0))

theorem g_eq : kG m c = rG m' c := by
  funext j
  rw [g_rows s, sum_rows fun b p => rH m' c (ix3 b p (j 0))
    * Ideal.rsqrt (Spec.var nf fun k => rH m' c (ix3 b p k)) * rDN m' c (ix3 b p (j 0))]
  pointwise [rG, rUnit, rInv, rVar, Spec.var, reduce01, Finset.univ_unique, Finset.sum_singleton]

/-- A row's part of the loss, from the derivative and from the error. -/
theorem l_row (i : Fin 4096) : (∑ k : Fin 1024, kE m c (ix2 i k) * kE m c (ix2 i k)) * ((512 : ℝ) : EReal)
    = (∑ k : Fin 1024, rE0 m' c (ix3 (bt i) (ps i) k) * rE0 m' c (ix3 (bt i) (ps i) k)) * ((1 / 2048 : ℝ) : EReal) := by
  have h (k : Fin 1024) : kE m c (ix2 i k) * kE m c (ix2 i k)
      = rE0 m' c (ix3 (bt i) (ps i) k) * rE0 m' c (ix3 (bt i) (ps i) k) * ((1 / 1024 * (1 / 1024) : ℝ) : EReal) := by
    rw [e0_eq s, per_feature, EReal.coe_mul]
    exact mul_mul_mul_comm _ _ _ _
  simp only [h]
  rw [sum_mul_coe _ _ fun k => sq_nonneg _, mul_assoc, ← EReal.coe_mul]
  norm_num

theorem l_eq : kL m c = rLoss m' c := by
  funext j
  rw [kL, kLT]
  pointwise [lossTiles, rLoss]
  rw [sum_corners, features, half, half_features]
  have hs (x : Fin 64) : (∑ r : Fin 512, ∑ k : Fin 1024, kE m c (ix2 (tileRow x r) k) * kE m c (ix2 (tileRow x r) k)) * ((512 : ℝ) : EReal)
      = ∑ r : Fin 512, (∑ k : Fin 1024, kE m c (ix2 (tileRow x r) k) * kE m c (ix2 (tileRow x r) k)) * ((512 : ℝ) : EReal) :=
    (sum_mul_coe _ _ (fun r => Finset.sum_nonneg fun k _ => sq_nonneg _) _).symm
  simp only [hs]
  rw [sum_tiles fun i => (∑ k : Fin 1024, kE m c (ix2 i k) * kE m c (ix2 i k)) * ((512 : ℝ) : EReal)]
  simp only [l_row s]
  rw [sum_rows fun b p => (∑ k : Fin 1024, rE0 m' c (ix3 b p k) * rE0 m' c (ix3 b p k)) * ((1 / 2048 : ℝ) : EReal), mul_comm]
  have hn (b : Fin 2) (p : Fin 2048) : 0 ≤ (∑ k : Fin 1024, rE0 m' c (ix3 b p k) * rE0 m' c (ix3 b p k)) * ((1 / 1024 : ℝ) : EReal) :=
    EReal.mul_nonneg (Finset.sum_nonneg fun k _ => sq_nonneg _) (EReal.coe_nonneg.mpr (by norm_num))
  simp only [Ideal.div_coe (show (1024 : ℝ) ≠ 0 by norm_num)]
  rw [← sum_mul_coe _ _ fun b => Finset.sum_nonneg fun p _ => hn b p]
  refine Finset.sum_congr rfl fun b _ => ?_
  rw [← sum_mul_coe _ _ fun p => hn b p]
  refine Finset.sum_congr rfl fun p _ => ?_
  rw [mul_assoc, ← EReal.coe_mul]
  norm_num

end Cert.Bridge

end
-- ==== Proof.RunKernel3Ideal.lean ====
/- What every array holds after `Kernel3Ideal`'s host lines and kernel calls: the contents at the last boundary. -/
module

public import proofs.«01_k».proof.Proof.Gen.Kernel3Ideal.Frame
public import Idealize.ShloMosaic.Lib.Pipeline.ValueKit
public import Idealize.ShloMosaic.Lib.Claim

@[expose] public section

set_option maxRecDepth 16384

noncomputable section

namespace Cert.Kernel3Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every execution ends, and every array then holds the contents `W8` of the last boundary. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

end Cert.Kernel3Ideal.Out

end
-- ==== Proof.Mixing.lean ====
/- The arrays that the calls of the gated state-space heads and of the two output norms leave, forward and backward, as
   functions of the arrays they read. -/
module

public import proofs.«01_k».proof.Proof.RunKernel3Ideal
public import Idealize.ShloMosaic.Lib.Pipeline.ValueKit
public import Idealize.ShloMosaic.Lib.Pointwise
public import proofs.«01_k».proof.Proof.Spec
public import proofs.«01_k».proof.Proof.Sums

@[expose] public section

set_option maxRecDepth 16384

noncomputable section

namespace Cert.Mixing

open Idealize.ShloMosaic

/-- The tangent in the smooth gate. -/
def tn (x : EReal) : EReal :=
  Ideal.tanh (Ideal.ofBits .f32 0x3F4C422A#32 * (x + Ideal.ofBits .f32 0x3D372713#32 * (x * x * x)))
/-- The smooth gate. -/
def gelu (x : EReal) : EReal := x * (Ideal.ofBits .f32 0x3F000000#32 * (1 + tn x))
/-- The part of the smooth gate's derivative that passes through the tangent's argument. -/
def geluIn (x d : EReal) : EReal :=
  Ideal.ofBits .f32 0x3F4C422A#32 * (Ideal.ofBits .f32 0x3F000000#32 * (x * d) * ((1 + tn x) * (1 - tn x)))
/-- The smooth gate's derivative, for the cotangent `d`. -/
def geluBack (x d : EReal) : EReal :=
  d * (Ideal.ofBits .f32 0x3F000000#32 * (1 + tn x)) + geluIn x d + x * x * (Ideal.ofBits .f32 0x3D372713#32 * geluIn x d)
    + x * (Ideal.ofBits .f32 0x3D372713#32 * geluIn x d * x) + Ideal.ofBits .f32 0x3D372713#32 * geluIn x d * x * x

end Cert.Mixing

namespace Cert.Kernel3Ideal.Out

open Cert.Sums (tileRow)
open Idealize.ShloMosaic Idealize.ShloMosaic.TcCoe Idealize.SL.Sem
open Idealize.ShloMosaic.Pipeline (Dat)
open Cert.Kernel3Ideal Cert.Kernel3Ideal.Gen Cert.Mixing
open scoped BigOperators

section Regions
variable (V : (c : Dev nD) → (b : Ref sig .tc) → Buf (Elt Ideal) ((c : Thread nD τ).loc b))

/-- The width of a branch. -/
abbrev nw : EReal := Ideal.ofBits .f32 0x44000000#32
/-- A column of the attention's half. -/
abbrev lf (k : Fin 512) : Fin 1024 := ⟨k.val, by have := k.isLt; omega⟩
/-- A column of the state-space half. -/
abbrev rt (k : Fin 512) : Fin 1024 := ⟨512 + k.val, by have := k.isLt; omega⟩

theorem idx0 : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The gate before its sigmoid. -/
def gate (Y : FVec Ideal S4096x512 .f32) (W : FVec Ideal S512x512 .bf16) (B : FVec Ideal S1x512 .f32) : FVec Ideal S4096x512 .f32 :=
  fun j => (∑ k : Fin 512, gelu (Y (ix2 (j 0) k)) * W (ix2 k (j 1))) + B (ix2 0 (j 1))

theorem gate_final (c : Dev nD) : (dat0 V c).arrAt 3 cfg0.N = gate (V c main_v1) (V c main_v6) (V c main_v5) := by
  refine (dat0 V c).arrAt_eq_of_covers 3 _ (by decide +kernel) fun t _ y => ?_
  blk_simp; rw [after0_3]; frame_out
  pointwise [k0_pay1, gate, gelu, tn]
  blk_point [iblk0, idx0 t]

theorem idx1 : ∀ t : Fin cfg1.N, win1_0.index t = ![t.val, 0] ∧ win1_1.index t = ![t.val, 0] ∧ win1_2.index t = ![t.val, 0]
    ∧ win1_3.index t = ![0, 0] ∧ win1_4.index t = ![0, 0] ∧ win1_5.index t = ![t.val, 0] :=
  (by decide +kernel : ∀ t : Fin grid1.N, _)

/-- The gated state-space heads. -/
def ssm (Y P : FVec Ideal S4096x512 .f32) : FVec Ideal S4096x512 .f32 := fun j => gelu (Y j) * Ideal.logistic (P j)

/-- Both branches normalised, side by side. -/
def mix (A Y P : FVec Ideal S4096x512 .f32) (Ga Gs : FVec Ideal S1x512 .f32) : FVec Ideal S4096x1024 .bf16 :=
  fun j => if h : (j 1).val < 512
    then Spec.rms nw (fun k => A (ix2 (j 0) k)) (fun k => Ga (ix2 0 k)) ⟨(j 1).val, h⟩
    else Spec.rms nw (fun k => ssm Y P (ix2 (j 0) k)) (fun k => Gs (ix2 0 k))
      ⟨(j 1).val - 512, by have h1 : (j 1).val < 1024 := (j 1).isLt; omega⟩

theorem mix_final (c : Dev nD) : (dat1 V c).arrAt 5 cfg1.N
    = mix (V c main_v0) (V c main_v1) (V c main_v8) (V c main_v3) (V c main_v4) := by
  refine (dat1 V c).arrAt_eq_of_covers 5 _ (by decide +kernel) fun t _ y => ?_
  blk_simp; rw [after1_5]; frame_out
  have e1 : (((View.whole main_v9).slice (win1_5.rect t)).emb y 1).val = (y 1).val := by blk_simp [idx1 t]
  pointwise [k1_pay1, k1_pay2, k1_pay3, k1_pay4, k1_pay5, mix, ssm, gelu, tn, Spec.rms, Spec.var]
  blk_point [iblk1, idx1 t]
  all_goals first
    | exact absurd (lt_of_eq_of_lt e1.symm (by assumption)) (by assumption : ¬ (y 1).val < 512)
    | exact absurd (lt_of_eq_of_lt e1 (by assumption : (y 1).val < 512)) (by assumption)

theorem idx2 : ∀ t : Fin cfg2.N, win2_0.index t = ![t.val, 0] ∧ win2_1.index t = ![0, 0] ∧ win2_2.index t = ![t.val, 0]
    ∧ win2_3.index t = ![t.val, 0] ∧ win2_4.index t = ![t.val, 0] ∧ win2_5.index t = ![0, 0] ∧ win2_6.index t = ![0, 0]
    ∧ win2_7.index t = ![t.val, 0] ∧ win2_8.index t = ![t.val, 0] ∧ win2_9.index t = ![t.val, 0] ∧ win2_10.index t = ![t.val, 0]
    ∧ win2_11.index t = ![t.val, 0] ∧ win2_12.index t = ![t.val, 0] :=
  (by decide +kernel : ∀ t : Fin grid2.N, _)

/-- The cotangent of both branches. -/
def dm (D : FVec Ideal S4096x1024 .f32) (W : FVec Ideal S1024x1024 .bf16) : FVec Ideal S4096x1024 .f32 :=
  fun j => ∑ k : Fin 1024, D (ix2 (j 0) k) * W (ix2 (j 1) k)

/-- The gradient of the attention branch. -/
def dAttn (M : FVec Ideal S4096x1024 .f32) (A : FVec Ideal S4096x512 .f32) (G : FVec Ideal S1x512 .f32) : FVec Ideal S4096x512 .f32 :=
  fun j => Spec.rmsRow nw (fun k => A (ix2 (j 0) k)) (fun k => G (ix2 0 k)) (fun k => M (ix2 (j 0) (lf k))) (j 1)

theorem dAttn_final (c : Dev nD) : (dat2 V c).arrAt 7 cfg2.N
    = dAttn (dm (V c main_v2) (V c main_v7)) (V c main_v0) (V c main_v3) := by
  refine (dat2 V c).arrAt_eq_of_covers 7 _ (by decide +kernel) fun t _ y => ?_
  blk_simp; rw [after2_7]; frame_out
  pointwise [k2_pay31, k2_pay32, k2_pay33, k2_pay34, k2_pay35, k2_pay36, k2_pay37, k2_pay38, k2_pay39,
    k2_pay3, k2_pay4, k2_pay6, k2_pay9, k2_pay10, k2_pay11, k2_pay12, k2_pay13, k2_pay19, k2_pay25, dAttn, dm, Spec.rmsRow, Spec.rmsMean,
    Spec.var, Finset.univ_unique, Finset.sum_singleton]
  blk_point [iblk2, idx2 t]
  all_goals first | (blk_simp [idx2 t]; done) | (blk_simp [idx2 t]; omega)

/-- The gradient of the gated state-space heads. -/
def dSsm (M : FVec Ideal S4096x1024 .f32) (S : FVec Ideal S4096x512 .f32) (G : FVec Ideal S1x512 .f32) : FVec Ideal S4096x512 .f32 :=
  fun j => Spec.rmsRow nw (fun k => S (ix2 (j 0) k)) (fun k => G (ix2 0 k)) (fun k => M (ix2 (j 0) (rt k))) (j 1)

/-- The gradient of the gate before its sigmoid. -/
def dGate (D : FVec Ideal S4096x512 .f32) (Y P : FVec Ideal S4096x512 .f32) : FVec Ideal S4096x512 .bf16 :=
  fun j => gelu (Y j) * D j * (Ideal.logistic (P j) * (1 - Ideal.logistic (P j)))

theorem dGate_final (c : Dev nD) : (dat2 V c).arrAt 8 cfg2.N
    = dGate (dSsm (dm (V c main_v2) (V c main_v7)) (ssm (V c main_v1) (V c main_v8)) (V c main_v4)) (V c main_v1) (V c main_v8) := by
  refine (dat2 V c).arrAt_eq_of_covers 8 _ (by decide +kernel) fun t _ y => ?_
  blk_simp; rw [after2_8]; frame_out
  pointwise [k2_pay31, k2_pay32, k2_pay33, k2_pay34, k2_pay35, k2_pay36, k2_pay37, k2_pay38, k2_pay39,
    k2_pay3, k2_pay5, k2_pay7, k2_pay8, k2_pay15, k2_pay16, k2_pay17, k2_pay18, k2_pay20, k2_pay22, k2_pay24, k2_pay27, dGate, dSsm, ssm, gelu, tn, dm,
    Spec.rmsRow, Spec.rmsMean, Spec.var, Finset.univ_unique, Finset.sum_singleton]
  blk_point [iblk2, idx2 t]
  all_goals first | (blk_simp [idx2 t]; done) | (blk_simp [idx2 t]; omega)

/-- The direct gradient of the state-space heads. -/
def dDirect (D P : FVec Ideal S4096x512 .f32) : FVec Ideal S4096x512 .f32 := fun j => D j * Ideal.logistic (P j)

theorem dDirect_final (c : Dev nD) : (dat2 V c).arrAt 9 cfg2.N
    = dDirect (dSsm (dm (V c main_v2) (V c main_v7)) (ssm (V c main_v1) (V c main_v8)) (V c main_v4)) (V c main_v8) := by
  refine (dat2 V c).arrAt_eq_of_covers 9 _ (by decide +kernel) fun t _ y => ?_
  blk_simp; rw [after2_9]; frame_out
  pointwise [k2_pay31, k2_pay32, k2_pay33, k2_pay34, k2_pay35, k2_pay36, k2_pay37, k2_pay38, k2_pay39,
    k2_pay3, k2_pay5, k2_pay7, k2_pay8, k2_pay15, k2_pay16, k2_pay17, k2_pay18, k2_pay20, k2_pay22, k2_pay23, dDirect, dSsm, ssm, gelu, tn, dm,
    Spec.rmsRow, Spec.rmsMean, Spec.var, Finset.univ_unique, Finset.sum_singleton]
  blk_point [iblk2, idx2 t]
  all_goals first | (blk_simp [idx2 t]; done) | (blk_simp [idx2 t]; omega)

/-- Each tile's sum of an array's rows, in the tile's first row. -/
def tiles (X : FVec Ideal S4096x512 .f32) : FVec Ideal S64x512 .f32 :=
  fun j => Scalar.select (IntOp.cmpi .eq (BitVec.ofNat 32 ((j 0).val % 8)) 0#32) (∑ r : Fin 512, X (ix2 (tileRow (j 0) r) (j 1))) 0

/-- The rows of a gain's gradient: the normalised rows times the cotangent `M` on the columns `h`. -/
def dGain (X : FVec Ideal S4096x512 .f32) (M : FVec Ideal S4096x1024 .f32) (h : Fin 512 → Fin 1024) : FVec Ideal S4096x512 .f32 :=
  fun j => X j * Ideal.rsqrt (Spec.var nw fun k => X (ix2 (j 0) k)) * M (ix2 (j 0) (h (j 1)))

theorem dga_final (c : Dev nD) : (dat2 V c).arrAt 10 cfg2.N
    = tiles (dGain (V c main_v0) (dm (V c main_v2) (V c main_v7)) lf) := by
  refine (dat2 V c).arrAt_eq_of_covers 10 _ (by decide +kernel) fun t _ y => ?_
  blk_simp; rw [after2_10]; frame_out
  pointwise [k2_pay31, k2_pay32, k2_pay33, k2_pay34, k2_pay35, k2_pay36, k2_pay37, k2_pay38, k2_pay39,
    k2_pay3, k2_pay4, k2_pay9, k2_pay10, k2_pay11, k2_pay12, k2_pay14, k2_pay19, k2_pay28, tiles, tileRow, dGain, dm, Spec.var]
  blk_point [iblk2, idx2 t]
  all_goals first | exact congrArg (BitVec.ofNat 32) (by omega) | (blk_simp [idx2 t]; done) | (blk_simp [idx2 t]; omega)

theorem dgs_final (c : Dev nD) : (dat2 V c).arrAt 11 cfg2.N
    = tiles (dGain (ssm (V c main_v1) (V c main_v8)) (dm (V c main_v2) (V c main_v7)) rt) := by
  refine (dat2 V c).arrAt_eq_of_covers 11 _ (by decide +kernel) fun t _ y => ?_
  blk_simp; rw [after2_11]; frame_out
  pointwise [k2_pay31, k2_pay32, k2_pay33, k2_pay34, k2_pay35, k2_pay36, k2_pay37, k2_pay38, k2_pay39,
    k2_pay1, k2_pay3, k2_pay5, k2_pay8, k2_pay15, k2_pay16, k2_pay17, k2_pay18, k2_pay20, k2_pay21, k2_pay29, k2_pay30, tiles, tileRow, dGain, ssm, gelu, tn,
    dm, Spec.var]
  blk_point [iblk2, idx2 t]
  all_goals first | exact congrArg (BitVec.ofNat 32) (by omega) | (blk_simp [idx2 t]; done) | (blk_simp [idx2 t]; omega)

theorem dbias_final (c : Dev nD) : (dat2 V c).arrAt 12 cfg2.N
    = tiles (dGate (dSsm (dm (V c main_v2) (V c main_v7)) (ssm (V c main_v1) (V c main_v8)) (V c main_v4)) (V c main_v1) (V c main_v8)) := by
  refine (dat2 V c).arrAt_eq_of_covers 12 _ (by decide +kernel) fun t _ y => ?_
  blk_simp; rw [after2_12]; frame_out
  pointwise [k2_pay31, k2_pay32, k2_pay33, k2_pay34, k2_pay35, k2_pay36, k2_pay37, k2_pay38, k2_pay39,
    k2_pay2, k2_pay3, k2_pay5, k2_pay7, k2_pay8, k2_pay15, k2_pay16, k2_pay17, k2_pay18, k2_pay20, k2_pay22, k2_pay24, k2_pay26, tiles, tileRow, dGate, dSsm,
    ssm, gelu, tn, dm, Spec.rmsRow, Spec.rmsMean, Spec.var, Finset.univ_unique, Finset.sum_singleton]
  blk_point [iblk2, idx2 t]
  all_goals first | exact congrArg (BitVec.ofNat 32) (by omega) | (blk_simp [idx2 t]; done) | (blk_simp [idx2 t]; omega)

theorem idx3 : ∀ t : Fin cfg3.N, win3_0.index t = ![t.val, 0] ∧ win3_1.index t = ![0, 0] ∧ win3_2.index t = ![t.val, 0]
    ∧ win3_3.index t = ![t.val, 0] ∧ win3_4.index t = ![t.val, 0] :=
  (by decide +kernel : ∀ t : Fin grid3.N, _)

/-- The gradient of the state-space heads before the smooth gate. -/
def dY (D : FVec Ideal S4096x512 .bf16) (W : FVec Ideal S512x512 .bf16) (P Y : FVec Ideal S4096x512 .f32) : FVec Ideal S4096x512 .f32 :=
  fun j => geluBack (Y j) ((∑ k : Fin 512, D (ix2 (j 0) k) * W (ix2 (j 1) k)) + P j)

theorem dY_final (c : Dev nD) : (dat3 V c).arrAt 4 cfg3.N = dY (V c main_v10_1) (V c main_v6) (V c main_v10_2) (V c main_v1) := by
  refine (dat3 V c).arrAt_eq_of_covers 4 _ (by decide +kernel) fun t _ y => ?_
  blk_simp; rw [after3_4]; frame_out
  pointwise [k3_pay1, k3_pay2, k3_pay3, k3_pay4, k3_pay5, k3_pay6, k3_pay7, k3_pay8, dY, geluBack, geluIn, tn]
  blk_point [iblk3, idx3 t]

theorem idx4 : ∀ t : Fin cfg4.N, win4_0.index t = ![0, 0] ∧ win4_1.index t = ![0, 0] ∧ win4_2.index t = ![0, 0] :=
  (by decide +kernel : ∀ t : Fin grid4.N, _)

/-- The gradient of the gate's weight. -/
def dWg (Y : FVec Ideal S4096x512 .f32) (D : FVec Ideal S4096x512 .bf16) : FVec Ideal S512x512 .f32 :=
  fun j => ∑ r : Fin 4096, gelu (Y (ix2 r (j 0))) * D (ix2 r (j 1))

theorem dWg_final (c : Dev nD) : (dat4 V c).arrAt 2 cfg4.N = dWg (V c main_v1) (V c main_v10_1) := by
  refine (dat4 V c).arrAt_eq_of_covers 2 _ (by decide +kernel) fun t _ y => ?_
  blk_simp; rw [after4_2]; frame_out
  pointwise [k4_pay1, dWg, gelu, tn]
  blk_point [iblk4, idx4 t]

end Regions

end Cert.Kernel3Ideal.Out

end
-- ==== Proof.MixingValues.lean ====
/- The mixing block's results over its arguments, call after call. -/
module

public import proofs.«01_k».proof.Proof.Mixing
public import proofs.«01_k».proof.Proof.RunKernel3Ideal

@[expose] public section

set_option maxRecDepth 16384

noncomputable section

namespace Cert.Kernel3Ideal.Out

open Idealize.ShloMosaic Idealize.ShloMosaic.TcCoe Idealize.SL.Sem
open Idealize.ShloMosaic.Pipeline (Dat)
open Cert.Kernel3Ideal Cert.Kernel3Ideal.Gen

/-- A branch's rows: its batches one after the other. -/
abbrev rows (X : FVec Ideal S2x2048x512 .f32) : FVec Ideal S4096x512 .f32 := shapeCast S4096x512 X shapeCasts_S2x2048x512_S4096x512
/-- The stream's rows. -/
abbrev wideRows (X : FVec Ideal S2x2048x1024 .f32) : FVec Ideal S4096x1024 .f32 :=
  shapeCast S4096x1024 X shapeCasts_S2x2048x1024_S4096x1024
/-- A gain or a bias as a row. -/
abbrev asRow (G : FVec Ideal S512 .f32) : FVec Ideal S1x512 .f32 := broadcastInDim S1x512 ![1] bcast_S512_S1x512_1 G
/-- The tiles' sums added up. -/
abbrev total (X : FVec Ideal S64x512 .f32) : FVec Ideal S1x512 .f32 := broadcastInDim S1x512 ![1] bcast_S512_S1x512_1
  (Host.reduceAdd X (constant S_ .f32 0x00000000#32) reducesTo_S64x512_S512_d0 h_S_)

variable (m : (ℓ : Loc nD τ sig) → Buf (Elt Ideal) ℓ) (ρ : Dev nD → PrngReg)

def aA (c : Dev nD) : FVec Ideal S4096x512 .f32 := rows (m ((c : Thread nD τ).loc main_arg0))
def aY (c : Dev nD) : FVec Ideal S4096x512 .f32 := rows (m ((c : Thread nD τ).loc main_arg1))
def aD (c : Dev nD) : FVec Ideal S4096x1024 .f32 := wideRows (m ((c : Thread nD τ).loc main_arg7))
def aGa (c : Dev nD) : FVec Ideal S1x512 .f32 := asRow (m ((c : Thread nD τ).loc main_arg4))
def aGs (c : Dev nD) : FVec Ideal S1x512 .f32 := asRow (m ((c : Thread nD τ).loc main_arg5))
def aB (c : Dev nD) : FVec Ideal S1x512 .f32 := asRow (m ((c : Thread nD τ).loc main_arg3))
def aWg (c : Dev nD) : FVec Ideal S512x512 .bf16 := (m ((c : Thread nD τ).loc main_arg2))
def aWo (c : Dev nD) : FVec Ideal S1024x1024 .bf16 := (m ((c : Thread nD τ).loc main_arg6))

theorem v0_V1 (c : Dev nD) : V1 m ρ c main_v0 = aA m c := by
  show StableHlo.after hostOps0 (W0 m ρ c) (Proc.devRef .tc main_v0) = _
  after_results; rfl
theorem v1_V1 (c : Dev nD) : V1 m ρ c main_v1 = aY m c := by
  show StableHlo.after hostOps0 (W0 m ρ c) (Proc.devRef .tc main_v1) = _
  after_results; rfl
theorem v2_V1 (c : Dev nD) : V1 m ρ c main_v2 = aD m c := by
  show StableHlo.after hostOps0 (W0 m ρ c) (Proc.devRef .tc main_v2) = _
  after_results; rfl
theorem v3_V1 (c : Dev nD) : V1 m ρ c main_v3 = aGa m c := by
  show StableHlo.after hostOps0 (W0 m ρ c) (Proc.devRef .tc main_v3) = _
  after_results; rfl
theorem v4_V1 (c : Dev nD) : V1 m ρ c main_v4 = aGs m c := by
  show StableHlo.after hostOps0 (W0 m ρ c) (Proc.devRef .tc main_v4) = _
  after_results; rfl
theorem v5_V1 (c : Dev nD) : V1 m ρ c main_v5 = aB m c := by
  show StableHlo.after hostOps0 (W0 m ρ c) (Proc.devRef .tc main_v5) = _
  after_results; rfl
theorem v6_V1 (c : Dev nD) : V1 m ρ c main_v6 = aWg m c := by
  show StableHlo.after hostOps0 (W0 m ρ c) (Proc.devRef .tc main_v6) = _
  after_results; rfl
theorem v7_V1 (c : Dev nD) : V1 m ρ c main_v7 = aWo m c := by
  show StableHlo.after hostOps0 (W0 m ρ c) (Proc.devRef .tc main_v7) = _
  after_results; rfl

def kP (c : Dev nD) : FVec Ideal S4096x512 .f32 := gate (aY m c) (aWg m c) (aB m c)
def kMix (c : Dev nD) : FVec Ideal S4096x1024 .bf16 := mix (aA m c) (aY m c) (kP m c) (aGa m c) (aGs m c)
def kM (c : Dev nD) : FVec Ideal S4096x1024 .f32 := dm (aD m c) (aWo m c)
def kS (c : Dev nD) : FVec Ideal S4096x512 .f32 := ssm (aY m c) (kP m c)
def kDA (c : Dev nD) : FVec Ideal S4096x512 .f32 := dAttn (kM m c) (aA m c) (aGa m c)
def kDS (c : Dev nD) : FVec Ideal S4096x512 .f32 := dSsm (kM m c) (kS m c) (aGs m c)
def kDG (c : Dev nD) : FVec Ideal S4096x512 .bf16 := dGate (kDS m c) (aY m c) (kP m c)
def kDD (c : Dev nD) : FVec Ideal S4096x512 .f32 := dDirect (kDS m c) (kP m c)
def kTA (c : Dev nD) : FVec Ideal S64x512 .f32 := tiles (dGain (aA m c) (kM m c) lf)
def kTS (c : Dev nD) : FVec Ideal S64x512 .f32 := tiles (dGain (kS m c) (kM m c) rt)
def kTB (c : Dev nD) : FVec Ideal S64x512 .f32 := tiles (kDG m c)
def kDY (c : Dev nD) : FVec Ideal S4096x512 .f32 := dY (kDG m c) (aWg m c) (kDD m c) (aY m c)
def kDW (c : Dev nD) : FVec Ideal S512x512 .f32 := dWg (aY m c) (kDG m c)
def kRA (c : Dev nD) : FVec Ideal S1x512 .f32 := total (kTA m c)
def kRS (c : Dev nD) : FVec Ideal S1x512 .f32 := total (kTS m c)
def kRB (c : Dev nD) : FVec Ideal S1x512 .f32 := total (kTB m c)
def kGA (c : Dev nD) : FVec Ideal S512 .f32 := shapeCast S512 (kRA m c) shapeCasts_S1x512_S512
def kGS (c : Dev nD) : FVec Ideal S512 .f32 := shapeCast S512 (kRS m c) shapeCasts_S1x512_S512
def kGB (c : Dev nD) : FVec Ideal S512 .f32 := shapeCast S512 (kRB m c) shapeCasts_S1x512_S512

theorem v8_W2 (c : Dev nD) : W2 m ρ c (Proc.devRef .tc main_v8) = kP m c := by
  refine ((W2_arr m ρ c 3).trans (gate_final (V1 m ρ) c)).trans ?_
  have h_v1 : V1 m ρ c main_v1 = aY m c := v1_V1 m ρ c
  have h_v6 : V1 m ρ c main_v6 = aWg m c := v6_V1 m ρ c
  have h_v5 : V1 m ρ c main_v5 = aB m c := v5_V1 m ρ c
  rw [h_v1, h_v6, h_v5]; rfl
theorem v9_W3 (c : Dev nD) : W3 m ρ c (Proc.devRef .tc main_v9) = kMix m c := by
  refine ((W3_arr m ρ c 5).trans (mix_final (V2 m ρ) c)).trans ?_
  have h_v0 : V2 m ρ c main_v0 = aA m c := (W2_of m ρ c main_v0 (by decide)).trans (v0_V1 m ρ c)
  have h_v1 : V2 m ρ c main_v1 = aY m c := (W2_of m ρ c main_v1 (by decide)).trans (v1_V1 m ρ c)
  have h_v8 : V2 m ρ c main_v8 = kP m c := v8_W2 m ρ c
  have h_v3 : V2 m ρ c main_v3 = aGa m c := (W2_of m ρ c main_v3 (by decide)).trans (v3_V1 m ρ c)
  have h_v4 : V2 m ρ c main_v4 = aGs m c := (W2_of m ρ c main_v4 (by decide)).trans (v4_V1 m ρ c)
  rw [h_v0, h_v1, h_v8, h_v3, h_v4]; rfl
theorem v10_0_W4 (c : Dev nD) : W4 m ρ c (Proc.devRef .tc main_v10_0) = kDA m c := by
  refine ((W4_arr m ρ c 7).trans (dAttn_final (V3 m ρ) c)).trans ?_
  have h_v2 : V3 m ρ c main_v2 = aD m c := ((W3_of m ρ c main_v2 (by decide)).trans (W2_of m ρ c main_v2 (by decide))).trans (v2_V1 m ρ c)
  have h_v7 : V3 m ρ c main_v7 = aWo m c := ((W3_of m ρ c main_v7 (by decide)).trans (W2_of m ρ c main_v7 (by decide))).trans (v7_V1 m ρ c)
  have h_v0 : V3 m ρ c main_v0 = aA m c := ((W3_of m ρ c main_v0 (by decide)).trans (W2_of m ρ c main_v0 (by decide))).trans (v0_V1 m ρ c)
  have h_v3 : V3 m ρ c main_v3 = aGa m c := ((W3_of m ρ c main_v3 (by decide)).trans (W2_of m ρ c main_v3 (by decide))).trans (v3_V1 m ρ c)
  rw [h_v2, h_v7, h_v0, h_v3]; rfl
theorem v10_1_W4 (c : Dev nD) : W4 m ρ c (Proc.devRef .tc main_v10_1) = kDG m c := by
  refine ((W4_arr m ρ c 8).trans (dGate_final (V3 m ρ) c)).trans ?_
  have h_v2 : V3 m ρ c main_v2 = aD m c := ((W3_of m ρ c main_v2 (by decide)).trans (W2_of m ρ c main_v2 (by decide))).trans (v2_V1 m ρ c)
  have h_v7 : V3 m ρ c main_v7 = aWo m c := ((W3_of m ρ c main_v7 (by decide)).trans (W2_of m ρ c main_v7 (by decide))).trans (v7_V1 m ρ c)
  have h_v1 : V3 m ρ c main_v1 = aY m c := ((W3_of m ρ c main_v1 (by decide)).trans (W2_of m ρ c main_v1 (by decide))).trans (v1_V1 m ρ c)
  have h_v8 : V3 m ρ c main_v8 = kP m c := (W3_of m ρ c main_v8 (by decide)).trans (v8_W2 m ρ c)
  have h_v4 : V3 m ρ c main_v4 = aGs m c := ((W3_of m ρ c main_v4 (by decide)).trans (W2_of m ρ c main_v4 (by decide))).trans (v4_V1 m ρ c)
  rw [h_v2, h_v7, h_v1, h_v8, h_v4]; rfl
theorem v10_5_W4 (c : Dev nD) : W4 m ρ c (Proc.devRef .tc main_v10_5) = kTB m c := by
  refine ((W4_arr m ρ c 12).trans (dbias_final (V3 m ρ) c)).trans ?_
  have h_v2 : V3 m ρ c main_v2 = aD m c := ((W3_of m ρ c main_v2 (by decide)).trans (W2_of m ρ c main_v2 (by decide))).trans (v2_V1 m ρ c)
  have h_v7 : V3 m ρ c main_v7 = aWo m c := ((W3_of m ρ c main_v7 (by decide)).trans (W2_of m ρ c main_v7 (by decide))).trans (v7_V1 m ρ c)
  have h_v1 : V3 m ρ c main_v1 = aY m c := ((W3_of m ρ c main_v1 (by decide)).trans (W2_of m ρ c main_v1 (by decide))).trans (v1_V1 m ρ c)
  have h_v8 : V3 m ρ c main_v8 = kP m c := (W3_of m ρ c main_v8 (by decide)).trans (v8_W2 m ρ c)
  have h_v4 : V3 m ρ c main_v4 = aGs m c := ((W3_of m ρ c main_v4 (by decide)).trans (W2_of m ρ c main_v4 (by decide))).trans (v4_V1 m ρ c)
  rw [h_v2, h_v7, h_v1, h_v8, h_v4]; rfl
theorem v10_2_W4 (c : Dev nD) : W4 m ρ c (Proc.devRef .tc main_v10_2) = kDD m c := by
  refine ((W4_arr m ρ c 9).trans (dDirect_final (V3 m ρ) c)).trans ?_
  have h_v2 : V3 m ρ c main_v2 = aD m c := ((W3_of m ρ c main_v2 (by decide)).trans (W2_of m ρ c main_v2 (by decide))).trans (v2_V1 m ρ c)
  have h_v7 : V3 m ρ c main_v7 = aWo m c := ((W3_of m ρ c main_v7 (by decide)).trans (W2_of m ρ c main_v7 (by decide))).trans (v7_V1 m ρ c)
  have h_v1 : V3 m ρ c main_v1 = aY m c := ((W3_of m ρ c main_v1 (by decide)).trans (W2_of m ρ c main_v1 (by decide))).trans (v1_V1 m ρ c)
  have h_v8 : V3 m ρ c main_v8 = kP m c := (W3_of m ρ c main_v8 (by decide)).trans (v8_W2 m ρ c)
  have h_v4 : V3 m ρ c main_v4 = aGs m c := ((W3_of m ρ c main_v4 (by decide)).trans (W2_of m ρ c main_v4 (by decide))).trans (v4_V1 m ρ c)
  rw [h_v2, h_v7, h_v1, h_v8, h_v4]; rfl
theorem v10_3_W4 (c : Dev nD) : W4 m ρ c (Proc.devRef .tc main_v10_3) = kTA m c := by
  refine ((W4_arr m ρ c 10).trans (dga_final (V3 m ρ) c)).trans ?_
  have h_v0 : V3 m ρ c main_v0 = aA m c := ((W3_of m ρ c main_v0 (by decide)).trans (W2_of m ρ c main_v0 (by decide))).trans (v0_V1 m ρ c)
  have h_v2 : V3 m ρ c main_v2 = aD m c := ((W3_of m ρ c main_v2 (by decide)).trans (W2_of m ρ c main_v2 (by decide))).trans (v2_V1 m ρ c)
  have h_v7 : V3 m ρ c main_v7 = aWo m c := ((W3_of m ρ c main_v7 (by decide)).trans (W2_of m ρ c main_v7 (by decide))).trans (v7_V1 m ρ c)
  rw [h_v0, h_v2, h_v7]; rfl
theorem v10_4_W4 (c : Dev nD) : W4 m ρ c (Proc.devRef .tc main_v10_4) = kTS m c := by
  refine ((W4_arr m ρ c 11).trans (dgs_final (V3 m ρ) c)).trans ?_
  have h_v1 : V3 m ρ c main_v1 = aY m c := ((W3_of m ρ c main_v1 (by decide)).trans (W2_of m ρ c main_v1 (by decide))).trans (v1_V1 m ρ c)
  have h_v8 : V3 m ρ c main_v8 = kP m c := (W3_of m ρ c main_v8 (by decide)).trans (v8_W2 m ρ c)
  have h_v2 : V3 m ρ c main_v2 = aD m c := ((W3_of m ρ c main_v2 (by decide)).trans (W2_of m ρ c main_v2 (by decide))).trans (v2_V1 m ρ c)
  have h_v7 : V3 m ρ c main_v7 = aWo m c := ((W3_of m ρ c main_v7 (by decide)).trans (W2_of m ρ c main_v7 (by decide))).trans (v7_V1 m ρ c)
  rw [h_v1, h_v8, h_v2, h_v7]; rfl
theorem v12_W5 (c : Dev nD) : W5 m ρ c (Proc.devRef .tc main_v12) = kRA m c := by
  have h : W4 m ρ c (Proc.devRef .tc main_v10_3) = kTA m c := v10_3_W4 m ρ c
  show StableHlo.after hostOps3 (W4 m ρ c) (Proc.devRef .tc main_v12) = _
  after_results; rw [h]; rfl
theorem v14_W5 (c : Dev nD) : W5 m ρ c (Proc.devRef .tc main_v14) = kRS m c := by
  have h : W4 m ρ c (Proc.devRef .tc main_v10_4) = kTS m c := v10_4_W4 m ρ c
  show StableHlo.after hostOps3 (W4 m ρ c) (Proc.devRef .tc main_v14) = _
  after_results; rw [h]; rfl
theorem v16_W5 (c : Dev nD) : W5 m ρ c (Proc.devRef .tc main_v16) = kRB m c := by
  have h : W4 m ρ c (Proc.devRef .tc main_v10_5) = kTB m c := v10_5_W4 m ρ c
  show StableHlo.after hostOps3 (W4 m ρ c) (Proc.devRef .tc main_v16) = _
  after_results; rw [h]; rfl
theorem v17_W6 (c : Dev nD) : W6 m ρ c (Proc.devRef .tc main_v17) = kDY m c := by
  refine ((W6_arr m ρ c 4).trans (dY_final (V5 m ρ) c)).trans ?_
  have h_v10_1 : V5 m ρ c main_v10_1 = kDG m c := (W5_of m ρ c main_v10_1 (by decide)).trans (v10_1_W4 m ρ c)
  have h_v6 : V5 m ρ c main_v6 = aWg m c := ((((W5_of m ρ c main_v6 (by decide)).trans (W4_of m ρ c main_v6 (by decide))).trans (W3_of m ρ c main_v6 (by decide))).trans (W2_of m ρ c main_v6 (by decide))).trans (v6_V1 m ρ c)
  have h_v10_2 : V5 m ρ c main_v10_2 = kDD m c := (W5_of m ρ c main_v10_2 (by decide)).trans (v10_2_W4 m ρ c)
  have h_v1 : V5 m ρ c main_v1 = aY m c := ((((W5_of m ρ c main_v1 (by decide)).trans (W4_of m ρ c main_v1 (by decide))).trans (W3_of m ρ c main_v1 (by decide))).trans (W2_of m ρ c main_v1 (by decide))).trans (v1_V1 m ρ c)
  rw [h_v10_1, h_v6, h_v10_2, h_v1]; rfl
theorem v18_W7 (c : Dev nD) : W7 m ρ c (Proc.devRef .tc main_v18) = kDW m c := by
  refine ((W7_arr m ρ c 2).trans (dWg_final (V6 m ρ) c)).trans ?_
  have h_v1 : V6 m ρ c main_v1 = aY m c := (((((W6_of m ρ c main_v1 (by decide)).trans (W5_of m ρ c main_v1 (by decide))).trans (W4_of m ρ c main_v1 (by decide))).trans (W3_of m ρ c main_v1 (by decide))).trans (W2_of m ρ c main_v1 (by decide))).trans (v1_V1 m ρ c)
  have h_v10_1 : V6 m ρ c main_v10_1 = kDG m c := ((W6_of m ρ c main_v10_1 (by decide)).trans (W5_of m ρ c main_v10_1 (by decide))).trans (v10_1_W4 m ρ c)
  rw [h_v1, h_v10_1]; rfl
theorem v19_W8 (c : Dev nD) : W8 m ρ c (Proc.devRef .tc main_v19) = kGB m c := by
  have h : W7 m ρ c (Proc.devRef .tc main_v16) = kRB m c := ((W7_of m ρ c main_v16 (by decide)).trans (W6_of m ρ c main_v16 (by decide))).trans (v16_W5 m ρ c)
  show StableHlo.after hostOps5 (W7 m ρ c) (Proc.devRef .tc main_v19) = _
  after_results; rw [h]; rfl
theorem v20_W8 (c : Dev nD) : W8 m ρ c (Proc.devRef .tc main_v20) = kGA m c := by
  have h : W7 m ρ c (Proc.devRef .tc main_v12) = kRA m c := ((W7_of m ρ c main_v12 (by decide)).trans (W6_of m ρ c main_v12 (by decide))).trans (v12_W5 m ρ c)
  show StableHlo.after hostOps5 (W7 m ρ c) (Proc.devRef .tc main_v20) = _
  after_results; rw [h]; rfl
theorem v21_W8 (c : Dev nD) : W8 m ρ c (Proc.devRef .tc main_v21) = kGS m c := by
  have h : W7 m ρ c (Proc.devRef .tc main_v14) = kRS m c := ((W7_of m ρ c main_v14 (by decide)).trans (W6_of m ρ c main_v14 (by decide))).trans (v14_W5 m ρ c)
  show StableHlo.after hostOps5 (W7 m ρ c) (Proc.devRef .tc main_v21) = _
  after_results; rw [h]; rfl

/-- Every execution ends with the seven results at these arrays. -/
theorem run : θ_run defs (onTc (τ := τ) (main (F := Ideal))) ⟨m, fun _ => 0, ρ⟩ (fun r => ∀ c : Dev nD,
    r.2.mem ((c.tc : Thread nD τ).loc main_v9) = kMix m c
    ∧ r.2.mem ((c.tc : Thread nD τ).loc main_v10_0) = kDA m c
    ∧ r.2.mem ((c.tc : Thread nD τ).loc main_v17) = kDY m c
    ∧ r.2.mem ((c.tc : Thread nD τ).loc main_v18) = kDW m c
    ∧ r.2.mem ((c.tc : Thread nD τ).loc main_v19) = kGB m c
    ∧ r.2.mem ((c.tc : Thread nD τ).loc main_v20) = kGA m c
    ∧ r.2.mem ((c.tc : Thread nD τ).loc main_v21) = kGS m c) :=
  (θ_run defs _ _).mono (fun _ h c =>
    ⟨(h c _ (mem_uc main_v9 (by decide))).trans ((((((W8_of m ρ c main_v9 (by decide)).trans (W7_of m ρ c main_v9 (by decide))).trans (W6_of m ρ c main_v9 (by decide))).trans (W5_of m ρ c main_v9 (by decide))).trans (W4_of m ρ c main_v9 (by decide))).trans (v9_W3 m ρ c)),
     (h c _ (mem_uc main_v10_0 (by decide))).trans (((((W8_of m ρ c main_v10_0 (by decide)).trans (W7_of m ρ c main_v10_0 (by decide))).trans (W6_of m ρ c main_v10_0 (by decide))).trans (W5_of m ρ c main_v10_0 (by decide))).trans (v10_0_W4 m ρ c)),
     (h c _ (mem_uc main_v17 (by decide))).trans (((W8_of m ρ c main_v17 (by decide)).trans (W7_of m ρ c main_v17 (by decide))).trans (v17_W6 m ρ c)),
     (h c _ (mem_uc main_v18 (by decide))).trans ((W8_of m ρ c main_v18 (by decide)).trans (v18_W7 m ρ c)),
     (h c _ (mem_uc main_v19 (by decide))).trans (v19_W8 m ρ c),
     (h c _ (mem_uc main_v20 (by decide))).trans (v20_W8 m ρ c),
     (h c _ (mem_uc main_v21 (by decide))).trans (v21_W8 m ρ c)⟩) (run_all m ρ)

end Cert.Kernel3Ideal.Out

end
-- ==== Proof.MixingRef.lean ====
/- The reference's lines of the mixing block, one array after the other. -/
module

public import proofs.«01_k».proof.Proof.Gen.Reference3Ideal.Run
public import Idealize.ShloMosaic.Lib.Pointwise

@[expose] public section

set_option maxRecDepth 16384

noncomputable section

namespace Cert.Reference3Ideal.Out

open Cert.Reference3Ideal Cert.Reference3Ideal.Gen Idealize.ShloMosaic Idealize.ShloMosaic.TcCoe Idealize.SL.Sem Idealize.ShloMosaic.StableHlo

variable (m : (ℓ : Loc nD τ sig) → Buf (Elt Ideal) ℓ)

abbrev r_arg0 (c : Dev nD) : FVec Ideal S2x2048x512 .f32 := m ((c.tc : Thread nD τ).loc main_arg0)
abbrev r_arg1 (c : Dev nD) : FVec Ideal S2x2048x512 .f32 := m ((c.tc : Thread nD τ).loc main_arg1)
abbrev r_arg2 (c : Dev nD) : FVec Ideal S512x512 .f32 := m ((c.tc : Thread nD τ).loc main_arg2)
abbrev r_arg3 (c : Dev nD) : FVec Ideal S512 .f32 := m ((c.tc : Thread nD τ).loc main_arg3)
abbrev r_arg4 (c : Dev nD) : FVec Ideal S512 .f32 := m ((c.tc : Thread nD τ).loc main_arg4)
abbrev r_arg5 (c : Dev nD) : FVec Ideal S512 .f32 := m ((c.tc : Thread nD τ).loc main_arg5)
abbrev r_arg6 (c : Dev nD) : FVec Ideal S1024x1024 .f32 := m ((c.tc : Thread nD τ).loc main_arg6)
abbrev r_arg7 (c : Dev nD) : FVec Ideal S2x2048x1024 .f32 := m ((c.tc : Thread nD τ).loc main_arg7)
def rT (c : Dev nD) : FVec Ideal S2x2048x512 .f32 :=
  Host.tanh (mulf (broadcastInDim S2x2048x512 ![] bcast_S_S2x2048x512 ((constant S_ .f32 0x3F4C422A#32))) (addf (r_arg1 m c) (mulf (broadcastInDim S2x2048x512 ![] bcast_S_S2x2048x512 ((constant S_ .f32 0x3D372713#32))) (mulf (mulf (r_arg1 m c) (r_arg1 m c)) (r_arg1 m c)))))
def rHalf (c : Dev nD) : FVec Ideal S2x2048x512 .f32 :=
  mulf (broadcastInDim S2x2048x512 ![] bcast_S_S2x2048x512 ((constant S_ .f32 0x3F000000#32))) (addf (broadcastInDim S2x2048x512 ![] bcast_S_S2x2048x512 ((constant S_ .f32 0x3F800000#32))) (rT m c))
def rU (c : Dev nD) : FVec Ideal S2x2048x512 .f32 :=
  mulf (r_arg1 m c) (rHalf m c)
def rGate (c : Dev nD) : FVec Ideal S2x2048x512 .f32 :=
  Host.divf (broadcastInDim S2x2048x512 ![] bcast_S_S2x2048x512 ((constant S_ .f32 0x3F800000#32))) (addf (broadcastInDim S2x2048x512 ![] bcast_S_S2x2048x512 ((constant S_ .f32 0x3F800000#32))) (Host.exp (Host.negf (addf (Host.dotGeneral dot_S2x2048x512_S512x512_S2x2048x512_2_0_01_1_n_n none (rU m c) (r_arg2 m c)) (broadcastInDim S2x2048x512 ![0, 1, 2] bcast_S1x1x512_S2x2048x512_0_1_2 (broadcastInDim S1x1x512 ![2] bcast_S512_S1x1x512_2 (r_arg3 m c)))))))
def rVarA (c : Dev nD) : FVec Ideal S2x2048x1 .f32 :=
  addf (Host.divf (broadcastInDim S2x2048x1 ![0, 1] bcast_S2x2048_S2x2048x1_0_1 (Host.reduceAdd (mulf (r_arg0 m c) (r_arg0 m c)) ((constant S_ .f32 0x00000000#32)) reducesTo_S2x2048x512_S2x2048_d2 h_S_)) (broadcastInDim S2x2048x1 ![] bcast_S_S2x2048x1 ((constant S_ .f32 0x44000000#32)))) (broadcastInDim S2x2048x1 ![] bcast_S_S2x2048x1 ((constant S_ .f32 0x358637BD#32)))
def rInvA (c : Dev nD) : FVec Ideal S2x2048x1 .f32 :=
  Host.rsqrt (rVarA m c)
def rUnitA (c : Dev nD) : FVec Ideal S2x2048x512 .f32 :=
  mulf (r_arg0 m c) (broadcastInDim S2x2048x512 ![0, 1, 2] bcast_S2x2048x1_S2x2048x512_0_1_2 (rInvA m c))
def rS (c : Dev nD) : FVec Ideal S2x2048x512 .f32 :=
  mulf (rU m c) (rGate m c)
def rVarS (c : Dev nD) : FVec Ideal S2x2048x1 .f32 :=
  addf (Host.divf (broadcastInDim S2x2048x1 ![0, 1] bcast_S2x2048_S2x2048x1_0_1 (Host.reduceAdd (mulf (rS m c) (rS m c)) ((constant S_ .f32 0x00000000#32)) reducesTo_S2x2048x512_S2x2048_d2 h_S_)) (broadcastInDim S2x2048x1 ![] bcast_S_S2x2048x1 ((constant S_ .f32 0x44000000#32)))) (broadcastInDim S2x2048x1 ![] bcast_S_S2x2048x1 ((constant S_ .f32 0x358637BD#32)))
def rInvS (c : Dev nD) : FVec Ideal S2x2048x1 .f32 :=
  Host.rsqrt (rVarS m c)
def rUnitS (c : Dev nD) : FVec Ideal S2x2048x512 .f32 :=
  mulf (rS m c) (broadcastInDim S2x2048x512 ![0, 1, 2] bcast_S2x2048x1_S2x2048x512_0_1_2 (rInvS m c))
def rM (c : Dev nD) : FVec Ideal S2x2048x1024 .f32 :=
  Host.dotGeneral dot_S2x2048x1024_S1024x1024_S2x2048x1024_2_1_01_0_n_n none (r_arg7 m c) (r_arg6 m c)
def rMA (c : Dev nD) : FVec Ideal S2x2048x512 .f32 :=
  extractStridedSlice S2x2048x512 ![0, 0, 0] (rM m c) slices_S2x2048x1024_S2x2048x512_0_0_0
def rMS (c : Dev nD) : FVec Ideal S2x2048x512 .f32 :=
  extractStridedSlice S2x2048x512 ![0, 0, 512] (rM m c) slices_S2x2048x1024_S2x2048x512_0_0_512
def rCS (c : Dev nD) : FVec Ideal S2x2048x512 .f32 :=
  mulf (rMS m c) (broadcastInDim S2x2048x512 ![0, 1, 2] bcast_S1x1x512_S2x2048x512_0_1_2 (broadcastInDim S1x1x512 ![2] bcast_S512_S1x1x512_2 (r_arg5 m c)))
def rOutGS (c : Dev nD) : FVec Ideal S512 .f32 :=
  Host.reduceAdd (shapeCast _ (Host.reduceAdd (mulf (rUnitS m c) (rMS m c)) ((constant S_ .f32 0x00000000#32)) reducesTo_S2x2048x512_S512_d0_1 h_S_) shapeCasts_S512_S1x1x512) ((constant S_ .f32 0x00000000#32)) reducesTo_S1x1x512_S512_d0_1 h_S_
def rBackS (c : Dev nD) : FVec Ideal S2x2048x512 .f32 :=
  broadcastInDim S2x2048x512 ![0, 1] bcast_S2x2048_S2x2048x512_0_1 (Host.reduceAdd (Host.divf (mulf (shapeCast _ (Host.reduceAdd (mulf (rS m c) (rCS m c)) ((constant S_ .f32 0x00000000#32)) reducesTo_S2x2048x512_S2x2048_d2 h_S_) shapeCasts_S2x2048_S2x2048x1) (mulf (broadcastInDim S2x2048x1 ![] bcast_S_S2x2048x1 ((constant S_ .f32 0xBF000000#32))) (Host.divf (rInvS m c) (rVarS m c)))) (broadcastInDim S2x2048x1 ![] bcast_S_S2x2048x1 ((constant S_ .f32 0x44000000#32)))) ((constant S_ .f32 0x00000000#32)) reducesTo_S2x2048x1_S2x2048_d2 h_S_)
def rDS (c : Dev nD) : FVec Ideal S2x2048x512 .f32 :=
  addf (addf (mulf (rCS m c) (broadcastInDim S2x2048x512 ![0, 1, 2] bcast_S2x2048x1_S2x2048x512_0_1_2 (rInvS m c))) (mulf (rS m c) (rBackS m c))) (mulf (rBackS m c) (rS m c))
def rCA (c : Dev nD) : FVec Ideal S2x2048x512 .f32 :=
  mulf (rMA m c) (broadcastInDim S2x2048x512 ![0, 1, 2] bcast_S1x1x512_S2x2048x512_0_1_2 (broadcastInDim S1x1x512 ![2] bcast_S512_S1x1x512_2 (r_arg4 m c)))
def rOutGA (c : Dev nD) : FVec Ideal S512 .f32 :=
  Host.reduceAdd (shapeCast _ (Host.reduceAdd (mulf (rUnitA m c) (rMA m c)) ((constant S_ .f32 0x00000000#32)) reducesTo_S2x2048x512_S512_d0_1 h_S_) shapeCasts_S512_S1x1x512) ((constant S_ .f32 0x00000000#32)) reducesTo_S1x1x512_S512_d0_1 h_S_
def rBackA (c : Dev nD) : FVec Ideal S2x2048x512 .f32 :=
  broadcastInDim S2x2048x512 ![0, 1] bcast_S2x2048_S2x2048x512_0_1 (Host.reduceAdd (Host.divf (mulf (shapeCast _ (Host.reduceAdd (mulf (r_arg0 m c) (rCA m c)) ((constant S_ .f32 0x00000000#32)) reducesTo_S2x2048x512_S2x2048_d2 h_S_) shapeCasts_S2x2048_S2x2048x1) (mulf (broadcastInDim S2x2048x1 ![] bcast_S_S2x2048x1 ((constant S_ .f32 0xBF000000#32))) (Host.divf (rInvA m c) (rVarA m c)))) (broadcastInDim S2x2048x1 ![] bcast_S_S2x2048x1 ((constant S_ .f32 0x44000000#32)))) ((constant S_ .f32 0x00000000#32)) reducesTo_S2x2048x1_S2x2048_d2 h_S_)
def rDG (c : Dev nD) : FVec Ideal S2x2048x512 .f32 :=
  mulf (mulf (rU m c) (rDS m c)) (mulf (rGate m c) (subf (broadcastInDim S2x2048x512 ![] bcast_S_S2x2048x512 ((constant S_ .f32 0x3F800000#32))) (rGate m c)))
def rOutB (c : Dev nD) : FVec Ideal S512 .f32 :=
  Host.reduceAdd (shapeCast _ (Host.reduceAdd (rDG m c) ((constant S_ .f32 0x00000000#32)) reducesTo_S2x2048x512_S512_d0_1 h_S_) shapeCasts_S512_S1x1x512) ((constant S_ .f32 0x00000000#32)) reducesTo_S1x1x512_S512_d0_1 h_S_
def rOutW (c : Dev nD) : FVec Ideal S512x512 .f32 :=
  transpose S512x512 [1, 0] (Host.dotGeneral dot_S2x2048x512_S2x2048x512_S512x512_01_01_2_2_n_n none (rDG m c) (rU m c)) transposes_S512x512_S512x512_1_0
def rDU (c : Dev nD) : FVec Ideal S2x2048x512 .f32 :=
  addf (mulf (rDS m c) (rGate m c)) (Host.dotGeneral dot_S2x2048x512_S512x512_S2x2048x512_2_1_01_0_n_n none (rDG m c) (r_arg2 m c))
def rIn (c : Dev nD) : FVec Ideal S2x2048x512 .f32 :=
  mulf (broadcastInDim S2x2048x512 ![] bcast_S_S2x2048x512 ((constant S_ .f32 0x3F4C422A#32))) (mulf (mulf (broadcastInDim S2x2048x512 ![] bcast_S_S2x2048x512 ((constant S_ .f32 0x3F000000#32))) (mulf (r_arg1 m c) (rDU m c))) (mulf (addf (broadcastInDim S2x2048x512 ![] bcast_S_S2x2048x512 ((constant S_ .f32 0x3F800000#32))) (rT m c)) (subf (broadcastInDim S2x2048x512 ![] bcast_S_S2x2048x512 ((constant S_ .f32 0x3F800000#32))) (rT m c))))
def rU2 (c : Dev nD) : FVec Ideal S2x2048x512 .f32 :=
  mulf (r_arg1 m c) (mulf (broadcastInDim S2x2048x512 ![] bcast_S_S2x2048x512 ((constant S_ .f32 0x3F000000#32))) (addf (broadcastInDim S2x2048x512 ![] bcast_S_S2x2048x512 ((constant S_ .f32 0x3F800000#32))) (Host.tanh (mulf (broadcastInDim S2x2048x512 ![] bcast_S_S2x2048x512 ((constant S_ .f32 0x3F4C422A#32))) (addf (r_arg1 m c) (mulf (broadcastInDim S2x2048x512 ![] bcast_S_S2x2048x512 ((constant S_ .f32 0x3D372713#32))) (mulf (mulf (r_arg1 m c) (r_arg1 m c)) (r_arg1 m c))))))))
def rNA (c : Dev nD) : FVec Ideal S2x2048x512 .f32 :=
  mulf (mulf (r_arg0 m c) (broadcastInDim S2x2048x512 ![0, 1, 2] bcast_S2x2048x1_S2x2048x512_0_1_2 (Host.rsqrt (addf (Host.divf (broadcastInDim S2x2048x1 ![0, 1] bcast_S2x2048_S2x2048x1_0_1 (Host.reduceAdd (mulf (r_arg0 m c) (r_arg0 m c)) ((constant S_ .f32 0x00000000#32)) reducesTo_S2x2048x512_S2x2048_d2 h_S_)) (broadcastInDim S2x2048x1 ![] bcast_S_S2x2048x1 ((constant S_ .f32 0x44000000#32)))) (broadcastInDim S2x2048x1 ![] bcast_S_S2x2048x1 ((constant S_ .f32 0x358637BD#32))))))) (broadcastInDim S2x2048x512 ![0, 1, 2] bcast_S1x1x512_S2x2048x512_0_1_2 (broadcastInDim S1x1x512 ![2] bcast_S512_S1x1x512_2 (r_arg4 m c)))
def rS2 (c : Dev nD) : FVec Ideal S2x2048x512 .f32 :=
  mulf (rU2 m c) (Host.divf (broadcastInDim S2x2048x512 ![] bcast_S_S2x2048x512 ((constant S_ .f32 0x3F800000#32))) (addf (broadcastInDim S2x2048x512 ![] bcast_S_S2x2048x512 ((constant S_ .f32 0x3F800000#32))) (Host.exp (Host.negf (addf (Host.dotGeneral dot_S2x2048x512_S512x512_S2x2048x512_2_0_01_1_n_n none (rU2 m c) (r_arg2 m c)) (broadcastInDim S2x2048x512 ![0, 1, 2] bcast_S1x1x512_S2x2048x512_0_1_2 (broadcastInDim S1x1x512 ![2] bcast_S512_S1x1x512_2 (r_arg3 m c))))))))
def rNS (c : Dev nD) : FVec Ideal S2x2048x512 .f32 :=
  mulf (mulf (rS2 m c) (broadcastInDim S2x2048x512 ![0, 1, 2] bcast_S2x2048x1_S2x2048x512_0_1_2 (Host.rsqrt (addf (Host.divf (broadcastInDim S2x2048x1 ![0, 1] bcast_S2x2048_S2x2048x1_0_1 (Host.reduceAdd (mulf (rS2 m c) (rS2 m c)) ((constant S_ .f32 0x00000000#32)) reducesTo_S2x2048x512_S2x2048_d2 h_S_)) (broadcastInDim S2x2048x1 ![] bcast_S_S2x2048x1 ((constant S_ .f32 0x44000000#32)))) (broadcastInDim S2x2048x1 ![] bcast_S_S2x2048x1 ((constant S_ .f32 0x358637BD#32))))))) (broadcastInDim S2x2048x512 ![0, 1, 2] bcast_S1x1x512_S2x2048x512_0_1_2 (broadcastInDim S1x1x512 ![2] bcast_S512_S1x1x512_2 (r_arg5 m c)))
def rMix (c : Dev nD) : FVec Ideal S4096x1024 .bf16 :=
  truncf .bf16 (shapeCast _ (concatenate S2x2048x1024 2 [⟨S2x2048x512, rNA m c⟩, ⟨S2x2048x512, rNS m c⟩] concatenates_S2x2048x512_S2x2048x512_S2x2048x1024_d2) shapeCasts_S2x2048x1024_S4096x1024) bitsLt_bf16_f32
def rOutA (c : Dev nD) : FVec Ideal S4096x512 .f32 :=
  shapeCast _ (addf (addf (mulf (rCA m c) (broadcastInDim S2x2048x512 ![0, 1, 2] bcast_S2x2048x1_S2x2048x512_0_1_2 (rInvA m c))) (mulf (r_arg0 m c) (rBackA m c))) (mulf (rBackA m c) (r_arg0 m c))) shapeCasts_S2x2048x512_S4096x512
def rOutY (c : Dev nD) : FVec Ideal S4096x512 .f32 :=
  shapeCast _ (addf (addf (mulf (rDU m c) (rHalf m c)) (rIn m c)) (mulf (mulf (broadcastInDim S2x2048x512 ![] bcast_S_S2x2048x512 ((constant S_ .f32 0x3D372713#32))) (rIn m c)) (mulf (broadcastInDim S2x2048x512 ![] bcast_S_S2x2048x512 ((constant S_ .f32 0x40400000#32))) (mulf (r_arg1 m c) (r_arg1 m c))))) shapeCasts_S2x2048x512_S4096x512

/-- Every execution ends with the results at these arrays and the arguments unchanged. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v186) = rMix m c
    ∧ r.2.mem ((c.tc : Thread nD τ).loc main_v187) = rOutA m c
    ∧ r.2.mem ((c.tc : Thread nD τ).loc main_v188) = rOutY m c
    ∧ r.2.mem ((c.tc : Thread nD τ).loc main_v119) = rOutW m c
    ∧ r.2.mem ((c.tc : Thread nD τ).loc main_v117) = rOutB m c
    ∧ r.2.mem ((c.tc : Thread nD τ).loc main_v99) = rOutGA m c
    ∧ r.2.mem ((c.tc : Thread nD τ).loc main_v77) = rOutGS m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun _ h c => ⟨(h c).1.trans rfl, (h c).2.1.trans rfl, (h c).2.2.1.trans rfl, (h c).2.2.2.1.trans rfl, (h c).2.2.2.2.1.trans rfl, (h c).2.2.2.2.2.1.trans rfl, (h c).2.2.2.2.2.2.1.trans rfl, (h c).2.2.2.2.2.2.2⟩) (Value.run m ρ)

end Cert.Reference3Ideal.Out

end
-- ==== Proof.MixingBridge.lean ====
/- The mixing block's arrays are the reference's, stage after stage: the branches with their batches one after the other. -/
module

public import proofs.«01_k».proof.Proof.MixingValues
public import proofs.«01_k».proof.Proof.MixingRef
public import proofs.«01_k».proof.Proof.Sums

@[expose] public section

set_option maxRecDepth 16384

noncomputable section

namespace Cert.MixingBridge

open Idealize.ShloMosaic Idealize.ShloMosaic.TcCoe Idealize.SL.Sem
open Cert.Kernel3Ideal (S2x2048x512 S2x2048x1024 S4096x512 S4096x1024 S512x512 S512)
open Cert.Sums Cert.Mixing Cert.Kernel3Ideal.Out Cert.Reference3Ideal.Out

variable (m : (ℓ : Loc Kernel3Ideal.nD Kernel3Ideal.τ Kernel3Ideal.sig) → Buf (Elt Ideal) ℓ)
  (m' : (ℓ : Loc Reference3Ideal.nD Reference3Ideal.τ Reference3Ideal.sig) → Buf (Elt Ideal) ℓ) (c : Dev 1)

/-- Both programs start from the same arguments. -/
structure Same : Prop where
  attn : r_arg0 m' c = m ((c.tc : Thread Kernel3Ideal.nD Kernel3Ideal.τ).loc Kernel3Ideal.main_arg0)
  heads : r_arg1 m' c = m ((c.tc : Thread Kernel3Ideal.nD Kernel3Ideal.τ).loc Kernel3Ideal.main_arg1)
  w_glu : r_arg2 m' c = m ((c.tc : Thread Kernel3Ideal.nD Kernel3Ideal.τ).loc Kernel3Ideal.main_arg2)
  bias : r_arg3 m' c = m ((c.tc : Thread Kernel3Ideal.nD Kernel3Ideal.τ).loc Kernel3Ideal.main_arg3)
  g_attn : r_arg4 m' c = m ((c.tc : Thread Kernel3Ideal.nD Kernel3Ideal.τ).loc Kernel3Ideal.main_arg4)
  g_heads : r_arg5 m' c = m ((c.tc : Thread Kernel3Ideal.nD Kernel3Ideal.τ).loc Kernel3Ideal.main_arg5)
  w_out : r_arg6 m' c = m ((c.tc : Thread Kernel3Ideal.nD Kernel3Ideal.τ).loc Kernel3Ideal.main_arg6)
  ct : r_arg7 m' c = m ((c.tc : Thread Kernel3Ideal.nD Kernel3Ideal.τ).loc Kernel3Ideal.main_arg7)

theorem rows_apply (X : FVec Ideal S2x2048x512 .f32) (j : S4096x512.Idx) : rows X j = X (ix3 (bt (j 0)) (ps (j 0)) (j 1)) := by
  pointwise []

variable {m m' c} (s : Same m m' c)
include s

theorem hA : aA m c = rows (r_arg0 m' c) := by rw [s.attn]; rfl
theorem hY : aY m c = rows (r_arg1 m' c) := by rw [s.heads]; rfl
theorem hW : aWg m c = r_arg2 m' c := by rw [s.w_glu]; rfl
theorem hB : aB m c = asRow (r_arg3 m' c) := by rw [s.bias]; rfl
theorem hGa : aGa m c = asRow (r_arg4 m' c) := by rw [s.g_attn]; rfl
theorem hGs : aGs m c = asRow (r_arg5 m' c) := by rw [s.g_heads]; rfl
theorem hWo : aWo m c = r_arg6 m' c := by rw [s.w_out]; rfl
theorem hD : aD m c = wideRows (r_arg7 m' c) := by rw [s.ct]; rfl

theorem u_eq (j : S4096x512.Idx) : gelu (aY m c j) = rU m' c (ix3 (bt (j 0)) (ps (j 0)) (j 1)) := by
  rw [hY s]
  pointwise [gelu, tn, rU, rHalf, rT]

theorem gate_eq (j : S4096x512.Idx) : Ideal.logistic (kP m c j) = rGate m' c (ix3 (bt (j 0)) (ps (j 0)) (j 1)) := by
  have h : kP m c j = (∑ k : Fin 512, rU m' c (ix3 (bt (j 0)) (ps (j 0)) k) * r_arg2 m' c (ix2 k (j 1))) + r_arg3 m' c (ix1 (j 1)) := by
    rw [kP, hW s, hB s]
    show (∑ k : Fin 512, gelu (aY m c (ix2 (j 0) k)) * r_arg2 m' c (ix2 k (j 1))) + asRow (r_arg3 m' c) (ix2 0 (j 1)) = _
    simp only [u_eq s]
    pointwise []
  rw [h]
  pointwise [rGate]
  rfl

theorem s_eq : kS m c = rows (rS m' c) := by
  funext j
  show gelu (aY m c j) * Ideal.logistic (kP m c j) = _
  rw [u_eq s, gate_eq s, rows_apply]
  rfl

omit s in
theorem again (m') : rS2 m' c = rS m' c := rfl

theorem mix_eq : kMix m c = rMix m' c := by
  have h : kMix m c = fun j => if h : (j 1).val < 512
      then Spec.rms nw (fun k => aA m c (ix2 (j 0) k)) (fun k => aGa m c (ix2 0 k)) ⟨(j 1).val, h⟩
      else Spec.rms nw (fun k => kS m c (ix2 (j 0) k)) (fun k => aGs m c (ix2 0 k))
        ⟨(j 1).val - 512, by have h1 : (j 1).val < 1024 := (j 1).isLt; omega⟩ := rfl
  rw [h, s_eq s, hA s, hGa s, hGs s]
  funext j
  pointwise [rMix, rNA, rNS, again, Spec.rms, Spec.var]

theorem m_eq : kM m c = wideRows (rM m' c) := by
  rw [kM, hD s, hWo s]
  funext j; pointwise [dm, rM]

theorem da_eq : kDA m c = rOutA m' c := by
  rw [kDA, m_eq s, hA s, hGa s]
  funext j; pointwise [dAttn, rOutA, rCA, rMA, rBackA, rInvA, rVarA, Spec.rmsRow, Spec.rmsMean, Spec.var, Finset.univ_unique,
    Finset.sum_singleton]

theorem ds_eq : kDS m c = rows (rDS m' c) := by
  rw [kDS, m_eq s, s_eq s, hGs s]
  funext j; pointwise [dSsm, rDS, rCS, rMS, rBackS, rInvS, rVarS, Spec.rmsRow, Spec.rmsMean, Spec.var, Finset.univ_unique,
    Finset.sum_singleton]

theorem dg_eq : kDG m c = rows (rDG m' c) := by
  rw [kDG, ds_eq s]
  funext j
  show gelu (aY m c j) * rows (rDS m' c) j * (Ideal.logistic (kP m c j) * (1 - Ideal.logistic (kP m c j))) = _
  rw [u_eq s, gate_eq s, rows_apply, rows_apply]
  pointwise [rDG]

theorem dd_eq (j : S4096x512.Idx) : kDD m c j
    = rDS m' c (ix3 (bt (j 0)) (ps (j 0)) (j 1)) * rGate m' c (ix3 (bt (j 0)) (ps (j 0)) (j 1)) := by
  rw [kDD, ds_eq s]
  show rows (rDS m' c) j * Ideal.logistic (kP m c j) = _
  rw [gate_eq s, rows_apply]

omit s in
/-- Three equal summands. -/
theorem thrice (x : EReal) : x + x + x = ((3 : ℝ) : EReal) * x := by
  have h1 : (0 : EReal) ≤ 1 := zero_le_one
  rw [show ((3 : ℝ) : EReal) = 1 + 1 + 1 by norm_cast, EReal.right_distrib_of_nonneg (by positivity) h1,
    EReal.right_distrib_of_nonneg h1 h1, one_mul]

omit s in
theorem three : Ideal.ofBits .f32 0x40400000#32 = ((3 : ℝ) : EReal) := by
  simp [Ideal.ofBits, Ideal.ieee, -EReal.coe_mul]; norm_num

omit s in
/-- The cube's derivative, factor by factor. -/
theorem cube (x a : EReal) : x * x * a + x * (a * x) + a * x * x = a * (((3 : ℝ) : EReal) * (x * x)) := by
  have h1 : x * x * a = a * (x * x) := mul_comm _ _
  have h2 : x * (a * x) = a * (x * x) := by rw [mul_left_comm]
  have h3 : a * x * x = a * (x * x) := mul_assoc _ _ _
  rw [h1, h2, h3, thrice, mul_left_comm]

theorem dy_eq : kDY m c = rOutY m' c := by
  funext j
  have h : kDY m c j = geluBack (aY m c j) ((∑ k : Fin 512, kDG m c (ix2 (j 0) k) * aWg m c (ix2 (j 1) k)) + kDD m c j) := rfl
  have hd : (∑ k : Fin 512, kDG m c (ix2 (j 0) k) * aWg m c (ix2 (j 1) k)) + kDD m c j = rDU m' c (ix3 (bt (j 0)) (ps (j 0)) (j 1)) := by
    rw [dd_eq s, dg_eq s, hW s, add_comm]
    pointwise [rDU]
  rw [h, hd, hY s, rows_apply, geluBack, add_assoc, add_assoc, ← add_assoc (r_arg1 m' c _ * r_arg1 m' c _ * _), cube]
  pointwise [rOutY, geluIn, tn, rIn, rHalf, rT, three]

theorem dw_eq : kDW m c = rOutW m' c := by
  funext j
  have h : kDW m c j = ∑ r : Fin 4096, gelu (aY m c (ix2 r (j 0))) * kDG m c (ix2 r (j 1)) := rfl
  rw [h, dg_eq s]
  simp only [u_eq s, rows_apply]
  refine (sum_rows fun b p => rU m' c (ix3 b p (j 0)) * rDG m' c (ix3 b p (j 1))).trans ?_
  pointwise [rOutW]
  exact Finset.sum_congr rfl fun b _ => Finset.sum_congr rfl fun p _ => mul_comm _ _

omit s in
/-- A tile's sums added up are the sum over all rows. -/
theorem total_tiles (X : FVec Ideal S4096x512 .f32) (j : S512.Idx) :
    shapeCast S512 (total (tiles X)) Kernel3Ideal.Gen.shapeCasts_S1x512_S512 j = ∑ i : Fin 4096, X (ix2 i (j 0)) := by
  pointwise [tiles]
  simp only [select_first]
  exact sum_tiles fun i => X (ix2 i (j 0))

theorem ga_eq : kGA m c = rOutGA m' c := by
  funext j
  rw [kGA, kRA, kTA, total_tiles, m_eq s, hA s]
  refine Eq.trans (Finset.sum_congr rfl fun i _ => ?_) ((sum_rows fun b p => rUnitA m' c (ix3 b p (j 0)) * rMA m' c (ix3 b p (j 0))).trans ?_)
  · pointwise [dGain, rUnitA, rMA, rInvA, rVarA, Spec.var]
  · pointwise [rOutGA, reduce01, Finset.univ_unique, Finset.sum_singleton]

theorem gs_eq : kGS m c = rOutGS m' c := by
  funext j
  rw [kGS, kRS, kTS, total_tiles, m_eq s, s_eq s]
  refine Eq.trans (Finset.sum_congr rfl fun i _ => ?_) ((sum_rows fun b p => rUnitS m' c (ix3 b p (j 0)) * rMS m' c (ix3 b p (j 0))).trans ?_)
  · pointwise [dGain, rUnitS, rMS, rInvS, rVarS, Spec.var]
  · pointwise [rOutGS, reduce01, Finset.univ_unique, Finset.sum_singleton]

theorem b_eq : kGB m c = rOutB m' c := by
  funext j
  rw [kGB, kRB, kTB, total_tiles, dg_eq s]
  refine Eq.trans (Finset.sum_congr rfl fun i _ => rows_apply _ _) ((sum_rows fun b p => rDG m' c (ix3 b p (j 0))).trans ?_)
  pointwise [rOutB, reduce01, Finset.univ_unique, Finset.sum_singleton]

end Cert.MixingBridge

end
-- ==== Proof.Lanes.lean ====
/- The sums over each head's lanes, a group of lanes at a time. -/
module

public import Idealize.ShloMosaic.Lib.Pointwise
public import Idealize.ShloMosaic.Lib.Pipeline.ValueKit

@[expose] public section

noncomputable section

namespace Cert.Lanes

open Idealize.ShloMosaic
open scoped BigOperators

/-- The lanes of the group that holds column `k`. -/
abbrev lane (k : Fin 512) (l : Fin 128) : Fin 512 := ⟨k.val / 128 * 128 + l.val, by have := k.isLt; have := l.isLt; omega⟩
/-- A column's lane in its group. -/
abbrev inLane (k : Fin 512) : Fin 128 := ⟨k.val % 128, by omega⟩

/-- Every group of 128 columns of `X` times `O`. -/
def groups {n : ℕ} (X : FVec Ideal ⟨2, ![n, 512]⟩ .f32) (O : FVec Ideal ⟨2, ![128, 128]⟩ .f32) : FVec Ideal ⟨2, ![n, 512]⟩ .f32 :=
  fun j => ∑ l : Fin 128, X (ix2 (j 0) (lane (j 1) l)) * O (ix2 l (inLane (j 1)))

/-- A word's sign. -/
def sgn (x : BitVec 32) : BitVec 32 := if x = 0 then 0 else if x.msb then -1 else 1

/-- A lane's head: its number divided by the head's width, rounded down. -/
def headWord (x : BitVec 32) : BitVec 32 :=
  Scalar.select (IntOp.andi
      (IntOp.cmpi .ne (sgn x) (sgn 64#32))
      (IntOp.cmpi .ne (IntOp.remsi .host x 64#32) 0#32))
    (IntOp.subi (IntOp.divsi .host x 64#32) 1#32) (IntOp.divsi .host x 64#32)

theorem headWord_eq : ∀ k : Fin 128, headWord (BitVec.ofNat 32 k.val) = BitVec.ofNat 32 (k.val / 64) := by decide +kernel

/-- One where the two lanes are of the same head, zero elsewhere. -/
def sameHead (a b : Fin 128) : EReal :=
  FloatOps.uitofp (F := Ideal) .f32 (IntOp.cmpi .eq (headWord (BitVec.ofNat 32 a.val)) (headWord (BitVec.ofNat 32 b.val)))

theorem sameHead_eq (a b : Fin 128) : sameHead a b = if a.val / 64 = b.val / 64 then 1 else 0 := by
  have h : ∀ a b : Fin 128, IntOp.cmpi .eq (headWord (BitVec.ofNat 32 a.val)) (headWord (BitVec.ofNat 32 b.val))
      = if a.val / 64 = b.val / 64 then 1#1 else 0#1 := by decide +kernel
  have e : sameHead a b = (((IntOp.cmpi .eq (headWord (BitVec.ofNat 32 a.val)) (headWord (BitVec.ofNat 32 b.val))).toNat : ℝ) : EReal) := rfl
  rw [e, h]
  split <;> simp

/-- A group's sum over the lanes of the same head is the sum over the head. -/
theorem sum_head (f : Fin 512 → EReal) (k : Fin 512) :
    (∑ l : Fin 128, f (lane k l) * sameHead l (inLane k))
      = ∑ d : Fin 64, f ⟨k.val / 64 * 64 + d.val, by have := k.isLt; have := d.isLt; omega⟩ := by
  have hk := k.isLt
  simp only [sameHead_eq, mul_ite, mul_one, mul_zero]
  rw [← Finset.sum_filter]
  refine (Finset.sum_nbij' (i := fun d : Fin 64 => (⟨k.val % 128 / 64 * 64 + d.val, by have := d.isLt; omega⟩ : Fin 128))
    (j := fun l : Fin 128 => (⟨l.val % 64, by omega⟩ : Fin 64)) ?_ ?_ ?_ ?_ ?_).symm
  · intro d _
    have := d.isLt
    simp only [Finset.mem_filter, Finset.mem_univ, true_and]
    omega
  · intro l _; exact Finset.mem_univ _
  · intro d _
    have := d.isLt
    exact Fin.ext (by dsimp only; omega)
  · intro l hl
    simp only [Finset.mem_filter, Finset.mem_univ, true_and] at hl
    exact Fin.ext (by dsimp only; omega)
  · intro d _
    have := d.isLt
    exact congrArg f (Fin.ext (by dsimp only; omega))

end Cert.Lanes

end
-- ==== Proof.Projection.lean ====
/- What each call of the input projection leaves in its arrays, over the arrays it reads. -/
module

public import proofs.«01_k».proof.Proof.Gen.Kernel5Ideal.Frame
public import Idealize.ShloMosaic.Lib.Pipeline.ValueKit
public import proofs.«01_k».proof.Proof.Spec
public import proofs.«01_k».proof.Proof.Sums
public import proofs.«01_k».proof.Proof.Lanes

@[expose] public section

set_option maxRecDepth 16384

noncomputable section

namespace Cert.Kernel5Ideal.Out

open Cert.Sums (tileRow)
open Cert.Lanes (lane inLane groups)
open Idealize.ShloMosaic Idealize.ShloMosaic.TcCoe Idealize.SL.Sem
open Idealize.ShloMosaic.Pipeline (Dat)
open Cert.Kernel5Ideal Cert.Kernel5Ideal.Gen
open scoped BigOperators

section Regions
variable (V : (c : Dev nD) → (b : Ref sig .tc) → Buf (Elt Ideal) ((c : Thread nD τ).loc b))

/-- The number of features. -/
abbrev nf : EReal := Ideal.ofBits .f32 0x44800000#32

theorem idx0 : ∀ t : Fin cfg0.N, win0_0.index t = ![t.val, 0] ∧ win0_1.index t = ![0, 0] ∧ win0_2.index t = ![t.val, 0] :=
  (by decide +kernel : ∀ t : Fin grid0.N, _)

/-- The normalised stream. -/
def nrm (H : FVec Ideal S4096x1024 .f32) (G : FVec Ideal S1x1024 .f32) : FVec Ideal S4096x1024 .bf16 :=
  fun j => Spec.rms nf (fun k => H (ix2 (j 0) k)) (fun k => G (ix2 0 k)) (j 1)

theorem nrm_final (c : Dev nD) : (dat0 V c).arrAt 2 cfg0.N = nrm (V c main_v0) (V c main_v5) := by
  refine (dat0 V c).arrAt_eq_of_covers 2 _ (by decide +kernel) fun t _ y => ?_
  blk_simp; rw [after0_2]; frame_out
  pointwise [k0_pay1, nrm, Spec.rms, Spec.var]
  blk_point [iblk0, idx0 t]

theorem idx1 : ∀ t : Fin cfg1.N, win1_0.index t = ![t.val, 0] ∧ win1_1.index t = ![0, 0] ∧ win1_2.index t = ![0, 0]
    ∧ win1_3.index t = ![0, 0] ∧ win1_4.index t = ![0, 0] ∧ win1_5.index t = ![t.val, 0] ∧ win1_6.index t = ![t.val, 0]
    ∧ win1_7.index t = ![t.val, 0] ∧ win1_8.index t = ![t.val, 0] :=
  (by decide +kernel : ∀ t : Fin grid1.N, _)

/-- The projected stream. -/
def prj (X : FVec Ideal S4096x1024 .bf16) (W : FVec Ideal S1024x2048 .bf16) : FVec Ideal S4096x2048 .f32 :=
  fun j => ∑ k : Fin 1024, X (ix2 (j 0) k) * W (ix2 k (j 1))

theorem prj_final (c : Dev nD) : (dat1 V c).arrAt 5 cfg1.N = prj (V c main_v24) (V c main_v4) := by
  refine (dat1 V c).arrAt_eq_of_covers 5 _ (by decide +kernel) fun t _ y => ?_
  blk_simp; rw [after1_5]; frame_out
  pointwise [k1_pay4, prj]
  blk_point [iblk1, idx1 t]

/-- A column of the projection's part that starts at `o`. -/
abbrev col (o : ℕ) (k : Fin 512) (h : o ≤ 1536 := by decide) : Fin 2048 := ⟨o + k.val, by have := k.isLt; omega⟩
/-- The four products of a group of columns with `O`, side by side. -/
theorem sums_eq (X : FVec Ideal S512x512 .f32) (O : FVec Ideal S128x128 .f32) :
    concatenate S512x512 1 [
      ⟨S512x128, matmul dot_S512x128_S128x128_S512x128_1_0_0_1_n_n (some .bf16x3)
        (extractStridedSlice S512x128 ![0, 0] X slices_S512x512_o0_0_S512x128) O (constant S512x128 .f32 0x00000000#32)⟩,
      ⟨S512x128, matmul dot_S512x128_S128x128_S512x128_1_0_0_1_n_n (some .bf16x3)
        (extractStridedSlice S512x128 ![0, 128] X slices_S512x512_o0_128_S512x128) O (constant S512x128 .f32 0x00000000#32)⟩,
      ⟨S512x128, matmul dot_S512x128_S128x128_S512x128_1_0_0_1_n_n (some .bf16x3)
        (extractStridedSlice S512x128 ![0, 256] X slices_S512x512_o0_256_S512x128) O (constant S512x128 .f32 0x00000000#32)⟩,
      ⟨S512x128, matmul dot_S512x128_S128x128_S512x128_1_0_0_1_n_n (some .bf16x3)
        (extractStridedSlice S512x128 ![0, 384] X slices_S512x512_o0_384_S512x128) O (constant S512x128 .f32 0x00000000#32)⟩]
      concatenates_S512x128_S512x128_S512x128_S512x128_S512x512_d1 = groups X O := by
  funext j; pointwise [groups]
  have hj : (j 1).val < 512 := (j 1).isLt
  split_ifs <;> refine Finset.sum_congr rfl fun l _ => ?_ <;>
    refine congrArg₂ (· * ·) (congrArg X (congrArg (ix2 (j 0)) (Fin.ext ?_))) (congrArg O (congrArg (ix2 l) (Fin.ext ?_))) <;>
    dsimp only <;> omega

/-- A block's heads normalised. -/
def headsOf (q : FVec Ideal S512x512 .f32) (g : FVec Ideal S1x512 .f32) (O : FVec Ideal S128x128 .f32) : FVec Ideal S512x512 .f32 :=
  mulf (mulf q (rsqrt (addf (mulf (groups (mulf q q) O) (broadcast S512x512 (Scalar.ofBits .f32 0x3C800000#32)))
    (broadcast S512x512 (Scalar.ofBits .f32 0x358637BD#32))))) (broadcastTo S512x512 g broadcasts_S1x512_S512x512)

theorem q_pay (x0 : FVec Ideal S512x1024 .bf16) (x1 : FVec Ideal S1024x2048 .bf16) (g : FVec Ideal S1x512 .f32) (O : FVec Ideal S128x128 .f32) :
    k1_pay9 x0 x1 g O = headsOf (extractStridedSlice S512x512 ![0, 0] (k1_pay4 x0 x1) slices_S512x2048_o0_0_S512x512)
      (shapeCast S1x512 g shapeCasts_S1x512_S1x512) (k1_pay6 O) := by
  rw [headsOf, ← sums_eq]; rfl

theorem k_pay (x0 : FVec Ideal S512x1024 .bf16) (x1 : FVec Ideal S1024x2048 .bf16) (g : FVec Ideal S1x512 .f32) (O : FVec Ideal S128x128 .f32) :
    k1_pay2 g (k1_pay6 O) (k1_pay7 x0 x1) (k1_pay10 x0 x1) (k1_pay11 x0 x1 O) (k1_pay12 x0 x1 O) (k1_pay13 x0 x1)
      = truncf .bf16 (headsOf (k1_pay7 x0 x1) g (k1_pay6 O)) bitsLt_bf16_f32 := by
  rw [headsOf, ← sums_eq]; rfl

/-- The part of the projection that starts at column `o`, each head normalised: the sums over a head are products with
    the matrix `O`, a group of lanes at a time. -/
def heads (P : FVec Ideal S4096x2048 .f32) (G : FVec Ideal S1x512 .f32) (O : FVec Ideal S128x128 .f32) (o : ℕ) (h : o ≤ 1536 := by decide) :
    FVec Ideal S4096x512 .bf16 :=
  fun j => P (ix2 (j 0) (col o (j 1) h)) * Ideal.rsqrt ((∑ l : Fin 128, P (ix2 (j 0) (col o (lane (j 1) l) h)) * P (ix2 (j 0) (col o (lane (j 1) l) h))
    * O (ix2 l (inLane (j 1)))) * Ideal.ofBits .f32 0x3C800000#32 + Ideal.ofBits .f32 0x358637BD#32) * G (ix2 0 (j 1))

theorem q_final (c : Dev nD) : (dat1 V c).arrAt 6 cfg1.N = heads (prj (V c main_v24) (V c main_v4)) (V c main_v11) (V c main_v23) 0 := by
  refine (dat1 V c).arrAt_eq_of_covers 6 _ (by decide +kernel) fun t _ y => ?_
  blk_simp; rw [after1_6]; frame_out
  rw [q_pay]
  pointwise [k1_pay1, k1_pay4, k1_pay6, headsOf, groups, heads, prj]
  blk_point [iblk1, idx1 t]
  all_goals first | (blk_simp [idx1 t]; done) | (blk_simp [idx1 t]; omega)

theorem k_final (c : Dev nD) : (dat1 V c).arrAt 7 cfg1.N = heads (prj (V c main_v24) (V c main_v4)) (V c main_v15) (V c main_v23) 512 := by
  refine (dat1 V c).arrAt_eq_of_covers 7 _ (by decide +kernel) fun t _ y => ?_
  blk_simp; rw [after1_7]; frame_out
  rw [k_pay]
  pointwise [k1_pay4, k1_pay5, k1_pay6, k1_pay7, headsOf, groups, heads, prj]
  blk_point [iblk1, idx1 t]
  all_goals first | (blk_simp [idx1 t]; done) | (blk_simp [idx1 t]; omega)

/-- The values of the heads. -/
def vals (P : FVec Ideal S4096x2048 .f32) : FVec Ideal S4096x512 .bf16 := fun j => P (ix2 (j 0) (col 1024 (j 1)))

theorem v_final (c : Dev nD) : (dat1 V c).arrAt 8 cfg1.N = vals (prj (V c main_v24) (V c main_v4)) := by
  refine (dat1 V c).arrAt_eq_of_covers 8 _ (by decide +kernel) fun t _ y => ?_
  blk_simp; rw [after1_8]; frame_out
  pointwise [k1_pay3, k1_pay4, k1_pay8, vals, prj]
  blk_point [iblk1, idx1 t]
  all_goals first | (blk_simp [idx1 t]; done) | (blk_simp [idx1 t]; omega)

theorem idx2 : ∀ t : Fin cfg2.N, win2_0.index t = ![0, 0] ∧ win2_1.index t = ![0, t.val] ∧ win2_2.index t = ![0, t.val] :=
  (by decide +kernel : ∀ t : Fin grid2.N, _)

/-- The gradient of the projection's weight. -/
def dWi (X : FVec Ideal S4096x1024 .bf16) (D : FVec Ideal S4096x2048 .bf16) : FVec Ideal S1024x2048 .f32 :=
  fun j => ∑ r : Fin 4096, X (ix2 r (j 0)) * D (ix2 r (j 1))

theorem dWi_final (c : Dev nD) : (dat2 V c).arrAt 2 cfg2.N = dWi (V c main_v24) (V c main_v3) := by
  refine (dat2 V c).arrAt_eq_of_covers 2 _ (by decide +kernel) fun t _ y => ?_
  blk_simp; rw [after2_2]; frame_out
  pointwise [k2_pay1, dWi]
  blk_point [iblk2, idx2 t]

theorem idx3 : ∀ t : Fin cfg3.N, win3_0.index t = ![t.val, 0] ∧ win3_1.index t = ![0, 0] ∧ win3_2.index t = ![t.val, 0]
    ∧ win3_3.index t = ![t.val, 0] ∧ win3_4.index t = ![0, 0] ∧ win3_5.index t = ![t.val, 0] ∧ win3_6.index t = ![t.val, 0] :=
  (by decide +kernel : ∀ t : Fin grid3.N, _)

/-- The gradient of the normalised stream. -/
def dn (D : FVec Ideal S4096x2048 .bf16) (W : FVec Ideal S1024x2048 .bf16) : FVec Ideal S4096x1024 .f32 :=
  fun j => ∑ k : Fin 2048, D (ix2 (j 0) k) * W (ix2 (j 1) k)

/-- The gradient of the stream: the residual path's plus the normalisation's. -/
def dx (N E H : FVec Ideal S4096x1024 .f32) (G : FVec Ideal S1x1024 .f32) : FVec Ideal S4096x1024 .f32 :=
  fun j => E j + Spec.rmsRow nf (fun k => H (ix2 (j 0) k)) (fun k => G (ix2 0 k)) (fun k => N (ix2 (j 0) k)) (j 1)

theorem dx_final (c : Dev nD) :
    (dat3 V c).arrAt 5 cfg3.N = dx (dn (V c main_v3) (V c main_v4)) (V c main_v2) (V c main_v0) (V c main_v5) := by
  refine (dat3 V c).arrAt_eq_of_covers 5 _ (by decide +kernel) fun t _ y => ?_
  blk_simp; rw [after3_5]; frame_out
  pointwise [k3_pay1, k3_pay3, k3_pay4, k3_pay5, k3_pay6, k3_pay7, k3_pay9, k3_pay10, k3_pay11, dx, dn, Spec.rmsRow, Spec.rmsMean, Spec.var,
    Finset.univ_unique, Finset.sum_singleton]
  blk_point [iblk3, idx3 t]

/-- Each tile's part of the gain's gradient, in the tile's first row. -/
def dgTiles (N H : FVec Ideal S4096x1024 .f32) : FVec Ideal S64x1024 .f32 :=
  fun j => Scalar.select (IntOp.cmpi .eq (BitVec.ofNat 32 ((j 0).val % 8)) 0#32)
    (∑ r : Fin 512, H (ix2 (tileRow (j 0) r) (j 1)) * Ideal.rsqrt (Spec.var nf fun k => H (ix2 (tileRow (j 0) r) k))
      * N (ix2 (tileRow (j 0) r) (j 1))) 0

theorem dg_final (c : Dev nD) : (dat3 V c).arrAt 6 cfg3.N = dgTiles (dn (V c main_v3) (V c main_v4)) (V c main_v0) := by
  refine (dat3 V c).arrAt_eq_of_covers 6 _ (by decide +kernel) fun t _ y => ?_
  blk_simp; rw [after3_6]; frame_out
  pointwise [k3_pay2, k3_pay3, k3_pay5, k3_pay6, k3_pay7, k3_pay8, dgTiles, tileRow, dn, Spec.var]
  blk_point [iblk3, idx3 t]
  exact congrArg (BitVec.ofNat 32) (by omega)

end Regions

end Cert.Kernel5Ideal.Out

end
-- ==== Proof.RunKernel5Ideal.lean ====
/- What every array holds after `Kernel5Ideal`'s host lines and kernel calls: the contents at the last boundary. -/
module

public import proofs.«01_k».proof.Proof.Gen.Kernel5Ideal.Frame
public import Idealize.ShloMosaic.Lib.Pipeline.ValueKit
public import Idealize.ShloMosaic.Lib.Claim

@[expose] public section

set_option maxRecDepth 16384

noncomputable section

namespace Cert.Kernel5Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every execution ends, and every array then holds the contents `W8` of the last boundary. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

end Cert.Kernel5Ideal.Out

end
-- ==== Proof.ProjectionValues.lean ====
/- The input projection's results over its arguments, call after call. -/
module

public import proofs.«01_k».proof.Proof.Projection
public import proofs.«01_k».proof.Proof.RunKernel5Ideal

@[expose] public section

set_option maxRecDepth 16384

noncomputable section

namespace Cert.Kernel5Ideal.Out

open Idealize.ShloMosaic Idealize.ShloMosaic.TcCoe Idealize.SL.Sem
open Idealize.ShloMosaic.Pipeline (Dat)
open Cert.Kernel5Ideal Cert.Kernel5Ideal.Gen

/-- The stream's rows. -/
abbrev wideRows (X : FVec Ideal S2x2048x1024 .f32) : FVec Ideal S4096x1024 .f32 :=
  shapeCast S4096x1024 X shapeCasts_S2x2048x1024_S4096x1024
/-- A head's gain for every head. -/
abbrev allHeads (G : FVec Ideal S64 .f32) : FVec Ideal S512 .f32 :=
  shapeCast S512 (broadcastInDim S8x64 ![0, 1] bcast_S1x64_S8x64_0_1 (shapeCast S1x64 G shapeCasts_S64_S1x64)) shapeCasts_S8x64_S512
/-- A gain as a row. -/
abbrev asRow (G : FVec Ideal S512 .f32) : FVec Ideal S1x512 .f32 := broadcastInDim S1x512 ![1] bcast_S512_S1x512_1 G
/-- Each lane's head. -/
abbrev laneHead : IVec S128 32 := fun k => Cert.Lanes.headWord (BitVec.ofNat 32 (k 0).val)

variable (m : (ℓ : Loc nD τ sig) → Buf (Elt Ideal) ℓ) (ρ : Dev nD → PrngReg)

def aX (c : Dev nD) : FVec Ideal S4096x1024 .f32 := wideRows (m ((c : Thread nD τ).loc main_arg0))
def aE (c : Dev nD) : FVec Ideal S4096x1024 .f32 := wideRows (m ((c : Thread nD τ).loc main_arg6))
def aD (c : Dev nD) : FVec Ideal S4096x2048 .bf16 := shapeCast S4096x2048 (m ((c : Thread nD τ).loc main_arg5)) shapeCasts_S2x2048x2048_S4096x2048
def aW (c : Dev nD) : FVec Ideal S1024x2048 .bf16 := (m ((c : Thread nD τ).loc main_arg2))
def aG (c : Dev nD) : FVec Ideal S1x1024 .f32 := broadcastInDim S1x1024 ![1] bcast_S1024_S1x1024_1 (m ((c : Thread nD τ).loc main_arg1))
def aGq (c : Dev nD) : FVec Ideal S1x512 .f32 := asRow (mulf (allHeads (m ((c : Thread nD τ).loc main_arg3))) (broadcastInDim S512 ![] bcast_S_S512 (constant S_ .f32 0x3E000000#32)))
def aGk (c : Dev nD) : FVec Ideal S1x512 .f32 := asRow (allHeads (m ((c : Thread nD τ).loc main_arg4)))
def aO : FVec Ideal S128x128 .f32 := fun j => Cert.Lanes.sameHead (j 0) (j 1)

theorem v0_W1 (c : Dev nD) : W1 m ρ c (Proc.devRef .tc main_v0) = aX m c := by
  show StableHlo.after hostOps0 (W0 m ρ c) (Proc.devRef .tc main_v0) = _
  after_results; rfl
theorem v2_W1 (c : Dev nD) : W1 m ρ c (Proc.devRef .tc main_v2) = aE m c := by
  show StableHlo.after hostOps0 (W0 m ρ c) (Proc.devRef .tc main_v2) = _
  after_results; rfl
theorem v3_W1 (c : Dev nD) : W1 m ρ c (Proc.devRef .tc main_v3) = aD m c := by
  show StableHlo.after hostOps0 (W0 m ρ c) (Proc.devRef .tc main_v3) = _
  after_results; rfl
theorem v4_W1 (c : Dev nD) : W1 m ρ c (Proc.devRef .tc main_v4) = aW m c := by
  show StableHlo.after hostOps0 (W0 m ρ c) (Proc.devRef .tc main_v4) = _
  after_results; rfl
theorem v5_W1 (c : Dev nD) : W1 m ρ c (Proc.devRef .tc main_v5) = aG m c := by
  show StableHlo.after hostOps0 (W0 m ρ c) (Proc.devRef .tc main_v5) = _
  after_results; rfl
theorem v11_W1 (c : Dev nD) : W1 m ρ c (Proc.devRef .tc main_v11) = aGq m c := by
  show StableHlo.after hostOps0 (W0 m ρ c) (Proc.devRef .tc main_v11) = _
  after_results; rfl
theorem v15_W1 (c : Dev nD) : W1 m ρ c (Proc.devRef .tc main_v15) = aGk m c := by
  show StableHlo.after hostOps0 (W0 m ρ c) (Proc.devRef .tc main_v15) = _
  after_results; rfl
theorem v16_W1 (c : Dev nD) : W1 m ρ c (Proc.devRef .tc main_v16) = iotaInDim S128 32 0 := by
  show StableHlo.after hostOps0 (W0 m ρ c) (Proc.devRef .tc main_v16) = _
  after_results
theorem c_W1 (c : Dev nD) : W1 m ρ c (Proc.devRef .tc main_c) = constantI S_ 32 64#32 := by
  show StableHlo.after hostOps0 (W0 m ρ c) (Proc.devRef .tc main_c) = _
  after_results
theorem v17_W2 (c : Dev nD) : W2 m ρ c (Proc.devRef .tc main_v17) = laneHead := by
  have h1 := v16_W1 m ρ c
  have h2 := c_W1 m ρ c
  show StableHlo.after hostOps0_1 (W1 m ρ c) (Proc.devRef .tc main_v17) = _
  generalize W1 m ρ c = X at h1 h2 ⊢
  after_results; rw [h1, h2]
  simp only [StableHlo.TRef.ofBuf, StableHlo.TRef.toBuf, cast_eq]; rfl
theorem v23_W3 (c : Dev nD) : W3 m ρ c (Proc.devRef .tc main_v23) = aO := by
  have h := v17_W2 m ρ c
  show StableHlo.after hostOps0_2 (W2 m ρ c) (Proc.devRef .tc main_v23) = _
  generalize W2 m ρ c = X at h ⊢
  after_results; rw [h]; rfl

def kX (c : Dev nD) : FVec Ideal S4096x1024 .bf16 := nrm (aX m c) (aG m c)
def kP (c : Dev nD) : FVec Ideal S4096x2048 .f32 := prj (kX m c) (aW m c)
def kQ (c : Dev nD) : FVec Ideal S4096x512 .bf16 := heads (kP m c) (aGq m c) aO 0
def kK (c : Dev nD) : FVec Ideal S4096x512 .bf16 := heads (kP m c) (aGk m c) aO 512
def kV (c : Dev nD) : FVec Ideal S4096x512 .bf16 := vals (kP m c)
def kDW (c : Dev nD) : FVec Ideal S1024x2048 .f32 := dWi (kX m c) (aD m c)
def kN (c : Dev nD) : FVec Ideal S4096x1024 .f32 := dn (aD m c) (aW m c)
def kDX (c : Dev nD) : FVec Ideal S4096x1024 .f32 := dx (kN m c) (aE m c) (aX m c) (aG m c)
def kT (c : Dev nD) : FVec Ideal S64x1024 .f32 := dgTiles (kN m c) (aX m c)
def kG (c : Dev nD) : FVec Ideal S1024 .f32 := shapeCast S1024 (broadcastInDim S1x1024 ![1] bcast_S1024_S1x1024_1 (Host.reduceAdd (kT m c) (constant S_ .f32 0x00000000#32) reducesTo_S64x1024_S1024_d0 h_S_)) shapeCasts_S1x1024_S1024

theorem v24_W4 (c : Dev nD) : W4 m ρ c (Proc.devRef .tc main_v24) = kX m c := by
  refine ((W4_arr m ρ c 2).trans (nrm_final (V3 m ρ) c)).trans ?_
  have h_v0 : V3 m ρ c main_v0 = aX m c := ((W3_of m ρ c main_v0 (by decide)).trans (W2_of m ρ c main_v0 (by decide))).trans (v0_W1 m ρ c)
  have h_v5 : V3 m ρ c main_v5 = aG m c := ((W3_of m ρ c main_v5 (by decide)).trans (W2_of m ρ c main_v5 (by decide))).trans (v5_W1 m ρ c)
  rw [h_v0, h_v5]; rfl
theorem v25_0_W5 (c : Dev nD) : W5 m ρ c (Proc.devRef .tc main_v25_0) = kP m c := by
  refine ((W5_arr m ρ c 5).trans (prj_final (V4 m ρ) c)).trans ?_
  have h_v24 : V4 m ρ c main_v24 = kX m c := v24_W4 m ρ c
  have h_v4 : V4 m ρ c main_v4 = aW m c := (((W4_of m ρ c main_v4 (by decide)).trans (W3_of m ρ c main_v4 (by decide))).trans (W2_of m ρ c main_v4 (by decide))).trans (v4_W1 m ρ c)
  rw [h_v24, h_v4]; rfl
theorem v25_1_W5 (c : Dev nD) : W5 m ρ c (Proc.devRef .tc main_v25_1) = kQ m c := by
  refine ((W5_arr m ρ c 6).trans (q_final (V4 m ρ) c)).trans ?_
  have h_v24 : V4 m ρ c main_v24 = kX m c := v24_W4 m ρ c
  have h_v4 : V4 m ρ c main_v4 = aW m c := (((W4_of m ρ c main_v4 (by decide)).trans (W3_of m ρ c main_v4 (by decide))).trans (W2_of m ρ c main_v4 (by decide))).trans (v4_W1 m ρ c)
  have h_v11 : V4 m ρ c main_v11 = aGq m c := (((W4_of m ρ c main_v11 (by decide)).trans (W3_of m ρ c main_v11 (by decide))).trans (W2_of m ρ c main_v11 (by decide))).trans (v11_W1 m ρ c)
  have h_v23 : V4 m ρ c main_v23 = aO := (W4_of m ρ c main_v23 (by decide)).trans (v23_W3 m ρ c)
  rw [h_v24, h_v4, h_v11, h_v23]; rfl
theorem v25_2_W5 (c : Dev nD) : W5 m ρ c (Proc.devRef .tc main_v25_2) = kK m c := by
  refine ((W5_arr m ρ c 7).trans (k_final (V4 m ρ) c)).trans ?_
  have h_v24 : V4 m ρ c main_v24 = kX m c := v24_W4 m ρ c
  have h_v4 : V4 m ρ c main_v4 = aW m c := (((W4_of m ρ c main_v4 (by decide)).trans (W3_of m ρ c main_v4 (by decide))).trans (W2_of m ρ c main_v4 (by decide))).trans (v4_W1 m ρ c)
  have h_v15 : V4 m ρ c main_v15 = aGk m c := (((W4_of m ρ c main_v15 (by decide)).trans (W3_of m ρ c main_v15 (by decide))).trans (W2_of m ρ c main_v15 (by decide))).trans (v15_W1 m ρ c)
  have h_v23 : V4 m ρ c main_v23 = aO := (W4_of m ρ c main_v23 (by decide)).trans (v23_W3 m ρ c)
  rw [h_v24, h_v4, h_v15, h_v23]; rfl
theorem v25_3_W5 (c : Dev nD) : W5 m ρ c (Proc.devRef .tc main_v25_3) = kV m c := by
  refine ((W5_arr m ρ c 8).trans (v_final (V4 m ρ) c)).trans ?_
  have h_v24 : V4 m ρ c main_v24 = kX m c := v24_W4 m ρ c
  have h_v4 : V4 m ρ c main_v4 = aW m c := (((W4_of m ρ c main_v4 (by decide)).trans (W3_of m ρ c main_v4 (by decide))).trans (W2_of m ρ c main_v4 (by decide))).trans (v4_W1 m ρ c)
  rw [h_v24, h_v4]; rfl
theorem v26_W6 (c : Dev nD) : W6 m ρ c (Proc.devRef .tc main_v26) = kDW m c := by
  refine ((W6_arr m ρ c 2).trans (dWi_final (V5 m ρ) c)).trans ?_
  have h_v24 : V5 m ρ c main_v24 = kX m c := (W5_of m ρ c main_v24 (by decide)).trans (v24_W4 m ρ c)
  have h_v3 : V5 m ρ c main_v3 = aD m c := ((((W5_of m ρ c main_v3 (by decide)).trans (W4_of m ρ c main_v3 (by decide))).trans (W3_of m ρ c main_v3 (by decide))).trans (W2_of m ρ c main_v3 (by decide))).trans (v3_W1 m ρ c)
  rw [h_v24, h_v3]; rfl
theorem v27_0_W7 (c : Dev nD) : W7 m ρ c (Proc.devRef .tc main_v27_0) = kDX m c := by
  refine ((W7_arr m ρ c 5).trans (dx_final (V6 m ρ) c)).trans ?_
  have h_v3 : V6 m ρ c main_v3 = aD m c := (((((W6_of m ρ c main_v3 (by decide)).trans (W5_of m ρ c main_v3 (by decide))).trans (W4_of m ρ c main_v3 (by decide))).trans (W3_of m ρ c main_v3 (by decide))).trans (W2_of m ρ c main_v3 (by decide))).trans (v3_W1 m ρ c)
  have h_v4 : V6 m ρ c main_v4 = aW m c := (((((W6_of m ρ c main_v4 (by decide)).trans (W5_of m ρ c main_v4 (by decide))).trans (W4_of m ρ c main_v4 (by decide))).trans (W3_of m ρ c main_v4 (by decide))).trans (W2_of m ρ c main_v4 (by decide))).trans (v4_W1 m ρ c)
  have h_v2 : V6 m ρ c main_v2 = aE m c := (((((W6_of m ρ c main_v2 (by decide)).trans (W5_of m ρ c main_v2 (by decide))).trans (W4_of m ρ c main_v2 (by decide))).trans (W3_of m ρ c main_v2 (by decide))).trans (W2_of m ρ c main_v2 (by decide))).trans (v2_W1 m ρ c)
  have h_v0 : V6 m ρ c main_v0 = aX m c := (((((W6_of m ρ c main_v0 (by decide)).trans (W5_of m ρ c main_v0 (by decide))).trans (W4_of m ρ c main_v0 (by decide))).trans (W3_of m ρ c main_v0 (by decide))).trans (W2_of m ρ c main_v0 (by decide))).trans (v0_W1 m ρ c)
  have h_v5 : V6 m ρ c main_v5 = aG m c := (((((W6_of m ρ c main_v5 (by decide)).trans (W5_of m ρ c main_v5 (by decide))).trans (W4_of m ρ c main_v5 (by decide))).trans (W3_of m ρ c main_v5 (by decide))).trans (W2_of m ρ c main_v5 (by decide))).trans (v5_W1 m ρ c)
  rw [h_v3, h_v4, h_v2, h_v0, h_v5]; rfl
theorem v27_1_W7 (c : Dev nD) : W7 m ρ c (Proc.devRef .tc main_v27_1) = kT m c := by
  refine ((W7_arr m ρ c 6).trans (dg_final (V6 m ρ) c)).trans ?_
  have h_v3 : V6 m ρ c main_v3 = aD m c := (((((W6_of m ρ c main_v3 (by decide)).trans (W5_of m ρ c main_v3 (by decide))).trans (W4_of m ρ c main_v3 (by decide))).trans (W3_of m ρ c main_v3 (by decide))).trans (W2_of m ρ c main_v3 (by decide))).trans (v3_W1 m ρ c)
  have h_v4 : V6 m ρ c main_v4 = aW m c := (((((W6_of m ρ c main_v4 (by decide)).trans (W5_of m ρ c main_v4 (by decide))).trans (W4_of m ρ c main_v4 (by decide))).trans (W3_of m ρ c main_v4 (by decide))).trans (W2_of m ρ c main_v4 (by decide))).trans (v4_W1 m ρ c)
  have h_v0 : V6 m ρ c main_v0 = aX m c := (((((W6_of m ρ c main_v0 (by decide)).trans (W5_of m ρ c main_v0 (by decide))).trans (W4_of m ρ c main_v0 (by decide))).trans (W3_of m ρ c main_v0 (by decide))).trans (W2_of m ρ c main_v0 (by decide))).trans (v0_W1 m ρ c)
  rw [h_v3, h_v4, h_v0]; rfl
theorem v30_W8 (c : Dev nD) : W8 m ρ c (Proc.devRef .tc main_v30) = kG m c := by
  have h : W7 m ρ c (Proc.devRef .tc main_v27_1) = kT m c := v27_1_W7 m ρ c
  show StableHlo.after hostOps4 (W7 m ρ c) (Proc.devRef .tc main_v30) = _
  after_results; rw [h]; rfl

/-- Every execution ends with the seven results at these arrays. -/
theorem run : θ_run defs (onTc (τ := τ) (main (F := Ideal))) ⟨m, fun _ => 0, ρ⟩ (fun r => ∀ c : Dev nD,
    r.2.mem ((c.tc : Thread nD τ).loc main_v25_0) = kP m c
    ∧ r.2.mem ((c.tc : Thread nD τ).loc main_v25_1) = kQ m c
    ∧ r.2.mem ((c.tc : Thread nD τ).loc main_v25_2) = kK m c
    ∧ r.2.mem ((c.tc : Thread nD τ).loc main_v25_3) = kV m c
    ∧ r.2.mem ((c.tc : Thread nD τ).loc main_v27_0) = kDX m c
    ∧ r.2.mem ((c.tc : Thread nD τ).loc main_v26) = kDW m c
    ∧ r.2.mem ((c.tc : Thread nD τ).loc main_v30) = kG m c) :=
  (θ_run defs _ _).mono (fun _ h c =>
    ⟨(h c _ (mem_uc main_v25_0 (by decide))).trans ((((W8_of m ρ c main_v25_0 (by decide)).trans (W7_of m ρ c main_v25_0 (by decide))).trans (W6_of m ρ c main_v25_0 (by decide))).trans (v25_0_W5 m ρ c)),
     (h c _ (mem_uc main_v25_1 (by decide))).trans ((((W8_of m ρ c main_v25_1 (by decide)).trans (W7_of m ρ c main_v25_1 (by decide))).trans (W6_of m ρ c main_v25_1 (by decide))).trans (v25_1_W5 m ρ c)),
     (h c _ (mem_uc main_v25_2 (by decide))).trans ((((W8_of m ρ c main_v25_2 (by decide)).trans (W7_of m ρ c main_v25_2 (by decide))).trans (W6_of m ρ c main_v25_2 (by decide))).trans (v25_2_W5 m ρ c)),
     (h c _ (mem_uc main_v25_3 (by decide))).trans ((((W8_of m ρ c main_v25_3 (by decide)).trans (W7_of m ρ c main_v25_3 (by decide))).trans (W6_of m ρ c main_v25_3 (by decide))).trans (v25_3_W5 m ρ c)),
     (h c _ (mem_uc main_v27_0 (by decide))).trans ((W8_of m ρ c main_v27_0 (by decide)).trans (v27_0_W7 m ρ c)),
     (h c _ (mem_uc main_v26 (by decide))).trans (((W8_of m ρ c main_v26 (by decide)).trans (W7_of m ρ c main_v26 (by decide))).trans (v26_W6 m ρ c)),
     (h c _ (mem_uc main_v30 (by decide))).trans (v30_W8 m ρ c)⟩) (run_all m ρ)

end Cert.Kernel5Ideal.Out

end
-- ==== Proof.ProjectionRef.lean ====
/- The reference's lines of the input projection, one array after the other. -/
module

public import proofs.«01_k».proof.Proof.Gen.Reference5Ideal.Run
public import Idealize.ShloMosaic.Lib.Pointwise

@[expose] public section

set_option maxRecDepth 16384

noncomputable section

namespace Cert.Reference5Ideal.Out

open Cert.Reference5Ideal Cert.Reference5Ideal.Gen Idealize.ShloMosaic Idealize.ShloMosaic.TcCoe Idealize.SL.Sem Idealize.ShloMosaic.StableHlo

variable (m : (ℓ : Loc nD τ sig) → Buf (Elt Ideal) ℓ)

abbrev r_arg0 (c : Dev nD) : FVec Ideal S2x2048x1024 .f32 := m ((c.tc : Thread nD τ).loc main_arg0)
abbrev r_arg1 (c : Dev nD) : FVec Ideal S1024 .f32 := m ((c.tc : Thread nD τ).loc main_arg1)
abbrev r_arg2 (c : Dev nD) : FVec Ideal S1024x2048 .f32 := m ((c.tc : Thread nD τ).loc main_arg2)
abbrev r_arg3 (c : Dev nD) : FVec Ideal S64 .f32 := m ((c.tc : Thread nD τ).loc main_arg3)
abbrev r_arg4 (c : Dev nD) : FVec Ideal S64 .f32 := m ((c.tc : Thread nD τ).loc main_arg4)
abbrev r_arg5 (c : Dev nD) : FVec Ideal S2x2048x2048 .f32 := m ((c.tc : Thread nD τ).loc main_arg5)
abbrev r_arg6 (c : Dev nD) : FVec Ideal S2x2048x1024 .f32 := m ((c.tc : Thread nD τ).loc main_arg6)
def rVar (c : Dev nD) : FVec Ideal S2x2048x1 .f32 :=
  addf (Host.divf (broadcastInDim S2x2048x1 ![0, 1] bcast_S2x2048_S2x2048x1_0_1 (Host.reduceAdd (mulf (r_arg0 m c) (r_arg0 m c)) ((constant S_ .f32 0x00000000#32)) reducesTo_S2x2048x1024_S2x2048_d2 h_S_)) (broadcastInDim S2x2048x1 ![] bcast_S_S2x2048x1 ((constant S_ .f32 0x44800000#32)))) (broadcastInDim S2x2048x1 ![] bcast_S_S2x2048x1 ((constant S_ .f32 0x358637BD#32)))
def rInv (c : Dev nD) : FVec Ideal S2x2048x1 .f32 :=
  Host.rsqrt (rVar m c)
def rUnit (c : Dev nD) : FVec Ideal S2x2048x1024 .f32 :=
  mulf (r_arg0 m c) (broadcastInDim S2x2048x1024 ![0, 1, 2] bcast_S2x2048x1_S2x2048x1024_0_1_2 (rInv m c))
def rX (c : Dev nD) : FVec Ideal S2x2048x1024 .f32 :=
  mulf (rUnit m c) (broadcastInDim S2x2048x1024 ![0, 1, 2] bcast_S1x1x1024_S2x2048x1024_0_1_2 (broadcastInDim S1x1x1024 ![2] bcast_S1024_S1x1x1024_2 (r_arg1 m c)))
def rP (c : Dev nD) : FVec Ideal S2x2048x2048 .f32 :=
  Host.dotGeneral dot_S2x2048x1024_S1024x2048_S2x2048x2048_2_0_01_1_n_n none (rX m c) (r_arg2 m c)
def rWt (c : Dev nD) : FVec Ideal S2048x1024 .f32 :=
  Host.dotGeneral dot_S2x2048x2048_S2x2048x1024_S2048x1024_01_01_2_2_n_n none (r_arg5 m c) (rX m c)
def rW (c : Dev nD) : FVec Ideal S1024x2048 .f32 :=
  transpose S1024x2048 [1, 0] (rWt m c) transposes_S2048x1024_S1024x2048_1_0
def rN (c : Dev nD) : FVec Ideal S2x2048x1024 .f32 :=
  Host.dotGeneral dot_S2x2048x2048_S1024x2048_S2x2048x1024_2_1_01_0_n_n none (r_arg5 m c) (r_arg2 m c)
def rC (c : Dev nD) : FVec Ideal S2x2048x1024 .f32 :=
  mulf (rN m c) (broadcastInDim S2x2048x1024 ![0, 1, 2] bcast_S1x1x1024_S2x2048x1024_0_1_2 (broadcastInDim S1x1x1024 ![2] bcast_S1024_S1x1x1024_2 (r_arg1 m c)))
def rG (c : Dev nD) : FVec Ideal S1024 .f32 :=
  Host.reduceAdd (shapeCast _ (Host.reduceAdd (mulf (rUnit m c) (rN m c)) ((constant S_ .f32 0x00000000#32)) reducesTo_S2x2048x1024_S1024_d0_1 h_S_) shapeCasts_S1024_S1x1x1024) ((constant S_ .f32 0x00000000#32)) reducesTo_S1x1x1024_S1024_d0_1 h_S_
def rBack (c : Dev nD) : FVec Ideal S2x2048x1024 .f32 :=
  broadcastInDim S2x2048x1024 ![0, 1] bcast_S2x2048_S2x2048x1024_0_1 (Host.reduceAdd (Host.divf (mulf (shapeCast _ (Host.reduceAdd (mulf (r_arg0 m c) (rC m c)) ((constant S_ .f32 0x00000000#32)) reducesTo_S2x2048x1024_S2x2048_d2 h_S_) shapeCasts_S2x2048_S2x2048x1) (mulf (broadcastInDim S2x2048x1 ![] bcast_S_S2x2048x1 ((constant S_ .f32 0xBF000000#32))) (Host.divf (rInv m c) (rVar m c)))) (broadcastInDim S2x2048x1 ![] bcast_S_S2x2048x1 ((constant S_ .f32 0x44800000#32)))) ((constant S_ .f32 0x00000000#32)) reducesTo_S2x2048x1_S2x2048_d2 h_S_)
def rQ4 (c : Dev nD) : FVec Ideal S2x2048x8x64 .f32 :=
  shapeCast _ (extractStridedSlice S2x2048x512 ![0, 0, 0] (rP m c) slices_S2x2048x2048_S2x2048x512_0_0_0) shapeCasts_S2x2048x512_S2x2048x8x64
def rVq (c : Dev nD) : FVec Ideal S2x2048x8x1 .f32 :=
  addf (Host.divf (broadcastInDim S2x2048x8x1 ![0, 1, 2] bcast_S2x2048x8_S2x2048x8x1_0_1_2 (Host.reduceAdd (mulf (rQ4 m c) (rQ4 m c)) ((constant S_ .f32 0x00000000#32)) reducesTo_S2x2048x8x64_S2x2048x8_d3 h_S_)) (broadcastInDim S2x2048x8x1 ![] bcast_S_S2x2048x8x1 ((constant S_ .f32 0x42800000#32)))) (broadcastInDim S2x2048x8x1 ![] bcast_S_S2x2048x8x1 ((constant S_ .f32 0x358637BD#32)))
def rK4 (c : Dev nD) : FVec Ideal S2x2048x8x64 .f32 :=
  shapeCast _ (extractStridedSlice S2x2048x512 ![0, 0, 512] (rP m c) slices_S2x2048x2048_S2x2048x512_0_0_512) shapeCasts_S2x2048x512_S2x2048x8x64
def rVk (c : Dev nD) : FVec Ideal S2x2048x8x1 .f32 :=
  addf (Host.divf (broadcastInDim S2x2048x8x1 ![0, 1, 2] bcast_S2x2048x8_S2x2048x8x1_0_1_2 (Host.reduceAdd (mulf (rK4 m c) (rK4 m c)) ((constant S_ .f32 0x00000000#32)) reducesTo_S2x2048x8x64_S2x2048x8_d3 h_S_)) (broadcastInDim S2x2048x8x1 ![] bcast_S_S2x2048x8x1 ((constant S_ .f32 0x42800000#32)))) (broadcastInDim S2x2048x8x1 ![] bcast_S_S2x2048x8x1 ((constant S_ .f32 0x358637BD#32)))
def rProj (c : Dev nD) : FVec Ideal S4096x2048 .f32 :=
  shapeCast _ (rP m c) shapeCasts_S2x2048x2048_S4096x2048
def rQ (c : Dev nD) : FVec Ideal S4096x512 .bf16 :=
  truncf .bf16 (shapeCast _ (shapeCast _ (mulf (mulf (mulf (rQ4 m c) (broadcastInDim S2x2048x8x64 ![0, 1, 2, 3] bcast_S2x2048x8x1_S2x2048x8x64_0_1_2_3 (Host.rsqrt (rVq m c)))) (broadcastInDim S2x2048x8x64 ![0, 1, 2, 3] bcast_S1x1x1x64_S2x2048x8x64_0_1_2_3 (broadcastInDim S1x1x1x64 ![3] bcast_S64_S1x1x1x64_3 (r_arg3 m c)))) (broadcastInDim S2x2048x8x64 ![] bcast_S_S2x2048x8x64 ((constant S_ .f32 0x3E000000#32)))) shapeCasts_S2x2048x8x64_S2x2048x512) shapeCasts_S2x2048x512_S4096x512) bitsLt_bf16_f32
def rK (c : Dev nD) : FVec Ideal S4096x512 .bf16 :=
  truncf .bf16 (shapeCast _ (shapeCast _ (mulf (mulf (rK4 m c) (broadcastInDim S2x2048x8x64 ![0, 1, 2, 3] bcast_S2x2048x8x1_S2x2048x8x64_0_1_2_3 (Host.rsqrt (rVk m c)))) (broadcastInDim S2x2048x8x64 ![0, 1, 2, 3] bcast_S1x1x1x64_S2x2048x8x64_0_1_2_3 (broadcastInDim S1x1x1x64 ![3] bcast_S64_S1x1x1x64_3 (r_arg4 m c)))) shapeCasts_S2x2048x8x64_S2x2048x512) shapeCasts_S2x2048x512_S4096x512) bitsLt_bf16_f32
def rV (c : Dev nD) : FVec Ideal S4096x512 .bf16 :=
  truncf .bf16 (shapeCast _ (extractStridedSlice S2x2048x512 ![0, 0, 1024] (rP m c) slices_S2x2048x2048_S2x2048x512_0_0_1024) shapeCasts_S2x2048x512_S4096x512) bitsLt_bf16_f32
def rDX (c : Dev nD) : FVec Ideal S4096x1024 .f32 :=
  shapeCast _ (addf (addf (addf (r_arg6 m c) (mulf (rC m c) (broadcastInDim S2x2048x1024 ![0, 1, 2] bcast_S2x2048x1_S2x2048x1024_0_1_2 (rInv m c)))) (mulf (r_arg0 m c) (rBack m c))) (mulf (rBack m c) (r_arg0 m c))) shapeCasts_S2x2048x1024_S4096x1024

/-- Every execution ends with the results at these arrays and the arguments unchanged. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v77) = rProj m c
    ∧ r.2.mem ((c.tc : Thread nD τ).loc main_v79) = rQ m c
    ∧ r.2.mem ((c.tc : Thread nD τ).loc main_v81) = rK m c
    ∧ r.2.mem ((c.tc : Thread nD τ).loc main_v83) = rV m c
    ∧ r.2.mem ((c.tc : Thread nD τ).loc main_v84) = rDX m c
    ∧ r.2.mem ((c.tc : Thread nD τ).loc main_v18) = rW m c
    ∧ r.2.mem ((c.tc : Thread nD τ).loc main_v25) = rG m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun _ h c => ⟨(h c).1.trans rfl, (h c).2.1.trans rfl, (h c).2.2.1.trans rfl, (h c).2.2.2.1.trans rfl, (h c).2.2.2.2.1.trans rfl, (h c).2.2.2.2.2.1.trans rfl, (h c).2.2.2.2.2.2.1.trans rfl, (h c).2.2.2.2.2.2.2⟩) (Value.run m ρ)

end Cert.Reference5Ideal.Out

end
-- ==== Proof.ProjectionBridge.lean ====
/- The input projection's arrays are the reference's, stage after stage: the streams with their batches one after the other. -/
module

public import proofs.«01_k».proof.Proof.ProjectionValues
public import proofs.«01_k».proof.Proof.ProjectionRef
public import proofs.«01_k».proof.Proof.Sums

@[expose] public section

set_option maxRecDepth 16384

noncomputable section

namespace Cert.ProjectionBridge

open Idealize.ShloMosaic Idealize.ShloMosaic.TcCoe Idealize.SL.Sem
open Cert.Kernel5Ideal (S2x2048x1024 S2x2048x2048 S4096x512 S4096x1024 S4096x2048 S1024x2048 S1x512 S1024)
open Cert.Sums Cert.Lanes Cert.Kernel5Ideal.Out Cert.Reference5Ideal.Out
open scoped BigOperators

variable (m : (ℓ : Loc Kernel5Ideal.nD Kernel5Ideal.τ Kernel5Ideal.sig) → Buf (Elt Ideal) ℓ)
  (m' : (ℓ : Loc Reference5Ideal.nD Reference5Ideal.τ Reference5Ideal.sig) → Buf (Elt Ideal) ℓ) (c : Dev 1)

/-- Both programs start from the same arguments. -/
structure Same : Prop where
  x : r_arg0 m' c = m ((c.tc : Thread Kernel5Ideal.nD Kernel5Ideal.τ).loc Kernel5Ideal.main_arg0)
  gain : r_arg1 m' c = m ((c.tc : Thread Kernel5Ideal.nD Kernel5Ideal.τ).loc Kernel5Ideal.main_arg1)
  w_in : r_arg2 m' c = m ((c.tc : Thread Kernel5Ideal.nD Kernel5Ideal.τ).loc Kernel5Ideal.main_arg2)
  g_q : r_arg3 m' c = m ((c.tc : Thread Kernel5Ideal.nD Kernel5Ideal.τ).loc Kernel5Ideal.main_arg3)
  g_k : r_arg4 m' c = m ((c.tc : Thread Kernel5Ideal.nD Kernel5Ideal.τ).loc Kernel5Ideal.main_arg4)
  ct : r_arg5 m' c = m ((c.tc : Thread Kernel5Ideal.nD Kernel5Ideal.τ).loc Kernel5Ideal.main_arg5)
  residual : r_arg6 m' c = m ((c.tc : Thread Kernel5Ideal.nD Kernel5Ideal.τ).loc Kernel5Ideal.main_arg6)

/-- The projection's rows. -/
abbrev allRows (X : FVec Ideal S2x2048x2048 .f32) : FVec Ideal S4096x2048 .f32 :=
  shapeCast S4096x2048 X Kernel5Ideal.Gen.shapeCasts_S2x2048x2048_S4096x2048

theorem wide_apply (X : FVec Ideal S2x2048x1024 .f32) (j : S4096x1024.Idx) : wideRows X j = X (ix3 (bt (j 0)) (ps (j 0)) (j 1)) := by
  pointwise []

theorem sixty_four : Ideal.ofBits .f32 0x42800000#32 = ((64 : ℝ) : EReal) := by
  simp [Ideal.ofBits, Ideal.ieee, -EReal.coe_mul]; norm_num
theorem per_lane : Ideal.ofBits .f32 0x3C800000#32 = ((1 / 64 : ℝ) : EReal) := by
  simp [Ideal.ofBits, Ideal.ieee, -EReal.coe_mul]; norm_num

/-- The mean of a head by a product is the mean by a quotient. -/
theorem mean_eq (a : EReal) : a * Ideal.ofBits .f32 0x3C800000#32 = Ideal.div a (Ideal.ofBits .f32 0x42800000#32) := by
  rw [sixty_four, per_lane, Ideal.div_coe (by norm_num)]

/-- The heads normalised, each head's mean over its own lanes. -/
theorem heads_apply (P : FVec Ideal S4096x2048 .f32) (G : FVec Ideal S1x512 .f32) (o : ℕ) (h : o ≤ 1536) (j : S4096x512.Idx) :
    heads P G aO o h j = P (ix2 (j 0) (col o (j 1) h))
      * Ideal.rsqrt (Spec.var (Ideal.ofBits .f32 0x42800000#32) fun d : Fin 64 =>
          P (ix2 (j 0) (col o ⟨(j 1).val / 64 * 64 + d.val, by have h1 : (j 1).val < 512 := (j 1).isLt; have := d.isLt; omega⟩ h)))
      * G (ix2 0 (j 1)) := by
  have e := sum_head (fun k => P (ix2 (j 0) (col o k h)) * P (ix2 (j 0) (col o k h))) (j 1)
  show P (ix2 (j 0) (col o (j 1) h)) * Ideal.rsqrt ((∑ l : Fin 128, P (ix2 (j 0) (col o (lane (j 1) l) h))
    * P (ix2 (j 0) (col o (lane (j 1) l) h)) * sameHead l (inLane (j 1))) * _ + _) * G (ix2 0 (j 1)) = _
  rw [e, mean_eq]
  rfl

variable {m m' c} (s : Same m m' c)
include s

theorem hX : aX m c = wideRows (r_arg0 m' c) := by rw [s.x]; rfl
theorem hE : aE m c = wideRows (r_arg6 m' c) := by rw [s.residual]; rfl
theorem hD : aD m c = allRows (r_arg5 m' c) := by rw [s.ct]; rfl
theorem hW : aW m c = r_arg2 m' c := by rw [s.w_in]; rfl
theorem hG : aG m c = broadcastInDim Kernel5Ideal.S1x1024 ![1] Kernel5Ideal.Gen.bcast_S1024_S1x1024_1 (r_arg1 m' c) := by rw [s.gain]; rfl
theorem hGq (k : Fin 512) : aGq m c (ix2 0 k)
    = r_arg3 m' c (ix1 ⟨k.val % 64, by omega⟩) * Ideal.ofBits .f32 0x3E000000#32 := by
  rw [s.g_q]; pointwise [aGq]
theorem hGk (k : Fin 512) : aGk m c (ix2 0 k) = r_arg4 m' c (ix1 ⟨k.val % 64, by omega⟩) := by
  rw [s.g_k]; pointwise [aGk]

theorem x_eq : kX m c = wideRows (rX m' c) := by
  rw [kX, hX s, hG s]
  funext j; pointwise [nrm, rX, rUnit, rInv, rVar, Spec.rms, Spec.var]

theorem p_eq : kP m c = allRows (rP m' c) := by
  rw [kP, x_eq s, hW s]
  funext j; pointwise [prj, rP]

theorem proj_eq : kP m c = rProj m' c := by
  rw [p_eq s]; rfl

theorem q_eq : kQ m c = rQ m' c := by
  funext j
  rw [kQ, p_eq s, heads_apply, show aGq m c (ix2 0 (j 1)) = _ from hGq s (j 1), ← mul_assoc]
  pointwise [rQ, rQ4, rVq, Spec.var]
  simp only [col, Nat.zero_add]

theorem k_eq : kK m c = rK m' c := by
  funext j
  rw [kK, p_eq s, heads_apply, show aGk m c (ix2 0 (j 1)) = _ from hGk s (j 1)]
  pointwise [rK, rK4, rVk, Spec.var]

theorem v_eq : kV m c = rV m' c := by
  rw [kV, p_eq s]
  funext j; pointwise [vals, rV]

theorem dw_eq : kDW m c = rW m' c := by
  rw [kDW, x_eq s, hD s]
  funext j; pointwise [dWi, rW, rWt]
  rw [sum_rows fun b p => rX m' c (ix3 b p (j 0)) * r_arg5 m' c (ix3 b p (j 1))]
  exact Finset.sum_congr rfl fun b _ => Finset.sum_congr rfl fun p _ => mul_comm _ _

theorem n_eq : kN m c = wideRows (rN m' c) := by
  rw [kN, hD s, hW s]
  funext j; pointwise [dn, rN]

theorem dx_eq : kDX m c = rDX m' c := by
  rw [kDX, n_eq s, hE s, hX s, hG s]
  funext j; pointwise [dx, rDX, rC, rBack, rInv, rVar, Spec.rmsRow, Spec.rmsMean, Spec.var, Finset.univ_unique, Finset.sum_singleton]
  simp only [add_assoc]

theorem g_eq : kG m c = rG m' c := by
  funext j
  have h : kG m c j = ∑ i : Fin 4096, r_arg0 m' c (ix3 (bt i) (ps i) (j 0))
      * Ideal.rsqrt (Spec.var nf fun k => r_arg0 m' c (ix3 (bt i) (ps i) k)) * rN m' c (ix3 (bt i) (ps i) (j 0)) := by
    rw [kG, kT, n_eq s, hX s]
    pointwise [dgTiles]
    simp only [select_first]
    exact sum_tiles fun i => r_arg0 m' c (ix3 (bt i) (ps i) (j 0))
      * Ideal.rsqrt (Spec.var nf fun k => r_arg0 m' c (ix3 (bt i) (ps i) k)) * rN m' c (ix3 (bt i) (ps i) (j 0))
  rw [h, sum_rows fun b p => r_arg0 m' c (ix3 b p (j 0))
    * Ideal.rsqrt (Spec.var nf fun k => r_arg0 m' c (ix3 b p k)) * rN m' c (ix3 b p (j 0))]
  pointwise [rG, rUnit, rInv, rVar, Spec.var, reduce01, Finset.univ_unique, Finset.sum_singleton]

end Cert.ProjectionBridge

end
-- ==== Proof.HeadNorms.lean ====
/- What the call that takes the heads' norms backward leaves in its arrays, over the arrays it reads. -/
module

public import proofs.«01_k».proof.Proof.Gen.Kernel4Ideal.Frame
public import Idealize.ShloMosaic.Lib.Pipeline.ValueKit
public import proofs.«01_k».proof.Proof.Lanes

@[expose] public section

set_option maxRecDepth 16384

noncomputable section

namespace Cert.Kernel4Ideal.Value

open Cert.Lanes (lane inLane groups)
open Idealize.ShloMosaic Idealize.ShloMosaic.TcCoe Idealize.SL.Sem
open Idealize.ShloMosaic.Pipeline (Dat)
open Cert.Kernel4Ideal Cert.Kernel4Ideal.Gen
open scoped BigOperators

/-- The four products of a group of columns with `O`, side by side. -/
theorem sums_eq (X : FVec Ideal S512x512 .f32) (O : FVec Ideal S128x128 .f32) :
    concatenate S512x512 1 [
      ⟨S512x128, matmul dot_S512x128_S128x128_S512x128_1_0_0_1_n_n (some .bf16x3)
        (extractStridedSlice S512x128 ![0, 0] X slices_S512x512_o0_0_S512x128) O (constant S512x128 .f32 0x00000000#32)⟩,
      ⟨S512x128, matmul dot_S512x128_S128x128_S512x128_1_0_0_1_n_n (some .bf16x3)
        (extractStridedSlice S512x128 ![0, 128] X slices_S512x512_o0_128_S512x128) O (constant S512x128 .f32 0x00000000#32)⟩,
      ⟨S512x128, matmul dot_S512x128_S128x128_S512x128_1_0_0_1_n_n (some .bf16x3)
        (extractStridedSlice S512x128 ![0, 256] X slices_S512x512_o0_256_S512x128) O (constant S512x128 .f32 0x00000000#32)⟩,
      ⟨S512x128, matmul dot_S512x128_S128x128_S512x128_1_0_0_1_n_n (some .bf16x3)
        (extractStridedSlice S512x128 ![0, 384] X slices_S512x512_o0_384_S512x128) O (constant S512x128 .f32 0x00000000#32)⟩]
      concatenates_S512x128_S512x128_S512x128_S512x128_S512x512_d1 = groups X O := by
  funext j; pointwise [groups]
  have hj : (j 1).val < 512 := (j 1).isLt
  split_ifs <;> refine Finset.sum_congr rfl fun l _ => ?_ <;>
    refine congrArg₂ (· * ·) (congrArg X (congrArg (ix2 (j 0)) (Fin.ext ?_))) (congrArg O (congrArg (ix2 l) (Fin.ext ?_))) <;>
    dsimp only <;> omega

/-- A block's means over the heads, with the small constant. -/
def varB (q : FVec Ideal S512x512 .f32) (O : FVec Ideal S128x128 .f32) : FVec Ideal S512x512 .f32 :=
  addf (mulf (groups (mulf q q) O) (broadcast S512x512 (Scalar.ofBits .f32 0x3C800000#32))) (broadcast S512x512 (Scalar.ofBits .f32 0x358637BD#32))

/-- The derivative of a block's norm, for the cotangent `d`. -/
def backB (q d : FVec Ideal S512x512 .f32) (g : FVec Ideal S1x512 .f32) (O : FVec Ideal S128x128 .f32) : FVec Ideal S512x512 .f32 :=
  addf (addf (mulf (mulf d (broadcastTo S512x512 g broadcasts_S1x512_S512x512)) (rsqrt (varB q O)))
      (mulf q (groups (mulf (mulf (mulf q (mulf d (broadcastTo S512x512 g broadcasts_S1x512_S512x512)))
        (mulf (broadcast S512x512 (Scalar.ofBits .f32 0xBF000000#32)) (divf (rsqrt (varB q O)) (varB q O))))
        (broadcast S512x512 (Scalar.ofBits .f32 0x3C800000#32))) O)))
    (mulf (groups (mulf (mulf (mulf q (mulf d (broadcastTo S512x512 g broadcasts_S1x512_S512x512)))
      (mulf (broadcast S512x512 (Scalar.ofBits .f32 0xBF000000#32)) (divf (rsqrt (varB q O)) (varB q O))))
      (broadcast S512x512 (Scalar.ofBits .f32 0x3C800000#32))) O) q)

theorem var_q (q : FVec Ideal S512x512 .f32) (O : FVec Ideal S128x128 .f32) : k0_pay14 q O = varB (k0_pay5 q) (k0_pay13 O) := by
  rw [varB, ← sums_eq]; rfl
theorem var_k (q : FVec Ideal S512x512 .f32) (O : FVec Ideal S128x128 .f32) : k0_pay17 q O = varB q O := by
  rw [varB, ← sums_eq]; rfl

theorem back_q (q d : FVec Ideal S512x512 .f32) (g : FVec Ideal S1x512 .f32) (O : FVec Ideal S128x128 .f32) :
    k0_pay21 (k0_pay5 q) d g (k0_pay13 O) (k0_pay15 q O) (k0_pay16 q O) (FloatOps.ofBits .f32 0xBF000000#32)
      = backB (k0_pay5 q) d g (k0_pay13 O) := by
  rw [backB, ← var_q, ← sums_eq]; rfl

theorem back_k (k d v u : FVec Ideal S512x512 .f32) (g : FVec Ideal S1x512 .f32) (O : FVec Ideal S128x128 .f32) (x : FVec Ideal S512x512 .f32) :
    k0_pay2 k d v u g O (k0_pay18 k O) (k0_pay19 k O) x
      = truncf .bf16 (concatenate S512x2048 1 [⟨S512x512, x⟩, ⟨S512x512, backB k d g O⟩, ⟨S512x512, v⟩, ⟨S512x512, u⟩]
        concatenates_S512x512_S512x512_S512x512_S512x512_S512x2048_d1) bitsLt_bf16_f32 := by
  rw [backB, ← var_k, ← sums_eq]; rfl

/-! ## The arrays -/

/-- A column of the part of the projection that starts at `o`. -/
abbrev col (o : ℕ) (k : Fin 512) (h : o ≤ 1536 := by decide) : Fin 2048 := ⟨o + k.val, by have := k.isLt; omega⟩

section
variable (P : FVec Ideal S4096x2048 .f32) (D : FVec Ideal S4096x512 .f32) (G : FVec Ideal S1x512 .f32) (O : FVec Ideal S128x128 .f32)
  (o : ℕ) (h : o ≤ 1536)

/-- The mean of a head's squares, with the small constant, at one of its columns. -/
def hVar (i : Fin 4096) (k : Fin 512) : EReal :=
  (∑ l : Fin 128, P (ix2 i (col o (lane k l) h)) * P (ix2 i (col o (lane k l) h)) * O (ix2 l (inLane k)))
    * Ideal.ofBits .f32 0x3C800000#32 + Ideal.ofBits .f32 0x358637BD#32

/-- What a head's derivative sends through its mean. -/
def hMean (i : Fin 4096) (k : Fin 512) : EReal :=
  ∑ l : Fin 128, P (ix2 i (col o (lane k l) h)) * (D (ix2 i (lane k l)) * G (ix2 0 (lane k l)))
    * (Ideal.ofBits .f32 0xBF000000#32 * Ideal.div (Ideal.rsqrt (hVar P O o h i (lane k l))) (hVar P O o h i (lane k l)))
    * Ideal.ofBits .f32 0x3C800000#32 * O (ix2 l (inLane k))

/-- The derivative of the heads' norms. -/
def hBack (i : Fin 4096) (k : Fin 512) : EReal :=
  D (ix2 i k) * G (ix2 0 k) * Ideal.rsqrt (hVar P O o h i k) + P (ix2 i (col o k h)) * hMean P D G O o h i k
    + hMean P D G O o h i k * P (ix2 i (col o k h))

/-- A row's part of the gain's gradient. -/
def hGain (i : Fin 4096) (k : Fin 512) : EReal :=
  P (ix2 i (col o k h)) * Ideal.rsqrt (hVar P O o h i k) * D (ix2 i k)

/-- The sums of the rows' parts. -/
def gains : FVec Ideal S1x512 .f32 := fun j => ∑ i : Fin 4096, hGain P D O o h i (j 1)

end

/-- Four parts side by side. -/
def four (A B C D : Fin 512 → EReal) (k : Fin 2048) : EReal :=
  if h0 : k.val < 512 then A ⟨k.val, h0⟩
  else if h1 : k.val < 1024 then B ⟨k.val - 512, by omega⟩
  else if h2 : k.val < 1536 then C ⟨k.val - 1024, by omega⟩
  else D ⟨k.val - 1536, by have := k.isLt; omega⟩

/-- The gradients of the four parts of the projection, side by side. -/
def dParts (P : FVec Ideal S4096x2048 .f32) (Dq Dk Dv Du : FVec Ideal S4096x512 .f32) (Gq Gk : FVec Ideal S1x512 .f32)
    (O : FVec Ideal S128x128 .f32) : FVec Ideal S4096x2048 .bf16 := fun j =>
  four (hBack P Dq Gq O 0 (by decide) (j 0)) (hBack P Dk Gk O 512 (by decide) (j 0)) (fun k => Dv (ix2 (j 0) k)) (fun k => Du (ix2 (j 0) k)) (j 1)

variable (m : (ℓ : Loc nD τ sig) → Buf (Elt Ideal) ℓ)

theorem idx0 : ∀ t : Fin cfg0.N, win0_0.index t = ![t.val, 0] ∧ win0_1.index t = ![t.val, 1] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![t.val, 0] :=
  (by decide +kernel : ∀ t : Fin grid0.N, _)

theorem first (t : Fin cfg0.N) (h : t.val % 8 = 0) : ¬1 ≤ t.val := by
  have := t.isLt; have : cfg0.N = 8 := N_0; omega
theorem later (t : Fin cfg0.N) (h : ¬t.val % 8 = 0) : 1 ≤ t.val := by omega

/-- What a point leaves in the first array's block. -/
theorem block9 (c : Dev nD) (t : Fin cfg0.N) : (dats m 0 c).after 9 t = truncf .bf16 (concatenate S512x2048 1
    [⟨S512x512, backB (k0_pay5 (iblk m c 0 t)) (k0_pay7 (iblk m c 2 t)) (k0_pay11 (iblk m c 6 t)) (k0_pay13 (iblk m c 8 t))⟩,
     ⟨S512x512, backB (k0_pay6 (iblk m c 1 t)) (k0_pay8 (iblk m c 3 t)) (k0_pay12 (iblk m c 7 t)) (k0_pay13 (iblk m c 8 t))⟩,
     ⟨S512x512, k0_pay9 (iblk m c 4 t)⟩, ⟨S512x512, k0_pay10 (iblk m c 5 t)⟩]
    concatenates_S512x512_S512x512_S512x512_S512x512_S512x2048_d1) bitsLt_bf16_f32 := by
  rw [after0_9]
  by_cases h : t.val % 8 = 0
  · rw [outsAt0_A m c t h (first t h)]; frame_out
    rw [back_k, back_q]
  · rw [outsAt0_B m c t h (later t h)]; frame_out
    rw [back_k, back_q]

/-- Four blocks side by side, at an index. -/
theorem beside {a b v u : FVec Ideal S512x512 .f32} {A B C D : Fin 512 → EReal} (j : S512x2048.Idx) (ha : ∀ k, a (ix2 (j 0) k) = A k)
    (hb : ∀ k, b (ix2 (j 0) k) = B k) (hv : ∀ k, v (ix2 (j 0) k) = C k) (hu : ∀ k, u (ix2 (j 0) k) = D k) : concatenate S512x2048 1
    [⟨S512x512, a⟩, ⟨S512x512, b⟩, ⟨S512x512, v⟩, ⟨S512x512, u⟩] concatenates_S512x512_S512x512_S512x512_S512x512_S512x2048_d1 j
    = four A B C D (j 1) := by
  have hj : (j 1).val < 2048 := (j 1).isLt
  obtain rfl := funext ha
  obtain rfl := funext hb
  obtain rfl := funext hv
  obtain rfl := funext hu
  unfold four
  pointwise []
  split_ifs <;> first
    | rfl | (exfalso; omega) | rw [dif_pos (show (j 1).val < 1024 by omega)]
    | (rw [dif_neg (show ¬(j 1).val < 1024 by omega), dif_pos (show (j 1).val < 1536 by omega)]
       exact congrArg v (congrArg (ix2 (j 0)) (Fin.ext (by dsimp only; omega))))
    | (rw [dif_neg (show ¬(j 1).val < 1024 by omega), dif_neg (show ¬(j 1).val < 1536 by omega)]
       exact congrArg u (congrArg (ix2 (j 0)) (Fin.ext (by dsimp only; omega))))

/-- A row of a point's tile. -/
abbrev rowAt (t : Fin cfg0.N) (r : Fin 512) : Fin 4096 :=
  ⟨t.val * 512 + r.val, by have := t.isLt; have : cfg0.N = 8 := N_0; have := r.isLt; omega⟩

theorem q_block (c : Dev nD) (t : Fin cfg0.N) (r k : Fin 512) :
    backB (k0_pay5 (iblk m c 0 t)) (k0_pay7 (iblk m c 2 t)) (k0_pay11 (iblk m c 6 t)) (k0_pay13 (iblk m c 8 t)) (ix2 r k)
      = hBack (V m c main_v0) (V m c main_v1) (V m c main_v10) (V m c main_v22) 0 (by decide) (rowAt t r) k := by
  pointwise [k0_pay5, k0_pay7, k0_pay11, k0_pay13, backB, varB, groups, hBack, hMean, hVar]
  blk_point [iblk, idx0 t]

theorem k_block (c : Dev nD) (t : Fin cfg0.N) (r k : Fin 512) :
    backB (k0_pay6 (iblk m c 1 t)) (k0_pay8 (iblk m c 3 t)) (k0_pay12 (iblk m c 7 t)) (k0_pay13 (iblk m c 8 t)) (ix2 r k)
      = hBack (V m c main_v0) (V m c main_v2) (V m c main_v14) (V m c main_v22) 512 (by decide) (rowAt t r) k := by
  pointwise [k0_pay6, k0_pay8, k0_pay12, k0_pay13, backB, varB, groups, hBack, hMean, hVar]
  blk_point [iblk, idx0 t]

theorem v_block (c : Dev nD) (t : Fin cfg0.N) (r k : Fin 512) : k0_pay9 (iblk m c 4 t) (ix2 r k) = V m c main_v3 (ix2 (rowAt t r) k) := by
  pointwise [k0_pay9]
  blk_point [iblk, idx0 t]

theorem u_block (c : Dev nD) (t : Fin cfg0.N) (r k : Fin 512) : k0_pay10 (iblk m c 5 t) (ix2 r k) = V m c main_v4 (ix2 (rowAt t r) k) := by
  pointwise [k0_pay10]
  blk_point [iblk, idx0 t]

theorem emb9 (t : Fin cfg0.N) (y : ((cfg0.win 9).xblock (cfg0.grid.coords t)).Idx) :
    (win0_9.blk t).view.emb y = ix2 (rowAt t (y 0)) (y 1) := by
  blk_ext [idx0 t]

theorem parts_final (c : Dev nD) : (dats m 0 c).arrAt 9 cfg0.N
    = dParts (V m c main_v0) (V m c main_v1) (V m c main_v2) (V m c main_v3) (V m c main_v4) (V m c main_v10) (V m c main_v14) (V m c main_v22) := by
  refine (dats m 0 c).arrAt_eq_of_covers 9 _ (by decide +kernel) fun t _ y => ?_
  blk_simp; rw [block9, truncf, emb9]
  exact beside y (q_block m c t (y 0)) (k_block m c t (y 0)) (v_block m c t (y 0)) (u_block m c t (y 0))

/-- The grid's points and each point's rows, as rows of the whole array. -/
theorem sum_points (g : Fin 4096 → EReal) :
    ∑ t : Fin cfg0.N, ∑ r : Fin 512, g (rowAt t r) = ∑ i, g i := by
  rw [Fin.sum_univ_tiles 8 512 rfl]
  rfl

theorem step (a b : FVec Ideal S1x512 .f32) (j : S1x512.Idx) : k0_pay3 a b j = b j + a j := by pointwise [k0_pay3]

theorem stepK (a : FVec Ideal S512x512 .f32) (b : FVec Ideal S1x512 .f32) (j : S1x512.Idx) : k0_pay4 a b j = b j + k0_pay1 a j := by
  pointwise [k0_pay4]

theorem q_rows (c : Dev nD) (t : Fin cfg0.N) (j : S1x512.Idx) :
    k0_pay20 (k0_pay5 (iblk m c 0 t)) (k0_pay7 (iblk m c 2 t)) (k0_pay15 (iblk m c 0 t) (iblk m c 8 t)) j
      = ∑ r : Fin 512, hGain (V m c main_v0) (V m c main_v1) (V m c main_v22) 0 (by decide) (rowAt t r) (j 1) := by
  rw [k0_pay15, var_q]
  pointwise [k0_pay20, k0_pay5, k0_pay7, k0_pay13, varB, groups, hGain, hVar]
  blk_point [iblk, idx0 t]

theorem k_rows (c : Dev nD) (t : Fin cfg0.N) (j : S1x512.Idx) :
    k0_pay1 (k0_pay22 (k0_pay6 (iblk m c 1 t)) (k0_pay8 (iblk m c 3 t)) (k0_pay13 (iblk m c 8 t))) j
      = ∑ r : Fin 512, hGain (V m c main_v0) (V m c main_v2) (V m c main_v22) 512 (by decide) (rowAt t r) (j 1) := by
  rw [k0_pay22, k0_pay18, var_k]
  pointwise [k0_pay1, k0_pay6, k0_pay8, k0_pay13, varB, groups, hGain, hVar]
  blk_point [iblk, idx0 t]

theorem gq_final (c : Dev nD) : (dats m 0 c).arrAt 10 cfg0.N = gains (V m c main_v0) (V m c main_v1) (V m c main_v22) 0 (by decide) := by
  refine (dats m 0 c).arrAt_eq_of_after_last 10 t0_7 (by decide +kernel) _ fun j => ?_
  blk_simp
  rw [after0_10, Pipeline.eq_sum_fin_of_reset_step_apply_last (fun n h => (outsAt0 m c n h).2.1) 8 (fun _ => 0) _
    (fun t h j => by rw [outsAt0_A m c t h (first t h)]; frame_out; exact (zero_add _).symm)
    (fun t h j => by rw [outsAt0_B m c t h (later t h)]; frame_out; exact step _ _ j)
    (le_of_eq N_0) t0_7 rfl j, zero_add]
  simp only [q_rows]
  exact sum_points fun i => hGain (V m c main_v0) (V m c main_v1) (V m c main_v22) 0 (by decide) i (j 1)

theorem gk_final (c : Dev nD) : (dats m 0 c).arrAt 11 cfg0.N = gains (V m c main_v0) (V m c main_v2) (V m c main_v22) 512 (by decide) := by
  refine (dats m 0 c).arrAt_eq_of_after_last 11 t0_7 (by decide +kernel) _ fun j => ?_
  blk_simp
  rw [after0_11, Pipeline.eq_sum_fin_of_reset_step_apply_last (fun n h => (outsAt0 m c n h).2.2) 8 (fun _ => 0) _
    (fun t h j => by rw [outsAt0_A m c t h (first t h)]; frame_out; exact (zero_add _).symm)
    (fun t h j => by rw [outsAt0_B m c t h (later t h)]; frame_out; exact stepK _ _ j)
    (le_of_eq N_0) t0_7 rfl j, zero_add]
  simp only [k_rows]
  exact sum_points fun i => hGain (V m c main_v0) (V m c main_v2) (V m c main_v22) 512 (by decide) i (j 1)

end Cert.Kernel4Ideal.Value

end
-- ==== Proof.HeadNormsValues.lean ====
/- The results of the head norms' backward call over its arguments. -/
module

public import proofs.«01_k».proof.Proof.HeadNorms
public import Idealize.ShloMosaic.Lib.Claim

@[expose] public section

set_option maxRecDepth 16384

noncomputable section

namespace Cert.Kernel4Ideal.Value

open Idealize.ShloMosaic Idealize.ShloMosaic.TcCoe Idealize.SL.Sem
open Idealize.ShloMosaic.Pipeline (Dat)
open Cert.Kernel4Ideal Cert.Kernel4Ideal.Gen

/-- The rows of a part of the projection. -/
abbrev rows (X : FVec Ideal S2x2048x512 .f32) : FVec Ideal S4096x512 .f32 := shapeCast S4096x512 X shapeCasts_S2x2048x512_S4096x512
/-- A head's gain for every head. -/
abbrev allHeads (G : FVec Ideal S64 .f32) : FVec Ideal S512 .f32 :=
  shapeCast S512 (broadcastInDim S8x64 ![0, 1] bcast_S1x64_S8x64_0_1 (shapeCast S1x64 G shapeCasts_S64_S1x64)) shapeCasts_S8x64_S512
/-- A gain as a row. -/
abbrev asRow (G : FVec Ideal S512 .f32) : FVec Ideal S1x512 .f32 := broadcastInDim S1x512 ![1] bcast_S512_S1x512_1 G
/-- Each lane's head. -/
abbrev laneHead : IVec S128 32 := fun k => Cert.Lanes.headWord (BitVec.ofNat 32 (k 0).val)

variable (m : (ℓ : Loc nD τ sig) → Buf (Elt Ideal) ℓ) (ρ : Dev nD → PrngReg)

def aP (c : Dev nD) : FVec Ideal S4096x2048 .f32 := shapeCast S4096x2048 (m ((c : Thread nD τ).loc main_arg0)) shapeCasts_S2x2048x2048_S4096x2048
def aDq (c : Dev nD) : FVec Ideal S4096x512 .f32 := rows (m ((c : Thread nD τ).loc main_arg3))
def aDk (c : Dev nD) : FVec Ideal S4096x512 .f32 := rows (m ((c : Thread nD τ).loc main_arg4))
def aDv (c : Dev nD) : FVec Ideal S4096x512 .f32 := rows (m ((c : Thread nD τ).loc main_arg5))
def aDu (c : Dev nD) : FVec Ideal S4096x512 .f32 := rows (m ((c : Thread nD τ).loc main_arg6))
def aGq (c : Dev nD) : FVec Ideal S1x512 .f32 := asRow (mulf (allHeads (m ((c : Thread nD τ).loc main_arg1))) (broadcastInDim S512 ![] bcast_S_S512 (constant S_ .f32 0x3E000000#32)))
def aGk (c : Dev nD) : FVec Ideal S1x512 .f32 := asRow (allHeads (m ((c : Thread nD τ).loc main_arg2)))
def aO : FVec Ideal S128x128 .f32 := fun j => Cert.Lanes.sameHead (j 0) (j 1)

/-- The arrays after the host's first lines. -/
abbrev U1 (c : Dev nD) : Valuation τ sig (Elt Ideal) := StableHlo.after hostOps0 (fun b => m (c, b))
/-- The same after the lanes' heads. -/
abbrev U2 (c : Dev nD) : Valuation τ sig (Elt Ideal) := StableHlo.after hostOps0_1 (U1 m c)

theorem V0_eq (c : Dev nD) : V0 m c = StableHlo.after hostOps0_2 (U2 m c) := by
  rw [V0, U2, U1]
  simp only [List.flatten_cons, List.flatten_nil, List.append_nil, StableHlo.after_append]

theorem v16_U1 (c : Dev nD) : U1 m c (Proc.devRef .tc main_v15) = iotaInDim S128 32 0 := by
  after_results
theorem c_U1 (c : Dev nD) : U1 m c (Proc.devRef .tc main_c) = constantI S_ 32 64#32 := by
  after_results
theorem v17_U2 (c : Dev nD) : U2 m c (Proc.devRef .tc main_v16) = laneHead := by
  have h1 := v16_U1 m c
  have h2 := c_U1 m c
  rw [U2]
  generalize U1 m c = X at h1 h2 ⊢
  after_results; rw [h1, h2]
  simp only [StableHlo.TRef.ofBuf, StableHlo.TRef.toBuf, cast_eq]; rfl
theorem V_v22 (c : Dev nD) : V m c main_v22 = aO := by
  have h := v17_U2 m c
  rw [V, V0_eq]
  generalize U2 m c = X at h ⊢
  after_results; rw [h]; rfl

theorem V_v0 (c : Dev nD) : V m c main_v0 = aP m c := by rw [V, V0_eq]; after_results; rfl
theorem V_v1 (c : Dev nD) : V m c main_v1 = aDq m c := by rw [V, V0_eq]; after_results; rfl
theorem V_v2 (c : Dev nD) : V m c main_v2 = aDk m c := by rw [V, V0_eq]; after_results; rfl
theorem V_v3 (c : Dev nD) : V m c main_v3 = aDv m c := by rw [V, V0_eq]; after_results; rfl
theorem V_v4 (c : Dev nD) : V m c main_v4 = aDu m c := by rw [V, V0_eq]; after_results; rfl
theorem V_v10 (c : Dev nD) : V m c main_v10 = aGq m c := by rw [V, V0_eq]; after_results; rfl
theorem V_v14 (c : Dev nD) : V m c main_v14 = aGk m c := by rw [V, V0_eq]; after_results; rfl

/-- The projection's gradient. -/
def kD (c : Dev nD) : FVec Ideal S4096x2048 .bf16 :=
  dParts (aP m c) (aDq m c) (aDk m c) (aDv m c) (aDu m c) (aGq m c) (aGk m c) aO
/-- A row summed over the heads. -/
abbrev overHeads (G : FVec Ideal S1x512 .f32) : FVec Ideal S64 .f32 :=
  Host.reduceAdd (shapeCast S8x64 G shapeCasts_S1x512_S8x64) (constant S_ .f32 0x00000000#32) reducesTo_S8x64_S64_d0 h_S_
def kGq (c : Dev nD) : FVec Ideal S64 .f32 :=
  mulf (overHeads (gains (aP m c) (aDq m c) aO 0 (by decide))) (broadcastInDim S64 ![] bcast_S_S64 (constant S_ .f32 0x3E000000#32))
def kGk (c : Dev nD) : FVec Ideal S64 .f32 := overHeads (gains (aP m c) (aDk m c) aO 512 (by decide))

theorem arr9 (c : Dev nD) : (dats m 0 c).arrAt 9 cfg0.N = kD m c := by
  rw [parts_final, V_v0, V_v1, V_v2, V_v3, V_v4, V_v10, V_v14, V_v22]; rfl
theorem arr10 (c : Dev nD) : (dats m 0 c).arrAt 10 cfg0.N = gains (aP m c) (aDq m c) aO 0 (by decide) := by
  rw [gq_final, V_v0, V_v1, V_v22]
theorem arr11 (c : Dev nD) : (dats m 0 c).arrAt 11 cfg0.N = gains (aP m c) (aDk m c) aO 512 (by decide) := by
  rw [gk_final, V_v0, V_v2, V_v22]

/-- The arrays when the region ends. -/
abbrev U3 (c : Dev nD) : Valuation τ sig (Elt Ideal) := Pipeline.withArrays spec0 c (V0 m c) fun w => (dats m 0 c).arrAt w cfg0.N

theorem U3_arr (c : Dev nD) (w : Fin cfg0.W) : U3 m c (Proc.devRef .tc (Pipeline.arrRef spec0 w)) = (dats m 0 c).arrAt w cfg0.N :=
  (dats m 0 c).withArrays_arrAt sharedIn0 (V0 m c) (A_eq m c) w

theorem tail_gq (c : Dev nD) : Pipeline.afterTail₀ cfgs (dats m) 0 (V0 m) [hostOps1] c main_v27 = kGq m c := by
  have h : U3 m c (Proc.devRef .tc main_v23_1) = _ := (U3_arr m c 10).trans (arr10 m c)
  show StableHlo.after hostOps1 (U3 m c) (Proc.devRef .tc main_v27) = _
  generalize U3 m c = X at h ⊢
  after_results; rw [h]; rfl

theorem tail_gk (c : Dev nD) : Pipeline.afterTail₀ cfgs (dats m) 0 (V0 m) [hostOps1] c main_v29 = kGk m c := by
  have h : U3 m c (Proc.devRef .tc main_v23_2) = _ := (U3_arr m c 11).trans (arr11 m c)
  show StableHlo.after hostOps1 (U3 m c) (Proc.devRef .tc main_v29) = _
  generalize U3 m c = X at h ⊢
  after_results; rw [h]; rfl

/-- Every execution ends with the results at these arrays. -/
theorem run : θ_run (defs (F := Ideal)) (onTc (τ := τ) (main (F := Ideal))) ⟨m, fun _ => 0, ρ⟩ (fun r => ∀ c : Dev nD,
    r.2.mem ((c.tc : Thread nD τ).loc main_v23_0) = kD m c
    ∧ r.2.mem ((c.tc : Thread nD τ).loc main_v27) = kGq m c
    ∧ r.2.mem ((c.tc : Thread nD τ).loc main_v29) = kGk m c) :=
  (θ_run defs _ _).mono (fun _ h c => ⟨((h c).1 9).trans (arr9 m c),
    ((h c).2 main_v27 (Pipeline.mem_restRefs_of main_v27 rfl (by decide))).trans (tail_gq m c),
    ((h c).2 main_v29 (Pipeline.mem_restRefs_of main_v29 rfl (by decide))).trans (tail_gk m c)⟩) (run_main m ρ)

end Cert.Kernel4Ideal.Value

end
-- ==== Proof.HeadNormsRef.lean ====
/- The stages of the reference for the heads' norms and their derivative, named. -/
module

public import proofs.«01_k».proof.Proof.Gen.Reference4Ideal.Run
public import Idealize.ShloMosaic.Lib.Pointwise

@[expose] public section

set_option maxRecDepth 16384

noncomputable section

namespace Cert.Reference4Ideal.Out

open Cert.Reference4Ideal Cert.Reference4Ideal.Gen Idealize.ShloMosaic Idealize.ShloMosaic.TcCoe Idealize.SL.Sem Idealize.ShloMosaic.StableHlo

variable (m : (ℓ : Loc nD τ sig) → Buf (Elt Ideal) ℓ)

abbrev r_arg0 (c : Dev nD) : FVec Ideal S2x2048x2048 .f32 := m ((c.tc : Thread nD τ).loc main_arg0)
abbrev r_arg1 (c : Dev nD) : FVec Ideal S64 .f32 := m ((c.tc : Thread nD τ).loc main_arg1)
abbrev r_arg3 (c : Dev nD) : FVec Ideal S2x2048x512 .f32 := m ((c.tc : Thread nD τ).loc main_arg3)
abbrev r_arg4 (c : Dev nD) : FVec Ideal S2x2048x512 .f32 := m ((c.tc : Thread nD τ).loc main_arg4)
abbrev r_arg5 (c : Dev nD) : FVec Ideal S2x2048x512 .f32 := m ((c.tc : Thread nD τ).loc main_arg5)
abbrev r_arg6 (c : Dev nD) : FVec Ideal S2x2048x512 .f32 := m ((c.tc : Thread nD τ).loc main_arg6)
abbrev r_arg2 (c : Dev nD) : FVec Ideal S64 .f32 := m ((c.tc : Thread nD τ).loc main_arg2)
def rQ (c : Dev nD) : FVec Ideal S2x2048x8x64 .f32 :=
  shapeCast _ (extractStridedSlice S2x2048x512 ![0, 0, 0] (r_arg0 m c) slices_S2x2048x2048_S2x2048x512_0_0_0) shapeCasts_S2x2048x512_S2x2048x8x64
def rVq (c : Dev nD) : FVec Ideal S2x2048x8x1 .f32 :=
  addf (Host.divf (broadcastInDim S2x2048x8x1 ![0, 1, 2] bcast_S2x2048x8_S2x2048x8x1_0_1_2 (Host.reduceAdd (mulf (rQ m c) (rQ m c)) ((constant S_ .f32 0x00000000#32)) reducesTo_S2x2048x8x64_S2x2048x8_d3 h_S_)) (broadcastInDim S2x2048x8x1 ![] bcast_S_S2x2048x8x1 ((constant S_ .f32 0x42800000#32)))) (broadcastInDim S2x2048x8x1 ![] bcast_S_S2x2048x8x1 ((constant S_ .f32 0x358637BD#32)))
def rIq (c : Dev nD) : FVec Ideal S2x2048x8x1 .f32 :=
  Host.rsqrt (rVq m c)
def rCq (c : Dev nD) : FVec Ideal S2x2048x8x1 .f32 :=
  mulf (broadcastInDim S2x2048x8x1 ![] bcast_S_S2x2048x8x1 ((constant S_ .f32 0xBF000000#32))) (Host.divf (rIq m c) (rVq m c))
def rUq (c : Dev nD) : FVec Ideal S2x2048x8x64 .f32 :=
  mulf (rQ m c) (broadcastInDim S2x2048x8x64 ![0, 1, 2, 3] bcast_S2x2048x8x1_S2x2048x8x64_0_1_2_3 (rIq m c))
def rK (c : Dev nD) : FVec Ideal S2x2048x8x64 .f32 :=
  shapeCast _ (extractStridedSlice S2x2048x512 ![0, 0, 512] (r_arg0 m c) slices_S2x2048x2048_S2x2048x512_0_0_512) shapeCasts_S2x2048x512_S2x2048x8x64
def rVk (c : Dev nD) : FVec Ideal S2x2048x8x1 .f32 :=
  addf (Host.divf (broadcastInDim S2x2048x8x1 ![0, 1, 2] bcast_S2x2048x8_S2x2048x8x1_0_1_2 (Host.reduceAdd (mulf (rK m c) (rK m c)) ((constant S_ .f32 0x00000000#32)) reducesTo_S2x2048x8x64_S2x2048x8_d3 h_S_)) (broadcastInDim S2x2048x8x1 ![] bcast_S_S2x2048x8x1 ((constant S_ .f32 0x42800000#32)))) (broadcastInDim S2x2048x8x1 ![] bcast_S_S2x2048x8x1 ((constant S_ .f32 0x358637BD#32)))
def rIk (c : Dev nD) : FVec Ideal S2x2048x8x1 .f32 :=
  Host.rsqrt (rVk m c)
def rCk (c : Dev nD) : FVec Ideal S2x2048x8x1 .f32 :=
  mulf (broadcastInDim S2x2048x8x1 ![] bcast_S_S2x2048x8x1 ((constant S_ .f32 0xBF000000#32))) (Host.divf (rIk m c) (rVk m c))
def rUk (c : Dev nD) : FVec Ideal S2x2048x8x64 .f32 :=
  mulf (rK m c) (broadcastInDim S2x2048x8x64 ![0, 1, 2, 3] bcast_S2x2048x8x1_S2x2048x8x64_0_1_2_3 (rIk m c))
def rDk (c : Dev nD) : FVec Ideal S2x2048x8x64 .f32 :=
  mulf (shapeCast _ (r_arg4 m c) shapeCasts_S2x2048x512_S2x2048x8x64) (broadcastInDim S2x2048x8x64 ![0, 1, 2, 3] bcast_S1x1x1x64_S2x2048x8x64_0_1_2_3 (broadcastInDim S1x1x1x64 ![3] bcast_S64_S1x1x1x64_3 (r_arg2 m c)))
def rGk (c : Dev nD) : FVec Ideal S64 .f32 :=
  Host.reduceAdd (shapeCast _ (Host.reduceAdd (mulf (rUk m c) (shapeCast _ (r_arg4 m c) shapeCasts_S2x2048x512_S2x2048x8x64)) ((constant S_ .f32 0x00000000#32)) reducesTo_S2x2048x8x64_S64_d0_1_2 h_S_) shapeCasts_S64_S1x1x1x64) ((constant S_ .f32 0x00000000#32)) reducesTo_S1x1x1x64_S64_d0_1_2 h_S_
def rMk (c : Dev nD) : FVec Ideal S2x2048x8 .f32 :=
  Host.reduceAdd (Host.divf (mulf (shapeCast _ (Host.reduceAdd (mulf (rK m c) (rDk m c)) ((constant S_ .f32 0x00000000#32)) reducesTo_S2x2048x8x64_S2x2048x8_d3 h_S_) shapeCasts_S2x2048x8_S2x2048x8x1) (rCk m c)) (broadcastInDim S2x2048x8x1 ![] bcast_S_S2x2048x8x1 ((constant S_ .f32 0x42800000#32)))) ((constant S_ .f32 0x00000000#32)) reducesTo_S2x2048x8x1_S2x2048x8_d3 h_S_
def rBk (c : Dev nD) : FVec Ideal S2x2048x8x64 .f32 :=
  addf (addf (mulf (rDk m c) (broadcastInDim S2x2048x8x64 ![0, 1, 2, 3] bcast_S2x2048x8x1_S2x2048x8x64_0_1_2_3 (rIk m c))) (mulf (rK m c) (broadcastInDim S2x2048x8x64 ![0, 1, 2] bcast_S2x2048x8_S2x2048x8x64_0_1_2 (rMk m c)))) (mulf (broadcastInDim S2x2048x8x64 ![0, 1, 2] bcast_S2x2048x8_S2x2048x8x64_0_1_2 (rMk m c)) (rK m c))
def rDq (c : Dev nD) : FVec Ideal S2x2048x8x64 .f32 :=
  mulf (shapeCast _ (r_arg3 m c) shapeCasts_S2x2048x512_S2x2048x8x64) (broadcastInDim S2x2048x8x64 ![] bcast_S_S2x2048x8x64 ((constant S_ .f32 0x3E000000#32)))
def rTq (c : Dev nD) : FVec Ideal S2x2048x8x64 .f32 :=
  mulf (rDq m c) (broadcastInDim S2x2048x8x64 ![0, 1, 2, 3] bcast_S1x1x1x64_S2x2048x8x64_0_1_2_3 (broadcastInDim S1x1x1x64 ![3] bcast_S64_S1x1x1x64_3 (r_arg1 m c)))
def rGq (c : Dev nD) : FVec Ideal S64 .f32 :=
  Host.reduceAdd (shapeCast _ (Host.reduceAdd (mulf (rUq m c) (rDq m c)) ((constant S_ .f32 0x00000000#32)) reducesTo_S2x2048x8x64_S64_d0_1_2 h_S_) shapeCasts_S64_S1x1x1x64) ((constant S_ .f32 0x00000000#32)) reducesTo_S1x1x1x64_S64_d0_1_2 h_S_
def rMq (c : Dev nD) : FVec Ideal S2x2048x8 .f32 :=
  Host.reduceAdd (Host.divf (mulf (shapeCast _ (Host.reduceAdd (mulf (rQ m c) (rTq m c)) ((constant S_ .f32 0x00000000#32)) reducesTo_S2x2048x8x64_S2x2048x8_d3 h_S_) shapeCasts_S2x2048x8_S2x2048x8x1) (rCq m c)) (broadcastInDim S2x2048x8x1 ![] bcast_S_S2x2048x8x1 ((constant S_ .f32 0x42800000#32)))) ((constant S_ .f32 0x00000000#32)) reducesTo_S2x2048x8x1_S2x2048x8_d3 h_S_
def rBq (c : Dev nD) : FVec Ideal S2x2048x8x64 .f32 :=
  addf (addf (mulf (rTq m c) (broadcastInDim S2x2048x8x64 ![0, 1, 2, 3] bcast_S2x2048x8x1_S2x2048x8x64_0_1_2_3 (rIq m c))) (mulf (rQ m c) (broadcastInDim S2x2048x8x64 ![0, 1, 2] bcast_S2x2048x8_S2x2048x8x64_0_1_2 (rMq m c)))) (mulf (broadcastInDim S2x2048x8x64 ![0, 1, 2] bcast_S2x2048x8_S2x2048x8x64_0_1_2 (rMq m c)) (rQ m c))
def rD (c : Dev nD) : FVec Ideal S2x2048x2048 .f32 :=
  concatenate S2x2048x2048 2 [⟨S2x2048x512, shapeCast S2x2048x512 (rBq m c) shapeCasts_S2x2048x8x64_S2x2048x512⟩,
    ⟨S2x2048x512, shapeCast S2x2048x512 (rBk m c) shapeCasts_S2x2048x8x64_S2x2048x512⟩, ⟨S2x2048x512, r_arg5 m c⟩, ⟨S2x2048x512, r_arg6 m c⟩]
    concatenates_S2x2048x512_S2x2048x512_S2x2048x512_S2x2048x512_S2x2048x2048_d2
def rP (c : Dev nD) : FVec Ideal S4096x2048 .bf16 :=
  truncf .bf16 (shapeCast _ (rD m c) shapeCasts_S2x2048x2048_S4096x2048) bitsLt_bf16_f32

/-- Every execution ends with the results at these arrays and the arguments unchanged. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v90) = rP m c
    ∧ r.2.mem ((c.tc : Thread nD τ).loc main_v72) = rGq m c
    ∧ r.2.mem ((c.tc : Thread nD τ).loc main_v49) = rGk m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun _ h c => ⟨(h c).1.trans rfl, (h c).2.1.trans rfl, (h c).2.2.1.trans rfl, (h c).2.2.2⟩) (Value.run m ρ)

end Cert.Reference4Ideal.Out

end
-- ==== Proof.HeadMean.lean ====
/- The mean's part of a head norm's derivative: a constant factor inside the sum over the head or outside of it. -/
module

public import proofs.«01_k».proof.Proof.Spec
public import proofs.«01_k».proof.Proof.Sums

@[expose] public section

noncomputable section

namespace Cert.HeadMean

open Idealize.ShloMosaic
open scoped BigOperators

theorem sixty_four : Ideal.ofBits .f32 0x42800000#32 = ((64 : ℝ) : EReal) := by
  simp [Ideal.ofBits, Ideal.ieee, -EReal.coe_mul]; norm_num
theorem per_lane : Ideal.ofBits .f32 0x3C800000#32 = ((1 / 64 : ℝ) : EReal) := by
  simp [Ideal.ofBits, Ideal.ieee, -EReal.coe_mul]; norm_num
theorem eighth : Ideal.ofBits .f32 0x3E000000#32 = ((1 / 8 : ℝ) : EReal) := by
  simp [Ideal.ofBits, Ideal.ieee, -EReal.coe_mul]; norm_num
theorem minus_half : Ideal.ofBits .f32 0xBF000000#32 = ((-(1 / 2) : ℝ) : EReal) := by
  simp [Ideal.ofBits, Ideal.ieee, -EReal.coe_mul]; norm_num

/-- The small constant. -/
def eps : ℝ := (Ideal.ofBits .f32 0x358637BD#32).toReal

theorem eps_eq : Ideal.ofBits .f32 0x358637BD#32 = (eps : EReal) := by
  simp [eps, Ideal.ofBits, Ideal.ieee, -EReal.coe_mul]
theorem eps_pos : 0 < eps := by
  simp [eps, Ideal.ofBits, Ideal.ieee, -EReal.coe_mul]; try norm_num

/-- Sixty-four. -/
abbrev wd : EReal := Ideal.ofBits .f32 0x42800000#32

theorem mean_eq (a : EReal) : a * Ideal.ofBits .f32 0x3C800000#32 = Ideal.div a wd := by
  rw [wd, sixty_four, per_lane, Ideal.div_coe (by norm_num)]

theorem sum_coe {ι : Type*} (t : Finset ι) (f : ι → ℝ) : ∑ i ∈ t, (f i : EReal) = ((∑ i ∈ t, f i : ℝ) : EReal) := by
  classical
  induction t using Finset.induction_on with
  | empty => simp
  | insert a t h ih => rw [Finset.sum_insert h, Finset.sum_insert h, ih, EReal.coe_add]

/-- A positive real factor goes into a sum. -/
theorem sum_mul_pos {ι : Type*} (t : Finset ι) (f : ι → EReal) (r : ℝ) (hr : 0 ≤ r) : (∑ i ∈ t, f i) * (r : EReal) = ∑ i ∈ t, f i * (r : EReal) := by
  classical
  induction t using Finset.induction_on with
  | empty => simp
  | insert a t h ih =>
    rw [Finset.sum_insert h, Finset.sum_insert h, ← ih,
      EReal.right_distrib_of_nonneg_of_ne_top (EReal.coe_nonneg.mpr hr) (EReal.coe_ne_top r)]

/-- Where the mean of the squares is not infinite, the row is real. -/
theorem real_of_var {n : ℕ} {x : Fin n → EReal} (h : Spec.var wd x ≠ ⊤) (d : Fin n) : x d = ((x d).toReal : EReal) := by
  have sq : x d * x d ≠ ⊤ := fun e => h (by
    have : (∑ k, x k * x k) = ⊤ := top_le_iff.mp (e ▸ Finset.single_le_sum (f := fun k => x k * x k) (fun k _ => Sums.sq_nonneg (x k)) (Finset.mem_univ d))
    rw [Spec.var, this, ← mean_eq, per_lane, eps_eq, EReal.top_mul_coe_of_pos (by norm_num), EReal.top_add_coe])
  refine (EReal.coe_toReal (fun e => sq ?_) (fun e => sq ?_)).symm
  · rw [e]; rfl
  · rw [e]; rfl

/-- A row of real numbers has a real, positive mean of squares. -/
theorem var_real {n : ℕ} (x : Fin n → ℝ) : ∃ v : ℝ, 0 < v ∧ Spec.var wd (fun d => (x d : EReal)) = (v : EReal) := by
  refine ⟨(∑ k, x k * x k) * (1 / 64) + eps, ?_, ?_⟩
  · have : 0 ≤ ∑ k, x k * x k := Finset.sum_nonneg fun k _ => mul_self_nonneg (x k)
    have := eps_pos
    positivity
  · rw [Spec.var, ← mean_eq, per_lane, eps_eq]
    simp only [← EReal.coe_mul, sum_coe, ← EReal.coe_add]

/-- What one lane sends through the mean is scaled before the sum or after it: the same, for real cotangents. -/
theorem mean_inside {n : ℕ} (x : Fin n → EReal) (e : Fin n → ℝ) :
    (∑ d, x d * (e d : EReal) * (Ideal.ofBits .f32 0xBF000000#32 * Ideal.div (Ideal.rsqrt (Spec.var wd x)) (Spec.var wd x))
        * Ideal.ofBits .f32 0x3C800000#32)
      = Ideal.div ((∑ d, x d * (e d : EReal)) * (Ideal.ofBits .f32 0xBF000000#32 * Ideal.div (Ideal.rsqrt (Spec.var wd x)) (Spec.var wd x))) wd := by
  rw [← mean_eq]
  by_cases h : Spec.var wd x = ⊤
  · have z : Ideal.div (Ideal.rsqrt ⊤) ⊤ = 0 := by simp [Ideal.div, Ideal.rsqrt]
    rw [h, z]
    simp
  · obtain ⟨y, rfl⟩ : ∃ y : Fin n → ℝ, x = fun d => (y d : EReal) := ⟨fun d => (x d).toReal, funext (real_of_var h)⟩
    obtain ⟨v, hv, e1⟩ := var_real y
    have r : Ideal.rsqrt (v : EReal) = (((Real.sqrt v)⁻¹ : ℝ) : EReal) := by
      show (if v < 0 then ⊥ else if v = 0 then ⊤ else _) = _
      rw [if_neg hv.not_gt, if_neg hv.ne']
    rw [e1, r, minus_half, per_lane, Ideal.div_coe hv.ne']
    simp only [← EReal.coe_mul, sum_coe, Finset.sum_mul]

section
variable {n0 n1 n2 n3 : ℕ}

/-- The host's sum over the three leading axes of four. -/
theorem reduce012 (h : (⟨4, ![n0, n1, n2, n3]⟩ : Shape).ReducesTo [0, 1, 2] ⟨1, ![n3]⟩) (v : (⟨4, ![n0, n1, n2, n3]⟩ : Shape).Idx → EReal)
    (z : EReal) (j : (⟨1, ![n3]⟩ : Shape).Idx) :
    Ideal.hostReduceAdd h v z j = z + ∑ a : Fin n0, ∑ b : Fin n1, ∑ e : Fin n2, v (ix4 a b e (j 0)) := by
  have hf : ∀ i, h.drop i = j ↔ ∃ k : Fin n0 × Fin n1 × Fin n2, ix4 k.1 k.2.1 k.2.2 (j 0) = i := by
    intro i
    constructor
    · intro e
      refine ⟨(i 0, i 1, i 2), ?_⟩
      funext a; apply Fin.ext
      match a with
      | ⟨0, _⟩ => rfl
      | ⟨1, _⟩ => rfl
      | ⟨2, _⟩ => rfl
      | ⟨3, _⟩ => exact (congrArg Fin.val (congrFun e 0)).symm
    · rintro ⟨k, rfl⟩
      funext b
      apply Fin.ext
      match b with
      | ⟨0, _⟩ => rfl
  refine congrArg (z + ·) ?_
  refine (Finset.sum_filter_eq_sum_of_fiber (fun i => h.drop i = j) (fun k : Fin n0 × Fin n1 × Fin n2 => ix4 k.1 k.2.1 k.2.2 (j 0))
    (fun _ _ e => Prod.ext (congrFun e 0) (Prod.ext (congrFun e 1) (congrFun e 2))) hf v).trans ?_
  refine (Fintype.sum_prod_type _).trans (Finset.sum_congr rfl fun a _ => ?_)
  exact Fintype.sum_prod_type _

end

end Cert.HeadMean

end
-- ==== Proof.HeadNormsBridge.lean ====
/- The head norms' gradients are the reference's, on real gains and cotangents. -/
module

public import proofs.«01_k».proof.Proof.HeadNormsValues
public import proofs.«01_k».proof.Proof.HeadNormsRef
public import proofs.«01_k».proof.Proof.HeadMean

@[expose] public section

set_option maxRecDepth 16384

noncomputable section

namespace Cert.HeadNormsBridge

open Idealize.ShloMosaic Idealize.ShloMosaic.TcCoe Idealize.SL.Sem
open Cert.Kernel4Ideal (S2x2048x2048 S2x2048x512 S4096x512 S4096x2048 S1x512 S64 S128x128)
open Cert.Sums Cert.Lanes Cert.HeadMean Cert.Kernel4Ideal.Value Cert.Reference4Ideal.Out
open scoped BigOperators

variable (m : (ℓ : Loc Kernel4Ideal.nD Kernel4Ideal.τ Kernel4Ideal.sig) → Buf (Elt Ideal) ℓ)
  (m' : (ℓ : Loc Reference4Ideal.nD Reference4Ideal.τ Reference4Ideal.sig) → Buf (Elt Ideal) ℓ) (c : Dev 1)

/-- Both programs start from the same arguments. -/
structure Same : Prop where
  proj : r_arg0 m' c = m ((c.tc : Thread Kernel4Ideal.nD Kernel4Ideal.τ).loc Kernel4Ideal.main_arg0)
  g_q : r_arg1 m' c = m ((c.tc : Thread Kernel4Ideal.nD Kernel4Ideal.τ).loc Kernel4Ideal.main_arg1)
  g_k : r_arg2 m' c = m ((c.tc : Thread Kernel4Ideal.nD Kernel4Ideal.τ).loc Kernel4Ideal.main_arg2)
  dq : r_arg3 m' c = m ((c.tc : Thread Kernel4Ideal.nD Kernel4Ideal.τ).loc Kernel4Ideal.main_arg3)
  dk : r_arg4 m' c = m ((c.tc : Thread Kernel4Ideal.nD Kernel4Ideal.τ).loc Kernel4Ideal.main_arg4)
  dv : r_arg5 m' c = m ((c.tc : Thread Kernel4Ideal.nD Kernel4Ideal.τ).loc Kernel4Ideal.main_arg5)
  du : r_arg6 m' c = m ((c.tc : Thread Kernel4Ideal.nD Kernel4Ideal.τ).loc Kernel4Ideal.main_arg6)

/-- An array holds real numbers. -/
abbrev Real {S : Shape} (x : S.Idx → EReal) : Prop := ∀ j, x j = ((x j).toReal : EReal)

/-- The gains and the cotangents are real. -/
structure Reals : Prop where
  g_q : Real (r_arg1 m' c)
  g_k : Real (r_arg2 m' c)
  dq : Real (r_arg3 m' c)
  dk : Real (r_arg4 m' c)

/-- A head's lane as a column. -/
abbrev hcol (k : Fin 512) (d : Fin 64) : Fin 512 := ⟨k.val / 64 * 64 + d.val, by have := k.isLt; have := d.isLt; omega⟩
/-- The head of a column. -/
abbrev hd (k : Fin 512) : Fin 8 := ⟨k.val / 64, by have := k.isLt; omega⟩
/-- A column's lane in its head. -/
abbrev ln (k : Fin 512) : Fin 64 := ⟨k.val % 64, by omega⟩

theorem ln_hcol (k : Fin 512) (d : Fin 64) : ln (hcol k d) = d := by
  have := d.isLt
  exact Fin.ext (by dsimp only; omega)

section
variable (P : FVec Ideal S4096x2048 .f32) (D : FVec Ideal S4096x512 .f32) (G : FVec Ideal S1x512 .f32) (o : ℕ) (h : o ≤ 1536) (i : Fin 4096) (k : Fin 512)

theorem hVar_eq : hVar P aO o h i k = Spec.var wd fun d : Fin 64 => P (ix2 i (col o (hcol k d) h)) := by
  have e := sum_head (fun k => P (ix2 i (col o k h)) * P (ix2 i (col o k h))) k
  show (∑ l : Fin 128, P (ix2 i (col o (lane k l) h)) * P (ix2 i (col o (lane k l) h)) * sameHead l (inLane k)) * _ + _ = _
  rw [e, mean_eq]
  rfl

/-- All columns of a head have the head's mean. -/
theorem hVar_head (d : Fin 64) : hVar P aO o h i (hcol k d) = hVar P aO o h i k := by
  rw [hVar_eq, hVar_eq]
  have := d.isLt
  refine congrArg _ (funext fun e => congrArg P (congrArg (ix2 i) (Fin.ext ?_)))
  show o + ((k.val / 64 * 64 + d.val) / 64 * 64 + e.val) = o + (k.val / 64 * 64 + e.val)
  omega

/-- The mean's part as the derivative states it. -/
theorem hMean_eq (hr : ∀ d, D (ix2 i (hcol k d)) * G (ix2 0 (hcol k d)) = ((D (ix2 i (hcol k d)) * G (ix2 0 (hcol k d))).toReal : EReal)) :
    hMean P D G aO o h i k = Spec.rmsMean wd (fun d : Fin 64 => P (ix2 i (col o (hcol k d) h))) (fun d => G (ix2 0 (hcol k d)))
      (fun d => D (ix2 i (hcol k d))) := by
  have e := sum_head (fun k => P (ix2 i (col o k h)) * (D (ix2 i k) * G (ix2 0 k))
    * (Ideal.ofBits .f32 0xBF000000#32 * Ideal.div (Ideal.rsqrt (hVar P aO o h i k)) (hVar P aO o h i k)) * Ideal.ofBits .f32 0x3C800000#32) k
  refine Eq.trans (show hMean P D G aO o h i k = _ from e) ?_
  rw [Spec.rmsMean]
  simp only [hVar_head]
  rw [hVar_eq]
  have e' := mean_inside (fun d : Fin 64 => P (ix2 i (col o (hcol k d) h))) fun d => (D (ix2 i (hcol k d)) * G (ix2 0 (hcol k d))).toReal
  simp only [← hr] at e'
  exact e'

end

theorem four_congr {A B C D A' B' C' D' : Fin 512 → EReal} (ha : ∀ k, A k = A' k) (hb : ∀ k, B k = B' k) (hc : ∀ k, C k = C' k) (hd : ∀ k, D k = D' k)
    (k : Fin 2048) : four A B C D k = four A' B' C' D' k := by
  rw [funext ha, funext hb, funext hc, funext hd]

theorem wide_apply (X : FVec Ideal S2x2048x2048 .f32) (h : S2x2048x2048.ShapeCasts S4096x2048) (i : Fin 4096) (k : Fin 2048) :
    shapeCast S4096x2048 X h (ix2 i k) = X (ix3 (bt i) (ps i) k) := by
  pointwise []

/-- A head's entry as an entry of all heads. -/
abbrev ix (i : Fin 4096) (k : Fin 512) : Reference4Ideal.S2x2048x8x64.Idx := ix4 (bt i) (ps i) (hd k) (ln k)

theorem rP_apply (j : S4096x2048.Idx) : rP m' c j = four (fun k => rBq m' c (ix (j 0) k)) (fun k => rBk m' c (ix (j 0) k))
    (fun k => r_arg5 m' c (ix3 (bt (j 0)) (ps (j 0)) k)) (fun k => r_arg6 m' c (ix3 (bt (j 0)) (ps (j 0)) k)) (j 1) := by
  unfold four
  pointwise [rP, rD]
  by_cases h0 : (j 1).val < 512
  · rw [dif_pos h0, dif_pos h0]
  by_cases h1 : (j 1).val < 1024
  · rw [dif_neg h0, dif_pos (show (j 1).val - 512 < 512 by omega), dif_neg h0, dif_pos h1]
  by_cases h2 : (j 1).val < 1536
  · rw [dif_neg h0, dif_neg (show ¬ (j 1).val - 512 < 512 by omega), dif_pos (show (j 1).val - 512 - 512 < 512 by omega),
      dif_neg h0, dif_neg h1, dif_pos h2]
    exact congrArg (r_arg5 m' c) (congrArg (ix3 (bt (j 0)) (ps (j 0))) (Fin.ext (by dsimp only; omega)))
  · rw [dif_neg h0, dif_neg (show ¬ (j 1).val - 512 < 512 by omega), dif_neg (show ¬ (j 1).val - 512 - 512 < 512 by omega),
      dif_neg h0, dif_neg h1, dif_neg h2]
    exact congrArg (r_arg6 m' c) (congrArg (ix3 (bt (j 0)) (ps (j 0))) (Fin.ext (by dsimp only; omega)))

variable {m m' c} (s : Same m m' c)
include s

theorem hP (i : Fin 4096) (k : Fin 2048) : aP m c (ix2 i k) = r_arg0 m' c (ix3 (bt i) (ps i) k) := by
  rw [s.proj]
  exact wide_apply _ _ i k
theorem hDq (i : Fin 4096) (k : Fin 512) : aDq m c (ix2 i k) = r_arg3 m' c (ix3 (bt i) (ps i) k) := by
  rw [s.dq]; pointwise [aDq]
theorem hDk (i : Fin 4096) (k : Fin 512) : aDk m c (ix2 i k) = r_arg4 m' c (ix3 (bt i) (ps i) k) := by
  rw [s.dk]; pointwise [aDk]
theorem hDv (i : Fin 4096) (k : Fin 512) : aDv m c (ix2 i k) = r_arg5 m' c (ix3 (bt i) (ps i) k) := by
  rw [s.dv]; pointwise [aDv]
theorem hDu (i : Fin 4096) (k : Fin 512) : aDu m c (ix2 i k) = r_arg6 m' c (ix3 (bt i) (ps i) k) := by
  rw [s.du]; pointwise [aDu]
theorem hGq (k : Fin 512) : aGq m c (ix2 0 k) = r_arg1 m' c (ix1 (ln k)) * Ideal.ofBits .f32 0x3E000000#32 := by
  rw [s.g_q]; pointwise [aGq]
theorem hGk (k : Fin 512) : aGk m c (ix2 0 k) = r_arg2 m' c (ix1 (ln k)) := by
  rw [s.g_k]; pointwise [aGk]

variable (r : Reals m' c)
include r

theorem q_part (i : Fin 4096) (k : Fin 512) : hBack (aP m c) (aDq m c) (aGq m c) aO 0 (by decide) i k = rBq m' c (ix i k) := by
  rw [hBack, hVar_eq, hMean_eq]
  · simp only [hP s, hDq s, hGq s]
    pointwise [rBq, rTq, rMq, rCq, rIq, rVq, rDq, rQ, Spec.rmsMean, Spec.var, Finset.univ_unique, Finset.sum_singleton]
    simp only [col, bt, ps, ln_hcol, hcol, wd, Nat.div_add_mod', Nat.zero_add]
    simp only [mul_assoc, mul_comm (Ideal.ofBits .f32 0x3E000000#32)]
  · intro d
    rw [hDq s, hGq s, r.dq, r.g_q, eighth]
    simp only [← EReal.coe_mul, EReal.toReal_coe]

theorem k_part (i : Fin 4096) (k : Fin 512) : hBack (aP m c) (aDk m c) (aGk m c) aO 512 (by decide) i k = rBk m' c (ix i k) := by
  rw [hBack, hVar_eq, hMean_eq]
  · simp only [hP s, hDk s, hGk s]
    pointwise [rBk, rDk, rMk, rCk, rIk, rVk, rK, Spec.rmsMean, Spec.var, Finset.univ_unique, Finset.sum_singleton]
    simp only [col, bt, ps, ln_hcol, hcol, wd, Nat.div_add_mod', Nat.zero_add]
  · intro d
    rw [hDk s, hGk s, r.dk, r.g_k]
    simp only [← EReal.coe_mul, EReal.toReal_coe]

theorem d_eq : kD m c = rP m' c := by
  funext j
  rw [rP_apply]
  exact four_congr (q_part s r (j 0)) (k_part s r (j 0)) (hDv s (j 0)) (hDu s (j 0)) (j 1)

omit r

omit s in
/-- The gain's gradient: all rows and all heads. -/
theorem gain_sum (f : Fin 2 → Fin 2048 → Fin 8 → EReal) : ∑ x : Fin 8, ∑ i : Fin 4096, f (bt i) (ps i) x = ∑ b, ∑ p, ∑ x, f b p x := by
  rw [Finset.sum_comm]
  exact sum_rows fun b p => ∑ x, f b p x

theorem gq_eq : kGq m c = rGq m' c := by
  funext j
  have hj (x : Fin 8) (e : ℕ) : (x.val * 64 + (j 0).val) / 64 * 64 + e = x.val * 64 + e := by
    have : (j 0).val < 64 := (j 0).isLt
    omega
  pointwise [kGq, overHeads, gains, hGain, rGq, rUq, rDq, rIq, rVq, rQ, reduce012, Finset.univ_unique, Finset.sum_singleton]
  simp only [hVar_eq, hP s, hDq s, Spec.var]
  simp only [col, hcol, wd, Nat.zero_add, hj, ← mul_assoc]
  rw [eighth, gain_sum fun b p x => r_arg0 m' c (ix3 b p ⟨x.val * 64 + (j 0).val, by have := x.isLt; have : (j 0).val < 64 := (j 0).isLt; omega⟩)
    * Ideal.rsqrt (Ideal.div (∑ d : Fin 64, r_arg0 m' c (ix3 b p ⟨x.val * 64 + d.val, by have := x.isLt; have := d.isLt; omega⟩)
      * r_arg0 m' c (ix3 b p ⟨x.val * 64 + d.val, by have := x.isLt; have := d.isLt; omega⟩)) (Ideal.ofBits .f32 0x42800000#32) + Ideal.ofBits .f32 0x358637BD#32)
    * r_arg3 m' c (ix3 b p ⟨x.val * 64 + (j 0).val, by have := x.isLt; have : (j 0).val < 64 := (j 0).isLt; omega⟩)]
  simp only [sum_mul_pos _ _ (1 / 8 : ℝ) (by norm_num)]

theorem gk_eq : kGk m c = rGk m' c := by
  funext j
  have hj (x : Fin 8) (e : ℕ) : (x.val * 64 + (j 0).val) / 64 * 64 + e = x.val * 64 + e := by
    have : (j 0).val < 64 := (j 0).isLt
    omega
  pointwise [kGk, overHeads, gains, hGain, rGk, rUk, rIk, rVk, rK, reduce012, Finset.univ_unique, Finset.sum_singleton]
  simp only [hVar_eq, hP s, hDk s, Spec.var]
  simp only [col, hcol, wd, hj]
  exact gain_sum fun b p x => r_arg0 m' c (ix3 b p ⟨512 + (x.val * 64 + (j 0).val), by have := x.isLt; have : (j 0).val < 64 := (j 0).isLt; omega⟩)
    * Ideal.rsqrt (Ideal.div (∑ d : Fin 64, r_arg0 m' c (ix3 b p ⟨512 + (x.val * 64 + d.val), by have := x.isLt; have := d.isLt; omega⟩)
      * r_arg0 m' c (ix3 b p ⟨512 + (x.val * 64 + d.val), by have := x.isLt; have := d.isLt; omega⟩)) (Ideal.ofBits .f32 0x42800000#32) + Ideal.ofBits .f32 0x358637BD#32)
    * r_arg4 m' c (ix3 b p ⟨x.val * 64 + (j 0).val, by have := x.isLt; have : (j 0).val < 64 := (j 0).isLt; omega⟩)

end Cert.HeadNormsBridge

end
-- ==== Proof.Finite.lean ====
/- The two attention programs on finite arguments. -/
module

public import proofs.«01_k».proof.Defs
public import proofs.«01_k».proof.Proof.Gen.Pre_finite
public import proofs.«01_k».proof.Proof.GradReads

@[expose] public section

noncomputable section

namespace Cert.Attn

open Idealize.ShloMosaic Idealize.ShloMosaic.TcCoe Idealize.SL.Sem

/-- An array whose absolute values are all below infinity holds real numbers. -/
theorem real_of_below {S : Shape} {x : S.Idx → EReal} {y : IVec S 1} (h : y = fun _ => 1#1) (hy : ∀ j, y j = Ideal.cmp .olt (max (x j) (-(x j))) (Ideal.ofBits .f32 0x7F800000#32)) :
    ∀ j, x j = ((x j).toReal : EReal) := fun j => by
  have e := (hy j).symm.trans (congrFun h j)
  have top : Ideal.ofBits .f32 0x7F800000#32 = ⊤ := by simp [Ideal.ofBits, Ideal.ieee]
  rw [top] at e
  have lt : max (x j) (-(x j)) < ⊤ := by
    by_contra n
    simp [Ideal.cmp, n] at e
  have := max_lt_iff.mp lt
  refine (EReal.coe_toReal this.1.ne fun b => ?_).symm
  rw [b] at this
  exact absurd this.2 (by simp)

theorem reals {m : (ℓ : Loc Kernel2Ideal.nD Kernel2Ideal.τ Kernel2Ideal.sig) → Buf (Elt Ideal) ℓ} (h : Cert.Pre_Kernel2Ideal_finite m)
    (c : Dev Kernel2Ideal.nD) : Kernel2Ideal.Value.Reals m c where
  q := real_of_below (h c).1 fun _ => rfl
  k := real_of_below (h c).2.1 fun _ => rfl
  v := real_of_below (h c).2.2.1 fun _ => rfl
  o := real_of_below (h c).2.2.2 fun _ => rfl

section
variable {m : (ℓ : Loc Kernel2Ideal.nD Kernel2Ideal.τ Kernel2Ideal.sig) → Buf (Elt Ideal) ℓ}
  {m' : (ℓ : Loc Reference2Ideal.nD Reference2Ideal.τ Reference2Ideal.sig) → Buf (Elt Ideal) ℓ} {c : Dev Kernel2Ideal.nD}

/-- The reference's arguments are the kernel's. -/
structure Agree (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD) : Prop where
  q : Reference2Ideal.Out.r_arg0 m' c = Kernel2Ideal.Value.aQ m c
  k : Reference2Ideal.Out.r_arg1 m' c = Kernel2Ideal.Value.aK m c
  v : Reference2Ideal.Out.r_arg2 m' c = Kernel2Ideal.Value.aV m c
  o : Reference2Ideal.Out.r_arg3 m' c = Kernel2Ideal.Value.aO m c

variable (ha : Agree m m' c) (hr : Kernel2Ideal.Value.Reals m c)
include ha

include hr in
theorem reals_ref : Reference2Ideal.Out.Reals m' c where
  q := ha.q ▸ hr.q
  k := ha.k ▸ hr.k
  v := ha.v ▸ hr.v
  o := ha.o ▸ hr.o

theorem over (f : Stream → Stream → Stream → Stream → FVec Ideal (Tile.Sh 4096 512) .f32) :
    f (Reference2Ideal.Out.r_arg0 m' c) (Reference2Ideal.Out.r_arg1 m' c) (Reference2Ideal.Out.r_arg2 m' c) (Reference2Ideal.Out.r_arg3 m' c)
      = f (Kernel2Ideal.Value.aQ m c) (Kernel2Ideal.Value.aK m c) (Kernel2Ideal.Value.aV m c) (Kernel2Ideal.Value.aO m c) := by
  rw [ha.q, ha.k, ha.v, ha.o]

include hr

theorem dq_agree : Reference2Ideal.Value.res_main_v55 m' c = (Kernel2Ideal.Gen.dats m 0 c).arrAt 5 Kernel2Ideal.cfg0.N :=
  (Reference2Ideal.Out.rdq_eq m' c).trans ((Reference2Ideal.Out.rdq_final (reals_ref ha hr)).trans ((over ha dQ).trans (Kernel2Ideal.Value.dq_final hr).symm))
theorem dk_agree : Reference2Ideal.Value.res_main_v56 m' c = (Kernel2Ideal.Gen.dats m 0 c).arrAt 6 Kernel2Ideal.cfg0.N :=
  (Reference2Ideal.Out.rdk_eq m' c).trans ((Reference2Ideal.Out.rdk_final (reals_ref ha hr)).trans ((over ha dK).trans (Kernel2Ideal.Value.dk_final hr).symm))
theorem dv_agree : Reference2Ideal.Value.res_main_v57 m' c = (Kernel2Ideal.Gen.dats m 0 c).arrAt 7 Kernel2Ideal.cfg0.N :=
  (Reference2Ideal.Out.rdv_eq m' c).trans ((Reference2Ideal.Out.rdv_final (reals_ref ha hr)).trans ((over ha dV).trans (Kernel2Ideal.Value.dv_final hr).symm))

end

end Cert.Attn

end
-- ==== Proof.lean ====
/- The claims of the step's calls: of each call the frames of the kernel, of the kernel over the reals and of the reference, and that
   kernel and reference leave the same results. -/
module

public import proofs.«01_k».proof.Proof.ForwardArrays
public import proofs.«01_k».proof.Proof.Gen.Kernel7
public import proofs.«01_k».proof.Proof.Gen.Kernel7Ideal
public import proofs.«01_k».proof.Proof.Recurrence
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Pre_finite9
public import proofs.«01_k».proof.Proof.Gen.Kernel9Ideal.Value
public import proofs.«01_k».proof.Proof.Gen.Reference9Ideal
public import proofs.«01_k».proof.Proof.OperatorsArrays
public import proofs.«01_k».proof.Proof.Gen.Reference9Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.Pre_finite4
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Bridge
public import proofs.«01_k».proof.Proof.MixingBridge
public import proofs.«01_k».proof.Proof.ProjectionBridge
public import proofs.«01_k».proof.Proof.HeadNormsBridge
public import proofs.«01_k».proof.Proof.Finite
public import Idealize.ShloMosaic.Adequacy
public import Idealize.ShloMosaic.Init
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Pre_finite6
public import proofs.«01_k».proof.Proof.Gen.Reference6Ideal
public import proofs.«01_k».proof.Proof.Gen.Reference6Ideal.Run

@[expose] public section

noncomputable section

namespace Cert.Proof

open Idealize.ShloMosaic Idealize.ShloMosaic.Tactic Idealize.SL.Sem Cert.Kernel

theorem frame_kernel : Cert.quiescent_Kernel := fun m ρ _ => Cert.Kernel.Gen.frame m ρ
theorem frame_ideal : Cert.quiescent_KernelIdeal := fun m ρ _ => Cert.KernelIdeal.Gen.frame m ρ
theorem frame_ref : Cert.quiescent_ReferenceIdeal := by
  intro m ρ _
  exact (θ_run Cert.ReferenceIdeal.defs _ _).mono (fun r h => ⟨fun c => (h c).2.2.2.2.2.2,
      sem_eq_zero_of_no_sems (by decide) r.2⟩) (Cert.ReferenceIdeal.Value.run m ρ)

/-- The two programs' arguments, as the stages read them. -/
theorem same {m : (ℓ : Loc KernelIdeal.nD KernelIdeal.τ KernelIdeal.sig) → Buf (Elt Ideal) ℓ}
    {m' : (ℓ : Loc ReferenceIdeal.nD ReferenceIdeal.τ ReferenceIdeal.sig) → Buf (Elt Ideal) ℓ}
    (h : ∀ c : Dev KernelIdeal.nD,
      m' (c.tc.loc ReferenceIdeal.main_arg0) = m (c.tc.loc KernelIdeal.main_arg0)
      ∧ m' (c.tc.loc ReferenceIdeal.main_arg1) = m (c.tc.loc KernelIdeal.main_arg1)
      ∧ m' (c.tc.loc ReferenceIdeal.main_arg2) = m (c.tc.loc KernelIdeal.main_arg2)
      ∧ m' (c.tc.loc ReferenceIdeal.main_arg3) = m (c.tc.loc KernelIdeal.main_arg3)
      ∧ m' (c.tc.loc ReferenceIdeal.main_arg4) = m (c.tc.loc KernelIdeal.main_arg4)
      ∧ m' (c.tc.loc ReferenceIdeal.main_arg5) = m (c.tc.loc KernelIdeal.main_arg5)
      ∧ m' (c.tc.loc ReferenceIdeal.main_arg6) = m (c.tc.loc KernelIdeal.main_arg6)) (c : Dev KernelIdeal.nD) :
    Cert.Bridge.Same m m' c :=
  ⟨(h c).1, (h c).2.1, (h c).2.2.1, (h c).2.2.2.1, (h c).2.2.2.2.1, (h c).2.2.2.2.2.1, (h c).2.2.2.2.2.2⟩

theorem value : Cert.algebraic_KernelIdeal_ReferenceIdeal := by
  pair_intro
  · run_from Cert.KernelIdeal.Out.run m g & Cert.KernelIdeal.Gen.unchanged m g
  · run_from Cert.ReferenceIdeal.Value.run m' g'
    · exact (Cert.ReferenceIdeal.Out.rLoss_eq m' c).trans (Cert.Bridge.l_eq (same hagree c)).symm
    · exact (Cert.ReferenceIdeal.Out.rRows_eq m' c).trans (Cert.Bridge.rows_eq (same hagree c)).symm
    · exact (Cert.ReferenceIdeal.Out.rWo_eq m' c).trans (Cert.Bridge.wo_eq (same hagree c)).symm
    · exact (Cert.ReferenceIdeal.Out.rG_eq m' c).trans (Cert.Bridge.g_eq (same hagree c)).symm
    · exact (Cert.ReferenceIdeal.Out.rW1_eq m' c).trans (Cert.Bridge.w1_eq (same hagree c)).symm
    · exact (Cert.ReferenceIdeal.Out.rW2_eq m' c).trans (Cert.Bridge.w2_eq (same hagree c)).symm

theorem frame_attention : Cert.quiescent_Kernel2 := fun m ρ _ => Cert.Kernel2.Gen.frame m ρ
theorem frame_attention_ideal : Cert.quiescent_Kernel2Ideal := fun m ρ _ => Cert.Kernel2Ideal.Gen.frame m ρ
theorem frame_attention_ref : Cert.quiescent_Reference2Ideal := by
  intro m ρ _
  exact (θ_run Cert.Reference2Ideal.defs _ _).mono (fun r h => ⟨fun c => (h c).2.2.2,
      sem_eq_zero_of_no_sems (by decide) r.2⟩) (Cert.Reference2Ideal.Value.run m ρ)

/-- The two attention programs' arguments. -/
theorem same_streams {m : (ℓ : Loc Kernel2Ideal.nD Kernel2Ideal.τ Kernel2Ideal.sig) → Buf (Elt Ideal) ℓ}
    {m' : (ℓ : Loc Reference2Ideal.nD Reference2Ideal.τ Reference2Ideal.sig) → Buf (Elt Ideal) ℓ}
    (h : ∀ c : Dev Kernel2Ideal.nD,
      m' (c.tc.loc Reference2Ideal.main_arg0) = m (c.tc.loc Kernel2Ideal.main_arg0)
      ∧ m' (c.tc.loc Reference2Ideal.main_arg1) = m (c.tc.loc Kernel2Ideal.main_arg1)
      ∧ m' (c.tc.loc Reference2Ideal.main_arg2) = m (c.tc.loc Kernel2Ideal.main_arg2)
      ∧ m' (c.tc.loc Reference2Ideal.main_arg3) = m (c.tc.loc Kernel2Ideal.main_arg3)) (c : Dev Kernel2Ideal.nD) :
    Cert.Attn.Agree m m' c :=
  ⟨(h c).1, (h c).2.1, (h c).2.2.1, (h c).2.2.2⟩

theorem attention : Cert.algebraic_Kernel2Ideal_Reference2Ideal_pre_finite := by
  pair_intro
  · run_from Cert.Kernel2Ideal.Value.run_blocks m g & Cert.Kernel2Ideal.Gen.unchanged m g
  · run_from Cert.Reference2Ideal.Value.run m' g'
    · exact Cert.Attn.dq_agree (same_streams hagree c) (Cert.Attn.reals hpre c)
    · exact Cert.Attn.dk_agree (same_streams hagree c) (Cert.Attn.reals hpre c)
    · exact Cert.Attn.dv_agree (same_streams hagree c) (Cert.Attn.reals hpre c)

theorem frame_mixing : Cert.quiescent_Kernel3 := fun m ρ _ => Cert.Kernel3.Gen.frame m ρ
theorem frame_mixing_ideal : Cert.quiescent_Kernel3Ideal := fun m ρ _ => Cert.Kernel3Ideal.Gen.frame m ρ
theorem frame_mixing_ref : Cert.quiescent_Reference3Ideal := by
  intro m ρ _
  exact (θ_run Cert.Reference3Ideal.defs _ _).mono (fun r h => ⟨fun c => (h c).2.2.2.2.2.2.2,
      sem_eq_zero_of_no_sems (by decide) r.2⟩) (Cert.Reference3Ideal.Value.run m ρ)

/-- The two mixing programs' arguments. -/
theorem same_mixing {m : (ℓ : Loc Kernel3Ideal.nD Kernel3Ideal.τ Kernel3Ideal.sig) → Buf (Elt Ideal) ℓ}
    {m' : (ℓ : Loc Reference3Ideal.nD Reference3Ideal.τ Reference3Ideal.sig) → Buf (Elt Ideal) ℓ}
    (h : ∀ c : Dev Kernel3Ideal.nD,
      m' (c.tc.loc Reference3Ideal.main_arg0) = m (c.tc.loc Kernel3Ideal.main_arg0)
      ∧ m' (c.tc.loc Reference3Ideal.main_arg1) = m (c.tc.loc Kernel3Ideal.main_arg1)
      ∧ m' (c.tc.loc Reference3Ideal.main_arg2) = m (c.tc.loc Kernel3Ideal.main_arg2)
      ∧ m' (c.tc.loc Reference3Ideal.main_arg3) = m (c.tc.loc Kernel3Ideal.main_arg3)
      ∧ m' (c.tc.loc Reference3Ideal.main_arg4) = m (c.tc.loc Kernel3Ideal.main_arg4)
      ∧ m' (c.tc.loc Reference3Ideal.main_arg5) = m (c.tc.loc Kernel3Ideal.main_arg5)
      ∧ m' (c.tc.loc Reference3Ideal.main_arg6) = m (c.tc.loc Kernel3Ideal.main_arg6)
      ∧ m' (c.tc.loc Reference3Ideal.main_arg7) = m (c.tc.loc Kernel3Ideal.main_arg7)) (c : Dev Kernel3Ideal.nD) :
    Cert.MixingBridge.Same m m' c :=
  ⟨(h c).1, (h c).2.1, (h c).2.2.1, (h c).2.2.2.1, (h c).2.2.2.2.1, (h c).2.2.2.2.2.1, (h c).2.2.2.2.2.2.1, (h c).2.2.2.2.2.2.2⟩

theorem mixing : Cert.algebraic_Kernel3Ideal_Reference3Ideal := by
  pair_intro
  · run_from Cert.Kernel3Ideal.Out.run m g & Cert.Kernel3Ideal.Gen.unchanged m g
  · run_from Cert.Reference3Ideal.Out.run m' g'
    · exact (Cert.MixingBridge.mix_eq (same_mixing hagree c)).symm
    · exact (Cert.MixingBridge.da_eq (same_mixing hagree c)).symm
    · exact (Cert.MixingBridge.dy_eq (same_mixing hagree c)).symm
    · exact (Cert.MixingBridge.dw_eq (same_mixing hagree c)).symm
    · exact (Cert.MixingBridge.b_eq (same_mixing hagree c)).symm
    · exact (Cert.MixingBridge.ga_eq (same_mixing hagree c)).symm
    · exact (Cert.MixingBridge.gs_eq (same_mixing hagree c)).symm

theorem frame_head_norms : Cert.quiescent_Kernel4 := fun m ρ _ => Cert.Kernel4.Gen.frame m ρ
theorem frame_head_norms_ideal : Cert.quiescent_Kernel4Ideal := fun m ρ _ => Cert.Kernel4Ideal.Gen.frame m ρ
theorem frame_head_norms_ref : Cert.quiescent_Reference4Ideal := by
  intro m ρ _
  exact (θ_run Cert.Reference4Ideal.defs _ _).mono (fun r h => ⟨fun c => (h c).2.2.2,
      sem_eq_zero_of_no_sems (by decide) r.2⟩) (Cert.Reference4Ideal.Value.run m ρ)

theorem frame_projection : Cert.quiescent_Kernel5 := fun m ρ _ => Cert.Kernel5.Gen.frame m ρ
theorem frame_projection_ideal : Cert.quiescent_Kernel5Ideal := fun m ρ _ => Cert.Kernel5Ideal.Gen.frame m ρ
theorem frame_projection_ref : Cert.quiescent_Reference5Ideal := by
  intro m ρ _
  exact (θ_run Cert.Reference5Ideal.defs _ _).mono (fun r h => ⟨fun c => (h c).2.2.2.2.2.2.2,
      sem_eq_zero_of_no_sems (by decide) r.2⟩) (Cert.Reference5Ideal.Value.run m ρ)

theorem projection : Cert.algebraic_Kernel5Ideal_Reference5Ideal := by
  pair_intro
  · run_from Cert.Kernel5Ideal.Out.run m g & Cert.Kernel5Ideal.Gen.unchanged m g
  · have same : ∀ c, Cert.ProjectionBridge.Same m m' c := fun c =>
      let ⟨h0, h1, h2, h3, h4, h5, h6⟩ := hagree c; ⟨h0, h1, h2, h3, h4, h5, h6⟩
    run_from Cert.Reference5Ideal.Out.run m' g'
    · exact (Cert.ProjectionBridge.proj_eq (same c)).symm
    · exact (Cert.ProjectionBridge.q_eq (same c)).symm
    · exact (Cert.ProjectionBridge.k_eq (same c)).symm
    · exact (Cert.ProjectionBridge.v_eq (same c)).symm
    · exact (Cert.ProjectionBridge.dx_eq (same c)).symm
    · exact (Cert.ProjectionBridge.dw_eq (same c)).symm
    · exact (Cert.ProjectionBridge.g_eq (same c)).symm

theorem head_norms : Cert.algebraic_Kernel4Ideal_Reference4Ideal_pre_finite4 := by
  pair_intro
  · run_from Cert.Kernel4Ideal.Value.run m g & Cert.Kernel4Ideal.Gen.unchanged m g
  · have same : ∀ c, Cert.HeadNormsBridge.Same m m' c := fun c =>
      let ⟨h0, h1, h2, h3, h4, h5, h6⟩ := hagree c; ⟨h0, h1, h2, h3, h4, h5, h6⟩
    have real : ∀ c, Cert.HeadNormsBridge.Reals m' c := fun c =>
      ⟨fun j => by rw [(same c).g_q]; exact Cert.Attn.real_of_below (hpre c).1 (fun _ => rfl) j,
        fun j => by rw [(same c).g_k]; exact Cert.Attn.real_of_below (hpre c).2.1 (fun _ => rfl) j,
        fun j => by rw [(same c).dq]; exact Cert.Attn.real_of_below (hpre c).2.2.1 (fun _ => rfl) j,
        fun j => by rw [(same c).dk]; exact Cert.Attn.real_of_below (hpre c).2.2.2 (fun _ => rfl) j⟩
    run_from Cert.Reference4Ideal.Out.run m' g'
    · exact (Cert.HeadNormsBridge.d_eq (same c) (real c)).symm
    · exact (Cert.HeadNormsBridge.gq_eq (same c)).symm
    · exact (Cert.HeadNormsBridge.gk_eq (same c)).symm

theorem frame_forward : Cert.quiescent_Kernel6 := fun m ρ _ => Cert.Kernel6.Gen.frame m ρ
theorem frame_forward_ideal : Cert.quiescent_Kernel6Ideal := fun m ρ _ => Cert.Kernel6Ideal.Gen.frame m ρ
theorem frame_forward_ref : Cert.quiescent_Reference6Ideal := by
  intro m ρ _
  exact (θ_run Cert.Reference6Ideal.defs _ _).mono (fun r h => ⟨fun c => (h c).2.2,
      sem_eq_zero_of_no_sems (by decide) r.2⟩) (Cert.Reference6Ideal.Value.run m ρ)

theorem forward : Cert.algebraic_Kernel6Ideal_Reference6Ideal_pre_finite6 := by
  pair_intro
  · run_from Cert.Kernel6Ideal.Value.run_blocks m g & Cert.Kernel6Ideal.Gen.unchanged m g
  · have same : ∀ c, Cert.Attn.Same m m' c := fun c => let ⟨h0, h1, h2⟩ := hagree c; ⟨h0, h1, h2⟩
    have hq : ∀ c, Cert.Attn.Real' (Cert.Kernel6Ideal.Value.aQ m c) := fun c => Cert.Attn.real_of_below (hpre c).1 (fun _ => rfl)
    have hk : ∀ c, Cert.Attn.Real' (Cert.Kernel6Ideal.Value.aK m c) := fun c => Cert.Attn.real_of_below (hpre c).2 (fun _ => rfl)
    run_from Cert.Reference6Ideal.Value.run m' g'
    · exact Cert.Attn.attended_agree (same c) (hq c) (hk c)
    · exact Cert.Attn.summed_agree (same c) (hq c) (hk c)

theorem frame_recurrence : Cert.quiescent_Kernel7 := by
  intro m ρ _
  have h := Cert.Recurrence.kernel_frame (F := Bits) m ρ
  refine Eq.mpr ?_ h
  sl_kernel_rfl
theorem frame_recurrence_ideal : Cert.quiescent_Kernel7Ideal := fun m ρ _ => Cert.Recurrence.kernel_frame m ρ

theorem frame_operators : Cert.quiescent_Kernel9 := fun m ρ _ => Cert.Kernel9.Gen.frame m ρ
theorem frame_operators_ideal : Cert.quiescent_Kernel9Ideal := fun m ρ _ => Cert.Kernel9Ideal.Gen.frame m ρ
theorem frame_operators_ref : Cert.quiescent_Reference9Ideal := by
  intro m ρ _
  exact (θ_run Cert.Reference9Ideal.defs _ _).mono (fun r h => ⟨fun c => (h c).2.2.2.2.2,
      sem_eq_zero_of_no_sems (by decide) r.2⟩) (Cert.Reference9Ideal.Value.run m ρ)

theorem operators : Cert.algebraic_Kernel9Ideal_Reference9Ideal_pre_finite9 := by
  pair_intro
  · run_from Cert.Kernel9Ideal.Value.run_blocks m g & Cert.Kernel9Ideal.Gen.unchanged m g
  · have same : ∀ c, Cert.Reference9Ideal.Out.params m' c = Cert.Kernel9Ideal.Value.params m c := fun c => by
      obtain ⟨h0, h1, h2, h3, h4, h5, h6, h7⟩ := hagree c
      unfold Cert.Reference9Ideal.Out.params Cert.Kernel9Ideal.Value.params
      rw [h0, h1, h2, h3, h4, h5, h6, h7]
    have real : ∀ c g, (Cert.Kernel9Ideal.Value.params m c g).Real := fun c g => {
      lr := fun s => Cert.Attn.real_of_below (hpre c).1 (fun _ => rfl) (ix2 g s)
      li := fun s => Cert.Attn.real_of_below (hpre c).2.1 (fun _ => rfl) (ix2 g s)
      dt := by
        have h := Cert.Attn.real_of_below (hpre c).2.2.1 (fun _ => rfl) (ix1 g)
        unfold Cert.Kernel9Ideal.Value.params
        dsimp only
        rw [h, Ideal.exp_coe]
        rfl
      cr := fun s h => Cert.Attn.real_of_below (hpre c).2.2.2.1 (fun _ => rfl) (ix3 g h s)
      ci := fun s h => Cert.Attn.real_of_below (hpre c).2.2.2.2 (fun _ => rfl) (ix3 g h s) }
    run_from Cert.Reference9Ideal.Out.run_entries m' g'
    · exact (congrArg Cert.Operators.kAll (same c)).trans (Cert.Kernel9Ideal.Value.k_final m c).symm
    · exact (congrArg Cert.Operators.bAll (same c)).trans (Cert.Kernel9Ideal.Value.b_final m c).symm
    · exact (congrArg Cert.Operators.cAll (same c)).trans (Cert.Kernel9Ideal.Value.c_final m c (real c)).symm
    · exact (congrArg Cert.Operators.laAll (same c)).trans (Cert.Kernel9Ideal.Value.la_final m c).symm
    · exact (congrArg Cert.Operators.lbAll (same c)).trans (Cert.Kernel9Ideal.Value.lb_final m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Kernel9.Gen.facts, Cert.Kernel9Ideal.Gen.facts, Cert.Reference9Ideal.Gen.facts,
  Cert.Pre_finite.Gen.facts, Cert.Pre_finite4.Gen.facts, Cert.Pre_finite6.Gen.facts, Cert.Pre_finite9.Gen.facts,
  frame_kernel, frame_ideal, frame_ref, frame_attention, frame_attention_ideal, fun m ρ _ => frame_attention_ideal m ρ trivial,
  frame_attention_ref, fun m ρ _ => frame_attention_ref m ρ trivial, frame_mixing, frame_mixing_ideal, frame_mixing_ref,
  frame_head_norms, frame_head_norms_ideal, fun m ρ _ => frame_head_norms_ideal m ρ trivial,
  frame_head_norms_ref, fun m ρ _ => frame_head_norms_ref m ρ trivial,
  frame_projection, frame_projection_ideal, frame_projection_ref,
  frame_forward, frame_forward_ideal, fun m ρ _ => frame_forward_ideal m ρ trivial,
  frame_forward_ref, fun m ρ _ => frame_forward_ref m ρ trivial,
  frame_recurrence, frame_recurrence_ideal, frame_operators, frame_operators_ideal, fun m ρ _ => frame_operators_ideal m ρ trivial,
  frame_operators_ref, fun m ρ _ => frame_operators_ref m ρ trivial,
  trivial, value, trivial, attention, trivial, mixing, trivial, head_norms, trivial, projection, trivial, forward, trivial, trivial, operators⟩

end Cert.Proof

end
